-- ==== Defs.lean ====
def Pre_Kernel (m : (ℓ : Loc Cert.Kernel.nD Cert.Kernel.τ Cert.Kernel.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutReferenceIdeal (m : (ℓ : Loc Cert.EvenOutReferenceIdeal.nD Cert.EvenOutReferenceIdeal.τ Cert.EvenOutReferenceIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_queries_keys [hPre_finite_queries_keys : Cert.Pre_finite_queries_keys.Facts] (m : (ℓ : Loc Cert.SbIdeal.nD Cert.SbIdeal.τ Cert.SbIdeal.sig) → Buf (Elt Ideal) ℓ) : Prop :=
  ∀ c : Dev Cert.SbIdeal.nD,
    (Cert.Pre_finite_queries_keys.fn (F := Ideal) (m ((c.tc : Thread Cert.SbIdeal.nD Cert.SbIdeal.τ).loc Cert.SbIdeal.main_arg0))) = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_finite_queries_keys [hPre_finite_queries_keys : Cert.Pre_finite_queries_keys.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_finite_queries_keys.fn (F := Ideal) (m ((c.tc : Thread Cert.SbReferenceIdeal.nD Cert.SbReferenceIdeal.τ).loc Cert.SbReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1)
      ∧ r.2.mem ((c.tc : Thread Cert.OddInReferenceIdeal.nD Cert.OddInReferenceIdeal.τ).loc Cert.OddInReferenceIdeal.main_arg2) = m ((c.tc : Thread Cert.OddInReferenceIdeal.nD Cert.OddInReferenceIdeal.τ).loc Cert.OddInReferenceIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1)
      ∧ r.2.mem ((c.tc : Thread Cert.EvenInReferenceIdeal.nD Cert.EvenInReferenceIdeal.τ).loc Cert.EvenInReferenceIdeal.main_arg2) = m ((c.tc : Thread Cert.EvenInReferenceIdeal.nD Cert.EvenInReferenceIdeal.τ).loc Cert.EvenInReferenceIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4))
      ∧ r.2.sem = fun _ => 0)

def quiescent_EvenOutReferenceIdeal [hEvenOutReferenceIdeal : Cert.EvenOutReferenceIdeal.Facts] : Prop :=
  ∀ (m : (ℓ : Loc Cert.EvenOutReferenceIdeal.nD Cert.EvenOutReferenceIdeal.τ Cert.EvenOutReferenceIdeal.sig) → Buf (Elt Ideal) ℓ) (g : Dev Cert.EvenOutReferenceIdeal.nD → PrngReg), Pre_EvenOutReferenceIdeal m →
    θ_run (Cert.EvenOutReferenceIdeal.defs (F := Ideal)) (onTc (τ := Cert.EvenOutReferenceIdeal.τ) (Cert.EvenOutReferenceIdeal.main (F := Ideal))) ⟨m, fun _ => 0, g⟩ (fun r => (∀ c : Dev Cert.EvenOutReferenceIdeal.nD,
      r.2.mem ((c.tc : Thread Cert.EvenOutReferenceIdeal.nD Cert.EvenOutReferenceIdeal.τ).loc Cert.EvenOutReferenceIdeal.main_arg0) = m ((c.tc : Thread Cert.EvenOutReferenceIdeal.nD Cert.EvenOutReferenceIdeal.τ).loc Cert.EvenOutReferenceIdeal.main_arg0)
      ∧ r.2.mem ((c.tc : Thread Cert.EvenOutReferenceIdeal.nD Cert.EvenOutReferenceIdeal.τ).loc Cert.EvenOutReferenceIdeal.main_arg1) = m ((c.tc : Thread Cert.EvenOutReferenceIdeal.nD Cert.EvenOutReferenceIdeal.τ).loc Cert.EvenOutReferenceIdeal.main_arg1)
      ∧ r.2.mem ((c.tc : Thread Cert.EvenOutReferenceIdeal.nD Cert.EvenOutReferenceIdeal.τ).loc Cert.EvenOutReferenceIdeal.main_arg2) = m ((c.tc : Thread Cert.EvenOutReferenceIdeal.nD Cert.EvenOutReferenceIdeal.τ).loc Cert.EvenOutReferenceIdeal.main_arg2)
      ∧ r.2.mem ((c.tc : Thread Cert.EvenOutReferenceIdeal.nD Cert.EvenOutReferenceIdeal.τ).loc Cert.EvenOutReferenceIdeal.main_arg3) = m ((c.tc : Thread Cert.EvenOutReferenceIdeal.nD Cert.EvenOutReferenceIdeal.τ).loc Cert.EvenOutReferenceIdeal.main_arg3)
      ∧ r.2.mem ((c.tc : Thread Cert.EvenOutReferenceIdeal.nD Cert.EvenOutReferenceIdeal.τ).loc Cert.EvenOutReferenceIdeal.main_arg4) = m ((c.tc : Thread Cert.EvenOutReferenceIdeal.nD Cert.EvenOutReferenceIdeal.τ).loc Cert.EvenOutReferenceIdeal.main_arg4))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbIdeal_pre_finite_queries_keys [hSbIdeal : Cert.SbIdeal.Facts] [hPre_finite_queries_keys : Cert.Pre_finite_queries_keys.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_queries_keys m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0))
      ∧ r.2.sem = fun _ => 0)

def quiescent_SbReferenceIdeal_pre_finite_queries_keys [hSbReferenceIdeal : Cert.SbReferenceIdeal.Facts] [hPre_finite_queries_keys : Cert.Pre_finite_queries_keys.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_finite_queries_keys m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0))
      ∧ r.2.sem = fun _ => 0)

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v32) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_OddIn_OddInIdeal : Prop :=
  True

def algebraic_OddInIdeal_OddInReferenceIdeal [hOddInIdeal : Cert.OddInIdeal.Facts] [hOddInReferenceIdeal : Cert.OddInReferenceIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInIdeal m →
    (∀ c : Dev Cert.OddInIdeal.nD,
      m' ((c.tc : Thread Cert.OddInReferenceIdeal.nD Cert.OddInReferenceIdeal.τ).loc Cert.OddInReferenceIdeal.main_arg0) = m ((c.tc : Thread Cert.OddInIdeal.nD Cert.OddInIdeal.τ).loc Cert.OddInIdeal.main_arg0)
      ∧ m' ((c.tc : Thread Cert.OddInReferenceIdeal.nD Cert.OddInReferenceIdeal.τ).loc Cert.OddInReferenceIdeal.main_arg1) = m ((c.tc : Thread Cert.OddInIdeal.nD Cert.OddInIdeal.τ).loc Cert.OddInIdeal.main_arg1)
      ∧ m' ((c.tc : Thread Cert.OddInReferenceIdeal.nD Cert.OddInReferenceIdeal.τ).loc Cert.OddInReferenceIdeal.main_arg2) = m ((c.tc : Thread Cert.OddInIdeal.nD Cert.OddInIdeal.τ).loc Cert.OddInIdeal.main_arg2)) →
    ∃ (v0 : (c : Dev Cert.OddInIdeal.nD) → Buf (Elt Ideal) ((c.tc : Thread Cert.OddInIdeal.nD Cert.OddInIdeal.τ).loc Cert.OddInIdeal.main_v2)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v2) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v27) = v0 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1)
          ∧ r.2.mem ((c.tc : Thread Cert.OddInReferenceIdeal.nD Cert.OddInReferenceIdeal.τ).loc Cert.OddInReferenceIdeal.main_arg2) = m' ((c.tc : Thread Cert.OddInReferenceIdeal.nD Cert.OddInReferenceIdeal.τ).loc Cert.OddInReferenceIdeal.main_arg2))

def preserves_EvenIn_EvenInIdeal : Prop :=
  True

def algebraic_EvenInIdeal_EvenInReferenceIdeal [hEvenInIdeal : Cert.EvenInIdeal.Facts] [hEvenInReferenceIdeal : Cert.EvenInReferenceIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInIdeal m →
    (∀ c : Dev Cert.EvenInIdeal.nD,
      m' ((c.tc : Thread Cert.EvenInReferenceIdeal.nD Cert.EvenInReferenceIdeal.τ).loc Cert.EvenInReferenceIdeal.main_arg0) = m ((c.tc : Thread Cert.EvenInIdeal.nD Cert.EvenInIdeal.τ).loc Cert.EvenInIdeal.main_arg0)
      ∧ m' ((c.tc : Thread Cert.EvenInReferenceIdeal.nD Cert.EvenInReferenceIdeal.τ).loc Cert.EvenInReferenceIdeal.main_arg1) = m ((c.tc : Thread Cert.EvenInIdeal.nD Cert.EvenInIdeal.τ).loc Cert.EvenInIdeal.main_arg1)
      ∧ m' ((c.tc : Thread Cert.EvenInReferenceIdeal.nD Cert.EvenInReferenceIdeal.τ).loc Cert.EvenInReferenceIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v24_0)) (v1 : (c : Dev Cert.EvenInIdeal.nD) → Buf (Elt Ideal) ((c.tc : Thread Cert.EvenInIdeal.nD Cert.EvenInIdeal.τ).loc Cert.EvenInIdeal.main_v24_1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v24_0) = v0 c
          ∧ r.2.mem ((c.tc : Thread Cert.EvenInIdeal.nD Cert.EvenInIdeal.τ).loc Cert.EvenInIdeal.main_v24_1) = v1 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v35) = v0 c
          ∧ r.2.mem ((c.tc : Thread Cert.EvenInReferenceIdeal.nD Cert.EvenInReferenceIdeal.τ).loc Cert.EvenInReferenceIdeal.main_v34) = v1 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1)
          ∧ r.2.mem ((c.tc : Thread Cert.EvenInReferenceIdeal.nD Cert.EvenInReferenceIdeal.τ).loc Cert.EvenInReferenceIdeal.main_arg2) = m' ((c.tc : Thread Cert.EvenInReferenceIdeal.nD Cert.EvenInReferenceIdeal.τ).loc Cert.EvenInReferenceIdeal.main_arg2))

def preserves_EvenOut_EvenOutIdeal : Prop :=
  True

def algebraic_EvenOutIdeal_EvenOutReferenceIdeal [hEvenOutIdeal : Cert.EvenOutIdeal.Facts] [hEvenOutReferenceIdeal : Cert.EvenOutReferenceIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutReferenceIdeal.nD Cert.EvenOutReferenceIdeal.τ Cert.EvenOutReferenceIdeal.sig) → Buf (Elt Ideal) ℓ) (g' : Dev Cert.EvenOutReferenceIdeal.nD → PrngReg), Pre_EvenOutIdeal m →
    (∀ c : Dev Cert.EvenOutIdeal.nD,
      m' ((c.tc : Thread Cert.EvenOutReferenceIdeal.nD Cert.EvenOutReferenceIdeal.τ).loc Cert.EvenOutReferenceIdeal.main_arg0) = m ((c.tc : Thread Cert.EvenOutIdeal.nD Cert.EvenOutIdeal.τ).loc Cert.EvenOutIdeal.main_arg0)
      ∧ m' ((c.tc : Thread Cert.EvenOutReferenceIdeal.nD Cert.EvenOutReferenceIdeal.τ).loc Cert.EvenOutReferenceIdeal.main_arg1) = m ((c.tc : Thread Cert.EvenOutIdeal.nD Cert.EvenOutIdeal.τ).loc Cert.EvenOutIdeal.main_arg1)
      ∧ m' ((c.tc : Thread Cert.EvenOutReferenceIdeal.nD Cert.EvenOutReferenceIdeal.τ).loc Cert.EvenOutReferenceIdeal.main_arg2) = m ((c.tc : Thread Cert.EvenOutIdeal.nD Cert.EvenOutIdeal.τ).loc Cert.EvenOutIdeal.main_arg2)
      ∧ m' ((c.tc : Thread Cert.EvenOutReferenceIdeal.nD Cert.EvenOutReferenceIdeal.τ).loc Cert.EvenOutReferenceIdeal.main_arg3) = m ((c.tc : Thread Cert.EvenOutIdeal.nD Cert.EvenOutIdeal.τ).loc Cert.EvenOutIdeal.main_arg3)
      ∧ m' ((c.tc : Thread Cert.EvenOutReferenceIdeal.nD Cert.EvenOutReferenceIdeal.τ).loc Cert.EvenOutReferenceIdeal.main_arg4) = m ((c.tc : Thread Cert.EvenOutIdeal.nD Cert.EvenOutIdeal.τ).loc Cert.EvenOutIdeal.main_arg4)) →
    ∃ (v0 : (c : Dev Cert.EvenOutIdeal.nD) → Buf (Elt Ideal) ((c.tc : Thread Cert.EvenOutIdeal.nD Cert.EvenOutIdeal.τ).loc Cert.EvenOutIdeal.main_v4)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v4) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4))
      ∧ θ_run (Cert.EvenOutReferenceIdeal.defs (F := Ideal)) (onTc (τ := Cert.EvenOutReferenceIdeal.τ) (Cert.EvenOutReferenceIdeal.main (F := Ideal))) ⟨m', fun _ => 0, g'⟩ (fun r => ∀ c : Dev Cert.EvenOutReferenceIdeal.nD,
          r.2.mem ((c.tc : Thread Cert.EvenOutReferenceIdeal.nD Cert.EvenOutReferenceIdeal.τ).loc Cert.EvenOutReferenceIdeal.main_v17) = v0 c
          ∧ r.2.mem ((c.tc : Thread Cert.EvenOutReferenceIdeal.nD Cert.EvenOutReferenceIdeal.τ).loc Cert.EvenOutReferenceIdeal.main_arg0) = m' ((c.tc : Thread Cert.EvenOutReferenceIdeal.nD Cert.EvenOutReferenceIdeal.τ).loc Cert.EvenOutReferenceIdeal.main_arg0)
          ∧ r.2.mem ((c.tc : Thread Cert.EvenOutReferenceIdeal.nD Cert.EvenOutReferenceIdeal.τ).loc Cert.EvenOutReferenceIdeal.main_arg1) = m' ((c.tc : Thread Cert.EvenOutReferenceIdeal.nD Cert.EvenOutReferenceIdeal.τ).loc Cert.EvenOutReferenceIdeal.main_arg1)
          ∧ r.2.mem ((c.tc : Thread Cert.EvenOutReferenceIdeal.nD Cert.EvenOutReferenceIdeal.τ).loc Cert.EvenOutReferenceIdeal.main_arg2) = m' ((c.tc : Thread Cert.EvenOutReferenceIdeal.nD Cert.EvenOutReferenceIdeal.τ).loc Cert.EvenOutReferenceIdeal.main_arg2)
          ∧ r.2.mem ((c.tc : Thread Cert.EvenOutReferenceIdeal.nD Cert.EvenOutReferenceIdeal.τ).loc Cert.EvenOutReferenceIdeal.main_arg3) = m' ((c.tc : Thread Cert.EvenOutReferenceIdeal.nD Cert.EvenOutReferenceIdeal.τ).loc Cert.EvenOutReferenceIdeal.main_arg3)
          ∧ r.2.mem ((c.tc : Thread Cert.EvenOutReferenceIdeal.nD Cert.EvenOutReferenceIdeal.τ).loc Cert.EvenOutReferenceIdeal.main_arg4) = m' ((c.tc : Thread Cert.EvenOutReferenceIdeal.nD Cert.EvenOutReferenceIdeal.τ).loc Cert.EvenOutReferenceIdeal.main_arg4))

def preserves_Sb_SbIdeal : Prop :=
  IdealRules.named_const.Statement Cert.SbIdeal.κ "log2e" .f32 0x3FB8AA3B#32 (((Real.log 2)⁻¹ : ℝ) : EReal)
  ∧ IdealRules.named_const.Statement Cert.SbIdeal.κ "dead" .f32 0xC3200000#32 ⊥

def algebraic_SbIdeal_SbReferenceIdeal_pre_finite_queries_keys [hSbIdeal : Cert.SbIdeal.Facts] [hSbReferenceIdeal : Cert.SbReferenceIdeal.Facts] [hPre_finite_queries_keys : Cert.Pre_finite_queries_keys.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbIdeal_finite_queries_keys m →
    (∀ c : Dev Cert.SbIdeal.nD,
      m' ((c.tc : Thread Cert.SbReferenceIdeal.nD Cert.SbReferenceIdeal.τ).loc Cert.SbReferenceIdeal.main_arg0) = m ((c.tc : Thread Cert.SbIdeal.nD Cert.SbIdeal.τ).loc Cert.SbIdeal.main_arg0)) →
    ∃ (v0 : (c : Dev Cert.SbIdeal.nD) → Buf (Elt Ideal) ((c.tc : Thread Cert.SbIdeal.nD Cert.SbIdeal.τ).loc Cert.SbIdeal.main_v0)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v0) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v38) = v0 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0))

def Claim : Prop :=
  ∃ (hKernel : Cert.Kernel.Facts) (hFfn : Cert.Ffn.Facts) (hFfnIdeal : Cert.FfnIdeal.Facts) (hFfnReferenceIdeal : Cert.FfnReferenceIdeal.Facts) (hOddIn : Cert.OddIn.Facts) (hOddInIdeal : Cert.OddInIdeal.Facts) (hOddInReferenceIdeal : Cert.OddInReferenceIdeal.Facts) (hEvenIn : Cert.EvenIn.Facts) (hEvenInIdeal : Cert.EvenInIdeal.Facts) (hEvenInReferenceIdeal : Cert.EvenInReferenceIdeal.Facts) (hEvenOut : Cert.EvenOut.Facts) (hEvenOutIdeal : Cert.EvenOutIdeal.Facts) (hEvenOutReferenceIdeal : Cert.EvenOutReferenceIdeal.Facts) (hSb : Cert.Sb.Facts) (hSbIdeal : Cert.SbIdeal.Facts) (hSbReferenceIdeal : Cert.SbReferenceIdeal.Facts) (hPre_finite_queries_keys : Cert.Pre_finite_queries_keys.Facts),
    quiescent_Kernel (hKernel := hKernel)
    ∧ quiescent_Ffn (hFfn := hFfn)
    ∧ quiescent_FfnIdeal (hFfnIdeal := hFfnIdeal)
    ∧ quiescent_FfnReferenceIdeal (hFfnReferenceIdeal := hFfnReferenceIdeal)
    ∧ quiescent_OddIn (hOddIn := hOddIn)
    ∧ quiescent_OddInIdeal (hOddInIdeal := hOddInIdeal)
    ∧ quiescent_OddInReferenceIdeal (hOddInReferenceIdeal := hOddInReferenceIdeal)
    ∧ quiescent_EvenIn (hEvenIn := hEvenIn)
    ∧ quiescent_EvenInIdeal (hEvenInIdeal := hEvenInIdeal)
    ∧ quiescent_EvenInReferenceIdeal (hEvenInReferenceIdeal := hEvenInReferenceIdeal)
    ∧ quiescent_EvenOut (hEvenOut := hEvenOut)
    ∧ quiescent_EvenOutIdeal (hEvenOutIdeal := hEvenOutIdeal)
    ∧ quiescent_EvenOutReferenceIdeal (hEvenOutReferenceIdeal := hEvenOutReferenceIdeal)
    ∧ quiescent_Sb (hSb := hSb)
    ∧ quiescent_SbIdeal (hSbIdeal := hSbIdeal)
    ∧ quiescent_SbIdeal_pre_finite_queries_keys (hSbIdeal := hSbIdeal) (hPre_finite_queries_keys := hPre_finite_queries_keys)
    ∧ quiescent_SbReferenceIdeal (hSbReferenceIdeal := hSbReferenceIdeal)
    ∧ quiescent_SbReferenceIdeal_pre_finite_queries_keys (hSbReferenceIdeal := hSbReferenceIdeal) (hPre_finite_queries_keys := hPre_finite_queries_keys)
    ∧ preserves_Ffn_FfnIdeal
    ∧ algebraic_FfnIdeal_FfnReferenceIdeal (hFfnIdeal := hFfnIdeal) (hFfnReferenceIdeal := hFfnReferenceIdeal)
    ∧ preserves_OddIn_OddInIdeal
    ∧ algebraic_OddInIdeal_OddInReferenceIdeal (hOddInIdeal := hOddInIdeal) (hOddInReferenceIdeal := hOddInReferenceIdeal)
    ∧ preserves_EvenIn_EvenInIdeal
    ∧ algebraic_EvenInIdeal_EvenInReferenceIdeal (hEvenInIdeal := hEvenInIdeal) (hEvenInReferenceIdeal := hEvenInReferenceIdeal)
    ∧ preserves_EvenOut_EvenOutIdeal
    ∧ algebraic_EvenOutIdeal_EvenOutReferenceIdeal (hEvenOutIdeal := hEvenOutIdeal) (hEvenOutReferenceIdeal := hEvenOutReferenceIdeal)
    ∧ preserves_Sb_SbIdeal
    ∧ algebraic_SbIdeal_SbReferenceIdeal_pre_finite_queries_keys (hSbIdeal := hSbIdeal) (hSbReferenceIdeal := hSbReferenceIdeal) (hPre_finite_queries_keys := hPre_finite_queries_keys)
-- ==== Pre_finite_queries_keys.lean ====
abbrev S4x8192x2560 : Shape := ⟨3, ![4, 8192, 2560]⟩
abbrev S4x8192x1024 : Shape := ⟨3, ![4, 8192, 1024]⟩
abbrev S_ : Shape := ⟨0, ![]⟩

class Facts : Prop where
  slices_S4x8192x2560_S4x8192x1024_0_0_1024 : S4x8192x2560.Slices ![0, 0, 1024] S4x8192x1024
  bitsLt_bf16_f32 : FTy.bits .bf16 < FTy.bits .f32
  bcast_S_S4x8192x1024 : S_.BroadcastsInDim S4x8192x1024 (![] : Fin 0 → Fin S4x8192x1024.rank)

variable [Facts]

def fn {F : FTy → Type} [FloatOps F] (main_arg0 : FVec F S4x8192x2560 .bf16) : IVec S4x8192x1024 1 :=
  let main_v0 : FVec F S4x8192x1024 .bf16 := (extractStridedSlice S4x8192x1024 ![0, 0, 1024] · slices_S4x8192x2560_S4x8192x1024_0_0_1024) main_arg0
  let main_v1 : FVec F S4x8192x1024 .f32 := (extf .f32 · bitsLt_bf16_f32) main_v0
  let main_v2 : FVec F S4x8192x1024 .f32 := Host.absf main_v1
  let main_cst : FVec F S_ .f32 := constant S_ .f32 0x7F800000#32
  let main_v3 : FVec F S4x8192x1024 .f32 := broadcastInDim S4x8192x1024 ![] bcast_S_S4x8192x1024 main_cst
  let main_v4 : IVec S4x8192x1024 1 := cmpf .olt main_v2 main_v3
  main_v4
-- ==== Kernel.lean ====
abbrev S4x8192x2560 : Shape := ⟨3, ![4, 8192, 2560]⟩
abbrev S4x8192x128 : Shape := ⟨3, ![4, 8192, 128]⟩
abbrev S4x8192x512 : Shape := ⟨3, ![4, 8192, 512]⟩
abbrev S1x512x512 : Shape := ⟨3, ![1, 512, 512]⟩
abbrev S1x8192x128 : Shape := ⟨3, ![1, 8192, 128]⟩
abbrev S1x512x256 : Shape := ⟨3, ![1, 512, 256]⟩
abbrev S1x512x128 : Shape := ⟨3, ![1, 512, 128]⟩
abbrev S8192x512 : Shape := ⟨2, ![8192, 512]⟩
abbrev S128x8192 : Shape := ⟨2, ![128, 8192]⟩
abbrev S128x4096 : Shape := ⟨2, ![128, 4096]⟩
abbrev S128x2048 : Shape := ⟨2, ![128, 2048]⟩
abbrev S8x512 : Shape := ⟨2, ![8, 512]⟩
abbrev S8x1x512 : Shape := ⟨3, ![8, 1, 512]⟩
abbrev S1x128 : Shape := ⟨2, ![1, 128]⟩
abbrev S128x512 : Shape := ⟨2, ![128, 512]⟩
abbrev S128x128 : Shape := ⟨2, ![128, 128]⟩
abbrev S1x128x128 : Shape := ⟨3, ![1, 128, 128]⟩
abbrev S128 : Shape := ⟨1, ![128]⟩
abbrev S1 : Shape := ⟨1, ![1]⟩
abbrev S1x1 : Shape := ⟨2, ![1, 1]⟩
abbrev S64x512 : Shape := ⟨2, ![64, 512]⟩
abbrev S1x512 : Shape := ⟨2, ![1, 512]⟩
abbrev S512x128 : Shape := ⟨2, ![512, 128]⟩
abbrev S512 : Shape := ⟨1, ![512]⟩
abbrev S512x512 : Shape := ⟨2, ![512, 512]⟩
abbrev S512x2048 : Shape := ⟨2, ![512, 2048]⟩
abbrev S16x512 : Shape := ⟨2, ![16, 512]⟩
abbrev S2048x512 : Shape := ⟨2, ![2048, 512]⟩
abbrev S1x1x1 : Shape := ⟨3, ![1, 1, 1]⟩
abbrev S512x4096 : Shape := ⟨2, ![512, 4096]⟩
abbrev S1x1x512 : Shape := ⟨3, ![1, 1, 512]⟩

abbrev nBuf : Space → Nat
  | .hbm => 3
  | .vmem => 20
  | .smem => 0
  | _ => 0

abbrev bufTy : (tb : Table) → Fin (tcTables nBuf tb) → BufTy
  | .hbm, ⟨0, _⟩ => ⟨S4x8192x2560, .bf16⟩
  | .hbm, ⟨1, _⟩ => ⟨S4x8192x128, .f32⟩
  | .hbm, ⟨2, _⟩ => ⟨S4x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x128, .f32⟩
  | .local _ .vmem, ⟨7, _⟩ => ⟨S1x512x128, .f32⟩
  | .local _ .vmem, ⟨8, _⟩ => ⟨S1x512x512, .bf16⟩
  | .local _ .vmem, ⟨9, _⟩ => ⟨S1x512x512, .bf16⟩
  | .local _ .vmem, ⟨10, _⟩ => ⟨S8192x512, .i16⟩
  | .local _ .vmem, ⟨11, _⟩ => ⟨S8192x512, .i16⟩
  | .local _ .vmem, ⟨12, _⟩ => ⟨S8192x512, .i16⟩
  | .local _ .vmem, ⟨13, _⟩ => ⟨S128x8192, .bf16⟩
  | .local _ .vmem, ⟨14, _⟩ => ⟨S128x4096, .bf16⟩
  | .local _ .vmem, ⟨15, _⟩ => ⟨S128x2048, .bf16⟩
  | .local _ .vmem, ⟨16, _⟩ => ⟨S8x512, .f32⟩
  | .local _ .vmem, ⟨17, _⟩ => ⟨S8x1x512, .f32⟩
  | .local _ .vmem, ⟨18, _⟩ => ⟨S128x4096, .f32⟩
  | .local _ .vmem, ⟨19, _⟩ => ⟨S1x128, .f32⟩
  | _, _ => ⟨S4x8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨2, ![4, 16], ![false, false]⟩

def k0_cond1 (i : grid0.Coords) : BitVec 1 :=
  let arg1 : BitVec 32 := BitVec.ofNat 32 (i 1).val
  let c0_i32_6 : BitVec 32 := 0#32
  let v22 : BitVec 1 := Scalar.cmpi .eq arg1 c0_i32_6
  let v23 : BitVec 32 := Scalar.extui v22
  let c0_i32_7 : BitVec 32 := 0#32
  let v24 : BitVec 1 := Scalar.cmpi .ne v23 c0_i32_7
  v24

@[reducible] def k0_t1_loop : Scf.Loop 32 :=
  let c0_i32_165 : BitVec 32 := 0#32
  let c64_i32_166 : BitVec 32 := 64#32
  let v393 : BitVec 32 := Scalar.addi c0_i32_165 c64_i32_166
  let c1_i32_167 : BitVec 32 := 1#32
  ⟨c0_i32_165, v393, c1_i32_167⟩
def k0_mult1 (k0_t1 : Fin k0_t1_loop.trips) : BitVec 32 :=
  let c0_i32_165 : BitVec 32 := 0#32
  let c1_i32_167 : BitVec 32 := 1#32
  let arg18 : BitVec 32 := Scf.iv c0_i32_165 c1_i32_167 k0_t1
  let c128_i32 : BitVec 32 := 128#32
  let v402 : BitVec 32 := Scalar.muli arg18 c128_i32
  v402
def k0_off1 (k0_t1 : Fin k0_t1_loop.trips) : Fin 3 → Nat :=
  let c0_172 : Index := 0#32
  let c0_i32_165 : BitVec 32 := 0#32
  let c1_i32_167 : BitVec 32 := 1#32
  let arg18 : BitVec 32 := Scf.iv c0_i32_165 c1_i32_167 k0_t1
  let c128_i32 : BitVec 32 := 128#32
  let v402 : BitVec 32 := Scalar.muli arg18 c128_i32
  let v403 : BitVec 32 := v402
  let v404 : Index := Scalar.indexCast v403
  let c0_173 : Index := 0#32
  ![0, v404.toNat, 0]
def k0_off2 (k0_t1 : Fin k0_t1_loop.trips) : Fin 2 → Nat :=
  let c0_175 : Index := 0#32
  let c0_i32_165 : BitVec 32 := 0#32
  let c1_i32_167 : BitVec 32 := 1#32
  let arg18 : BitVec 32 := Scf.iv c0_i32_165 c1_i32_167 k0_t1
  let c128_i32 : BitVec 32 := 128#32
  let v402 : BitVec 32 := Scalar.muli arg18 c128_i32
  let v403 : BitVec 32 := v402
  let v412 : Index := Scalar.indexCast v403
  ![0, v412.toNat]
@[reducible] def k0_t2_loop (i : grid0.Coords) : Scf.Loop 32 :=
  let c0_i32_54 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v148 : BitVec 32 := Scalar.subi v18 c0_i32_54
  let c1_i32_55 : BitVec 32 := 1#32
  let v150 : BitVec 32 := Scalar.divsi v148 c1_i32_55
  let v151 : BitVec 32 := Scalar.muli v150 c1_i32_55
  let v152 : BitVec 32 := Scalar.addi c0_i32_54 v151
  let c1_i32_56 : BitVec 32 := 1#32
  ⟨c0_i32_54, v152, c1_i32_56⟩
def k0_mult2 (i : grid0.Coords) (k0_t2 : Fin (k0_t2_loop i).trips) : BitVec 32 :=
  let c0_i32_54 : BitVec 32 := 0#32
  let c1_i32_56 : BitVec 32 := 1#32
  let arg18 : BitVec 32 := Scf.iv c0_i32_54 c1_i32_56 k0_t2
  let c512_i32_163 : BitVec 32 := 512#32
  let v389 : BitVec 32 := Scalar.muli arg18 c512_i32_163
  v389
def k0_off3 (i : grid0.Coords) (k0_t2 : Fin (k0_t2_loop i).trips) : Fin 3 → Nat :=
  let c0_164 : Index := 0#32
  let c0_i32_54 : BitVec 32 := 0#32
  let c1_i32_56 : BitVec 32 := 1#32
  let arg18 : BitVec 32 := Scf.iv c0_i32_54 c1_i32_56 k0_t2
  let c512_i32_163 : BitVec 32 := 512#32
  let v389 : BitVec 32 := Scalar.muli arg18 c512_i32_163
  let v390 : BitVec 32 := v389
  let v391 : Index := Scalar.indexCast v390
  let c0_165 : Index := 0#32
  ![0, v391.toNat, 0]
def k0_off4 (i : grid0.Coords) (k0_t2 : Fin (k0_t2_loop i).trips) : Fin 2 → Nat :=
  let c0_i32_54 : BitVec 32 := 0#32
  let c1_i32_56 : BitVec 32 := 1#32
  let arg18 : BitVec 32 := Scf.iv c0_i32_54 c1_i32_56 k0_t2
  let c512_i32_163 : BitVec 32 := 512#32
  let v389 : BitVec 32 := Scalar.muli arg18 c512_i32_163
  let v390 : BitVec 32 := v389
  let v443 : Index := Scalar.indexCast v390
  let c0_183 : Index := 0#32
  ![v443.toNat, 0]
@[reducible] def k0_t3_loop (i : grid0.Coords) : Scf.Loop 32 :=
  let c0_i32_54 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v148 : BitVec 32 := Scalar.subi v18 c0_i32_54
  let c1_i32_55 : BitVec 32 := 1#32
  let v150 : BitVec 32 := Scalar.divsi v148 c1_i32_55
  let v151 : BitVec 32 := Scalar.muli v150 c1_i32_55
  let v152 : BitVec 32 := Scalar.addi c0_i32_54 v151
  let v149 : BitVec 32 := Scalar.addi c0_i32_54 v148
  let c1_i32_57 : BitVec 32 := 1#32
  ⟨v152, v149, c1_i32_57⟩
def k0_mult3 (i : grid0.Coords) (k0_t3 : Fin (k0_t3_loop i).trips) : BitVec 32 :=
  let c0_i32_54 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v148 : BitVec 32 := Scalar.subi v18 c0_i32_54
  let c1_i32_55 : BitVec 32 := 1#32
  let v150 : BitVec 32 := Scalar.divsi v148 c1_i32_55
  let v151 : BitVec 32 := Scalar.muli v150 c1_i32_55
  let v152 : BitVec 32 := Scalar.addi c0_i32_54 v151
  let c1_i32_57 : BitVec 32 := 1#32
  let arg18 : BitVec 32 := Scf.iv v152 c1_i32_57 k0_t3
  let c512_i32_163 : BitVec 32 := 512#32
  let v389 : BitVec 32 := Scalar.muli arg18 c512_i32_163
  v389
def k0_off5 (i : grid0.Coords) (k0_t3 : Fin (k0_t3_loop i).trips) : Fin 3 → Nat :=
  let c0_164 : Index := 0#32
  let c0_i32_54 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v148 : BitVec 32 := Scalar.subi v18 c0_i32_54
  let c1_i32_55 : BitVec 32 := 1#32
  let v150 : BitVec 32 := Scalar.divsi v148 c1_i32_55
  let v151 : BitVec 32 := Scalar.muli v150 c1_i32_55
  let v152 : BitVec 32 := Scalar.addi c0_i32_54 v151
  let c1_i32_57 : BitVec 32 := 1#32
  let arg18 : BitVec 32 := Scf.iv v152 c1_i32_57 k0_t3
  let c512_i32_163 : BitVec 32 := 512#32
  let v389 : BitVec 32 := Scalar.muli arg18 c512_i32_163
  let v390 : BitVec 32 := v389
  let v391 : Index := Scalar.indexCast v390
  let c0_165 : Index := 0#32
  ![0, v391.toNat, 0]
def k0_off6 (i : grid0.Coords) (k0_t3 : Fin (k0_t3_loop i).trips) : Fin 2 → Nat :=
  let c0_i32_54 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v148 : BitVec 32 := Scalar.subi v18 c0_i32_54
  let c1_i32_55 : BitVec 32 := 1#32
  let v150 : BitVec 32 := Scalar.divsi v148 c1_i32_55
  let v151 : BitVec 32 := Scalar.muli v150 c1_i32_55
  let v152 : BitVec 32 := Scalar.addi c0_i32_54 v151
  let c1_i32_57 : BitVec 32 := 1#32
  let arg18 : BitVec 32 := Scf.iv v152 c1_i32_57 k0_t3
  let c512_i32_163 : BitVec 32 := 512#32
  let v389 : BitVec 32 := Scalar.muli arg18 c512_i32_163
  let v390 : BitVec 32 := v389
  let v443 : Index := Scalar.indexCast v390
  let c0_183 : Index := 0#32
  ![v443.toNat, 0]
@[reducible] def k0_t4_loop (i : grid0.Coords) : Scf.Loop 32 :=
  let c0_i32_67 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v174 : BitVec 32 := Scalar.subi v171 c0_i32_67
  let c1_i32_68 : BitVec 32 := 1#32
  let v176 : BitVec 32 := Scalar.divsi v174 c1_i32_68
  let v177 : BitVec 32 := Scalar.muli v176 c1_i32_68
  let v178 : BitVec 32 := Scalar.addi c0_i32_67 v177
  let c1_i32_69 : BitVec 32 := 1#32
  ⟨c0_i32_67, v178, c1_i32_69⟩
def k0_mult4 (i : grid0.Coords) (k0_t4 : Fin (k0_t4_loop i).trips) : BitVec 32 :=
  let c0_i32_163 : BitVec 32 := 0#32
  let c0_i32_67 : BitVec 32 := 0#32
  let c1_i32_69 : BitVec 32 := 1#32
  let arg18 : BitVec 32 := Scf.iv c0_i32_67 c1_i32_69 k0_t4
  let c2048_i32 : BitVec 32 := 2048#32
  let v389 : BitVec 32 := Scalar.muli arg18 c2048_i32
  let v390 : BitVec 32 := Scalar.addi c0_i32_163 v389
  v390
def k0_off7 (i : grid0.Coords) (k0_t4 : Fin (k0_t4_loop i).trips) : Fin 2 → Nat :=
  let c0_i32_163 : BitVec 32 := 0#32
  let c0_i32_67 : BitVec 32 := 0#32
  let c1_i32_69 : BitVec 32 := 1#32
  let arg18 : BitVec 32 := Scf.iv c0_i32_67 c1_i32_69 k0_t4
  let c2048_i32 : BitVec 32 := 2048#32
  let v389 : BitVec 32 := Scalar.muli arg18 c2048_i32
  let v390 : BitVec 32 := Scalar.addi c0_i32_163 v389
  let v391 : BitVec 32 := v390
  let v392 : Index := Scalar.indexCast v391
  let c0_164 : Index := 0#32
  ![v392.toNat, 0]
@[reducible] def k0_t5_loop (i : grid0.Coords) : Scf.Loop 32 :=
  let c0_i32_67 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v174 : BitVec 32 := Scalar.subi v171 c0_i32_67
  let c1_i32_68 : BitVec 32 := 1#32
  let v176 : BitVec 32 := Scalar.divsi v174 c1_i32_68
  let v177 : BitVec 32 := Scalar.muli v176 c1_i32_68
  let v178 : BitVec 32 := Scalar.addi c0_i32_67 v177
  let v175 : BitVec 32 := Scalar.addi c0_i32_67 v174
  let c1_i32_70 : BitVec 32 := 1#32
  ⟨v178, v175, c1_i32_70⟩
def k0_mult5 (i : grid0.Coords) (k0_t5 : Fin (k0_t5_loop i).trips) : BitVec 32 :=
  let c0_i32_163 : BitVec 32 := 0#32
  let c0_i32_67 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v174 : BitVec 32 := Scalar.subi v171 c0_i32_67
  let c1_i32_68 : BitVec 32 := 1#32
  let v176 : BitVec 32 := Scalar.divsi v174 c1_i32_68
  let v177 : BitVec 32 := Scalar.muli v176 c1_i32_68
  let v178 : BitVec 32 := Scalar.addi c0_i32_67 v177
  let c1_i32_70 : BitVec 32 := 1#32
  let arg18 : BitVec 32 := Scf.iv v178 c1_i32_70 k0_t5
  let c2048_i32 : BitVec 32 := 2048#32
  let v389 : BitVec 32 := Scalar.muli arg18 c2048_i32
  let v390 : BitVec 32 := Scalar.addi c0_i32_163 v389
  v390
def k0_off8 (i : grid0.Coords) (k0_t5 : Fin (k0_t5_loop i).trips) : Fin 2 → Nat :=
  let c0_i32_163 : BitVec 32 := 0#32
  let c0_i32_67 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v174 : BitVec 32 := Scalar.subi v171 c0_i32_67
  let c1_i32_68 : BitVec 32 := 1#32
  let v176 : BitVec 32 := Scalar.divsi v174 c1_i32_68
  let v177 : BitVec 32 := Scalar.muli v176 c1_i32_68
  let v178 : BitVec 32 := Scalar.addi c0_i32_67 v177
  let c1_i32_70 : BitVec 32 := 1#32
  let arg18 : BitVec 32 := Scf.iv v178 c1_i32_70 k0_t5
  let c2048_i32 : BitVec 32 := 2048#32
  let v389 : BitVec 32 := Scalar.muli arg18 c2048_i32
  let v390 : BitVec 32 := Scalar.addi c0_i32_163 v389
  let v391 : BitVec 32 := v390
  let v392 : Index := Scalar.indexCast v391
  let c0_164 : Index := 0#32
  ![v392.toNat, 0]
@[reducible] def k0_t6_loop (i : grid0.Coords) : Scf.Loop 32 :=
  let c0_i32_73 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_66 : BitVec 32 := 4#32
  let v172 : BitVec 32 := Scalar.muli v171 c4_i32_66
  let v173 : BitVec 32 := Scalar.subi v18 v172
  let v183 : BitVec 32 := Scalar.subi v173 c0_i32_73
  let c1_i32_74 : BitVec 32 := 1#32
  let v185 : BitVec 32 := Scalar.divsi v183 c1_i32_74
  let v186 : BitVec 32 := Scalar.muli v185 c1_i32_74
  let v187 : BitVec 32 := Scalar.addi c0_i32_73 v186
  let c1_i32_75 : BitVec 32 := 1#32
  ⟨c0_i32_73, v187, c1_i32_75⟩
def k0_mult6 (i : grid0.Coords) (k0_t6 : Fin (k0_t6_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_71 : BitVec 32 := 4#32
  let v181 : BitVec 32 := Scalar.muli v171 c4_i32_71
  let c512_i32_72 : BitVec 32 := 512#32
  let v182 : BitVec 32 := Scalar.muli v181 c512_i32_72
  let c0_i32_73 : BitVec 32 := 0#32
  let c1_i32_75 : BitVec 32 := 1#32
  let arg18 : BitVec 32 := Scf.iv c0_i32_73 c1_i32_75 k0_t6
  let c512_i32_163 : BitVec 32 := 512#32
  let v389 : BitVec 32 := Scalar.muli arg18 c512_i32_163
  let v390 : BitVec 32 := Scalar.addi v182 v389
  v390
def k0_off9 (i : grid0.Coords) (k0_t6 : Fin (k0_t6_loop i).trips) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_71 : BitVec 32 := 4#32
  let v181 : BitVec 32 := Scalar.muli v171 c4_i32_71
  let c512_i32_72 : BitVec 32 := 512#32
  let v182 : BitVec 32 := Scalar.muli v181 c512_i32_72
  let c0_i32_73 : BitVec 32 := 0#32
  let c1_i32_75 : BitVec 32 := 1#32
  let arg18 : BitVec 32 := Scf.iv c0_i32_73 c1_i32_75 k0_t6
  let c512_i32_163 : BitVec 32 := 512#32
  let v389 : BitVec 32 := Scalar.muli arg18 c512_i32_163
  let v390 : BitVec 32 := Scalar.addi v182 v389
  let v391 : BitVec 32 := v390
  let v392 : Index := Scalar.indexCast v391
  let c0_164 : Index := 0#32
  ![v392.toNat, 0]
@[reducible] def k0_t7_loop (i : grid0.Coords) : Scf.Loop 32 :=
  let c0_i32_73 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_66 : BitVec 32 := 4#32
  let v172 : BitVec 32 := Scalar.muli v171 c4_i32_66
  let v173 : BitVec 32 := Scalar.subi v18 v172
  let v183 : BitVec 32 := Scalar.subi v173 c0_i32_73
  let c1_i32_74 : BitVec 32 := 1#32
  let v185 : BitVec 32 := Scalar.divsi v183 c1_i32_74
  let v186 : BitVec 32 := Scalar.muli v185 c1_i32_74
  let v187 : BitVec 32 := Scalar.addi c0_i32_73 v186
  let v184 : BitVec 32 := Scalar.addi c0_i32_73 v183
  let c1_i32_76 : BitVec 32 := 1#32
  ⟨v187, v184, c1_i32_76⟩
def k0_mult7 (i : grid0.Coords) (k0_t7 : Fin (k0_t7_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_71 : BitVec 32 := 4#32
  let v181 : BitVec 32 := Scalar.muli v171 c4_i32_71
  let c512_i32_72 : BitVec 32 := 512#32
  let v182 : BitVec 32 := Scalar.muli v181 c512_i32_72
  let c0_i32_73 : BitVec 32 := 0#32
  let c4_i32_66 : BitVec 32 := 4#32
  let v172 : BitVec 32 := Scalar.muli v171 c4_i32_66
  let v173 : BitVec 32 := Scalar.subi v18 v172
  let v183 : BitVec 32 := Scalar.subi v173 c0_i32_73
  let c1_i32_74 : BitVec 32 := 1#32
  let v185 : BitVec 32 := Scalar.divsi v183 c1_i32_74
  let v186 : BitVec 32 := Scalar.muli v185 c1_i32_74
  let v187 : BitVec 32 := Scalar.addi c0_i32_73 v186
  let c1_i32_76 : BitVec 32 := 1#32
  let arg18 : BitVec 32 := Scf.iv v187 c1_i32_76 k0_t7
  let c512_i32_163 : BitVec 32 := 512#32
  let v389 : BitVec 32 := Scalar.muli arg18 c512_i32_163
  let v390 : BitVec 32 := Scalar.addi v182 v389
  v390
def k0_off10 (i : grid0.Coords) (k0_t7 : Fin (k0_t7_loop i).trips) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_71 : BitVec 32 := 4#32
  let v181 : BitVec 32 := Scalar.muli v171 c4_i32_71
  let c512_i32_72 : BitVec 32 := 512#32
  let v182 : BitVec 32 := Scalar.muli v181 c512_i32_72
  let c0_i32_73 : BitVec 32 := 0#32
  let c4_i32_66 : BitVec 32 := 4#32
  let v172 : BitVec 32 := Scalar.muli v171 c4_i32_66
  let v173 : BitVec 32 := Scalar.subi v18 v172
  let v183 : BitVec 32 := Scalar.subi v173 c0_i32_73
  let c1_i32_74 : BitVec 32 := 1#32
  let v185 : BitVec 32 := Scalar.divsi v183 c1_i32_74
  let v186 : BitVec 32 := Scalar.muli v185 c1_i32_74
  let v187 : BitVec 32 := Scalar.addi c0_i32_73 v186
  let c1_i32_76 : BitVec 32 := 1#32
  let arg18 : BitVec 32 := Scf.iv v187 c1_i32_76 k0_t7
  let c512_i32_163 : BitVec 32 := 512#32
  let v389 : BitVec 32 := Scalar.muli arg18 c512_i32_163
  let v390 : BitVec 32 := Scalar.addi v182 v389
  let v391 : BitVec 32 := v390
  let v392 : Index := Scalar.indexCast v391
  let c0_164 : Index := 0#32
  ![v392.toNat, 0]
@[reducible] def k0_t8_loop : Scf.Loop 32 :=
  let c0_i32_81 : BitVec 32 := 0#32
  let c15_i32 : BitVec 32 := 15#32
  let v208 : BitVec 32 := Scalar.addi c0_i32_81 c15_i32
  let c1_i32_82 : BitVec 32 := 1#32
  ⟨c0_i32_81, v208, c1_i32_82⟩
@[reducible] def k0_t9_loop (i : grid0.Coords) : Scf.Loop 32 :=
  let c0_i32_164 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v394 : BitVec 32 := Scalar.subi v171 c0_i32_164
  let c1_i32_165 : BitVec 32 := 1#32
  let v396 : BitVec 32 := Scalar.divsi v394 c1_i32_165
  let v397 : BitVec 32 := Scalar.muli v396 c1_i32_165
  let v398 : BitVec 32 := Scalar.addi c0_i32_164 v397
  let c1_i32_166 : BitVec 32 := 1#32
  ⟨c0_i32_164, v398, c1_i32_166⟩
def k0_mult8 (i : grid0.Coords) (k0_t9 : Fin (k0_t9_loop i).trips) : BitVec 32 :=
  let c0_i32_176 : BitVec 32 := 0#32
  let c0_i32_164 : BitVec 32 := 0#32
  let c1_i32_166 : BitVec 32 := 1#32
  let arg21 : BitVec 32 := Scf.iv c0_i32_164 c1_i32_166 k0_t9
  let c2048_i32 : BitVec 32 := 2048#32
  let v425 : BitVec 32 := Scalar.muli arg21 c2048_i32
  let v426 : BitVec 32 := Scalar.addi c0_i32_176 v425
  v426
def k0_off11 (i : grid0.Coords) (k0_t9 : Fin (k0_t9_loop i).trips) : Fin 2 → Nat :=
  let c0_i32_176 : BitVec 32 := 0#32
  let c0_i32_164 : BitVec 32 := 0#32
  let c1_i32_166 : BitVec 32 := 1#32
  let arg21 : BitVec 32 := Scf.iv c0_i32_164 c1_i32_166 k0_t9
  let c2048_i32 : BitVec 32 := 2048#32
  let v425 : BitVec 32 := Scalar.muli arg21 c2048_i32
  let v426 : BitVec 32 := Scalar.addi c0_i32_176 v425
  let v427 : BitVec 32 := v426
  let v428 : Index := Scalar.indexCast v427
  let c0_177 : Index := 0#32
  ![v428.toNat, 0]
@[reducible] def k0_t10_loop (i : grid0.Coords) : Scf.Loop 32 :=
  let c0_i32_164 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v394 : BitVec 32 := Scalar.subi v171 c0_i32_164
  let c1_i32_165 : BitVec 32 := 1#32
  let v396 : BitVec 32 := Scalar.divsi v394 c1_i32_165
  let v397 : BitVec 32 := Scalar.muli v396 c1_i32_165
  let v398 : BitVec 32 := Scalar.addi c0_i32_164 v397
  let v395 : BitVec 32 := Scalar.addi c0_i32_164 v394
  let c1_i32_167 : BitVec 32 := 1#32
  ⟨v398, v395, c1_i32_167⟩
def k0_mult9 (i : grid0.Coords) (k0_t10 : Fin (k0_t10_loop i).trips) : BitVec 32 :=
  let c0_i32_176 : BitVec 32 := 0#32
  let c0_i32_164 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v394 : BitVec 32 := Scalar.subi v171 c0_i32_164
  let c1_i32_165 : BitVec 32 := 1#32
  let v396 : BitVec 32 := Scalar.divsi v394 c1_i32_165
  let v397 : BitVec 32 := Scalar.muli v396 c1_i32_165
  let v398 : BitVec 32 := Scalar.addi c0_i32_164 v397
  let c1_i32_167 : BitVec 32 := 1#32
  let arg21 : BitVec 32 := Scf.iv v398 c1_i32_167 k0_t10
  let c2048_i32 : BitVec 32 := 2048#32
  let v425 : BitVec 32 := Scalar.muli arg21 c2048_i32
  let v426 : BitVec 32 := Scalar.addi c0_i32_176 v425
  v426
def k0_off12 (i : grid0.Coords) (k0_t10 : Fin (k0_t10_loop i).trips) : Fin 2 → Nat :=
  let c0_i32_176 : BitVec 32 := 0#32
  let c0_i32_164 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v394 : BitVec 32 := Scalar.subi v171 c0_i32_164
  let c1_i32_165 : BitVec 32 := 1#32
  let v396 : BitVec 32 := Scalar.divsi v394 c1_i32_165
  let v397 : BitVec 32 := Scalar.muli v396 c1_i32_165
  let v398 : BitVec 32 := Scalar.addi c0_i32_164 v397
  let c1_i32_167 : BitVec 32 := 1#32
  let arg21 : BitVec 32 := Scf.iv v398 c1_i32_167 k0_t10
  let c2048_i32 : BitVec 32 := 2048#32
  let v425 : BitVec 32 := Scalar.muli arg21 c2048_i32
  let v426 : BitVec 32 := Scalar.addi c0_i32_176 v425
  let v427 : BitVec 32 := v426
  let v428 : Index := Scalar.indexCast v427
  let c0_177 : Index := 0#32
  ![v428.toNat, 0]
@[reducible] def k0_t11_loop (i : grid0.Coords) : Scf.Loop 32 :=
  let c0_i32_170 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_66 : BitVec 32 := 4#32
  let v172 : BitVec 32 := Scalar.muli v171 c4_i32_66
  let v173 : BitVec 32 := Scalar.subi v18 v172
  let v403 : BitVec 32 := Scalar.subi v173 c0_i32_170
  let c1_i32_171 : BitVec 32 := 1#32
  let v405 : BitVec 32 := Scalar.divsi v403 c1_i32_171
  let v406 : BitVec 32 := Scalar.muli v405 c1_i32_171
  let v407 : BitVec 32 := Scalar.addi c0_i32_170 v406
  let c1_i32_172 : BitVec 32 := 1#32
  ⟨c0_i32_170, v407, c1_i32_172⟩
def k0_mult10 (i : grid0.Coords) (k0_t11 : Fin (k0_t11_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_168 : BitVec 32 := 4#32
  let v401 : BitVec 32 := Scalar.muli v171 c4_i32_168
  let c512_i32_169 : BitVec 32 := 512#32
  let v402 : BitVec 32 := Scalar.muli v401 c512_i32_169
  let c0_i32_170 : BitVec 32 := 0#32
  let c1_i32_172 : BitVec 32 := 1#32
  let arg21 : BitVec 32 := Scf.iv c0_i32_170 c1_i32_172 k0_t11
  let c512_i32_176 : BitVec 32 := 512#32
  let v425 : BitVec 32 := Scalar.muli arg21 c512_i32_176
  let v426 : BitVec 32 := Scalar.addi v402 v425
  v426
def k0_off13 (i : grid0.Coords) (k0_t11 : Fin (k0_t11_loop i).trips) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_168 : BitVec 32 := 4#32
  let v401 : BitVec 32 := Scalar.muli v171 c4_i32_168
  let c512_i32_169 : BitVec 32 := 512#32
  let v402 : BitVec 32 := Scalar.muli v401 c512_i32_169
  let c0_i32_170 : BitVec 32 := 0#32
  let c1_i32_172 : BitVec 32 := 1#32
  let arg21 : BitVec 32 := Scf.iv c0_i32_170 c1_i32_172 k0_t11
  let c512_i32_176 : BitVec 32 := 512#32
  let v425 : BitVec 32 := Scalar.muli arg21 c512_i32_176
  let v426 : BitVec 32 := Scalar.addi v402 v425
  let v427 : BitVec 32 := v426
  let v428 : Index := Scalar.indexCast v427
  let c0_177 : Index := 0#32
  ![v428.toNat, 0]
@[reducible] def k0_t12_loop (i : grid0.Coords) : Scf.Loop 32 :=
  let c0_i32_170 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_66 : BitVec 32 := 4#32
  let v172 : BitVec 32 := Scalar.muli v171 c4_i32_66
  let v173 : BitVec 32 := Scalar.subi v18 v172
  let v403 : BitVec 32 := Scalar.subi v173 c0_i32_170
  let c1_i32_171 : BitVec 32 := 1#32
  let v405 : BitVec 32 := Scalar.divsi v403 c1_i32_171
  let v406 : BitVec 32 := Scalar.muli v405 c1_i32_171
  let v407 : BitVec 32 := Scalar.addi c0_i32_170 v406
  let v404 : BitVec 32 := Scalar.addi c0_i32_170 v403
  let c1_i32_173 : BitVec 32 := 1#32
  ⟨v407, v404, c1_i32_173⟩
def k0_mult11 (i : grid0.Coords) (k0_t12 : Fin (k0_t12_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_168 : BitVec 32 := 4#32
  let v401 : BitVec 32 := Scalar.muli v171 c4_i32_168
  let c512_i32_169 : BitVec 32 := 512#32
  let v402 : BitVec 32 := Scalar.muli v401 c512_i32_169
  let c0_i32_170 : BitVec 32 := 0#32
  let c4_i32_66 : BitVec 32 := 4#32
  let v172 : BitVec 32 := Scalar.muli v171 c4_i32_66
  let v173 : BitVec 32 := Scalar.subi v18 v172
  let v403 : BitVec 32 := Scalar.subi v173 c0_i32_170
  let c1_i32_171 : BitVec 32 := 1#32
  let v405 : BitVec 32 := Scalar.divsi v403 c1_i32_171
  let v406 : BitVec 32 := Scalar.muli v405 c1_i32_171
  let v407 : BitVec 32 := Scalar.addi c0_i32_170 v406
  let c1_i32_173 : BitVec 32 := 1#32
  let arg21 : BitVec 32 := Scf.iv v407 c1_i32_173 k0_t12
  let c512_i32_176 : BitVec 32 := 512#32
  let v425 : BitVec 32 := Scalar.muli arg21 c512_i32_176
  let v426 : BitVec 32 := Scalar.addi v402 v425
  v426
def k0_off14 (i : grid0.Coords) (k0_t12 : Fin (k0_t12_loop i).trips) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_168 : BitVec 32 := 4#32
  let v401 : BitVec 32 := Scalar.muli v171 c4_i32_168
  let c512_i32_169 : BitVec 32 := 512#32
  let v402 : BitVec 32 := Scalar.muli v401 c512_i32_169
  let c0_i32_170 : BitVec 32 := 0#32
  let c4_i32_66 : BitVec 32 := 4#32
  let v172 : BitVec 32 := Scalar.muli v171 c4_i32_66
  let v173 : BitVec 32 := Scalar.subi v18 v172
  let v403 : BitVec 32 := Scalar.subi v173 c0_i32_170
  let c1_i32_171 : BitVec 32 := 1#32
  let v405 : BitVec 32 := Scalar.divsi v403 c1_i32_171
  let v406 : BitVec 32 := Scalar.muli v405 c1_i32_171
  let v407 : BitVec 32 := Scalar.addi c0_i32_170 v406
  let c1_i32_173 : BitVec 32 := 1#32
  let arg21 : BitVec 32 := Scf.iv v407 c1_i32_173 k0_t12
  let c512_i32_176 : BitVec 32 := 512#32
  let v425 : BitVec 32 := Scalar.muli arg21 c512_i32_176
  let v426 : BitVec 32 := Scalar.addi v402 v425
  let v427 : BitVec 32 := v426
  let v428 : Index := Scalar.indexCast v427
  let c0_177 : Index := 0#32
  ![v428.toNat, 0]
@[reducible] def k0_t13_loop (i : grid0.Coords) : Scf.Loop 32 :=
  let c0_i32_85 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v214 : BitVec 32 := Scalar.subi v18 c0_i32_85
  let c1_i32_86 : BitVec 32 := 1#32
  let v216 : BitVec 32 := Scalar.divsi v214 c1_i32_86
  let v217 : BitVec 32 := Scalar.muli v216 c1_i32_86
  let v218 : BitVec 32 := Scalar.addi c0_i32_85 v217
  let c1_i32_87 : BitVec 32 := 1#32
  ⟨c0_i32_85, v218, c1_i32_87⟩
def k0_mult12 (i : grid0.Coords) (k0_t13 : Fin (k0_t13_loop i).trips) : BitVec 32 :=
  let c0_i32_85 : BitVec 32 := 0#32
  let c1_i32_87 : BitVec 32 := 1#32
  let arg18 : BitVec 32 := Scf.iv c0_i32_85 c1_i32_87 k0_t13
  let c512_i32_163 : BitVec 32 := 512#32
  let v389 : BitVec 32 := Scalar.muli arg18 c512_i32_163
  v389
def k0_off15 (i : grid0.Coords) (k0_t13 : Fin (k0_t13_loop i).trips) : Fin 2 → Nat :=
  let c0_i32_85 : BitVec 32 := 0#32
  let c1_i32_87 : BitVec 32 := 1#32
  let arg18 : BitVec 32 := Scf.iv c0_i32_85 c1_i32_87 k0_t13
  let c512_i32_163 : BitVec 32 := 512#32
  let v389 : BitVec 32 := Scalar.muli arg18 c512_i32_163
  let v390 : BitVec 32 := v389
  let v391 : Index := Scalar.indexCast v390
  let c0_164 : Index := 0#32
  ![v391.toNat, 0]
@[reducible] def k0_t14_loop (i : grid0.Coords) : Scf.Loop 32 :=
  let c0_i32_85 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v214 : BitVec 32 := Scalar.subi v18 c0_i32_85
  let c1_i32_86 : BitVec 32 := 1#32
  let v216 : BitVec 32 := Scalar.divsi v214 c1_i32_86
  let v217 : BitVec 32 := Scalar.muli v216 c1_i32_86
  let v218 : BitVec 32 := Scalar.addi c0_i32_85 v217
  let v215 : BitVec 32 := Scalar.addi c0_i32_85 v214
  let c1_i32_88 : BitVec 32 := 1#32
  ⟨v218, v215, c1_i32_88⟩
def k0_mult13 (i : grid0.Coords) (k0_t14 : Fin (k0_t14_loop i).trips) : BitVec 32 :=
  let c0_i32_85 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v214 : BitVec 32 := Scalar.subi v18 c0_i32_85
  let c1_i32_86 : BitVec 32 := 1#32
  let v216 : BitVec 32 := Scalar.divsi v214 c1_i32_86
  let v217 : BitVec 32 := Scalar.muli v216 c1_i32_86
  let v218 : BitVec 32 := Scalar.addi c0_i32_85 v217
  let c1_i32_88 : BitVec 32 := 1#32
  let arg18 : BitVec 32 := Scf.iv v218 c1_i32_88 k0_t14
  let c512_i32_163 : BitVec 32 := 512#32
  let v389 : BitVec 32 := Scalar.muli arg18 c512_i32_163
  v389
def k0_off16 (i : grid0.Coords) (k0_t14 : Fin (k0_t14_loop i).trips) : Fin 2 → Nat :=
  let c0_i32_85 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v214 : BitVec 32 := Scalar.subi v18 c0_i32_85
  let c1_i32_86 : BitVec 32 := 1#32
  let v216 : BitVec 32 := Scalar.divsi v214 c1_i32_86
  let v217 : BitVec 32 := Scalar.muli v216 c1_i32_86
  let v218 : BitVec 32 := Scalar.addi c0_i32_85 v217
  let c1_i32_88 : BitVec 32 := 1#32
  let arg18 : BitVec 32 := Scf.iv v218 c1_i32_88 k0_t14
  let c512_i32_163 : BitVec 32 := 512#32
  let v389 : BitVec 32 := Scalar.muli arg18 c512_i32_163
  let v390 : BitVec 32 := v389
  let v391 : Index := Scalar.indexCast v390
  let c0_164 : Index := 0#32
  ![v391.toNat, 0]
@[reducible] def k0_t15_loop (i : grid0.Coords) : Scf.Loop 32 :=
  let c0_i32_90 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v221 : BitVec 32 := Scalar.subi v171 c0_i32_90
  let c1_i32_91 : BitVec 32 := 1#32
  let v223 : BitVec 32 := Scalar.divsi v221 c1_i32_91
  let v224 : BitVec 32 := Scalar.muli v223 c1_i32_91
  let v225 : BitVec 32 := Scalar.addi c0_i32_90 v224
  let c1_i32_92 : BitVec 32 := 1#32
  ⟨c0_i32_90, v225, c1_i32_92⟩
def k0_mult14 (i : grid0.Coords) (k0_t15 : Fin (k0_t15_loop i).trips) : BitVec 32 :=
  let c0_i32_163 : BitVec 32 := 0#32
  let c0_i32_90 : BitVec 32 := 0#32
  let c1_i32_92 : BitVec 32 := 1#32
  let arg18 : BitVec 32 := Scf.iv c0_i32_90 c1_i32_92 k0_t15
  let c2048_i32 : BitVec 32 := 2048#32
  let v389 : BitVec 32 := Scalar.muli arg18 c2048_i32
  let v390 : BitVec 32 := Scalar.addi c0_i32_163 v389
  v390
def k0_off17 (i : grid0.Coords) (k0_t15 : Fin (k0_t15_loop i).trips) : Fin 2 → Nat :=
  let c0_i32_163 : BitVec 32 := 0#32
  let c0_i32_90 : BitVec 32 := 0#32
  let c1_i32_92 : BitVec 32 := 1#32
  let arg18 : BitVec 32 := Scf.iv c0_i32_90 c1_i32_92 k0_t15
  let c2048_i32 : BitVec 32 := 2048#32
  let v389 : BitVec 32 := Scalar.muli arg18 c2048_i32
  let v390 : BitVec 32 := Scalar.addi c0_i32_163 v389
  let v391 : BitVec 32 := v390
  let v392 : Index := Scalar.indexCast v391
  let c0_164 : Index := 0#32
  ![v392.toNat, 0]
@[reducible] def k0_t16_loop (i : grid0.Coords) : Scf.Loop 32 :=
  let c0_i32_90 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v221 : BitVec 32 := Scalar.subi v171 c0_i32_90
  let c1_i32_91 : BitVec 32 := 1#32
  let v223 : BitVec 32 := Scalar.divsi v221 c1_i32_91
  let v224 : BitVec 32 := Scalar.muli v223 c1_i32_91
  let v225 : BitVec 32 := Scalar.addi c0_i32_90 v224
  let v222 : BitVec 32 := Scalar.addi c0_i32_90 v221
  let c1_i32_93 : BitVec 32 := 1#32
  ⟨v225, v222, c1_i32_93⟩
def k0_mult15 (i : grid0.Coords) (k0_t16 : Fin (k0_t16_loop i).trips) : BitVec 32 :=
  let c0_i32_163 : BitVec 32 := 0#32
  let c0_i32_90 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v221 : BitVec 32 := Scalar.subi v171 c0_i32_90
  let c1_i32_91 : BitVec 32 := 1#32
  let v223 : BitVec 32 := Scalar.divsi v221 c1_i32_91
  let v224 : BitVec 32 := Scalar.muli v223 c1_i32_91
  let v225 : BitVec 32 := Scalar.addi c0_i32_90 v224
  let c1_i32_93 : BitVec 32 := 1#32
  let arg18 : BitVec 32 := Scf.iv v225 c1_i32_93 k0_t16
  let c2048_i32 : BitVec 32 := 2048#32
  let v389 : BitVec 32 := Scalar.muli arg18 c2048_i32
  let v390 : BitVec 32 := Scalar.addi c0_i32_163 v389
  v390
def k0_off18 (i : grid0.Coords) (k0_t16 : Fin (k0_t16_loop i).trips) : Fin 2 → Nat :=
  let c0_i32_163 : BitVec 32 := 0#32
  let c0_i32_90 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v221 : BitVec 32 := Scalar.subi v171 c0_i32_90
  let c1_i32_91 : BitVec 32 := 1#32
  let v223 : BitVec 32 := Scalar.divsi v221 c1_i32_91
  let v224 : BitVec 32 := Scalar.muli v223 c1_i32_91
  let v225 : BitVec 32 := Scalar.addi c0_i32_90 v224
  let c1_i32_93 : BitVec 32 := 1#32
  let arg18 : BitVec 32 := Scf.iv v225 c1_i32_93 k0_t16
  let c2048_i32 : BitVec 32 := 2048#32
  let v389 : BitVec 32 := Scalar.muli arg18 c2048_i32
  let v390 : BitVec 32 := Scalar.addi c0_i32_163 v389
  let v391 : BitVec 32 := v390
  let v392 : Index := Scalar.indexCast v391
  let c0_164 : Index := 0#32
  ![v392.toNat, 0]
@[reducible] def k0_t17_loop (i : grid0.Coords) : Scf.Loop 32 :=
  let c0_i32_96 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_66 : BitVec 32 := 4#32
  let v172 : BitVec 32 := Scalar.muli v171 c4_i32_66
  let v173 : BitVec 32 := Scalar.subi v18 v172
  let v230 : BitVec 32 := Scalar.subi v173 c0_i32_96
  let c1_i32_97 : BitVec 32 := 1#32
  let v232 : BitVec 32 := Scalar.divsi v230 c1_i32_97
  let v233 : BitVec 32 := Scalar.muli v232 c1_i32_97
  let v234 : BitVec 32 := Scalar.addi c0_i32_96 v233
  let c1_i32_98 : BitVec 32 := 1#32
  ⟨c0_i32_96, v234, c1_i32_98⟩
def k0_mult16 (i : grid0.Coords) (k0_t17 : Fin (k0_t17_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_94 : BitVec 32 := 4#32
  let v228 : BitVec 32 := Scalar.muli v171 c4_i32_94
  let c512_i32_95 : BitVec 32 := 512#32
  let v229 : BitVec 32 := Scalar.muli v228 c512_i32_95
  let c0_i32_96 : BitVec 32 := 0#32
  let c1_i32_98 : BitVec 32 := 1#32
  let arg18 : BitVec 32 := Scf.iv c0_i32_96 c1_i32_98 k0_t17
  let c512_i32_163 : BitVec 32 := 512#32
  let v389 : BitVec 32 := Scalar.muli arg18 c512_i32_163
  let v390 : BitVec 32 := Scalar.addi v229 v389
  v390
def k0_off19 (i : grid0.Coords) (k0_t17 : Fin (k0_t17_loop i).trips) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_94 : BitVec 32 := 4#32
  let v228 : BitVec 32 := Scalar.muli v171 c4_i32_94
  let c512_i32_95 : BitVec 32 := 512#32
  let v229 : BitVec 32 := Scalar.muli v228 c512_i32_95
  let c0_i32_96 : BitVec 32 := 0#32
  let c1_i32_98 : BitVec 32 := 1#32
  let arg18 : BitVec 32 := Scf.iv c0_i32_96 c1_i32_98 k0_t17
  let c512_i32_163 : BitVec 32 := 512#32
  let v389 : BitVec 32 := Scalar.muli arg18 c512_i32_163
  let v390 : BitVec 32 := Scalar.addi v229 v389
  let v391 : BitVec 32 := v390
  let v392 : Index := Scalar.indexCast v391
  let c0_164 : Index := 0#32
  ![v392.toNat, 0]
@[reducible] def k0_t18_loop (i : grid0.Coords) : Scf.Loop 32 :=
  let c0_i32_96 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_66 : BitVec 32 := 4#32
  let v172 : BitVec 32 := Scalar.muli v171 c4_i32_66
  let v173 : BitVec 32 := Scalar.subi v18 v172
  let v230 : BitVec 32 := Scalar.subi v173 c0_i32_96
  let c1_i32_97 : BitVec 32 := 1#32
  let v232 : BitVec 32 := Scalar.divsi v230 c1_i32_97
  let v233 : BitVec 32 := Scalar.muli v232 c1_i32_97
  let v234 : BitVec 32 := Scalar.addi c0_i32_96 v233
  let v231 : BitVec 32 := Scalar.addi c0_i32_96 v230
  let c1_i32_99 : BitVec 32 := 1#32
  ⟨v234, v231, c1_i32_99⟩
def k0_mult17 (i : grid0.Coords) (k0_t18 : Fin (k0_t18_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_94 : BitVec 32 := 4#32
  let v228 : BitVec 32 := Scalar.muli v171 c4_i32_94
  let c512_i32_95 : BitVec 32 := 512#32
  let v229 : BitVec 32 := Scalar.muli v228 c512_i32_95
  let c0_i32_96 : BitVec 32 := 0#32
  let c4_i32_66 : BitVec 32 := 4#32
  let v172 : BitVec 32 := Scalar.muli v171 c4_i32_66
  let v173 : BitVec 32 := Scalar.subi v18 v172
  let v230 : BitVec 32 := Scalar.subi v173 c0_i32_96
  let c1_i32_97 : BitVec 32 := 1#32
  let v232 : BitVec 32 := Scalar.divsi v230 c1_i32_97
  let v233 : BitVec 32 := Scalar.muli v232 c1_i32_97
  let v234 : BitVec 32 := Scalar.addi c0_i32_96 v233
  let c1_i32_99 : BitVec 32 := 1#32
  let arg18 : BitVec 32 := Scf.iv v234 c1_i32_99 k0_t18
  let c512_i32_163 : BitVec 32 := 512#32
  let v389 : BitVec 32 := Scalar.muli arg18 c512_i32_163
  let v390 : BitVec 32 := Scalar.addi v229 v389
  v390
def k0_off20 (i : grid0.Coords) (k0_t18 : Fin (k0_t18_loop i).trips) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_94 : BitVec 32 := 4#32
  let v228 : BitVec 32 := Scalar.muli v171 c4_i32_94
  let c512_i32_95 : BitVec 32 := 512#32
  let v229 : BitVec 32 := Scalar.muli v228 c512_i32_95
  let c0_i32_96 : BitVec 32 := 0#32
  let c4_i32_66 : BitVec 32 := 4#32
  let v172 : BitVec 32 := Scalar.muli v171 c4_i32_66
  let v173 : BitVec 32 := Scalar.subi v18 v172
  let v230 : BitVec 32 := Scalar.subi v173 c0_i32_96
  let c1_i32_97 : BitVec 32 := 1#32
  let v232 : BitVec 32 := Scalar.divsi v230 c1_i32_97
  let v233 : BitVec 32 := Scalar.muli v232 c1_i32_97
  let v234 : BitVec 32 := Scalar.addi c0_i32_96 v233
  let c1_i32_99 : BitVec 32 := 1#32
  let arg18 : BitVec 32 := Scf.iv v234 c1_i32_99 k0_t18
  let c512_i32_163 : BitVec 32 := 512#32
  let v389 : BitVec 32 := Scalar.muli arg18 c512_i32_163
  let v390 : BitVec 32 := Scalar.addi v229 v389
  let v391 : BitVec 32 := v390
  let v392 : Index := Scalar.indexCast v391
  let c0_164 : Index := 0#32
  ![v392.toNat, 0]
@[reducible] def k0_t19_loop : Scf.Loop 32 :=
  let c0_i32_104 : BitVec 32 := 0#32
  let c15_i32_105 : BitVec 32 := 15#32
  let v254 : BitVec 32 := Scalar.addi c0_i32_104 c15_i32_105
  let c1_i32_106 : BitVec 32 := 1#32
  ⟨c0_i32_104, v254, c1_i32_106⟩
@[reducible] def k0_t20_loop (i : grid0.Coords) : Scf.Loop 32 :=
  let c0_i32_164 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v394 : BitVec 32 := Scalar.subi v171 c0_i32_164
  let c1_i32_165 : BitVec 32 := 1#32
  let v396 : BitVec 32 := Scalar.divsi v394 c1_i32_165
  let v397 : BitVec 32 := Scalar.muli v396 c1_i32_165
  let v398 : BitVec 32 := Scalar.addi c0_i32_164 v397
  let c1_i32_166 : BitVec 32 := 1#32
  ⟨c0_i32_164, v398, c1_i32_166⟩
def k0_mult18 (i : grid0.Coords) (k0_t20 : Fin (k0_t20_loop i).trips) : BitVec 32 :=
  let c0_i32_175 : BitVec 32 := 0#32
  let c0_i32_164 : BitVec 32 := 0#32
  let c1_i32_166 : BitVec 32 := 1#32
  let arg21 : BitVec 32 := Scf.iv c0_i32_164 c1_i32_166 k0_t20
  let c2048_i32 : BitVec 32 := 2048#32
  let v424 : BitVec 32 := Scalar.muli arg21 c2048_i32
  let v425 : BitVec 32 := Scalar.addi c0_i32_175 v424
  v425
def k0_off21 (i : grid0.Coords) (k0_t20 : Fin (k0_t20_loop i).trips) : Fin 2 → Nat :=
  let c0_i32_175 : BitVec 32 := 0#32
  let c0_i32_164 : BitVec 32 := 0#32
  let c1_i32_166 : BitVec 32 := 1#32
  let arg21 : BitVec 32 := Scf.iv c0_i32_164 c1_i32_166 k0_t20
  let c2048_i32 : BitVec 32 := 2048#32
  let v424 : BitVec 32 := Scalar.muli arg21 c2048_i32
  let v425 : BitVec 32 := Scalar.addi c0_i32_175 v424
  let v426 : BitVec 32 := v425
  let v427 : Index := Scalar.indexCast v426
  let c0_176 : Index := 0#32
  ![v427.toNat, 0]
@[reducible] def k0_t21_loop (i : grid0.Coords) : Scf.Loop 32 :=
  let c0_i32_164 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v394 : BitVec 32 := Scalar.subi v171 c0_i32_164
  let c1_i32_165 : BitVec 32 := 1#32
  let v396 : BitVec 32 := Scalar.divsi v394 c1_i32_165
  let v397 : BitVec 32 := Scalar.muli v396 c1_i32_165
  let v398 : BitVec 32 := Scalar.addi c0_i32_164 v397
  let v395 : BitVec 32 := Scalar.addi c0_i32_164 v394
  let c1_i32_167 : BitVec 32 := 1#32
  ⟨v398, v395, c1_i32_167⟩
def k0_mult19 (i : grid0.Coords) (k0_t21 : Fin (k0_t21_loop i).trips) : BitVec 32 :=
  let c0_i32_175 : BitVec 32 := 0#32
  let c0_i32_164 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v394 : BitVec 32 := Scalar.subi v171 c0_i32_164
  let c1_i32_165 : BitVec 32 := 1#32
  let v396 : BitVec 32 := Scalar.divsi v394 c1_i32_165
  let v397 : BitVec 32 := Scalar.muli v396 c1_i32_165
  let v398 : BitVec 32 := Scalar.addi c0_i32_164 v397
  let c1_i32_167 : BitVec 32 := 1#32
  let arg21 : BitVec 32 := Scf.iv v398 c1_i32_167 k0_t21
  let c2048_i32 : BitVec 32 := 2048#32
  let v424 : BitVec 32 := Scalar.muli arg21 c2048_i32
  let v425 : BitVec 32 := Scalar.addi c0_i32_175 v424
  v425
def k0_off22 (i : grid0.Coords) (k0_t21 : Fin (k0_t21_loop i).trips) : Fin 2 → Nat :=
  let c0_i32_175 : BitVec 32 := 0#32
  let c0_i32_164 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v394 : BitVec 32 := Scalar.subi v171 c0_i32_164
  let c1_i32_165 : BitVec 32 := 1#32
  let v396 : BitVec 32 := Scalar.divsi v394 c1_i32_165
  let v397 : BitVec 32 := Scalar.muli v396 c1_i32_165
  let v398 : BitVec 32 := Scalar.addi c0_i32_164 v397
  let c1_i32_167 : BitVec 32 := 1#32
  let arg21 : BitVec 32 := Scf.iv v398 c1_i32_167 k0_t21
  let c2048_i32 : BitVec 32 := 2048#32
  let v424 : BitVec 32 := Scalar.muli arg21 c2048_i32
  let v425 : BitVec 32 := Scalar.addi c0_i32_175 v424
  let v426 : BitVec 32 := v425
  let v427 : Index := Scalar.indexCast v426
  let c0_176 : Index := 0#32
  ![v427.toNat, 0]
@[reducible] def k0_t22_loop (i : grid0.Coords) : Scf.Loop 32 :=
  let c0_i32_170 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_66 : BitVec 32 := 4#32
  let v172 : BitVec 32 := Scalar.muli v171 c4_i32_66
  let v173 : BitVec 32 := Scalar.subi v18 v172
  let v403 : BitVec 32 := Scalar.subi v173 c0_i32_170
  let c1_i32_171 : BitVec 32 := 1#32
  let v405 : BitVec 32 := Scalar.divsi v403 c1_i32_171
  let v406 : BitVec 32 := Scalar.muli v405 c1_i32_171
  let v407 : BitVec 32 := Scalar.addi c0_i32_170 v406
  let c1_i32_172 : BitVec 32 := 1#32
  ⟨c0_i32_170, v407, c1_i32_172⟩
def k0_mult20 (i : grid0.Coords) (k0_t22 : Fin (k0_t22_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_168 : BitVec 32 := 4#32
  let v401 : BitVec 32 := Scalar.muli v171 c4_i32_168
  let c512_i32_169 : BitVec 32 := 512#32
  let v402 : BitVec 32 := Scalar.muli v401 c512_i32_169
  let c0_i32_170 : BitVec 32 := 0#32
  let c1_i32_172 : BitVec 32 := 1#32
  let arg21 : BitVec 32 := Scf.iv c0_i32_170 c1_i32_172 k0_t22
  let c512_i32_175 : BitVec 32 := 512#32
  let v424 : BitVec 32 := Scalar.muli arg21 c512_i32_175
  let v425 : BitVec 32 := Scalar.addi v402 v424
  v425
def k0_off23 (i : grid0.Coords) (k0_t22 : Fin (k0_t22_loop i).trips) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_168 : BitVec 32 := 4#32
  let v401 : BitVec 32 := Scalar.muli v171 c4_i32_168
  let c512_i32_169 : BitVec 32 := 512#32
  let v402 : BitVec 32 := Scalar.muli v401 c512_i32_169
  let c0_i32_170 : BitVec 32 := 0#32
  let c1_i32_172 : BitVec 32 := 1#32
  let arg21 : BitVec 32 := Scf.iv c0_i32_170 c1_i32_172 k0_t22
  let c512_i32_175 : BitVec 32 := 512#32
  let v424 : BitVec 32 := Scalar.muli arg21 c512_i32_175
  let v425 : BitVec 32 := Scalar.addi v402 v424
  let v426 : BitVec 32 := v425
  let v427 : Index := Scalar.indexCast v426
  let c0_176 : Index := 0#32
  ![v427.toNat, 0]
@[reducible] def k0_t23_loop (i : grid0.Coords) : Scf.Loop 32 :=
  let c0_i32_170 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_66 : BitVec 32 := 4#32
  let v172 : BitVec 32 := Scalar.muli v171 c4_i32_66
  let v173 : BitVec 32 := Scalar.subi v18 v172
  let v403 : BitVec 32 := Scalar.subi v173 c0_i32_170
  let c1_i32_171 : BitVec 32 := 1#32
  let v405 : BitVec 32 := Scalar.divsi v403 c1_i32_171
  let v406 : BitVec 32 := Scalar.muli v405 c1_i32_171
  let v407 : BitVec 32 := Scalar.addi c0_i32_170 v406
  let v404 : BitVec 32 := Scalar.addi c0_i32_170 v403
  let c1_i32_173 : BitVec 32 := 1#32
  ⟨v407, v404, c1_i32_173⟩
def k0_mult21 (i : grid0.Coords) (k0_t23 : Fin (k0_t23_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_168 : BitVec 32 := 4#32
  let v401 : BitVec 32 := Scalar.muli v171 c4_i32_168
  let c512_i32_169 : BitVec 32 := 512#32
  let v402 : BitVec 32 := Scalar.muli v401 c512_i32_169
  let c0_i32_170 : BitVec 32 := 0#32
  let c4_i32_66 : BitVec 32 := 4#32
  let v172 : BitVec 32 := Scalar.muli v171 c4_i32_66
  let v173 : BitVec 32 := Scalar.subi v18 v172
  let v403 : BitVec 32 := Scalar.subi v173 c0_i32_170
  let c1_i32_171 : BitVec 32 := 1#32
  let v405 : BitVec 32 := Scalar.divsi v403 c1_i32_171
  let v406 : BitVec 32 := Scalar.muli v405 c1_i32_171
  let v407 : BitVec 32 := Scalar.addi c0_i32_170 v406
  let c1_i32_173 : BitVec 32 := 1#32
  let arg21 : BitVec 32 := Scf.iv v407 c1_i32_173 k0_t23
  let c512_i32_175 : BitVec 32 := 512#32
  let v424 : BitVec 32 := Scalar.muli arg21 c512_i32_175
  let v425 : BitVec 32 := Scalar.addi v402 v424
  v425
def k0_off24 (i : grid0.Coords) (k0_t23 : Fin (k0_t23_loop i).trips) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_168 : BitVec 32 := 4#32
  let v401 : BitVec 32 := Scalar.muli v171 c4_i32_168
  let c512_i32_169 : BitVec 32 := 512#32
  let v402 : BitVec 32 := Scalar.muli v401 c512_i32_169
  let c0_i32_170 : BitVec 32 := 0#32
  let c4_i32_66 : BitVec 32 := 4#32
  let v172 : BitVec 32 := Scalar.muli v171 c4_i32_66
  let v173 : BitVec 32 := Scalar.subi v18 v172
  let v403 : BitVec 32 := Scalar.subi v173 c0_i32_170
  let c1_i32_171 : BitVec 32 := 1#32
  let v405 : BitVec 32 := Scalar.divsi v403 c1_i32_171
  let v406 : BitVec 32 := Scalar.muli v405 c1_i32_171
  let v407 : BitVec 32 := Scalar.addi c0_i32_170 v406
  let c1_i32_173 : BitVec 32 := 1#32
  let arg21 : BitVec 32 := Scf.iv v407 c1_i32_173 k0_t23
  let c512_i32_175 : BitVec 32 := 512#32
  let v424 : BitVec 32 := Scalar.muli arg21 c512_i32_175
  let v425 : BitVec 32 := Scalar.addi v402 v424
  let v426 : BitVec 32 := v425
  let v427 : Index := Scalar.indexCast v426
  let c0_176 : Index := 0#32
  ![v427.toNat, 0]
@[reducible] def k0_t24_loop (i : grid0.Coords) : Scf.Loop 32 :=
  let c0_i32_111 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v280 : BitVec 32 := Scalar.subi v18 c0_i32_111
  let c1_i32_112 : BitVec 32 := 1#32
  let v282 : BitVec 32 := Scalar.divsi v280 c1_i32_112
  let v283 : BitVec 32 := Scalar.muli v282 c1_i32_112
  let v284 : BitVec 32 := Scalar.addi c0_i32_111 v283
  let c1_i32_113 : BitVec 32 := 1#32
  ⟨c0_i32_111, v284, c1_i32_113⟩
def k0_mult22 (i : grid0.Coords) (k0_t24 : Fin (k0_t24_loop i).trips) : BitVec 32 :=
  let c0_i32_111 : BitVec 32 := 0#32
  let c1_i32_113 : BitVec 32 := 1#32
  let arg18 : BitVec 32 := Scf.iv c0_i32_111 c1_i32_113 k0_t24
  let c512_i32_163 : BitVec 32 := 512#32
  let v389 : BitVec 32 := Scalar.muli arg18 c512_i32_163
  v389
def k0_off25 (i : grid0.Coords) (k0_t24 : Fin (k0_t24_loop i).trips) : Fin 2 → Nat :=
  let c0_i32_111 : BitVec 32 := 0#32
  let c1_i32_113 : BitVec 32 := 1#32
  let arg18 : BitVec 32 := Scf.iv c0_i32_111 c1_i32_113 k0_t24
  let c512_i32_163 : BitVec 32 := 512#32
  let v389 : BitVec 32 := Scalar.muli arg18 c512_i32_163
  let v390 : BitVec 32 := v389
  let v395 : Index := Scalar.indexCast v390
  let c0_164 : Index := 0#32
  ![v395.toNat, 0]
@[reducible] def k0_t25_loop (i : grid0.Coords) : Scf.Loop 32 :=
  let c0_i32_111 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v280 : BitVec 32 := Scalar.subi v18 c0_i32_111
  let c1_i32_112 : BitVec 32 := 1#32
  let v282 : BitVec 32 := Scalar.divsi v280 c1_i32_112
  let v283 : BitVec 32 := Scalar.muli v282 c1_i32_112
  let v284 : BitVec 32 := Scalar.addi c0_i32_111 v283
  let v281 : BitVec 32 := Scalar.addi c0_i32_111 v280
  let c1_i32_114 : BitVec 32 := 1#32
  ⟨v284, v281, c1_i32_114⟩
def k0_mult23 (i : grid0.Coords) (k0_t25 : Fin (k0_t25_loop i).trips) : BitVec 32 :=
  let c0_i32_111 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v280 : BitVec 32 := Scalar.subi v18 c0_i32_111
  let c1_i32_112 : BitVec 32 := 1#32
  let v282 : BitVec 32 := Scalar.divsi v280 c1_i32_112
  let v283 : BitVec 32 := Scalar.muli v282 c1_i32_112
  let v284 : BitVec 32 := Scalar.addi c0_i32_111 v283
  let c1_i32_114 : BitVec 32 := 1#32
  let arg18 : BitVec 32 := Scf.iv v284 c1_i32_114 k0_t25
  let c512_i32_163 : BitVec 32 := 512#32
  let v389 : BitVec 32 := Scalar.muli arg18 c512_i32_163
  v389
def k0_off26 (i : grid0.Coords) (k0_t25 : Fin (k0_t25_loop i).trips) : Fin 2 → Nat :=
  let c0_i32_111 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v280 : BitVec 32 := Scalar.subi v18 c0_i32_111
  let c1_i32_112 : BitVec 32 := 1#32
  let v282 : BitVec 32 := Scalar.divsi v280 c1_i32_112
  let v283 : BitVec 32 := Scalar.muli v282 c1_i32_112
  let v284 : BitVec 32 := Scalar.addi c0_i32_111 v283
  let c1_i32_114 : BitVec 32 := 1#32
  let arg18 : BitVec 32 := Scf.iv v284 c1_i32_114 k0_t25
  let c512_i32_163 : BitVec 32 := 512#32
  let v389 : BitVec 32 := Scalar.muli arg18 c512_i32_163
  let v390 : BitVec 32 := v389
  let v395 : Index := Scalar.indexCast v390
  let c0_164 : Index := 0#32
  ![v395.toNat, 0]
@[reducible] def k0_t26_loop (i : grid0.Coords) : Scf.Loop 32 :=
  let c0_i32_118 : BitVec 32 := 0#32
  let c32_i32 : BitVec 32 := 32#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c512_i32_115 : BitVec 32 := 512#32
  let v285 : BitVec 32 := Scalar.muli v18 c512_i32_115
  let c1_i32_116 : BitVec 32 := 1#32
  let v286 : BitVec 32 := Scalar.subi v285 c1_i32_116
  let v287 : BitVec 32 := Scalar.ctlz v286
  let v288 : BitVec 32 := Scalar.subi c32_i32 v287
  let v290 : BitVec 32 := Scalar.subi v288 c0_i32_118
  let c1_i32_119 : BitVec 32 := 1#32
  let v292 : BitVec 32 := Scalar.divsi v290 c1_i32_119
  let v293 : BitVec 32 := Scalar.muli v292 c1_i32_119
  let v294 : BitVec 32 := Scalar.addi c0_i32_118 v293
  let c1_i32_120 : BitVec 32 := 1#32
  ⟨c0_i32_118, v294, c1_i32_120⟩
@[reducible] def k0_t27_loop (i : grid0.Coords) : Scf.Loop 32 :=
  let c0_i32_165 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v395 : BitVec 32 := Scalar.subi v171 c0_i32_165
  let c1_i32_166 : BitVec 32 := 1#32
  let v397 : BitVec 32 := Scalar.divsi v395 c1_i32_166
  let v398 : BitVec 32 := Scalar.muli v397 c1_i32_166
  let v399 : BitVec 32 := Scalar.addi c0_i32_165 v398
  let c1_i32_167 : BitVec 32 := 1#32
  ⟨c0_i32_165, v399, c1_i32_167⟩
def k0_mult24 (i : grid0.Coords) (k0_t27 : Fin (k0_t27_loop i).trips) : BitVec 32 :=
  let c0_i32_176 : BitVec 32 := 0#32
  let c0_i32_165 : BitVec 32 := 0#32
  let c1_i32_167 : BitVec 32 := 1#32
  let arg20 : BitVec 32 := Scf.iv c0_i32_165 c1_i32_167 k0_t27
  let c2048_i32 : BitVec 32 := 2048#32
  let v424 : BitVec 32 := Scalar.muli arg20 c2048_i32
  let v425 : BitVec 32 := Scalar.addi c0_i32_176 v424
  v425
def k0_off27 (i : grid0.Coords) (k0_t27 : Fin (k0_t27_loop i).trips) : Fin 2 → Nat :=
  let c0_i32_176 : BitVec 32 := 0#32
  let c0_i32_165 : BitVec 32 := 0#32
  let c1_i32_167 : BitVec 32 := 1#32
  let arg20 : BitVec 32 := Scf.iv c0_i32_165 c1_i32_167 k0_t27
  let c2048_i32 : BitVec 32 := 2048#32
  let v424 : BitVec 32 := Scalar.muli arg20 c2048_i32
  let v425 : BitVec 32 := Scalar.addi c0_i32_176 v424
  let v426 : BitVec 32 := v425
  let v427 : Index := Scalar.indexCast v426
  let c0_177 : Index := 0#32
  ![v427.toNat, 0]
@[reducible] def k0_t28_loop (i : grid0.Coords) : Scf.Loop 32 :=
  let c0_i32_165 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v395 : BitVec 32 := Scalar.subi v171 c0_i32_165
  let c1_i32_166 : BitVec 32 := 1#32
  let v397 : BitVec 32 := Scalar.divsi v395 c1_i32_166
  let v398 : BitVec 32 := Scalar.muli v397 c1_i32_166
  let v399 : BitVec 32 := Scalar.addi c0_i32_165 v398
  let v396 : BitVec 32 := Scalar.addi c0_i32_165 v395
  let c1_i32_168 : BitVec 32 := 1#32
  ⟨v399, v396, c1_i32_168⟩
def k0_mult25 (i : grid0.Coords) (k0_t28 : Fin (k0_t28_loop i).trips) : BitVec 32 :=
  let c0_i32_176 : BitVec 32 := 0#32
  let c0_i32_165 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v395 : BitVec 32 := Scalar.subi v171 c0_i32_165
  let c1_i32_166 : BitVec 32 := 1#32
  let v397 : BitVec 32 := Scalar.divsi v395 c1_i32_166
  let v398 : BitVec 32 := Scalar.muli v397 c1_i32_166
  let v399 : BitVec 32 := Scalar.addi c0_i32_165 v398
  let c1_i32_168 : BitVec 32 := 1#32
  let arg20 : BitVec 32 := Scf.iv v399 c1_i32_168 k0_t28
  let c2048_i32 : BitVec 32 := 2048#32
  let v424 : BitVec 32 := Scalar.muli arg20 c2048_i32
  let v425 : BitVec 32 := Scalar.addi c0_i32_176 v424
  v425
def k0_off28 (i : grid0.Coords) (k0_t28 : Fin (k0_t28_loop i).trips) : Fin 2 → Nat :=
  let c0_i32_176 : BitVec 32 := 0#32
  let c0_i32_165 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v395 : BitVec 32 := Scalar.subi v171 c0_i32_165
  let c1_i32_166 : BitVec 32 := 1#32
  let v397 : BitVec 32 := Scalar.divsi v395 c1_i32_166
  let v398 : BitVec 32 := Scalar.muli v397 c1_i32_166
  let v399 : BitVec 32 := Scalar.addi c0_i32_165 v398
  let c1_i32_168 : BitVec 32 := 1#32
  let arg20 : BitVec 32 := Scf.iv v399 c1_i32_168 k0_t28
  let c2048_i32 : BitVec 32 := 2048#32
  let v424 : BitVec 32 := Scalar.muli arg20 c2048_i32
  let v425 : BitVec 32 := Scalar.addi c0_i32_176 v424
  let v426 : BitVec 32 := v425
  let v427 : Index := Scalar.indexCast v426
  let c0_177 : Index := 0#32
  ![v427.toNat, 0]
@[reducible] def k0_t29_loop (i : grid0.Coords) : Scf.Loop 32 :=
  let c0_i32_171 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_66 : BitVec 32 := 4#32
  let v172 : BitVec 32 := Scalar.muli v171 c4_i32_66
  let v173 : BitVec 32 := Scalar.subi v18 v172
  let v404 : BitVec 32 := Scalar.subi v173 c0_i32_171
  let c1_i32_172 : BitVec 32 := 1#32
  let v406 : BitVec 32 := Scalar.divsi v404 c1_i32_172
  let v407 : BitVec 32 := Scalar.muli v406 c1_i32_172
  let v408 : BitVec 32 := Scalar.addi c0_i32_171 v407
  let c1_i32_173 : BitVec 32 := 1#32
  ⟨c0_i32_171, v408, c1_i32_173⟩
def k0_mult26 (i : grid0.Coords) (k0_t29 : Fin (k0_t29_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_169 : BitVec 32 := 4#32
  let v402 : BitVec 32 := Scalar.muli v171 c4_i32_169
  let c512_i32_170 : BitVec 32 := 512#32
  let v403 : BitVec 32 := Scalar.muli v402 c512_i32_170
  let c0_i32_171 : BitVec 32 := 0#32
  let c1_i32_173 : BitVec 32 := 1#32
  let arg20 : BitVec 32 := Scf.iv c0_i32_171 c1_i32_173 k0_t29
  let c512_i32_176 : BitVec 32 := 512#32
  let v424 : BitVec 32 := Scalar.muli arg20 c512_i32_176
  let v425 : BitVec 32 := Scalar.addi v403 v424
  v425
def k0_off29 (i : grid0.Coords) (k0_t29 : Fin (k0_t29_loop i).trips) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_169 : BitVec 32 := 4#32
  let v402 : BitVec 32 := Scalar.muli v171 c4_i32_169
  let c512_i32_170 : BitVec 32 := 512#32
  let v403 : BitVec 32 := Scalar.muli v402 c512_i32_170
  let c0_i32_171 : BitVec 32 := 0#32
  let c1_i32_173 : BitVec 32 := 1#32
  let arg20 : BitVec 32 := Scf.iv c0_i32_171 c1_i32_173 k0_t29
  let c512_i32_176 : BitVec 32 := 512#32
  let v424 : BitVec 32 := Scalar.muli arg20 c512_i32_176
  let v425 : BitVec 32 := Scalar.addi v403 v424
  let v426 : BitVec 32 := v425
  let v427 : Index := Scalar.indexCast v426
  let c0_177 : Index := 0#32
  ![v427.toNat, 0]
@[reducible] def k0_t30_loop (i : grid0.Coords) : Scf.Loop 32 :=
  let c0_i32_171 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_66 : BitVec 32 := 4#32
  let v172 : BitVec 32 := Scalar.muli v171 c4_i32_66
  let v173 : BitVec 32 := Scalar.subi v18 v172
  let v404 : BitVec 32 := Scalar.subi v173 c0_i32_171
  let c1_i32_172 : BitVec 32 := 1#32
  let v406 : BitVec 32 := Scalar.divsi v404 c1_i32_172
  let v407 : BitVec 32 := Scalar.muli v406 c1_i32_172
  let v408 : BitVec 32 := Scalar.addi c0_i32_171 v407
  let v405 : BitVec 32 := Scalar.addi c0_i32_171 v404
  let c1_i32_174 : BitVec 32 := 1#32
  ⟨v408, v405, c1_i32_174⟩
def k0_mult27 (i : grid0.Coords) (k0_t30 : Fin (k0_t30_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_169 : BitVec 32 := 4#32
  let v402 : BitVec 32 := Scalar.muli v171 c4_i32_169
  let c512_i32_170 : BitVec 32 := 512#32
  let v403 : BitVec 32 := Scalar.muli v402 c512_i32_170
  let c0_i32_171 : BitVec 32 := 0#32
  let c4_i32_66 : BitVec 32 := 4#32
  let v172 : BitVec 32 := Scalar.muli v171 c4_i32_66
  let v173 : BitVec 32 := Scalar.subi v18 v172
  let v404 : BitVec 32 := Scalar.subi v173 c0_i32_171
  let c1_i32_172 : BitVec 32 := 1#32
  let v406 : BitVec 32 := Scalar.divsi v404 c1_i32_172
  let v407 : BitVec 32 := Scalar.muli v406 c1_i32_172
  let v408 : BitVec 32 := Scalar.addi c0_i32_171 v407
  let c1_i32_174 : BitVec 32 := 1#32
  let arg20 : BitVec 32 := Scf.iv v408 c1_i32_174 k0_t30
  let c512_i32_176 : BitVec 32 := 512#32
  let v424 : BitVec 32 := Scalar.muli arg20 c512_i32_176
  let v425 : BitVec 32 := Scalar.addi v403 v424
  v425
def k0_off30 (i : grid0.Coords) (k0_t30 : Fin (k0_t30_loop i).trips) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_169 : BitVec 32 := 4#32
  let v402 : BitVec 32 := Scalar.muli v171 c4_i32_169
  let c512_i32_170 : BitVec 32 := 512#32
  let v403 : BitVec 32 := Scalar.muli v402 c512_i32_170
  let c0_i32_171 : BitVec 32 := 0#32
  let c4_i32_66 : BitVec 32 := 4#32
  let v172 : BitVec 32 := Scalar.muli v171 c4_i32_66
  let v173 : BitVec 32 := Scalar.subi v18 v172
  let v404 : BitVec 32 := Scalar.subi v173 c0_i32_171
  let c1_i32_172 : BitVec 32 := 1#32
  let v406 : BitVec 32 := Scalar.divsi v404 c1_i32_172
  let v407 : BitVec 32 := Scalar.muli v406 c1_i32_172
  let v408 : BitVec 32 := Scalar.addi c0_i32_171 v407
  let c1_i32_174 : BitVec 32 := 1#32
  let arg20 : BitVec 32 := Scf.iv v408 c1_i32_174 k0_t30
  let c512_i32_176 : BitVec 32 := 512#32
  let v424 : BitVec 32 := Scalar.muli arg20 c512_i32_176
  let v425 : BitVec 32 := Scalar.addi v403 v424
  let v426 : BitVec 32 := v425
  let v427 : Index := Scalar.indexCast v426
  let c0_177 : Index := 0#32
  ![v427.toNat, 0]
@[reducible] def k0_t31_loop (i : grid0.Coords) : Scf.Loop 32 :=
  let c0_i32_118 : BitVec 32 := 0#32
  let c32_i32 : BitVec 32 := 32#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c512_i32_115 : BitVec 32 := 512#32
  let v285 : BitVec 32 := Scalar.muli v18 c512_i32_115
  let c1_i32_116 : BitVec 32 := 1#32
  let v286 : BitVec 32 := Scalar.subi v285 c1_i32_116
  let v287 : BitVec 32 := Scalar.ctlz v286
  let v288 : BitVec 32 := Scalar.subi c32_i32 v287
  let v290 : BitVec 32 := Scalar.subi v288 c0_i32_118
  let c1_i32_119 : BitVec 32 := 1#32
  let v292 : BitVec 32 := Scalar.divsi v290 c1_i32_119
  let v293 : BitVec 32 := Scalar.muli v292 c1_i32_119
  let v294 : BitVec 32 := Scalar.addi c0_i32_118 v293
  let v291 : BitVec 32 := Scalar.addi c0_i32_118 v290
  let c1_i32_121 : BitVec 32 := 1#32
  ⟨v294, v291, c1_i32_121⟩
@[reducible] def k0_t32_loop (i : grid0.Coords) : Scf.Loop 32 :=
  let c0_i32_165 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v395 : BitVec 32 := Scalar.subi v171 c0_i32_165
  let c1_i32_166 : BitVec 32 := 1#32
  let v397 : BitVec 32 := Scalar.divsi v395 c1_i32_166
  let v398 : BitVec 32 := Scalar.muli v397 c1_i32_166
  let v399 : BitVec 32 := Scalar.addi c0_i32_165 v398
  let c1_i32_167 : BitVec 32 := 1#32
  ⟨c0_i32_165, v399, c1_i32_167⟩
def k0_mult28 (i : grid0.Coords) (k0_t32 : Fin (k0_t32_loop i).trips) : BitVec 32 :=
  let c0_i32_176 : BitVec 32 := 0#32
  let c0_i32_165 : BitVec 32 := 0#32
  let c1_i32_167 : BitVec 32 := 1#32
  let arg20 : BitVec 32 := Scf.iv c0_i32_165 c1_i32_167 k0_t32
  let c2048_i32 : BitVec 32 := 2048#32
  let v424 : BitVec 32 := Scalar.muli arg20 c2048_i32
  let v425 : BitVec 32 := Scalar.addi c0_i32_176 v424
  v425
def k0_off31 (i : grid0.Coords) (k0_t32 : Fin (k0_t32_loop i).trips) : Fin 2 → Nat :=
  let c0_i32_176 : BitVec 32 := 0#32
  let c0_i32_165 : BitVec 32 := 0#32
  let c1_i32_167 : BitVec 32 := 1#32
  let arg20 : BitVec 32 := Scf.iv c0_i32_165 c1_i32_167 k0_t32
  let c2048_i32 : BitVec 32 := 2048#32
  let v424 : BitVec 32 := Scalar.muli arg20 c2048_i32
  let v425 : BitVec 32 := Scalar.addi c0_i32_176 v424
  let v426 : BitVec 32 := v425
  let v427 : Index := Scalar.indexCast v426
  let c0_177 : Index := 0#32
  ![v427.toNat, 0]
@[reducible] def k0_t33_loop (i : grid0.Coords) : Scf.Loop 32 :=
  let c0_i32_165 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v395 : BitVec 32 := Scalar.subi v171 c0_i32_165
  let c1_i32_166 : BitVec 32 := 1#32
  let v397 : BitVec 32 := Scalar.divsi v395 c1_i32_166
  let v398 : BitVec 32 := Scalar.muli v397 c1_i32_166
  let v399 : BitVec 32 := Scalar.addi c0_i32_165 v398
  let v396 : BitVec 32 := Scalar.addi c0_i32_165 v395
  let c1_i32_168 : BitVec 32 := 1#32
  ⟨v399, v396, c1_i32_168⟩
def k0_mult29 (i : grid0.Coords) (k0_t33 : Fin (k0_t33_loop i).trips) : BitVec 32 :=
  let c0_i32_176 : BitVec 32 := 0#32
  let c0_i32_165 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v395 : BitVec 32 := Scalar.subi v171 c0_i32_165
  let c1_i32_166 : BitVec 32 := 1#32
  let v397 : BitVec 32 := Scalar.divsi v395 c1_i32_166
  let v398 : BitVec 32 := Scalar.muli v397 c1_i32_166
  let v399 : BitVec 32 := Scalar.addi c0_i32_165 v398
  let c1_i32_168 : BitVec 32 := 1#32
  let arg20 : BitVec 32 := Scf.iv v399 c1_i32_168 k0_t33
  let c2048_i32 : BitVec 32 := 2048#32
  let v424 : BitVec 32 := Scalar.muli arg20 c2048_i32
  let v425 : BitVec 32 := Scalar.addi c0_i32_176 v424
  v425
def k0_off32 (i : grid0.Coords) (k0_t33 : Fin (k0_t33_loop i).trips) : Fin 2 → Nat :=
  let c0_i32_176 : BitVec 32 := 0#32
  let c0_i32_165 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let v395 : BitVec 32 := Scalar.subi v171 c0_i32_165
  let c1_i32_166 : BitVec 32 := 1#32
  let v397 : BitVec 32 := Scalar.divsi v395 c1_i32_166
  let v398 : BitVec 32 := Scalar.muli v397 c1_i32_166
  let v399 : BitVec 32 := Scalar.addi c0_i32_165 v398
  let c1_i32_168 : BitVec 32 := 1#32
  let arg20 : BitVec 32 := Scf.iv v399 c1_i32_168 k0_t33
  let c2048_i32 : BitVec 32 := 2048#32
  let v424 : BitVec 32 := Scalar.muli arg20 c2048_i32
  let v425 : BitVec 32 := Scalar.addi c0_i32_176 v424
  let v426 : BitVec 32 := v425
  let v427 : Index := Scalar.indexCast v426
  let c0_177 : Index := 0#32
  ![v427.toNat, 0]
@[reducible] def k0_t34_loop (i : grid0.Coords) : Scf.Loop 32 :=
  let c0_i32_171 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_66 : BitVec 32 := 4#32
  let v172 : BitVec 32 := Scalar.muli v171 c4_i32_66
  let v173 : BitVec 32 := Scalar.subi v18 v172
  let v404 : BitVec 32 := Scalar.subi v173 c0_i32_171
  let c1_i32_172 : BitVec 32 := 1#32
  let v406 : BitVec 32 := Scalar.divsi v404 c1_i32_172
  let v407 : BitVec 32 := Scalar.muli v406 c1_i32_172
  let v408 : BitVec 32 := Scalar.addi c0_i32_171 v407
  let c1_i32_173 : BitVec 32 := 1#32
  ⟨c0_i32_171, v408, c1_i32_173⟩
def k0_mult30 (i : grid0.Coords) (k0_t34 : Fin (k0_t34_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_169 : BitVec 32 := 4#32
  let v402 : BitVec 32 := Scalar.muli v171 c4_i32_169
  let c512_i32_170 : BitVec 32 := 512#32
  let v403 : BitVec 32 := Scalar.muli v402 c512_i32_170
  let c0_i32_171 : BitVec 32 := 0#32
  let c1_i32_173 : BitVec 32 := 1#32
  let arg20 : BitVec 32 := Scf.iv c0_i32_171 c1_i32_173 k0_t34
  let c512_i32_176 : BitVec 32 := 512#32
  let v424 : BitVec 32 := Scalar.muli arg20 c512_i32_176
  let v425 : BitVec 32 := Scalar.addi v403 v424
  v425
def k0_off33 (i : grid0.Coords) (k0_t34 : Fin (k0_t34_loop i).trips) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_169 : BitVec 32 := 4#32
  let v402 : BitVec 32 := Scalar.muli v171 c4_i32_169
  let c512_i32_170 : BitVec 32 := 512#32
  let v403 : BitVec 32 := Scalar.muli v402 c512_i32_170
  let c0_i32_171 : BitVec 32 := 0#32
  let c1_i32_173 : BitVec 32 := 1#32
  let arg20 : BitVec 32 := Scf.iv c0_i32_171 c1_i32_173 k0_t34
  let c512_i32_176 : BitVec 32 := 512#32
  let v424 : BitVec 32 := Scalar.muli arg20 c512_i32_176
  let v425 : BitVec 32 := Scalar.addi v403 v424
  let v426 : BitVec 32 := v425
  let v427 : Index := Scalar.indexCast v426
  let c0_177 : Index := 0#32
  ![v427.toNat, 0]
@[reducible] def k0_t35_loop (i : grid0.Coords) : Scf.Loop 32 :=
  let c0_i32_171 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_66 : BitVec 32 := 4#32
  let v172 : BitVec 32 := Scalar.muli v171 c4_i32_66
  let v173 : BitVec 32 := Scalar.subi v18 v172
  let v404 : BitVec 32 := Scalar.subi v173 c0_i32_171
  let c1_i32_172 : BitVec 32 := 1#32
  let v406 : BitVec 32 := Scalar.divsi v404 c1_i32_172
  let v407 : BitVec 32 := Scalar.muli v406 c1_i32_172
  let v408 : BitVec 32 := Scalar.addi c0_i32_171 v407
  let v405 : BitVec 32 := Scalar.addi c0_i32_171 v404
  let c1_i32_174 : BitVec 32 := 1#32
  ⟨v408, v405, c1_i32_174⟩
def k0_mult31 (i : grid0.Coords) (k0_t35 : Fin (k0_t35_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_169 : BitVec 32 := 4#32
  let v402 : BitVec 32 := Scalar.muli v171 c4_i32_169
  let c512_i32_170 : BitVec 32 := 512#32
  let v403 : BitVec 32 := Scalar.muli v402 c512_i32_170
  let c0_i32_171 : BitVec 32 := 0#32
  let c4_i32_66 : BitVec 32 := 4#32
  let v172 : BitVec 32 := Scalar.muli v171 c4_i32_66
  let v173 : BitVec 32 := Scalar.subi v18 v172
  let v404 : BitVec 32 := Scalar.subi v173 c0_i32_171
  let c1_i32_172 : BitVec 32 := 1#32
  let v406 : BitVec 32 := Scalar.divsi v404 c1_i32_172
  let v407 : BitVec 32 := Scalar.muli v406 c1_i32_172
  let v408 : BitVec 32 := Scalar.addi c0_i32_171 v407
  let c1_i32_174 : BitVec 32 := 1#32
  let arg20 : BitVec 32 := Scf.iv v408 c1_i32_174 k0_t35
  let c512_i32_176 : BitVec 32 := 512#32
  let v424 : BitVec 32 := Scalar.muli arg20 c512_i32_176
  let v425 : BitVec 32 := Scalar.addi v403 v424
  v425
def k0_off34 (i : grid0.Coords) (k0_t35 : Fin (k0_t35_loop i).trips) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c0_i32_60 : BitVec 32 := 0#32
  let v156 : BitVec 1 := Scalar.cmpi .sgt v18 c0_i32_60
  let v157 : BitVec 32 := Scalar.extui v156
  let c0_i32_61 : BitVec 32 := 0#32
  let v158 : BitVec 1 := Scalar.cmpi .slt v18 c0_i32_61
  let v159 : BitVec 32 := Scalar.extui v158
  let v160 : BitVec 32 := Scalar.subi v157 v159
  let c4_i32 : BitVec 32 := 4#32
  let c0_i32_62 : BitVec 32 := 0#32
  let v161 : BitVec 1 := Scalar.cmpi .sgt c4_i32 c0_i32_62
  let v162 : BitVec 32 := Scalar.extui v161
  let c0_i32_63 : BitVec 32 := 0#32
  let v163 : BitVec 1 := Scalar.cmpi .slt c4_i32 c0_i32_63
  let v164 : BitVec 32 := Scalar.extui v163
  let v165 : BitVec 32 := Scalar.subi v162 v164
  let v166 : BitVec 1 := Scalar.cmpi .ne v160 v165
  let v167 : BitVec 32 := Scalar.remsi v18 c4_i32
  let c0_i32_64 : BitVec 32 := 0#32
  let v168 : BitVec 1 := Scalar.cmpi .ne v167 c0_i32_64
  let v169 : BitVec 1 := Scalar.andi v166 v168
  let v155 : BitVec 32 := Scalar.divsi v18 c4_i32
  let c1_i32_65 : BitVec 32 := 1#32
  let v170 : BitVec 32 := Scalar.subi v155 c1_i32_65
  let v171 : BitVec 32 := Scalar.select v169 v170 v155
  let c4_i32_169 : BitVec 32 := 4#32
  let v402 : BitVec 32 := Scalar.muli v171 c4_i32_169
  let c512_i32_170 : BitVec 32 := 512#32
  let v403 : BitVec 32 := Scalar.muli v402 c512_i32_170
  let c0_i32_171 : BitVec 32 := 0#32
  let c4_i32_66 : BitVec 32 := 4#32
  let v172 : BitVec 32 := Scalar.muli v171 c4_i32_66
  let v173 : BitVec 32 := Scalar.subi v18 v172
  let v404 : BitVec 32 := Scalar.subi v173 c0_i32_171
  let c1_i32_172 : BitVec 32 := 1#32
  let v406 : BitVec 32 := Scalar.divsi v404 c1_i32_172
  let v407 : BitVec 32 := Scalar.muli v406 c1_i32_172
  let v408 : BitVec 32 := Scalar.addi c0_i32_171 v407
  let c1_i32_174 : BitVec 32 := 1#32
  let arg20 : BitVec 32 := Scf.iv v408 c1_i32_174 k0_t35
  let c512_i32_176 : BitVec 32 := 512#32
  let v424 : BitVec 32 := Scalar.muli arg20 c512_i32_176
  let v425 : BitVec 32 := Scalar.addi v403 v424
  let v426 : BitVec 32 := v425
  let v427 : Index := Scalar.indexCast v426
  let c0_177 : Index := 0#32
  ![v427.toNat, 0]
@[reducible] def k0_t36_loop (i : grid0.Coords) : Scf.Loop 32 :=
  let c0_i32_164 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v389 : BitVec 32 := Scalar.subi v18 c0_i32_164
  let c1_i32_165 : BitVec 32 := 1#32
  let v391 : BitVec 32 := Scalar.divsi v389 c1_i32_165
  let v392 : BitVec 32 := Scalar.muli v391 c1_i32_165
  let v393 : BitVec 32 := Scalar.addi c0_i32_164 v392
  let c1_i32_166 : BitVec 32 := 1#32
  ⟨c0_i32_164, v393, c1_i32_166⟩
def k0_mult32 (i : grid0.Coords) (k0_t36 : Fin (k0_t36_loop i).trips) : BitVec 32 :=
  let c0_i32_164 : BitVec 32 := 0#32
  let c1_i32_166 : BitVec 32 := 1#32
  let arg18 : BitVec 32 := Scf.iv c0_i32_164 c1_i32_166 k0_t36
  let c512_i32_168 : BitVec 32 := 512#32
  let v394 : BitVec 32 := Scalar.muli arg18 c512_i32_168
  v394
def k0_off35 (i : grid0.Coords) (k0_t36 : Fin (k0_t36_loop i).trips) : Fin 2 → Nat :=
  let c0_i32_164 : BitVec 32 := 0#32
  let c1_i32_166 : BitVec 32 := 1#32
  let arg18 : BitVec 32 := Scf.iv c0_i32_164 c1_i32_166 k0_t36
  let c512_i32_168 : BitVec 32 := 512#32
  let v394 : BitVec 32 := Scalar.muli arg18 c512_i32_168
  let v395 : BitVec 32 := v394
  let v396 : Index := Scalar.indexCast v395
  let c0_169 : Index := 0#32
  ![v396.toNat, 0]
def k0_off36 (i : grid0.Coords) (k0_t36 : Fin (k0_t36_loop i).trips) : Fin 3 → Nat :=
  let c0_172 : Index := 0#32
  let c0_i32_164 : BitVec 32 := 0#32
  let c1_i32_166 : BitVec 32 := 1#32
  let arg18 : BitVec 32 := Scf.iv c0_i32_164 c1_i32_166 k0_t36
  let c512_i32_168 : BitVec 32 := 512#32
  let v394 : BitVec 32 := Scalar.muli arg18 c512_i32_168
  let v395 : BitVec 32 := v394
  let v408 : Index := Scalar.indexCast v395
  let c0_173 : Index := 0#32
  ![0, v408.toNat, 0]
def k0_off37 (i : grid0.Coords) (k0_t36 : Fin (k0_t36_loop i).trips) : Fin 2 → Nat :=
  let c0_179 : Index := 0#32
  let c0_i32_164 : BitVec 32 := 0#32
  let c1_i32_166 : BitVec 32 := 1#32
  let arg18 : BitVec 32 := Scf.iv c0_i32_164 c1_i32_166 k0_t36
  let c512_i32_168 : BitVec 32 := 512#32
  let v394 : BitVec 32 := Scalar.muli arg18 c512_i32_168
  let v395 : BitVec 32 := v394
  let v446 : Index := Scalar.indexCast v395
  ![0, v446.toNat]
@[reducible] def k0_t37_loop (i : grid0.Coords) : Scf.Loop 32 :=
  let c0_i32_164 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v389 : BitVec 32 := Scalar.subi v18 c0_i32_164
  let c1_i32_165 : BitVec 32 := 1#32
  let v391 : BitVec 32 := Scalar.divsi v389 c1_i32_165
  let v392 : BitVec 32 := Scalar.muli v391 c1_i32_165
  let v393 : BitVec 32 := Scalar.addi c0_i32_164 v392
  let v390 : BitVec 32 := Scalar.addi c0_i32_164 v389
  let c1_i32_167 : BitVec 32 := 1#32
  ⟨v393, v390, c1_i32_167⟩
def k0_mult33 (i : grid0.Coords) (k0_t37 : Fin (k0_t37_loop i).trips) : BitVec 32 :=
  let c0_i32_164 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v389 : BitVec 32 := Scalar.subi v18 c0_i32_164
  let c1_i32_165 : BitVec 32 := 1#32
  let v391 : BitVec 32 := Scalar.divsi v389 c1_i32_165
  let v392 : BitVec 32 := Scalar.muli v391 c1_i32_165
  let v393 : BitVec 32 := Scalar.addi c0_i32_164 v392
  let c1_i32_167 : BitVec 32 := 1#32
  let arg18 : BitVec 32 := Scf.iv v393 c1_i32_167 k0_t37
  let c512_i32_168 : BitVec 32 := 512#32
  let v394 : BitVec 32 := Scalar.muli arg18 c512_i32_168
  v394
def k0_off38 (i : grid0.Coords) (k0_t37 : Fin (k0_t37_loop i).trips) : Fin 2 → Nat :=
  let c0_i32_164 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v389 : BitVec 32 := Scalar.subi v18 c0_i32_164
  let c1_i32_165 : BitVec 32 := 1#32
  let v391 : BitVec 32 := Scalar.divsi v389 c1_i32_165
  let v392 : BitVec 32 := Scalar.muli v391 c1_i32_165
  let v393 : BitVec 32 := Scalar.addi c0_i32_164 v392
  let c1_i32_167 : BitVec 32 := 1#32
  let arg18 : BitVec 32 := Scf.iv v393 c1_i32_167 k0_t37
  let c512_i32_168 : BitVec 32 := 512#32
  let v394 : BitVec 32 := Scalar.muli arg18 c512_i32_168
  let v395 : BitVec 32 := v394
  let v396 : Index := Scalar.indexCast v395
  let c0_169 : Index := 0#32
  ![v396.toNat, 0]
def k0_off39 (i : grid0.Coords) (k0_t37 : Fin (k0_t37_loop i).trips) : Fin 3 → Nat :=
  let c0_172 : Index := 0#32
  let c0_i32_164 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v389 : BitVec 32 := Scalar.subi v18 c0_i32_164
  let c1_i32_165 : BitVec 32 := 1#32
  let v391 : BitVec 32 := Scalar.divsi v389 c1_i32_165
  let v392 : BitVec 32 := Scalar.muli v391 c1_i32_165
  let v393 : BitVec 32 := Scalar.addi c0_i32_164 v392
  let c1_i32_167 : BitVec 32 := 1#32
  let arg18 : BitVec 32 := Scf.iv v393 c1_i32_167 k0_t37
  let c512_i32_168 : BitVec 32 := 512#32
  let v394 : BitVec 32 := Scalar.muli arg18 c512_i32_168
  let v395 : BitVec 32 := v394
  let v408 : Index := Scalar.indexCast v395
  let c0_173 : Index := 0#32
  ![0, v408.toNat, 0]
def k0_off40 (i : grid0.Coords) (k0_t37 : Fin (k0_t37_loop i).trips) : Fin 2 → Nat :=
  let c0_179 : Index := 0#32
  let c0_i32_164 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v389 : BitVec 32 := Scalar.subi v18 c0_i32_164
  let c1_i32_165 : BitVec 32 := 1#32
  let v391 : BitVec 32 := Scalar.divsi v389 c1_i32_165
  let v392 : BitVec 32 := Scalar.muli v391 c1_i32_165
  let v393 : BitVec 32 := Scalar.addi c0_i32_164 v392
  let c1_i32_167 : BitVec 32 := 1#32
  let arg18 : BitVec 32 := Scf.iv v393 c1_i32_167 k0_t37
  let c512_i32_168 : BitVec 32 := 512#32
  let v394 : BitVec 32 := Scalar.muli arg18 c512_i32_168
  let v395 : BitVec 32 := v394
  let v446 : Index := Scalar.indexCast v395
  ![0, v446.toNat]
@[reducible] def k0_t38_loop (i : grid0.Coords) : Scf.Loop 32 :=
  let c0_i32_168 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v393 : BitVec 32 := Scalar.subi v18 c0_i32_168
  let c1_i32_169 : BitVec 32 := 1#32
  let v395 : BitVec 32 := Scalar.divsi v393 c1_i32_169
  let v396 : BitVec 32 := Scalar.muli v395 c1_i32_169
  let v397 : BitVec 32 := Scalar.addi c0_i32_168 v396
  let c1_i32_170 : BitVec 32 := 1#32
  ⟨c0_i32_168, v397, c1_i32_170⟩
def k0_mult34 (i : grid0.Coords) (k0_t38 : Fin (k0_t38_loop i).trips) : BitVec 32 :=
  let c0_i32_168 : BitVec 32 := 0#32
  let c1_i32_170 : BitVec 32 := 1#32
  let arg18 : BitVec 32 := Scf.iv c0_i32_168 c1_i32_170 k0_t38
  let c512_i32_172 : BitVec 32 := 512#32
  let v398 : BitVec 32 := Scalar.muli arg18 c512_i32_172
  v398
def k0_off41 (i : grid0.Coords) (k0_t38 : Fin (k0_t38_loop i).trips) : Fin 2 → Nat :=
  let c0_i32_168 : BitVec 32 := 0#32
  let c1_i32_170 : BitVec 32 := 1#32
  let arg18 : BitVec 32 := Scf.iv c0_i32_168 c1_i32_170 k0_t38
  let c512_i32_172 : BitVec 32 := 512#32
  let v398 : BitVec 32 := Scalar.muli arg18 c512_i32_172
  let v399 : BitVec 32 := v398
  let v400 : Index := Scalar.indexCast v399
  let c0_173 : Index := 0#32
  ![v400.toNat, 0]
def k0_off42 (i : grid0.Coords) (k0_t38 : Fin (k0_t38_loop i).trips) : Fin 3 → Nat :=
  let c0_178 : Index := 0#32
  let c0_i32_168 : BitVec 32 := 0#32
  let c1_i32_170 : BitVec 32 := 1#32
  let arg18 : BitVec 32 := Scf.iv c0_i32_168 c1_i32_170 k0_t38
  let c512_i32_172 : BitVec 32 := 512#32
  let v398 : BitVec 32 := Scalar.muli arg18 c512_i32_172
  let v399 : BitVec 32 := v398
  let v417 : Index := Scalar.indexCast v399
  let c0_179 : Index := 0#32
  ![0, v417.toNat, 0]
def k0_off43 (i : grid0.Coords) (k0_t38 : Fin (k0_t38_loop i).trips) : Fin 2 → Nat :=
  let c0_232 : Index := 0#32
  let c0_i32_168 : BitVec 32 := 0#32
  let c1_i32_170 : BitVec 32 := 1#32
  let arg18 : BitVec 32 := Scf.iv c0_i32_168 c1_i32_170 k0_t38
  let c512_i32_172 : BitVec 32 := 512#32
  let v398 : BitVec 32 := Scalar.muli arg18 c512_i32_172
  let v399 : BitVec 32 := v398
  let v550 : Index := Scalar.indexCast v399
  ![0, v550.toNat]
@[reducible] def k0_t39_loop (i : grid0.Coords) : Scf.Loop 32 :=
  let c0_i32_168 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v393 : BitVec 32 := Scalar.subi v18 c0_i32_168
  let c1_i32_169 : BitVec 32 := 1#32
  let v395 : BitVec 32 := Scalar.divsi v393 c1_i32_169
  let v396 : BitVec 32 := Scalar.muli v395 c1_i32_169
  let v397 : BitVec 32 := Scalar.addi c0_i32_168 v396
  let v394 : BitVec 32 := Scalar.addi c0_i32_168 v393
  let c1_i32_171 : BitVec 32 := 1#32
  ⟨v397, v394, c1_i32_171⟩
def k0_mult35 (i : grid0.Coords) (k0_t39 : Fin (k0_t39_loop i).trips) : BitVec 32 :=
  let c0_i32_168 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v393 : BitVec 32 := Scalar.subi v18 c0_i32_168
  let c1_i32_169 : BitVec 32 := 1#32
  let v395 : BitVec 32 := Scalar.divsi v393 c1_i32_169
  let v396 : BitVec 32 := Scalar.muli v395 c1_i32_169
  let v397 : BitVec 32 := Scalar.addi c0_i32_168 v396
  let c1_i32_171 : BitVec 32 := 1#32
  let arg18 : BitVec 32 := Scf.iv v397 c1_i32_171 k0_t39
  let c512_i32_172 : BitVec 32 := 512#32
  let v398 : BitVec 32 := Scalar.muli arg18 c512_i32_172
  v398
def k0_off44 (i : grid0.Coords) (k0_t39 : Fin (k0_t39_loop i).trips) : Fin 2 → Nat :=
  let c0_i32_168 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v393 : BitVec 32 := Scalar.subi v18 c0_i32_168
  let c1_i32_169 : BitVec 32 := 1#32
  let v395 : BitVec 32 := Scalar.divsi v393 c1_i32_169
  let v396 : BitVec 32 := Scalar.muli v395 c1_i32_169
  let v397 : BitVec 32 := Scalar.addi c0_i32_168 v396
  let c1_i32_171 : BitVec 32 := 1#32
  let arg18 : BitVec 32 := Scf.iv v397 c1_i32_171 k0_t39
  let c512_i32_172 : BitVec 32 := 512#32
  let v398 : BitVec 32 := Scalar.muli arg18 c512_i32_172
  let v399 : BitVec 32 := v398
  let v400 : Index := Scalar.indexCast v399
  let c0_173 : Index := 0#32
  ![v400.toNat, 0]
def k0_off45 (i : grid0.Coords) (k0_t39 : Fin (k0_t39_loop i).trips) : Fin 3 → Nat :=
  let c0_178 : Index := 0#32
  let c0_i32_168 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v393 : BitVec 32 := Scalar.subi v18 c0_i32_168
  let c1_i32_169 : BitVec 32 := 1#32
  let v395 : BitVec 32 := Scalar.divsi v393 c1_i32_169
  let v396 : BitVec 32 := Scalar.muli v395 c1_i32_169
  let v397 : BitVec 32 := Scalar.addi c0_i32_168 v396
  let c1_i32_171 : BitVec 32 := 1#32
  let arg18 : BitVec 32 := Scf.iv v397 c1_i32_171 k0_t39
  let c512_i32_172 : BitVec 32 := 512#32
  let v398 : BitVec 32 := Scalar.muli arg18 c512_i32_172
  let v399 : BitVec 32 := v398
  let v417 : Index := Scalar.indexCast v399
  let c0_179 : Index := 0#32
  ![0, v417.toNat, 0]
def k0_off46 (i : grid0.Coords) (k0_t39 : Fin (k0_t39_loop i).trips) : Fin 2 → Nat :=
  let c0_232 : Index := 0#32
  let c0_i32_168 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let v393 : BitVec 32 := Scalar.subi v18 c0_i32_168
  let c1_i32_169 : BitVec 32 := 1#32
  let v395 : BitVec 32 := Scalar.divsi v393 c1_i32_169
  let v396 : BitVec 32 := Scalar.muli v395 c1_i32_169
  let v397 : BitVec 32 := Scalar.addi c0_i32_168 v396
  let c1_i32_171 : BitVec 32 := 1#32
  let arg18 : BitVec 32 := Scf.iv v397 c1_i32_171 k0_t39
  let c512_i32_172 : BitVec 32 := 512#32
  let v398 : BitVec 32 := Scalar.muli arg18 c512_i32_172
  let v399 : BitVec 32 := v398
  let v550 : Index := Scalar.indexCast v399
  ![0, v550.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![arg0.toNat, c0_i32.toNat, c6_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![arg0.toNat, c0_i32.toNat, c7_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Ffn.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x5632, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== OddIn.lean ====
abbrev S32768x1024 : Shape := ⟨2, ![32768, 1024]⟩
abbrev S1024 : Shape := ⟨1, ![1024]⟩
abbrev S1024x4096 : Shape := ⟨2, ![1024, 4096]⟩
abbrev S1x1024 : Shape := ⟨2, ![1, 1024]⟩
abbrev S32768x4096 : Shape := ⟨2, ![32768, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S32768x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x4096, .bf16⟩
  | .local _ .vmem, ⟨5, _⟩ => ⟨S512x4096, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OddInReferenceIdeal.lean ====
abbrev S32768x1024 : Shape := ⟨2, ![32768, 1024]⟩
abbrev S1024 : Shape := ⟨1, ![1024]⟩
abbrev S1024x4096 : Shape := ⟨2, ![1024, 4096]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x4096, .f32⟩
  | .hbm, ⟨20, _⟩ => ⟨S32768x4096, .f32⟩
  | .hbm, ⟨21, _⟩ => ⟨S32768x4096, .f32⟩
  | .hbm, ⟨22, _⟩ => ⟨S_, .f32⟩
  | .hbm, ⟨23, _⟩ => ⟨S32768x4096, .f32⟩
  | .hbm, ⟨24, _⟩ => ⟨S32768x4096, .f32⟩
  | .hbm, ⟨25, _⟩ => ⟨S32768x4096, .f32⟩
  | .hbm, ⟨26, _⟩ => ⟨S_, .f32⟩
  | .hbm, ⟨27, _⟩ => ⟨S32768x4096, .f32⟩
  | .hbm, ⟨28, _⟩ => ⟨S32768x4096, .f32⟩
  | .hbm, ⟨29, _⟩ => ⟨S32768x4096, .f32⟩
  | .hbm, ⟨30, _⟩ => ⟨S_, .f32⟩
  | .hbm, ⟨31, _⟩ => ⟨S32768x4096, .f32⟩
  | .hbm, ⟨32, _⟩ => ⟨S32768x4096, .f32⟩
  | .hbm, ⟨33, _⟩ => ⟨S_, .f32⟩
  | .hbm, ⟨34, _⟩ => ⟨S32768x4096, .f32⟩
  | .hbm, ⟨35, _⟩ => ⟨S32768x4096, .f32⟩
  | .hbm, ⟨36, _⟩ => ⟨S32768x4096, .f32⟩
  | .hbm, ⟨37, _⟩ => ⟨S32768x4096, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== EvenIn.lean ====
abbrev S32768x1024 : Shape := ⟨2, ![32768, 1024]⟩
abbrev S1024 : Shape := ⟨1, ![1024]⟩
abbrev S1024x2500 : Shape := ⟨2, ![1024, 2500]⟩
abbrev S1024x512 : Shape := ⟨2, ![1024, 512]⟩
abbrev S1024x64 : Shape := ⟨2, ![1024, 64]⟩
abbrev S1024x256 : Shape := ⟨2, ![1024, 256]⟩
abbrev S1024x4 : Shape := ⟨2, ![1024, 4]⟩
abbrev S_ : Shape := ⟨0, ![]⟩
abbrev S1024x2560 : Shape := ⟨2, ![1024, 2560]⟩
abbrev S1024x124 : Shape := ⟨2, ![1024, 124]⟩
abbrev S1024x128 : Shape := ⟨2, ![1024, 128]⟩
abbrev S1x1024 : Shape := ⟨2, ![1, 1024]⟩
abbrev S32768x2560 : Shape := ⟨2, ![32768, 2560]⟩
abbrev S32768x128 : Shape := ⟨2, ![32768, 128]⟩
abbrev S512x1024 : Shape := ⟨2, ![512, 1024]⟩
abbrev S512x2560 : Shape := ⟨2, ![512, 2560]⟩
abbrev S512x128 : Shape := ⟨2, ![512, 128]⟩
abbrev S512 : Shape := ⟨1, ![512]⟩
abbrev S512x1 : Shape := ⟨2, ![512, 1]⟩
abbrev S512x512 : Shape := ⟨2, ![512, 512]⟩

abbrev nBuf : Space → Nat
  | .hbm => 35
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2500, .f32⟩
  | .hbm, ⟨3, _⟩ => ⟨S1024x512, .f32⟩
  | .hbm, ⟨4, _⟩ => ⟨S1024x64, .f32⟩
  | .hbm, ⟨5, _⟩ => ⟨S1024x64, .f32⟩
  | .hbm, ⟨6, _⟩ => ⟨S1024x256, .f32⟩
  | .hbm, ⟨7, _⟩ => ⟨S1024x64, .f32⟩
  | .hbm, ⟨8, _⟩ => ⟨S1024x4, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x64, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x2560, .f32⟩
  | .hbm, ⟨24, _⟩ => ⟨S1024x2560, .bf16⟩
  | .hbm, ⟨25, _⟩ => ⟨S_, .f32⟩
  | .hbm, ⟨26, _⟩ => ⟨S1024x4, .f32⟩
  | .hbm, ⟨27, _⟩ => ⟨S1024x4, .f32⟩
  | .hbm, ⟨28, _⟩ => ⟨S_, .f32⟩
  | .hbm, ⟨29, _⟩ => ⟨S1024x124, .f32⟩
  | .hbm, ⟨30, _⟩ => ⟨S1024x128, .f32⟩
  | .hbm, ⟨31, _⟩ => ⟨S1024x128, .bf16⟩
  | .hbm, ⟨32, _⟩ => ⟨S1x1024, .f32⟩
  | .hbm, ⟨33, _⟩ => ⟨S32768x2560, .bf16⟩
  | .hbm, ⟨34, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1024x128, .bf16⟩
  | .local _ .vmem, ⟨5, _⟩ => ⟨S512x2560, .bf16⟩
  | .local _ .vmem, ⟨6, _⟩ => ⟨S512x2560, .bf16⟩
  | .local _ .vmem, ⟨7, _⟩ => ⟨S512x128, .f32⟩
  | .local _ .vmem, ⟨8, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EvenInReferenceIdeal.lean ====
abbrev S32768x1024 : Shape := ⟨2, ![32768, 1024]⟩
abbrev S1024 : Shape := ⟨1, ![1024]⟩
abbrev S1024x2500 : Shape := ⟨2, ![1024, 2500]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2500 : Shape := ⟨2, ![32768, 2500]⟩
abbrev S32768x512 : Shape := ⟨2, ![32768, 512]⟩
abbrev S32768x64 : Shape := ⟨2, ![32768, 64]⟩
abbrev S32768x256 : Shape := ⟨2, ![32768, 256]⟩
abbrev S32768x4 : Shape := ⟨2, ![32768, 4]⟩
abbrev S32768x2560 : Shape := ⟨2, ![32768, 2560]⟩
abbrev S32768x124 : Shape := ⟨2, ![32768, 124]⟩
abbrev S32768x128 : Shape := ⟨2, ![32768, 128]⟩

abbrev nBuf : Space → Nat
  | .hbm => 48
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2500, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x2500, .f32⟩
  | .hbm, ⟨20, _⟩ => ⟨S32768x512, .f32⟩
  | .hbm, ⟨21, _⟩ => ⟨S32768x64, .f32⟩
  | .hbm, ⟨22, _⟩ => ⟨S32768x64, .f32⟩
  | .hbm, ⟨23, _⟩ => ⟨S32768x256, .f32⟩
  | .hbm, ⟨24, _⟩ => ⟨S32768x64, .f32⟩
  | .hbm, ⟨25, _⟩ => ⟨S32768x4, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S_, .f32⟩
  | .hbm, ⟨30, _⟩ => ⟨S32768x512, .f32⟩
  | .hbm, ⟨31, _⟩ => ⟨S32768x512, .f32⟩
  | .hbm, ⟨32, _⟩ => ⟨S_, .f32⟩
  | .hbm, ⟨33, _⟩ => ⟨S32768x256, .f32⟩
  | .hbm, ⟨34, _⟩ => ⟨S32768x256, .f32⟩
  | .hbm, ⟨35, _⟩ => ⟨S_, .f32⟩
  | .hbm, ⟨36, _⟩ => ⟨S32768x64, .f32⟩
  | .hbm, ⟨37, _⟩ => ⟨S_, .f32⟩
  | .hbm, ⟨38, _⟩ => ⟨S32768x512, .f32⟩
  | .hbm, ⟨39, _⟩ => ⟨S32768x512, .f32⟩
  | .hbm, ⟨40, _⟩ => ⟨S32768x2560, .f32⟩
  | .hbm, ⟨41, _⟩ => ⟨S_, .f32⟩
  | .hbm, ⟨42, _⟩ => ⟨S32768x4, .f32⟩
  | .hbm, ⟨43, _⟩ => ⟨S32768x4, .f32⟩
  | .hbm, ⟨44, _⟩ => ⟨S_, .f32⟩
  | .hbm, ⟨45, _⟩ => ⟨S32768x124, .f32⟩
  | .hbm, ⟨46, _⟩ => ⟨S32768x128, .f32⟩
  | .hbm, ⟨47, _⟩ => ⟨S32768x2560, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== EvenOut.lean ====
abbrev S32768x512 : Shape := ⟨2, ![32768, 512]⟩
abbrev S1024x1024 : Shape := ⟨2, ![1024, 1024]⟩
abbrev S1024 : Shape := ⟨1, ![1024]⟩
abbrev S32768x1024 : Shape := ⟨2, ![32768, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S1024, .f32⟩
  | .hbm, ⟨4, _⟩ => ⟨S32768x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S1x1024, .f32⟩
  | .hbm, ⟨9, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EvenOutReferenceIdeal.lean ====
abbrev S32768x512 : Shape := ⟨2, ![32768, 512]⟩
abbrev S1024x1024 : Shape := ⟨2, ![1024, 1024]⟩
abbrev S1024 : Shape := ⟨1, ![1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S1024, .f32⟩
  | .hbm, ⟨4, _⟩ => ⟨S32768x1024, .f32⟩
  | .hbm, ⟨5, _⟩ => ⟨S32768x512, .f32⟩
  | .hbm, ⟨6, _⟩ => ⟨S32768x512, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Sb.lean ====
abbrev S4x8192x2560 : Shape := ⟨3, ![4, 8192, 2560]⟩
abbrev S256x256 : Shape := ⟨2, ![256, 256]⟩
abbrev S4x8192x512 : Shape := ⟨3, ![4, 8192, 512]⟩
abbrev S1x256x512 : Shape := ⟨3, ![1, 256, 512]⟩
abbrev S1x8192x512 : Shape := ⟨3, ![1, 8192, 512]⟩
abbrev S8x256x1 : Shape := ⟨3, ![8, 256, 1]⟩
abbrev S4x256x128 : Shape := ⟨3, ![4, 256, 128]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S1x256x1 : Shape := ⟨3, ![1, 256, 1]⟩
abbrev S1x8x256x1 : Shape := ⟨4, ![1, 8, 256, 1]⟩
abbrev S1 : Shape := ⟨1, ![1]⟩
abbrev S1x1x1x1 : Shape := ⟨4, ![1, 1, 1, 1]⟩

abbrev nBuf : Space → Nat
  | .hbm => 3
  | .vmem => 9
  | .smem => 0
  | _ => 0

abbrev bufTy : (tb : Table) → Fin (tcTables nBuf tb) → BufTy
  | .hbm, ⟨0, _⟩ => ⟨S4x8192x2560, .bf16⟩
  | .hbm, ⟨1, _⟩ => ⟨S256x256, .bf16⟩
  | .hbm, ⟨2, _⟩ => ⟨S4x8192x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S256x256, .bf16⟩
  | .local _ .vmem, ⟨5, _⟩ => ⟨S1x256x512, .bf16⟩
  | .local _ .vmem, ⟨6, _⟩ => ⟨S1x256x512, .bf16⟩
  | .local _ .vmem, ⟨7, _⟩ => ⟨S8x256x1, .f32⟩
  | .local _ .vmem, ⟨8, _⟩ => ⟨S4x256x128, .f32⟩
  | _, _ => ⟨S4x8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c256_i32_1 : BitVec 32 := 256#32
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let v3 : BitVec 32 := Scalar.divsi v2 c256_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_26 : BitVec 32 := 1#32
  let v54 : BitVec 32 := Scalar.subi v20 c1_i32_26
  let c256_i32_27 : BitVec 32 := 256#32
  let v55 : BitVec 32 := Scalar.muli v54 c256_i32_27
  v55
def k0_off1 (i : grid0.Coords) : Fin 3 → Nat :=
  let c0_28 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c256_i32_1 : BitVec 32 := 256#32
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let v3 : BitVec 32 := Scalar.divsi v2 c256_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_26 : BitVec 32 := 1#32
  let v54 : BitVec 32 := Scalar.subi v20 c1_i32_26
  let c256_i32_27 : BitVec 32 := 256#32
  let v55 : BitVec 32 := Scalar.muli v54 c256_i32_27
  let v56 : BitVec 32 := v55
  let v60 : Index := Scalar.indexCast v56
  let c0_29 : Index := 0#32
  ![0, v60.toNat, 0]
def k0_off2 (i : grid0.Coords) : Fin 3 → Nat :=
  let c0_30 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c256_i32_1 : BitVec 32 := 256#32
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let v3 : BitVec 32 := Scalar.divsi v2 c256_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_26 : BitVec 32 := 1#32
  let v54 : BitVec 32 := Scalar.subi v20 c1_i32_26
  let c256_i32_27 : BitVec 32 := 256#32
  let v55 : BitVec 32 := Scalar.muli v54 c256_i32_27
  let v56 : BitVec 32 := v55
  let v63 : Index := Scalar.indexCast v56
  let c128_31 : Index := 128#32
  ![0, v63.toNat, 128]
def k0_off3 (i : grid0.Coords) : Fin 3 → Nat :=
  let c0_32 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c256_i32_1 : BitVec 32 := 256#32
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let v3 : BitVec 32 := Scalar.divsi v2 c256_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_26 : BitVec 32 := 1#32
  let v54 : BitVec 32 := Scalar.subi v20 c1_i32_26
  let c256_i32_27 : BitVec 32 := 256#32
  let v55 : BitVec 32 := Scalar.muli v54 c256_i32_27
  let v56 : BitVec 32 := v55
  let v66 : Index := Scalar.indexCast v56
  let c256_33 : Index := 256#32
  ![0, v66.toNat, 256]
def k0_off4 (i : grid0.Coords) : Fin 3 → Nat :=
  let c0_34 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c256_i32_1 : BitVec 32 := 256#32
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let v3 : BitVec 32 := Scalar.divsi v2 c256_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c1_i32_26 : BitVec 32 := 1#32
  let v54 : BitVec 32 := Scalar.subi v20 c1_i32_26
  let c256_i32_27 : BitVec 32 := 256#32
  let v55 : BitVec 32 := Scalar.muli v54 c256_i32_27
  let v56 : BitVec 32 := v55
  let v69 : Index := Scalar.indexCast v56
  let c384_35 : Index := 384#32
  ![0, v69.toNat, 384]
def k0_mult2 (i : grid0.Coords) (arg9 : BitVec 32) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c256_i32_1 : BitVec 32 := 256#32
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let v3 : BitVec 32 := Scalar.divsi v2 c256_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c2_i32 : BitVec 32 := 2#32
  let v431 : BitVec 32 := Scalar.subi v20 c2_i32
  let v432 : BitVec 32 := Scalar.subi v431 arg9
  let c256_i32_243 : BitVec 32 := 256#32
  let v433 : BitVec 32 := Scalar.muli v432 c256_i32_243
  v433

def k0_off5 (i : grid0.Coords) (arg9 : BitVec 32) : Fin 3 → Nat :=
  let c0_244 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c256_i32_1 : BitVec 32 := 256#32
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let v3 : BitVec 32 := Scalar.divsi v2 c256_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c2_i32 : BitVec 32 := 2#32
  let v431 : BitVec 32 := Scalar.subi v20 c2_i32
  let v432 : BitVec 32 := Scalar.subi v431 arg9
  let c256_i32_243 : BitVec 32 := 256#32
  let v433 : BitVec 32 := Scalar.muli v432 c256_i32_243
  let v434 : BitVec 32 := v433
  let v438 : Index := Scalar.indexCast v434
  let c0_245 : Index := 0#32
  ![0, v438.toNat, 0]
def k0_off6 (i : grid0.Coords) (arg9 : BitVec 32) : Fin 3 → Nat :=
  let c0_246 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c256_i32_1 : BitVec 32 := 256#32
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let v3 : BitVec 32 := Scalar.divsi v2 c256_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c2_i32 : BitVec 32 := 2#32
  let v431 : BitVec 32 := Scalar.subi v20 c2_i32
  let v432 : BitVec 32 := Scalar.subi v431 arg9
  let c256_i32_243 : BitVec 32 := 256#32
  let v433 : BitVec 32 := Scalar.muli v432 c256_i32_243
  let v434 : BitVec 32 := v433
  let v441 : Index := Scalar.indexCast v434
  let c128_247 : Index := 128#32
  ![0, v441.toNat, 128]
def k0_off7 (i : grid0.Coords) (arg9 : BitVec 32) : Fin 3 → Nat :=
  let c0_248 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c256_i32_1 : BitVec 32 := 256#32
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let v3 : BitVec 32 := Scalar.divsi v2 c256_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c2_i32 : BitVec 32 := 2#32
  let v431 : BitVec 32 := Scalar.subi v20 c2_i32
  let v432 : BitVec 32 := Scalar.subi v431 arg9
  let c256_i32_243 : BitVec 32 := 256#32
  let v433 : BitVec 32 := Scalar.muli v432 c256_i32_243
  let v434 : BitVec 32 := v433
  let v444 : Index := Scalar.indexCast v434
  let c256_249 : Index := 256#32
  ![0, v444.toNat, 256]
def k0_off8 (i : grid0.Coords) (arg9 : BitVec 32) : Fin 3 → Nat :=
  let c0_250 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c256_i32_1 : BitVec 32 := 256#32
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let v3 : BitVec 32 := Scalar.divsi v2 c256_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let c2_i32 : BitVec 32 := 2#32
  let v431 : BitVec 32 := Scalar.subi v20 c2_i32
  let v432 : BitVec 32 := Scalar.subi v431 arg9
  let c256_i32_243 : BitVec 32 := 256#32
  let v433 : BitVec 32 := Scalar.muli v432 c256_i32_243
  let v434 : BitVec 32 := v433
  let v447 : Index := Scalar.indexCast v434
  let c384_251 : Index := 384#32
  ![0, v447.toNat, 384]

def k0_chk1 (i : grid0.Coords) (arg9 : BitVec 32) : Prop :=
  (256 ∣ (k0_mult2 i arg9).toNat) ∧
  (∀ a, (k0_off5 i arg9) a + S1x256x128.size a ≤ S1x8192x512.size a) ∧
  (∀ a, (k0_off6 i arg9) a + S1x256x128.size a ≤ S1x8192x512.size a) ∧
  (∀ a, (k0_off7 i arg9) a + S1x256x128.size a ≤ S1x8192x512.size a) ∧
  (∀ a, (k0_off8 i arg9) a + S1x256x128.size a ≤ S1x8192x512.size a)
theorem k0_mult2_dvd : ∀ (i : grid0.Coords) (arg9 : BitVec 32) (k0_hw1 : k0_chk1 i arg9), 256 ∣ (k0_mult2 i arg9).toNat := fun i arg9 k0_hw1 => k0_hw1.1
theorem k0_off5_inb : ∀ (i : grid0.Coords) (arg9 : BitVec 32) (k0_hw1 : k0_chk1 i arg9), ∀ a, (k0_off5 i arg9) a + S1x256x128.size a ≤ S1x8192x512.size a := fun i arg9 k0_hw1 => k0_hw1.2.1
theorem k0_off6_inb : ∀ (i : grid0.Coords) (arg9 : BitVec 32) (k0_hw1 : k0_chk1 i arg9), ∀ a, (k0_off6 i arg9) a + S1x256x128.size a ≤ S1x8192x512.size a := fun i arg9 k0_hw1 => k0_hw1.2.2.1
theorem k0_off7_inb : ∀ (i : grid0.Coords) (arg9 : BitVec 32) (k0_hw1 : k0_chk1 i arg9), ∀ a, (k0_off7 i arg9) a + S1x256x128.size a ≤ S1x8192x512.size a := fun i arg9 k0_hw1 => k0_hw1.2.2.2.1
theorem k0_off8_inb : ∀ (i : grid0.Coords) (arg9 : BitVec 32) (k0_hw1 : k0_chk1 i arg9), ∀ a, (k0_off8 i arg9) a + S1x256x128.size a ≤ S1x8192x512.size a := fun i arg9 k0_hw1 => k0_hw1.2.2.2.2

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SbIdeal.lean ====
variable {F : FTy → Type} [FloatOps F] [Named F]
def κ : String → Option EReal := fun
  | "dead" => some ⊥
  | "log2e" => some (((Real.log 2)⁻¹ : ℝ) : EReal)
  | _ => none
-- ==== SbReferenceIdeal.lean ====
abbrev S4x8192x2560 : Shape := ⟨3, ![4, 8192, 2560]⟩
abbrev S4x8192x512 : Shape := ⟨3, ![4, 8192, 512]⟩
abbrev S4x8192x8x64 : Shape := ⟨4, ![4, 8192, 8, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S4x8x8192x8192 : Shape := ⟨4, ![4, 8, 8192, 8192]⟩
abbrev S_ : Shape := ⟨0, ![]⟩
abbrev S4x8x64x8192 : Shape := ⟨4, ![4, 8, 64, 8192]⟩

abbrev nBuf : Space → Nat
  | .hbm => 83
  | .vmem => 0
  | .smem => 0
  | _ => 0

abbrev bufTy : (tb : Table) → Fin (tcTables nBuf tb) → BufTy
  | .hbm, ⟨0, _⟩ => ⟨S4x8192x2560, .bf16⟩
  | .hbm, ⟨1, _⟩ => ⟨S4x8192x512, .bf16⟩
  | .hbm, ⟨2, _⟩ => ⟨S4x8192x512, .f32⟩
  | .hbm, ⟨3, _⟩ => ⟨S4x8192x8x64, .f32⟩
  | .hbm, ⟨4, _⟩ => ⟨S4x8192x512, .bf16⟩
  | .hbm, ⟨5, _⟩ => ⟨S4x8192x512, .f32⟩
  | .hbm, ⟨6, _⟩ => ⟨S4x8192x8x64, .f32⟩
  | .hbm, ⟨7, _⟩ => ⟨S4x8192x512, .bf16⟩
  | .hbm, ⟨8, _⟩ => ⟨S4x8192x512, .f32⟩
  | .hbm, ⟨9, _⟩ => ⟨S4x8192x8x64, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x1x8192x8192, .i1⟩
  | .hbm, ⟨17, _⟩ => ⟨S4x8x8192x8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x8x8192x8192, .f32⟩
  | .hbm, ⟨22, _⟩ => ⟨S4x8x8192x8192, .f32⟩
  | .hbm, ⟨23, _⟩ => ⟨S4x8x8192x8192, .f32⟩
  | .hbm, ⟨24, _⟩ => ⟨S4x8x8192x8192, .f32⟩
  | .hbm, ⟨25, _⟩ => ⟨S_, .f32⟩
  | .hbm, ⟨26, _⟩ => ⟨S4x8x8192x8192, .f32⟩
  | .hbm, ⟨27, _⟩ => ⟨S4x8x8192x8192, .f32⟩
  | .hbm, ⟨28, _⟩ => ⟨S4x8x8192x8192, .f32⟩
  | .hbm, ⟨29, _⟩ => ⟨S4x8x8192x8192, .f32⟩
  | .hbm, ⟨30, _⟩ => ⟨S4x8x8192x8192, .i1⟩
  | .hbm, ⟨31, _⟩ => ⟨S4x8x8192x8192, .f32⟩
  | .hbm, ⟨32, _⟩ => ⟨S4x8x8192x8192, .f32⟩
  | .hbm, ⟨33, _⟩ => ⟨S4x8x8192x8192, .f32⟩
  | .hbm, ⟨34, _⟩ => ⟨S4x8x8192x8192, .f32⟩
  | .hbm, ⟨35, _⟩ => ⟨S4x8x8192x8192, .f32⟩
  | .hbm, ⟨36, _⟩ => ⟨S4x8x8192x8192, .f32⟩
  | .hbm, ⟨37, _⟩ => ⟨S4x8x8192x8192, .f32⟩
  | .hbm, ⟨38, _⟩ => ⟨S4x8x8192x8192, .f32⟩
  | .hbm, ⟨39, _⟩ => ⟨S4x8x8192x8192, .f32⟩
  | .hbm, ⟨40, _⟩ => ⟨S_, .f32⟩
  | .hbm, ⟨41, _⟩ => ⟨S_, .f32⟩
  | .hbm, ⟨42, _⟩ => ⟨S4x8x8192x8192, .i1⟩
  | .hbm, ⟨43, _⟩ => ⟨S4x8x8192x8192, .f32⟩
  | .hbm, ⟨44, _⟩ => ⟨S4x8x8192x8192, .f32⟩
  | .hbm, ⟨45, _⟩ => ⟨S8192x1, .i32⟩
  | .hbm, ⟨46, _⟩ => ⟨S1x8192, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S_, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S4x8x8192x8192, .f32⟩
  | .hbm, ⟨56, _⟩ => ⟨S4x8x8192x8192, .f32⟩
  | .hbm, ⟨57, _⟩ => ⟨S_, .f32⟩
  | .hbm, ⟨58, _⟩ => ⟨S4x8x8192x8192, .f32⟩
  | .hbm, ⟨59, _⟩ => ⟨S4x8x8192x8192, .f32⟩
  | .hbm, ⟨60, _⟩ => ⟨S4x8x8192x8192, .f32⟩
  | .hbm, ⟨61, _⟩ => ⟨S4x8x8192x8192, .f32⟩
  | .hbm, ⟨62, _⟩ => ⟨S4x8x8192x8192, .i1⟩
  | .hbm, ⟨63, _⟩ => ⟨S4x8x8192x8192, .f32⟩
  | .hbm, ⟨64, _⟩ => ⟨S4x8x8192x8192, .f32⟩
  | .hbm, ⟨65, _⟩ => ⟨S4x8x8192x8192, .f32⟩
  | .hbm, ⟨66, _⟩ => ⟨S4x8x8192x8192, .f32⟩
  | .hbm, ⟨67, _⟩ => ⟨S4x8x8192x8192, .f32⟩
  | .hbm, ⟨68, _⟩ => ⟨S4x8x8192x8192, .f32⟩
  | .hbm, ⟨69, _⟩ => ⟨S4x8x8192x8192, .f32⟩
  | .hbm, ⟨70, _⟩ => ⟨S4x8x8192x8192, .f32⟩
  | .hbm, ⟨71, _⟩ => ⟨S4x8x8192x8192, .f32⟩
  | .hbm, ⟨72, _⟩ => ⟨S4x8x8192x8192, .f32⟩
  | .hbm, ⟨73, _⟩ => ⟨S4x8x8192x8192, .f32⟩
  | .hbm, ⟨74, _⟩ => ⟨S_, .f32⟩
  | .hbm, ⟨75, _⟩ => ⟨S_, .f32⟩
  | .hbm, ⟨76, _⟩ => ⟨S4x8x8192x8192, .i1⟩
  | .hbm, ⟨77, _⟩ => ⟨S4x8x8192x8192, .f32⟩
  | .hbm, ⟨78, _⟩ => ⟨S4x8x8192x8192, .f32⟩
  | .hbm, ⟨79, _⟩ => ⟨S4x8x64x8192, .f32⟩
  | .hbm, ⟨80, _⟩ => ⟨S4x8192x8x64, .f32⟩
  | .hbm, ⟨81, _⟩ => ⟨S4x8192x512, .f32⟩
  | .hbm, ⟨82, _⟩ => ⟨S4x8192x512, .bf16⟩
  | _, _ => ⟨S4x8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_cst : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v22 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_1 : Ref sig .tc := ⟨.hbm, 50, rfl⟩
abbrev main_cst_2 : Ref sig .tc := ⟨.hbm, 51, rfl⟩
abbrev main_call2_v0 : Ref sig .tc := ⟨.hbm, 52, rfl⟩
abbrev main_call2_v1 : Ref sig .tc := ⟨.hbm, 53, rfl⟩
abbrev main_v29 : Ref sig .tc := ⟨.hbm, 54, rfl⟩
abbrev main_v30 : Ref sig .tc := ⟨.hbm, 55, rfl⟩
abbrev main_call3_v0 : Ref sig .tc := ⟨.hbm, 56, rfl⟩
abbrev main_call3_call0_cst : Ref sig .tc := ⟨.hbm, 57, rfl⟩
abbrev main_call3_call0_v0 : Ref sig .tc := ⟨.hbm, 58, rfl⟩
abbrev main_call3_call0_v1 : Ref sig .tc := ⟨.hbm, 59, rfl⟩
abbrev main_call3_call0_v2 : Ref sig .tc := ⟨.hbm, 60, rfl⟩
abbrev main_call3_call0_v3 : Ref sig .tc := ⟨.hbm, 61, rfl⟩
abbrev main_call3_call0_v4 : Ref sig .tc := ⟨.hbm, 62, rfl⟩
abbrev main_call3_call0_v5 : Ref sig .tc := ⟨.hbm, 63, rfl⟩
abbrev main_call3_call0_v6 : Ref sig .tc := ⟨.hbm, 64, rfl⟩
abbrev main_call3_call0_v7 : Ref sig .tc := ⟨.hbm, 65, rfl⟩
abbrev main_call3_call0_v8 : Ref sig .tc := ⟨.hbm, 66, rfl⟩
abbrev main_call3_call0_v9 : Ref sig .tc := ⟨.hbm, 67, rfl⟩
abbrev main_call3_call0_v10 : Ref sig .tc := ⟨.hbm, 68, rfl⟩
abbrev main_call3_call0_v11 : Ref sig .tc := ⟨.hbm, 69, rfl⟩
abbrev main_call3_v1 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_3 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩

abbrev nD : Nat := 1
abbrev τ : Topo := Topo.v7x

variable {F : FTy → Type} [FloatOps F]
-- ==== Proof.LoopT8.lean ====
module

public import proofs.«01_k».proof.Proof.Gen.Kernel.Loops
public import Idealize.ShloMosaic.Lib.Tactic

@[expose] public section

set_option maxRecDepth 16384
set_option warn.classDefReducibility false

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- One pass of the bisection of the upper sixteen bits reads the key scratch and stores nothing: before every pass the scratch holds what it
    held at the loop's entry. The counting loops nested inside are gone through by their own invariants. -/
@[sl_loop] def loopInv_k0_t8 (𝒱 : Variants) (c : Dev nD) (bd : Option 𝒱.V) (E : Set ℕ) (i : grid0.Coords) (arg2 : Memref sig .tc .vmem S1x512x512 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x512x256 .bf16) (harg5 : arg5.IsWhole) (arg6 : Memref sig .tc .vmem S1x512x128 .f32) (harg6 : arg6.IsWhole) (arg7 : Memref sig .tc .vmem S1x512x512 .bf16) (harg7 : arg7.IsWhole) (arg8 : Memref sig .tc .vmem S8192x512 .i16) (harg8 : arg8.IsWhole) (arg9 : Memref sig .tc .vmem S8192x512 .i16) (harg9 : arg9.IsWhole) (arg10 : Memref sig .tc .vmem S8192x512 .i16) (harg10 : arg10.IsWhole) (arg11 : Memref sig .tc .vmem S128x8192 .bf16) (harg11 : arg11.IsWhole) (arg12 : Memref sig .tc .vmem S128x4096 .bf16) (harg12 : arg12.IsWhole) (arg13 : Memref sig .tc .vmem S128x2048 .bf16) (harg13 : arg13.IsWhole) (arg14 : Memref sig .tc .vmem S8x512 .f32) (harg14 : arg14.IsWhole) (arg15 : Memref sig .tc .vmem S8x1x512 .f32) (harg15 : arg15.IsWhole) (arg16 : Memref sig .tc .vmem S128x4096 .f32) (harg16 : arg16.IsWhole) (arg17 : Memref sig .tc .vmem S1x128 .f32) (harg17 : arg17.IsWhole) (v18 : BitVec 32) (v153 : FVec F S16x512 .bf16) (v154 : FVec F S16x512 .bf16) (v171 : BitVec 32) (v173 : BitVec 32) (v182 : BitVec 32) (v187 : BitVec 32) (v188_0 : FVec F S16x512 .bf16) (v188_1 : FVec F S16x512 .bf16) (v188_2 : FVec F S16x512 .bf16) (v188_3 : FVec F S16x512 .bf16) (X : BufTy.Contents (Elt F) arg8.view.ty) (init : IVec S16x512 32 × FVec F S1x512 .f32) :
    Cert.Kernel.Gen.LoopInvTy_k0_t8 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v153 v154 v171 v173 v182 v187 v188_0 v188_1 v188_2 v188_3 init where
  inv := fun _ _ => iprop(arg8.view.loc (c : Thread nD τ) ↦[arg8.view.set]{fullShare} X)
  step := fun k acc => by
    obtain ⟨a, b⟩ := acc
    unfold Gen.k0_t8_body
    iintro HX
    sl_exec
    sl_step
    iexact HX

end Cert.Proof.Kernel

end
-- ==== Proof.LoopT19.lean ====
module

public import proofs.«01_k».proof.Proof.Gen.Kernel.Loops
public import Idealize.ShloMosaic.Lib.Tactic

@[expose] public section

set_option maxRecDepth 16384
set_option warn.classDefReducibility false

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- One pass of the bisection of the lower sixteen bits reads the key scratch and stores nothing: before every pass the scratch holds what it
    held at the loop's entry. The counting loops nested inside are gone through by their own invariants. -/
@[sl_loop] def loopInv_k0_t19 (𝒱 : Variants) (c : Dev nD) (bd : Option 𝒱.V) (E : Set ℕ) (i : grid0.Coords) (arg2 : Memref sig .tc .vmem S1x512x512 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x512x256 .bf16) (harg5 : arg5.IsWhole) (arg6 : Memref sig .tc .vmem S1x512x128 .f32) (harg6 : arg6.IsWhole) (arg7 : Memref sig .tc .vmem S1x512x512 .bf16) (harg7 : arg7.IsWhole) (arg8 : Memref sig .tc .vmem S8192x512 .i16) (harg8 : arg8.IsWhole) (arg9 : Memref sig .tc .vmem S8192x512 .i16) (harg9 : arg9.IsWhole) (arg10 : Memref sig .tc .vmem S8192x512 .i16) (harg10 : arg10.IsWhole) (arg11 : Memref sig .tc .vmem S128x8192 .bf16) (harg11 : arg11.IsWhole) (arg12 : Memref sig .tc .vmem S128x4096 .bf16) (harg12 : arg12.IsWhole) (arg13 : Memref sig .tc .vmem S128x2048 .bf16) (harg13 : arg13.IsWhole) (arg14 : Memref sig .tc .vmem S8x512 .f32) (harg14 : arg14.IsWhole) (arg15 : Memref sig .tc .vmem S8x1x512 .f32) (harg15 : arg15.IsWhole) (arg16 : Memref sig .tc .vmem S128x4096 .f32) (harg16 : arg16.IsWhole) (arg17 : Memref sig .tc .vmem S1x128 .f32) (harg17 : arg17.IsWhole) (v153 : FVec F S16x512 .bf16) (v154 : FVec F S16x512 .bf16) (v171 : BitVec 32) (v173 : BitVec 32) (v209_0 : IVec S16x512 32) (v209_1 : FVec F S1x512 .f32) (v220 : FVec F S1x512 .f32) (v225 : BitVec 32) (v226_0 : FVec F S16x512 .bf16) (v226_1 : FVec F S16x512 .bf16) (v226_2 : FVec F S16x512 .bf16) (v226_3 : FVec F S16x512 .bf16) (c1_i32_93 : BitVec 32) (X : BufTy.Contents (Elt F) arg9.view.ty) (init : IVec S16x512 32 × FVec F S1x512 .f32) :
    Cert.Kernel.Gen.LoopInvTy_k0_t19 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v153 v154 v171 v173 v209_0 v209_1 v220 v225 v226_0 v226_1 v226_2 v226_3 c1_i32_93 init where
  inv := fun _ _ => iprop(arg9.view.loc (c : Thread nD τ) ↦[arg9.view.set]{fullShare} X)
  step := fun k acc => by
    obtain ⟨a, b⟩ := acc
    unfold Gen.k0_t19_body
    iintro HX
    sl_exec
    sl_step
    iexact HX

end Cert.Proof.Kernel

end
-- ==== Proof.LoopT26.lean ====
module

public import proofs.«01_k».proof.Proof.Gen.Kernel.Loops
public import Idealize.ShloMosaic.Lib.Tactic

@[expose] public section

set_option maxRecDepth 16384
set_option warn.classDefReducibility false

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- One pass of the search for the index of a tie, first half reads the key scratch and stores nothing: before every pass the scratch holds what it
    held at the loop's entry. The counting loops nested inside are gone through by their own invariants. -/
@[sl_loop] def loopInv_k0_t26 (𝒱 : Variants) (c : Dev nD) (bd : Option 𝒱.V) (E : Set ℕ) (i : grid0.Coords) (arg2 : Memref sig .tc .vmem S1x512x512 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x512x256 .bf16) (harg5 : arg5.IsWhole) (arg6 : Memref sig .tc .vmem S1x512x128 .f32) (harg6 : arg6.IsWhole) (arg7 : Memref sig .tc .vmem S1x512x512 .bf16) (harg7 : arg7.IsWhole) (arg8 : Memref sig .tc .vmem S8192x512 .i16) (harg8 : arg8.IsWhole) (arg9 : Memref sig .tc .vmem S8192x512 .i16) (harg9 : arg9.IsWhole) (arg10 : Memref sig .tc .vmem S8192x512 .i16) (harg10 : arg10.IsWhole) (arg11 : Memref sig .tc .vmem S128x8192 .bf16) (harg11 : arg11.IsWhole) (arg12 : Memref sig .tc .vmem S128x4096 .bf16) (harg12 : arg12.IsWhole) (arg13 : Memref sig .tc .vmem S128x2048 .bf16) (harg13 : arg13.IsWhole) (arg14 : Memref sig .tc .vmem S8x512 .f32) (harg14 : arg14.IsWhole) (arg15 : Memref sig .tc .vmem S8x1x512 .f32) (harg15 : arg15.IsWhole) (arg16 : Memref sig .tc .vmem S128x4096 .f32) (harg16 : arg16.IsWhole) (arg17 : Memref sig .tc .vmem S1x128 .f32) (harg17 : arg17.IsWhole) (v18 : BitVec 32) (v147 : IVec S512x512 32) (v153 : FVec F S16x512 .bf16) (v154 : FVec F S16x512 .bf16) (v171 : BitVec 32) (v173 : BitVec 32) (v213 : IVec S512x512 16) (v256 : IVec S16x512 16) (v265 : IVec S1x512 32) (v268 : FVec F S1x512 .f32) (X : BufTy.Contents (Elt F) arg10.view.ty) (init : IVec S16x512 32) :
    Cert.Kernel.Gen.LoopInvTy_k0_t26 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v147 v153 v154 v171 v173 v213 v256 v265 v268 init where
  inv := fun _ _ => iprop(arg10.view.loc (c : Thread nD τ) ↦[arg10.view.set]{fullShare} X)
  step := fun k acc => by
    unfold Gen.k0_t26_body
    iintro HX
    sl_exec
    sl_step
    iexact HX

end Cert.Proof.Kernel

end
-- ==== Proof.LoopT31.lean ====
module

public import proofs.«01_k».proof.Proof.Gen.Kernel.Loops
public import Idealize.ShloMosaic.Lib.Tactic

@[expose] public section

set_option maxRecDepth 16384
set_option warn.classDefReducibility false

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- One pass of the search for the index of a tie, second half reads the key scratch and stores nothing: before every pass the scratch holds what it
    held at the loop's entry. The counting loops nested inside are gone through by their own invariants. -/
@[sl_loop] def loopInv_k0_t31 (𝒱 : Variants) (c : Dev nD) (bd : Option 𝒱.V) (E : Set ℕ) (i : grid0.Coords) (arg2 : Memref sig .tc .vmem S1x512x512 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x512x256 .bf16) (harg5 : arg5.IsWhole) (arg6 : Memref sig .tc .vmem S1x512x128 .f32) (harg6 : arg6.IsWhole) (arg7 : Memref sig .tc .vmem S1x512x512 .bf16) (harg7 : arg7.IsWhole) (arg8 : Memref sig .tc .vmem S8192x512 .i16) (harg8 : arg8.IsWhole) (arg9 : Memref sig .tc .vmem S8192x512 .i16) (harg9 : arg9.IsWhole) (arg10 : Memref sig .tc .vmem S8192x512 .i16) (harg10 : arg10.IsWhole) (arg11 : Memref sig .tc .vmem S128x8192 .bf16) (harg11 : arg11.IsWhole) (arg12 : Memref sig .tc .vmem S128x4096 .bf16) (harg12 : arg12.IsWhole) (arg13 : Memref sig .tc .vmem S128x2048 .bf16) (harg13 : arg13.IsWhole) (arg14 : Memref sig .tc .vmem S8x512 .f32) (harg14 : arg14.IsWhole) (arg15 : Memref sig .tc .vmem S8x1x512 .f32) (harg15 : arg15.IsWhole) (arg16 : Memref sig .tc .vmem S128x4096 .f32) (harg16 : arg16.IsWhole) (arg17 : Memref sig .tc .vmem S1x128 .f32) (harg17 : arg17.IsWhole) (v18 : BitVec 32) (v147 : IVec S512x512 32) (v153 : FVec F S16x512 .bf16) (v154 : FVec F S16x512 .bf16) (v171 : BitVec 32) (v173 : BitVec 32) (v213 : IVec S512x512 16) (v256 : IVec S16x512 16) (v265 : IVec S1x512 32) (v268 : FVec F S1x512 .f32) (X : BufTy.Contents (Elt F) arg10.view.ty) (init : IVec S16x512 32) :
    Cert.Kernel.Gen.LoopInvTy_k0_t31 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v147 v153 v154 v171 v173 v213 v256 v265 v268 init where
  inv := fun _ _ => iprop(arg10.view.loc (c : Thread nD τ) ↦[arg10.view.set]{fullShare} X)
  step := fun k acc => by
    unfold Gen.k0_t31_body
    iintro HX
    sl_exec
    sl_step
    iexact HX

end Cert.Proof.Kernel

end
-- ==== Proof.Held.lean ====
module

public import proofs.«01_k».proof.Proof.LoopT8
public import proofs.«01_k».proof.Proof.LoopT19
public import proofs.«01_k».proof.Proof.LoopT26
public import proofs.«01_k».proof.Proof.LoopT31

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- What the kernel's body holds between any two of its statements: the five input blocks at contents nothing
    changes, and the output block and the ten scratch buffers each whole, at some contents. -/
def Held (c : Dev nD)
  (arg2 : Memref sig .tc .vmem S1x512x512 .bf16)
  (arg3 : Memref sig .tc .vmem S1x8192x128 .bf16)
  (arg4 : Memref sig .tc .vmem S1x8192x128 .bf16)
  (arg5 : Memref sig .tc .vmem S1x512x256 .bf16)
  (arg6 : Memref sig .tc .vmem S1x512x128 .f32)
  (arg7 : Memref sig .tc .vmem S1x512x512 .bf16)
  (arg8 : Memref sig .tc .vmem S8192x512 .i16)
  (arg9 : Memref sig .tc .vmem S8192x512 .i16)
  (arg10 : Memref sig .tc .vmem S8192x512 .i16)
  (arg11 : Memref sig .tc .vmem S128x8192 .bf16)
  (arg12 : Memref sig .tc .vmem S128x4096 .bf16)
  (arg13 : Memref sig .tc .vmem S128x2048 .bf16)
  (arg14 : Memref sig .tc .vmem S8x512 .f32)
  (arg15 : Memref sig .tc .vmem S8x1x512 .f32)
  (arg16 : Memref sig .tc .vmem S128x4096 .f32)
  (arg17 : Memref sig .tc .vmem S1x128 .f32)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)))

end Cert.Proof.Kernel

end
-- ==== Proof.Part159.lean ====
module

public import proofs.«01_k».proof.Proof.Held

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Stretch 1 of the kernel's body keeps what the body holds: it runs, faults nowhere, and leaves every input block
    as it was. -/
theorem held_part159 (𝒱 : Variants) (c : Dev nD) (bd : Option 𝒱.V) (E : Set ℕ) (i : grid0.Coords)
  (arg2 : Memref sig .tc .vmem S1x512x512 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x512x256 .bf16) (harg5 : arg5.IsWhole)
  (arg6 : Memref sig .tc .vmem S1x512x128 .f32) (harg6 : arg6.IsWhole)
  (arg7 : Memref sig .tc .vmem S1x512x512 .bf16) (harg7 : arg7.IsWhole)
  (arg8 : Memref sig .tc .vmem S8192x512 .i16) (harg8 : arg8.IsWhole)
  (arg9 : Memref sig .tc .vmem S8192x512 .i16) (harg9 : arg9.IsWhole)
  (arg10 : Memref sig .tc .vmem S8192x512 .i16) (harg10 : arg10.IsWhole)
  (arg11 : Memref sig .tc .vmem S128x8192 .bf16) (harg11 : arg11.IsWhole)
  (arg12 : Memref sig .tc .vmem S128x4096 .bf16) (harg12 : arg12.IsWhole)
  (arg13 : Memref sig .tc .vmem S128x2048 .bf16) (harg13 : arg13.IsWhole)
  (arg14 : Memref sig .tc .vmem S8x512 .f32) (harg14 : arg14.IsWhole)
  (arg15 : Memref sig .tc .vmem S8x1x512 .f32) (harg15 : arg15.IsWhole)
  (arg16 : Memref sig .tc .vmem S128x4096 .f32) (harg16 : arg16.IsWhole)
  (arg17 : Memref sig .tc .vmem S1x128 .f32) (harg17 : arg17.IsWhole)

  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    Held (F := F) c arg2 arg3 arg4 arg5 arg6 arg7 arg8 arg9 arg10 arg11 arg12 arg13 arg14 arg15 arg16 arg17 X_arg2 X_arg3 X_arg4 X_arg5 X_arg6
      ⊢ wp frame (wpE (defs₀ (F := F)) 𝒱 (c : Thread nD τ) bd) E (k0_part159 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 )
          (fun _ => Held (F := F) c arg2 arg3 arg4 arg5 arg6 arg7 arg8 arg9 arg10 arg11 arg12 arg13 arg14 arg15 arg16 arg17 X_arg2 X_arg3 X_arg4 X_arg5 X_arg6) := by
  rw [k0_part159_eq_skeleton]; unfold k0_part159_skel Held
  iintro ⟨H_arg2, H_arg3, H_arg4, H_arg5, H_arg6, ⟨%f_arg7, H_arg7⟩, ⟨%f_arg8, H_arg8⟩, ⟨%f_arg9, H_arg9⟩, ⟨%f_arg10, H_arg10⟩, ⟨%f_arg11, H_arg11⟩, ⟨%f_arg12, H_arg12⟩, ⟨%f_arg13, H_arg13⟩, ⟨%f_arg14, H_arg14⟩, ⟨%f_arg15, H_arg15⟩, ⟨%f_arg16, H_arg16⟩, ⟨%f_arg17, H_arg17⟩⟩
  by_cases k0_h1 : k0_cond1 i = 1#1
  · simp only [dif_pos k0_h1]
    sl_exec
    sl_step
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexists _; iexact H_arg7
    isplitl [H_arg8]; · iexists _; iexact H_arg8
    isplitl [H_arg9]; · iexists _; iexact H_arg9
    isplitl [H_arg10]; · iexists _; iexact H_arg10
    isplitl [H_arg11]; · iexists _; iexact H_arg11
    isplitl [H_arg12]; · iexists _; iexact H_arg12
    isplitl [H_arg13]; · iexists _; iexact H_arg13
    isplitl [H_arg14]; · iexists _; iexact H_arg14
    isplitl [H_arg15]; · iexists _; iexact H_arg15
    isplitl [H_arg16]; · iexists _; iexact H_arg16
    iexists _; iexact H_arg17
  · simp only [dif_neg k0_h1]
    sl_exec
    sl_step
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexists _; iexact H_arg7
    isplitl [H_arg8]; · iexists _; iexact H_arg8
    isplitl [H_arg9]; · iexists _; iexact H_arg9
    isplitl [H_arg10]; · iexists _; iexact H_arg10
    isplitl [H_arg11]; · iexists _; iexact H_arg11
    isplitl [H_arg12]; · iexists _; iexact H_arg12
    isplitl [H_arg13]; · iexists _; iexact H_arg13
    isplitl [H_arg14]; · iexists _; iexact H_arg14
    isplitl [H_arg15]; · iexists _; iexact H_arg15
    isplitl [H_arg16]; · iexists _; iexact H_arg16
    iexists _; iexact H_arg17

end Cert.Proof.Kernel

end
-- ==== Proof.Part160.lean ====
module

public import proofs.«01_k».proof.Proof.Held

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Stretch 2 of the kernel's body keeps what the body holds: it runs, faults nowhere, and leaves every input block
    as it was. -/
theorem held_part160 (𝒱 : Variants) (c : Dev nD) (bd : Option 𝒱.V) (E : Set ℕ) (i : grid0.Coords)
  (arg2 : Memref sig .tc .vmem S1x512x512 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x512x256 .bf16) (harg5 : arg5.IsWhole)
  (arg6 : Memref sig .tc .vmem S1x512x128 .f32) (harg6 : arg6.IsWhole)
  (arg7 : Memref sig .tc .vmem S1x512x512 .bf16) (harg7 : arg7.IsWhole)
  (arg8 : Memref sig .tc .vmem S8192x512 .i16) (harg8 : arg8.IsWhole)
  (arg9 : Memref sig .tc .vmem S8192x512 .i16) (harg9 : arg9.IsWhole)
  (arg10 : Memref sig .tc .vmem S8192x512 .i16) (harg10 : arg10.IsWhole)
  (arg11 : Memref sig .tc .vmem S128x8192 .bf16) (harg11 : arg11.IsWhole)
  (arg12 : Memref sig .tc .vmem S128x4096 .bf16) (harg12 : arg12.IsWhole)
  (arg13 : Memref sig .tc .vmem S128x2048 .bf16) (harg13 : arg13.IsWhole)
  (arg14 : Memref sig .tc .vmem S8x512 .f32) (harg14 : arg14.IsWhole)
  (arg15 : Memref sig .tc .vmem S8x1x512 .f32) (harg15 : arg15.IsWhole)
  (arg16 : Memref sig .tc .vmem S128x4096 .f32) (harg16 : arg16.IsWhole)
  (arg17 : Memref sig .tc .vmem S1x128 .f32) (harg17 : arg17.IsWhole)
  (v21 : IVec S128x512 1) (v25 : FVec F S64x512 .f32) (v26 : FVec F S1x512 .f32) (v30 : FVec F S128x512 .f32) (v34 : FVec F S128x512 .f32) (v35 : FVec F S128x512 .bf16) (v36 : Vec F S128x512 .bf16)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    Held (F := F) c arg2 arg3 arg4 arg5 arg6 arg7 arg8 arg9 arg10 arg11 arg12 arg13 arg14 arg15 arg16 arg17 X_arg2 X_arg3 X_arg4 X_arg5 X_arg6
      ⊢ wp frame (wpE (defs₀ (F := F)) 𝒱 (c : Thread nD τ) bd) E (k0_part160 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v25 v26 v30 v34 v35 v36)
          (fun _ => Held (F := F) c arg2 arg3 arg4 arg5 arg6 arg7 arg8 arg9 arg10 arg11 arg12 arg13 arg14 arg15 arg16 arg17 X_arg2 X_arg3 X_arg4 X_arg5 X_arg6) := by
  rw [k0_part160_eq_skeleton]; unfold k0_part160_skel Held
  iintro ⟨H_arg2, H_arg3, H_arg4, H_arg5, H_arg6, ⟨%f_arg7, H_arg7⟩, ⟨%f_arg8, H_arg8⟩, ⟨%f_arg9, H_arg9⟩, ⟨%f_arg10, H_arg10⟩, ⟨%f_arg11, H_arg11⟩, ⟨%f_arg12, H_arg12⟩, ⟨%f_arg13, H_arg13⟩, ⟨%f_arg14, H_arg14⟩, ⟨%f_arg15, H_arg15⟩, ⟨%f_arg16, H_arg16⟩, ⟨%f_arg17, H_arg17⟩⟩
  sl_exec
  sl_step
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexists _; iexact H_arg7
  isplitl [H_arg8]; · iexists _; iexact H_arg8
  isplitl [H_arg9]; · iexists _; iexact H_arg9
  isplitl [H_arg10]; · iexists _; iexact H_arg10
  isplitl [H_arg11]; · iexists _; iexact H_arg11
  isplitl [H_arg12]; · iexists _; iexact H_arg12
  isplitl [H_arg13]; · iexists _; iexact H_arg13
  isplitl [H_arg14]; · iexists _; iexact H_arg14
  isplitl [H_arg15]; · iexists _; iexact H_arg15
  isplitl [H_arg16]; · iexists _; iexact H_arg16
  iexists _; iexact H_arg17

end Cert.Proof.Kernel

end
-- ==== Proof.Part161.lean ====
module

public import proofs.«01_k».proof.Proof.Held

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Stretch 3 of the kernel's body keeps what the body holds: it runs, faults nowhere, and leaves every input block
    as it was. -/
theorem held_part161 (𝒱 : Variants) (c : Dev nD) (bd : Option 𝒱.V) (E : Set ℕ) (i : grid0.Coords)
  (arg2 : Memref sig .tc .vmem S1x512x512 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x512x256 .bf16) (harg5 : arg5.IsWhole)
  (arg6 : Memref sig .tc .vmem S1x512x128 .f32) (harg6 : arg6.IsWhole)
  (arg7 : Memref sig .tc .vmem S1x512x512 .bf16) (harg7 : arg7.IsWhole)
  (arg8 : Memref sig .tc .vmem S8192x512 .i16) (harg8 : arg8.IsWhole)
  (arg9 : Memref sig .tc .vmem S8192x512 .i16) (harg9 : arg9.IsWhole)
  (arg10 : Memref sig .tc .vmem S8192x512 .i16) (harg10 : arg10.IsWhole)
  (arg11 : Memref sig .tc .vmem S128x8192 .bf16) (harg11 : arg11.IsWhole)
  (arg12 : Memref sig .tc .vmem S128x4096 .bf16) (harg12 : arg12.IsWhole)
  (arg13 : Memref sig .tc .vmem S128x2048 .bf16) (harg13 : arg13.IsWhole)
  (arg14 : Memref sig .tc .vmem S8x512 .f32) (harg14 : arg14.IsWhole)
  (arg15 : Memref sig .tc .vmem S8x1x512 .f32) (harg15 : arg15.IsWhole)
  (arg16 : Memref sig .tc .vmem S128x4096 .f32) (harg16 : arg16.IsWhole)
  (arg17 : Memref sig .tc .vmem S1x128 .f32) (harg17 : arg17.IsWhole)
  (v21 : IVec S128x512 1) (v25 : FVec F S64x512 .f32) (v66 : FVec F S1x512 .f32) (v70 : FVec F S128x512 .f32) (v74 : FVec F S128x512 .f32) (v75 : FVec F S128x512 .bf16)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    Held (F := F) c arg2 arg3 arg4 arg5 arg6 arg7 arg8 arg9 arg10 arg11 arg12 arg13 arg14 arg15 arg16 arg17 X_arg2 X_arg3 X_arg4 X_arg5 X_arg6
      ⊢ wp frame (wpE (defs₀ (F := F)) 𝒱 (c : Thread nD τ) bd) E (k0_part161 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v25 v66 v70 v74 v75)
          (fun _ => Held (F := F) c arg2 arg3 arg4 arg5 arg6 arg7 arg8 arg9 arg10 arg11 arg12 arg13 arg14 arg15 arg16 arg17 X_arg2 X_arg3 X_arg4 X_arg5 X_arg6) := by
  rw [k0_part161_eq_skeleton]; unfold k0_part161_skel Held
  iintro ⟨H_arg2, H_arg3, H_arg4, H_arg5, H_arg6, ⟨%f_arg7, H_arg7⟩, ⟨%f_arg8, H_arg8⟩, ⟨%f_arg9, H_arg9⟩, ⟨%f_arg10, H_arg10⟩, ⟨%f_arg11, H_arg11⟩, ⟨%f_arg12, H_arg12⟩, ⟨%f_arg13, H_arg13⟩, ⟨%f_arg14, H_arg14⟩, ⟨%f_arg15, H_arg15⟩, ⟨%f_arg16, H_arg16⟩, ⟨%f_arg17, H_arg17⟩⟩
  sl_exec
  sl_step
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexists _; iexact H_arg7
  isplitl [H_arg8]; · iexists _; iexact H_arg8
  isplitl [H_arg9]; · iexists _; iexact H_arg9
  isplitl [H_arg10]; · iexists _; iexact H_arg10
  isplitl [H_arg11]; · iexists _; iexact H_arg11
  isplitl [H_arg12]; · iexists _; iexact H_arg12
  isplitl [H_arg13]; · iexists _; iexact H_arg13
  isplitl [H_arg14]; · iexists _; iexact H_arg14
  isplitl [H_arg15]; · iexists _; iexact H_arg15
  isplitl [H_arg16]; · iexists _; iexact H_arg16
  iexists _; iexact H_arg17

end Cert.Proof.Kernel

end
-- ==== Proof.Part162.lean ====
module

public import proofs.«01_k».proof.Proof.Held

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Stretch 4 of the kernel's body keeps what the body holds: it runs, faults nowhere, and leaves every input block
    as it was. -/
theorem held_part162 (𝒱 : Variants) (c : Dev nD) (bd : Option 𝒱.V) (E : Set ℕ) (i : grid0.Coords)
  (arg2 : Memref sig .tc .vmem S1x512x512 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x512x256 .bf16) (harg5 : arg5.IsWhole)
  (arg6 : Memref sig .tc .vmem S1x512x128 .f32) (harg6 : arg6.IsWhole)
  (arg7 : Memref sig .tc .vmem S1x512x512 .bf16) (harg7 : arg7.IsWhole)
  (arg8 : Memref sig .tc .vmem S8192x512 .i16) (harg8 : arg8.IsWhole)
  (arg9 : Memref sig .tc .vmem S8192x512 .i16) (harg9 : arg9.IsWhole)
  (arg10 : Memref sig .tc .vmem S8192x512 .i16) (harg10 : arg10.IsWhole)
  (arg11 : Memref sig .tc .vmem S128x8192 .bf16) (harg11 : arg11.IsWhole)
  (arg12 : Memref sig .tc .vmem S128x4096 .bf16) (harg12 : arg12.IsWhole)
  (arg13 : Memref sig .tc .vmem S128x2048 .bf16) (harg13 : arg13.IsWhole)
  (arg14 : Memref sig .tc .vmem S8x512 .f32) (harg14 : arg14.IsWhole)
  (arg15 : Memref sig .tc .vmem S8x1x512 .f32) (harg15 : arg15.IsWhole)
  (arg16 : Memref sig .tc .vmem S128x4096 .f32) (harg16 : arg16.IsWhole)
  (arg17 : Memref sig .tc .vmem S1x128 .f32) (harg17 : arg17.IsWhole)
  (v0 : BitVec 32) (v18 : BitVec 32) (v113 : FVec F S128x512 .f32) (v114 : FVec F S128x512 .bf16)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    Held (F := F) c arg2 arg3 arg4 arg5 arg6 arg7 arg8 arg9 arg10 arg11 arg12 arg13 arg14 arg15 arg16 arg17 X_arg2 X_arg3 X_arg4 X_arg5 X_arg6
      ⊢ wp frame (wpE (defs₀ (F := F)) 𝒱 (c : Thread nD τ) bd) E (k0_part162 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v18 v113 v114)
          (fun _ => Held (F := F) c arg2 arg3 arg4 arg5 arg6 arg7 arg8 arg9 arg10 arg11 arg12 arg13 arg14 arg15 arg16 arg17 X_arg2 X_arg3 X_arg4 X_arg5 X_arg6) := by
  rw [k0_part162_eq_skeleton]; unfold k0_part162_skel Held
  iintro ⟨H_arg2, H_arg3, H_arg4, H_arg5, H_arg6, ⟨%f_arg7, H_arg7⟩, ⟨%f_arg8, H_arg8⟩, ⟨%f_arg9, H_arg9⟩, ⟨%f_arg10, H_arg10⟩, ⟨%f_arg11, H_arg11⟩, ⟨%f_arg12, H_arg12⟩, ⟨%f_arg13, H_arg13⟩, ⟨%f_arg14, H_arg14⟩, ⟨%f_arg15, H_arg15⟩, ⟨%f_arg16, H_arg16⟩, ⟨%f_arg17, H_arg17⟩⟩
  sl_exec
  sl_step
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexists _; iexact H_arg7
  isplitl [H_arg8]; · iexists _; iexact H_arg8
  isplitl [H_arg9]; · iexists _; iexact H_arg9
  isplitl [H_arg10]; · iexists _; iexact H_arg10
  isplitl [H_arg11]; · iexists _; iexact H_arg11
  isplitl [H_arg12]; · iexists _; iexact H_arg12
  isplitl [H_arg13]; · iexists _; iexact H_arg13
  isplitl [H_arg14]; · iexists _; iexact H_arg14
  isplitl [H_arg15]; · iexists _; iexact H_arg15
  isplitl [H_arg16]; · iexists _; iexact H_arg16
  iexists _; iexact H_arg17

end Cert.Proof.Kernel

end
-- ==== Proof.Part163.lean ====
module

public import proofs.«01_k».proof.Proof.Held

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Stretch 5 of the kernel's body keeps what the body holds: it runs, faults nowhere, and leaves every input block
    as it was. -/
theorem held_part163 (𝒱 : Variants) (c : Dev nD) (bd : Option 𝒱.V) (E : Set ℕ) (i : grid0.Coords)
  (arg2 : Memref sig .tc .vmem S1x512x512 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x512x256 .bf16) (harg5 : arg5.IsWhole)
  (arg6 : Memref sig .tc .vmem S1x512x128 .f32) (harg6 : arg6.IsWhole)
  (arg7 : Memref sig .tc .vmem S1x512x512 .bf16) (harg7 : arg7.IsWhole)
  (arg8 : Memref sig .tc .vmem S8192x512 .i16) (harg8 : arg8.IsWhole)
  (arg9 : Memref sig .tc .vmem S8192x512 .i16) (harg9 : arg9.IsWhole)
  (arg10 : Memref sig .tc .vmem S8192x512 .i16) (harg10 : arg10.IsWhole)
  (arg11 : Memref sig .tc .vmem S128x8192 .bf16) (harg11 : arg11.IsWhole)
  (arg12 : Memref sig .tc .vmem S128x4096 .bf16) (harg12 : arg12.IsWhole)
  (arg13 : Memref sig .tc .vmem S128x2048 .bf16) (harg13 : arg13.IsWhole)
  (arg14 : Memref sig .tc .vmem S8x512 .f32) (harg14 : arg14.IsWhole)
  (arg15 : Memref sig .tc .vmem S8x1x512 .f32) (harg15 : arg15.IsWhole)
  (arg16 : Memref sig .tc .vmem S128x4096 .f32) (harg16 : arg16.IsWhole)
  (arg17 : Memref sig .tc .vmem S1x128 .f32) (harg17 : arg17.IsWhole)
  (v18 : BitVec 32) (v146 : IVec S512x512 32) (v147 : IVec S512x512 32) (c0_i32_54 : BitVec 32) (v151 : BitVec 32)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    Held (F := F) c arg2 arg3 arg4 arg5 arg6 arg7 arg8 arg9 arg10 arg11 arg12 arg13 arg14 arg15 arg16 arg17 X_arg2 X_arg3 X_arg4 X_arg5 X_arg6
      ⊢ wp frame (wpE (defs₀ (F := F)) 𝒱 (c : Thread nD τ) bd) E (k0_part163 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v146 v147 c0_i32_54 v151)
          (fun _ => Held (F := F) c arg2 arg3 arg4 arg5 arg6 arg7 arg8 arg9 arg10 arg11 arg12 arg13 arg14 arg15 arg16 arg17 X_arg2 X_arg3 X_arg4 X_arg5 X_arg6) := by
  rw [k0_part163_eq_skeleton]; unfold k0_part163_skel Held
  iintro ⟨H_arg2, H_arg3, H_arg4, H_arg5, H_arg6, ⟨%f_arg7, H_arg7⟩, ⟨%f_arg8, H_arg8⟩, ⟨%f_arg9, H_arg9⟩, ⟨%f_arg10, H_arg10⟩, ⟨%f_arg11, H_arg11⟩, ⟨%f_arg12, H_arg12⟩, ⟨%f_arg13, H_arg13⟩, ⟨%f_arg14, H_arg14⟩, ⟨%f_arg15, H_arg15⟩, ⟨%f_arg16, H_arg16⟩, ⟨%f_arg17, H_arg17⟩⟩
  sl_exec
  sl_step
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexists _; iexact H_arg7
  isplitl [H_arg8]; · iexists _; iexact H_arg8
  isplitl [H_arg9]; · iexists _; iexact H_arg9
  isplitl [H_arg10]; · iexists _; iexact H_arg10
  isplitl [H_arg11]; · iexists _; iexact H_arg11
  isplitl [H_arg12]; · iexists _; iexact H_arg12
  isplitl [H_arg13]; · iexists _; iexact H_arg13
  isplitl [H_arg14]; · iexists _; iexact H_arg14
  isplitl [H_arg15]; · iexists _; iexact H_arg15
  isplitl [H_arg16]; · iexists _; iexact H_arg16
  iexists _; iexact H_arg17

end Cert.Proof.Kernel

end
-- ==== Proof.Part164.lean ====
module

public import proofs.«01_k».proof.Proof.Held

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Stretch 6 of the kernel's body keeps what the body holds: it runs, faults nowhere, and leaves every input block
    as it was. -/
theorem held_part164 (𝒱 : Variants) (c : Dev nD) (bd : Option 𝒱.V) (E : Set ℕ) (i : grid0.Coords)
  (arg2 : Memref sig .tc .vmem S1x512x512 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x512x256 .bf16) (harg5 : arg5.IsWhole)
  (arg6 : Memref sig .tc .vmem S1x512x128 .f32) (harg6 : arg6.IsWhole)
  (arg7 : Memref sig .tc .vmem S1x512x512 .bf16) (harg7 : arg7.IsWhole)
  (arg8 : Memref sig .tc .vmem S8192x512 .i16) (harg8 : arg8.IsWhole)
  (arg9 : Memref sig .tc .vmem S8192x512 .i16) (harg9 : arg9.IsWhole)
  (arg10 : Memref sig .tc .vmem S8192x512 .i16) (harg10 : arg10.IsWhole)
  (arg11 : Memref sig .tc .vmem S128x8192 .bf16) (harg11 : arg11.IsWhole)
  (arg12 : Memref sig .tc .vmem S128x4096 .bf16) (harg12 : arg12.IsWhole)
  (arg13 : Memref sig .tc .vmem S128x2048 .bf16) (harg13 : arg13.IsWhole)
  (arg14 : Memref sig .tc .vmem S8x512 .f32) (harg14 : arg14.IsWhole)
  (arg15 : Memref sig .tc .vmem S8x1x512 .f32) (harg15 : arg15.IsWhole)
  (arg16 : Memref sig .tc .vmem S128x4096 .f32) (harg16 : arg16.IsWhole)
  (arg17 : Memref sig .tc .vmem S1x128 .f32) (harg17 : arg17.IsWhole)
  (v18 : BitVec 32) (v153 : FVec F S16x512 .bf16) (v154 : FVec F S16x512 .bf16) (v171 : BitVec 32) (v173 : BitVec 32) (v182 : BitVec 32) (v187 : BitVec 32) (v188_0 : FVec F S16x512 .bf16) (v188_1 : FVec F S16x512 .bf16) (v188_2 : FVec F S16x512 .bf16) (v188_3 : FVec F S16x512 .bf16)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    Held (F := F) c arg2 arg3 arg4 arg5 arg6 arg7 arg8 arg9 arg10 arg11 arg12 arg13 arg14 arg15 arg16 arg17 X_arg2 X_arg3 X_arg4 X_arg5 X_arg6
      ⊢ wp frame (wpE (defs₀ (F := F)) 𝒱 (c : Thread nD τ) bd) E (k0_part164 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v153 v154 v171 v173 v182 v187 v188_0 v188_1 v188_2 v188_3)
          (fun _ => Held (F := F) c arg2 arg3 arg4 arg5 arg6 arg7 arg8 arg9 arg10 arg11 arg12 arg13 arg14 arg15 arg16 arg17 X_arg2 X_arg3 X_arg4 X_arg5 X_arg6) := by
  rw [k0_part164_eq_skeleton]; unfold k0_part164_skel Held
  iintro ⟨H_arg2, H_arg3, H_arg4, H_arg5, H_arg6, ⟨%f_arg7, H_arg7⟩, ⟨%f_arg8, H_arg8⟩, ⟨%f_arg9, H_arg9⟩, ⟨%f_arg10, H_arg10⟩, ⟨%f_arg11, H_arg11⟩, ⟨%f_arg12, H_arg12⟩, ⟨%f_arg13, H_arg13⟩, ⟨%f_arg14, H_arg14⟩, ⟨%f_arg15, H_arg15⟩, ⟨%f_arg16, H_arg16⟩, ⟨%f_arg17, H_arg17⟩⟩
  sl_exec
  sl_step
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexists _; iexact H_arg7
  isplitl [H_arg8]; · iexists _; iexact H_arg8
  isplitl [H_arg9]; · iexists _; iexact H_arg9
  isplitl [H_arg10]; · iexists _; iexact H_arg10
  isplitl [H_arg11]; · iexists _; iexact H_arg11
  isplitl [H_arg12]; · iexists _; iexact H_arg12
  isplitl [H_arg13]; · iexists _; iexact H_arg13
  isplitl [H_arg14]; · iexists _; iexact H_arg14
  isplitl [H_arg15]; · iexists _; iexact H_arg15
  isplitl [H_arg16]; · iexists _; iexact H_arg16
  iexists _; iexact H_arg17

end Cert.Proof.Kernel

end
-- ==== Proof.Part165.lean ====
module

public import proofs.«01_k».proof.Proof.Held

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Stretch 7 of the kernel's body keeps what the body holds: it runs, faults nowhere, and leaves every input block
    as it was. -/
theorem held_part165 (𝒱 : Variants) (c : Dev nD) (bd : Option 𝒱.V) (E : Set ℕ) (i : grid0.Coords)
  (arg2 : Memref sig .tc .vmem S1x512x512 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x512x256 .bf16) (harg5 : arg5.IsWhole)
  (arg6 : Memref sig .tc .vmem S1x512x128 .f32) (harg6 : arg6.IsWhole)
  (arg7 : Memref sig .tc .vmem S1x512x512 .bf16) (harg7 : arg7.IsWhole)
  (arg8 : Memref sig .tc .vmem S8192x512 .i16) (harg8 : arg8.IsWhole)
  (arg9 : Memref sig .tc .vmem S8192x512 .i16) (harg9 : arg9.IsWhole)
  (arg10 : Memref sig .tc .vmem S8192x512 .i16) (harg10 : arg10.IsWhole)
  (arg11 : Memref sig .tc .vmem S128x8192 .bf16) (harg11 : arg11.IsWhole)
  (arg12 : Memref sig .tc .vmem S128x4096 .bf16) (harg12 : arg12.IsWhole)
  (arg13 : Memref sig .tc .vmem S128x2048 .bf16) (harg13 : arg13.IsWhole)
  (arg14 : Memref sig .tc .vmem S8x512 .f32) (harg14 : arg14.IsWhole)
  (arg15 : Memref sig .tc .vmem S8x1x512 .f32) (harg15 : arg15.IsWhole)
  (arg16 : Memref sig .tc .vmem S128x4096 .f32) (harg16 : arg16.IsWhole)
  (arg17 : Memref sig .tc .vmem S1x128 .f32) (harg17 : arg17.IsWhole)
  (v153 : FVec F S16x512 .bf16) (v154 : FVec F S16x512 .bf16) (v171 : BitVec 32) (v173 : BitVec 32) (v209_0 : IVec S16x512 32) (v209_1 : FVec F S1x512 .f32) (v220 : FVec F S1x512 .f32) (v225 : BitVec 32) (v226_0 : FVec F S16x512 .bf16) (v226_1 : FVec F S16x512 .bf16) (v226_2 : FVec F S16x512 .bf16) (v226_3 : FVec F S16x512 .bf16) (c1_i32_93 : BitVec 32)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    Held (F := F) c arg2 arg3 arg4 arg5 arg6 arg7 arg8 arg9 arg10 arg11 arg12 arg13 arg14 arg15 arg16 arg17 X_arg2 X_arg3 X_arg4 X_arg5 X_arg6
      ⊢ wp frame (wpE (defs₀ (F := F)) 𝒱 (c : Thread nD τ) bd) E (k0_part165 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v153 v154 v171 v173 v209_0 v209_1 v220 v225 v226_0 v226_1 v226_2 v226_3 c1_i32_93)
          (fun _ => Held (F := F) c arg2 arg3 arg4 arg5 arg6 arg7 arg8 arg9 arg10 arg11 arg12 arg13 arg14 arg15 arg16 arg17 X_arg2 X_arg3 X_arg4 X_arg5 X_arg6) := by
  rw [k0_part165_eq_skeleton]; unfold k0_part165_skel Held
  iintro ⟨H_arg2, H_arg3, H_arg4, H_arg5, H_arg6, ⟨%f_arg7, H_arg7⟩, ⟨%f_arg8, H_arg8⟩, ⟨%f_arg9, H_arg9⟩, ⟨%f_arg10, H_arg10⟩, ⟨%f_arg11, H_arg11⟩, ⟨%f_arg12, H_arg12⟩, ⟨%f_arg13, H_arg13⟩, ⟨%f_arg14, H_arg14⟩, ⟨%f_arg15, H_arg15⟩, ⟨%f_arg16, H_arg16⟩, ⟨%f_arg17, H_arg17⟩⟩
  sl_exec
  sl_step
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexists _; iexact H_arg7
  isplitl [H_arg8]; · iexists _; iexact H_arg8
  isplitl [H_arg9]; · iexists _; iexact H_arg9
  isplitl [H_arg10]; · iexists _; iexact H_arg10
  isplitl [H_arg11]; · iexists _; iexact H_arg11
  isplitl [H_arg12]; · iexists _; iexact H_arg12
  isplitl [H_arg13]; · iexists _; iexact H_arg13
  isplitl [H_arg14]; · iexists _; iexact H_arg14
  isplitl [H_arg15]; · iexists _; iexact H_arg15
  isplitl [H_arg16]; · iexists _; iexact H_arg16
  iexists _; iexact H_arg17

end Cert.Proof.Kernel

end
-- ==== Proof.Part166.lean ====
module

public import proofs.«01_k».proof.Proof.Held

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Stretch 8 of the kernel's body keeps what the body holds: it runs, faults nowhere, and leaves every input block
    as it was. -/
theorem held_part166 (𝒱 : Variants) (c : Dev nD) (bd : Option 𝒱.V) (E : Set ℕ) (i : grid0.Coords)
  (arg2 : Memref sig .tc .vmem S1x512x512 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x512x256 .bf16) (harg5 : arg5.IsWhole)
  (arg6 : Memref sig .tc .vmem S1x512x128 .f32) (harg6 : arg6.IsWhole)
  (arg7 : Memref sig .tc .vmem S1x512x512 .bf16) (harg7 : arg7.IsWhole)
  (arg8 : Memref sig .tc .vmem S8192x512 .i16) (harg8 : arg8.IsWhole)
  (arg9 : Memref sig .tc .vmem S8192x512 .i16) (harg9 : arg9.IsWhole)
  (arg10 : Memref sig .tc .vmem S8192x512 .i16) (harg10 : arg10.IsWhole)
  (arg11 : Memref sig .tc .vmem S128x8192 .bf16) (harg11 : arg11.IsWhole)
  (arg12 : Memref sig .tc .vmem S128x4096 .bf16) (harg12 : arg12.IsWhole)
  (arg13 : Memref sig .tc .vmem S128x2048 .bf16) (harg13 : arg13.IsWhole)
  (arg14 : Memref sig .tc .vmem S8x512 .f32) (harg14 : arg14.IsWhole)
  (arg15 : Memref sig .tc .vmem S8x1x512 .f32) (harg15 : arg15.IsWhole)
  (arg16 : Memref sig .tc .vmem S128x4096 .f32) (harg16 : arg16.IsWhole)
  (arg17 : Memref sig .tc .vmem S1x128 .f32) (harg17 : arg17.IsWhole)
  (v18 : BitVec 32) (v147 : IVec S512x512 32) (v153 : FVec F S16x512 .bf16) (v154 : FVec F S16x512 .bf16) (v171 : BitVec 32) (v173 : BitVec 32) (v213 : IVec S512x512 16) (v256 : IVec S16x512 16) (v265 : IVec S1x512 32) (v268 : FVec F S1x512 .f32)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    Held (F := F) c arg2 arg3 arg4 arg5 arg6 arg7 arg8 arg9 arg10 arg11 arg12 arg13 arg14 arg15 arg16 arg17 X_arg2 X_arg3 X_arg4 X_arg5 X_arg6
      ⊢ wp frame (wpE (defs₀ (F := F)) 𝒱 (c : Thread nD τ) bd) E (k0_part166 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v147 v153 v154 v171 v173 v213 v256 v265 v268)
          (fun _ => Held (F := F) c arg2 arg3 arg4 arg5 arg6 arg7 arg8 arg9 arg10 arg11 arg12 arg13 arg14 arg15 arg16 arg17 X_arg2 X_arg3 X_arg4 X_arg5 X_arg6) := by
  rw [k0_part166_eq_skeleton]; unfold k0_part166_skel Held
  iintro ⟨H_arg2, H_arg3, H_arg4, H_arg5, H_arg6, ⟨%f_arg7, H_arg7⟩, ⟨%f_arg8, H_arg8⟩, ⟨%f_arg9, H_arg9⟩, ⟨%f_arg10, H_arg10⟩, ⟨%f_arg11, H_arg11⟩, ⟨%f_arg12, H_arg12⟩, ⟨%f_arg13, H_arg13⟩, ⟨%f_arg14, H_arg14⟩, ⟨%f_arg15, H_arg15⟩, ⟨%f_arg16, H_arg16⟩, ⟨%f_arg17, H_arg17⟩⟩
  sl_exec
  sl_step
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexists _; iexact H_arg7
  isplitl [H_arg8]; · iexists _; iexact H_arg8
  isplitl [H_arg9]; · iexists _; iexact H_arg9
  isplitl [H_arg10]; · iexists _; iexact H_arg10
  isplitl [H_arg11]; · iexists _; iexact H_arg11
  isplitl [H_arg12]; · iexists _; iexact H_arg12
  isplitl [H_arg13]; · iexists _; iexact H_arg13
  isplitl [H_arg14]; · iexists _; iexact H_arg14
  isplitl [H_arg15]; · iexists _; iexact H_arg15
  isplitl [H_arg16]; · iexists _; iexact H_arg16
  iexists _; iexact H_arg17

end Cert.Proof.Kernel

end
-- ==== Proof.Part167.lean ====
module

public import proofs.«01_k».proof.Proof.Held

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Stretch 9 of the kernel's body keeps what the body holds: it runs, faults nowhere, and leaves every input block
    as it was. -/
theorem held_part167 (𝒱 : Variants) (c : Dev nD) (bd : Option 𝒱.V) (E : Set ℕ) (i : grid0.Coords)
  (arg2 : Memref sig .tc .vmem S1x512x512 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x512x256 .bf16) (harg5 : arg5.IsWhole)
  (arg6 : Memref sig .tc .vmem S1x512x128 .f32) (harg6 : arg6.IsWhole)
  (arg7 : Memref sig .tc .vmem S1x512x512 .bf16) (harg7 : arg7.IsWhole)
  (arg8 : Memref sig .tc .vmem S8192x512 .i16) (harg8 : arg8.IsWhole)
  (arg9 : Memref sig .tc .vmem S8192x512 .i16) (harg9 : arg9.IsWhole)
  (arg10 : Memref sig .tc .vmem S8192x512 .i16) (harg10 : arg10.IsWhole)
  (arg11 : Memref sig .tc .vmem S128x8192 .bf16) (harg11 : arg11.IsWhole)
  (arg12 : Memref sig .tc .vmem S128x4096 .bf16) (harg12 : arg12.IsWhole)
  (arg13 : Memref sig .tc .vmem S128x2048 .bf16) (harg13 : arg13.IsWhole)
  (arg14 : Memref sig .tc .vmem S8x512 .f32) (harg14 : arg14.IsWhole)
  (arg15 : Memref sig .tc .vmem S8x1x512 .f32) (harg15 : arg15.IsWhole)
  (arg16 : Memref sig .tc .vmem S128x4096 .f32) (harg16 : arg16.IsWhole)
  (arg17 : Memref sig .tc .vmem S1x128 .f32) (harg17 : arg17.IsWhole)
  (v18 : BitVec 32) (v106 : FVec F S1x512 .f32) (v213 : IVec S512x512 16) (v279 : IVec S512x512 16) (v301 : IVec S1x512 32) (v302 : FVec F S128x4096 .f32)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    Held (F := F) c arg2 arg3 arg4 arg5 arg6 arg7 arg8 arg9 arg10 arg11 arg12 arg13 arg14 arg15 arg16 arg17 X_arg2 X_arg3 X_arg4 X_arg5 X_arg6
      ⊢ wp frame (wpE (defs₀ (F := F)) 𝒱 (c : Thread nD τ) bd) E (k0_part167 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v106 v213 v279 v301 v302)
          (fun _ => Held (F := F) c arg2 arg3 arg4 arg5 arg6 arg7 arg8 arg9 arg10 arg11 arg12 arg13 arg14 arg15 arg16 arg17 X_arg2 X_arg3 X_arg4 X_arg5 X_arg6) := by
  rw [k0_part167_eq_skeleton]; unfold k0_part167_skel Held
  iintro ⟨H_arg2, H_arg3, H_arg4, H_arg5, H_arg6, ⟨%f_arg7, H_arg7⟩, ⟨%f_arg8, H_arg8⟩, ⟨%f_arg9, H_arg9⟩, ⟨%f_arg10, H_arg10⟩, ⟨%f_arg11, H_arg11⟩, ⟨%f_arg12, H_arg12⟩, ⟨%f_arg13, H_arg13⟩, ⟨%f_arg14, H_arg14⟩, ⟨%f_arg15, H_arg15⟩, ⟨%f_arg16, H_arg16⟩, ⟨%f_arg17, H_arg17⟩⟩
  sl_exec
  split
  · sl_exec
    split
    · sl_exec
      sl_step
      isplitl [H_arg2]; · iexact H_arg2
      isplitl [H_arg3]; · iexact H_arg3
      isplitl [H_arg4]; · iexact H_arg4
      isplitl [H_arg5]; · iexact H_arg5
      isplitl [H_arg6]; · iexact H_arg6
      isplitl [H_arg7]; · iexists _; iexact H_arg7
      isplitl [H_arg8]; · iexists _; iexact H_arg8
      isplitl [H_arg9]; · iexists _; iexact H_arg9
      isplitl [H_arg10]; · iexists _; iexact H_arg10
      isplitl [H_arg11]; · iexists _; iexact H_arg11
      isplitl [H_arg12]; · iexists _; iexact H_arg12
      isplitl [H_arg13]; · iexists _; iexact H_arg13
      isplitl [H_arg14]; · iexists _; iexact H_arg14
      isplitl [H_arg15]; · iexists _; iexact H_arg15
      isplitl [H_arg16]; · iexists _; iexact H_arg16
      iexists _; iexact H_arg17
    · sl_exec
      sl_step
      isplitl [H_arg2]; · iexact H_arg2
      isplitl [H_arg3]; · iexact H_arg3
      isplitl [H_arg4]; · iexact H_arg4
      isplitl [H_arg5]; · iexact H_arg5
      isplitl [H_arg6]; · iexact H_arg6
      isplitl [H_arg7]; · iexists _; iexact H_arg7
      isplitl [H_arg8]; · iexists _; iexact H_arg8
      isplitl [H_arg9]; · iexists _; iexact H_arg9
      isplitl [H_arg10]; · iexists _; iexact H_arg10
      isplitl [H_arg11]; · iexists _; iexact H_arg11
      isplitl [H_arg12]; · iexists _; iexact H_arg12
      isplitl [H_arg13]; · iexists _; iexact H_arg13
      isplitl [H_arg14]; · iexists _; iexact H_arg14
      isplitl [H_arg15]; · iexists _; iexact H_arg15
      isplitl [H_arg16]; · iexists _; iexact H_arg16
      iexists _; iexact H_arg17
  · sl_exec
    split
    · sl_exec
      sl_step
      isplitl [H_arg2]; · iexact H_arg2
      isplitl [H_arg3]; · iexact H_arg3
      isplitl [H_arg4]; · iexact H_arg4
      isplitl [H_arg5]; · iexact H_arg5
      isplitl [H_arg6]; · iexact H_arg6
      isplitl [H_arg7]; · iexists _; iexact H_arg7
      isplitl [H_arg8]; · iexists _; iexact H_arg8
      isplitl [H_arg9]; · iexists _; iexact H_arg9
      isplitl [H_arg10]; · iexists _; iexact H_arg10
      isplitl [H_arg11]; · iexists _; iexact H_arg11
      isplitl [H_arg12]; · iexists _; iexact H_arg12
      isplitl [H_arg13]; · iexists _; iexact H_arg13
      isplitl [H_arg14]; · iexists _; iexact H_arg14
      isplitl [H_arg15]; · iexists _; iexact H_arg15
      isplitl [H_arg16]; · iexists _; iexact H_arg16
      iexists _; iexact H_arg17
    · sl_exec
      sl_step
      isplitl [H_arg2]; · iexact H_arg2
      isplitl [H_arg3]; · iexact H_arg3
      isplitl [H_arg4]; · iexact H_arg4
      isplitl [H_arg5]; · iexact H_arg5
      isplitl [H_arg6]; · iexact H_arg6
      isplitl [H_arg7]; · iexists _; iexact H_arg7
      isplitl [H_arg8]; · iexists _; iexact H_arg8
      isplitl [H_arg9]; · iexists _; iexact H_arg9
      isplitl [H_arg10]; · iexists _; iexact H_arg10
      isplitl [H_arg11]; · iexists _; iexact H_arg11
      isplitl [H_arg12]; · iexists _; iexact H_arg12
      isplitl [H_arg13]; · iexists _; iexact H_arg13
      isplitl [H_arg14]; · iexists _; iexact H_arg14
      isplitl [H_arg15]; · iexists _; iexact H_arg15
      isplitl [H_arg16]; · iexists _; iexact H_arg16
      iexists _; iexact H_arg17

end Cert.Proof.Kernel

end
-- ==== Proof.Part168.lean ====
module

public import proofs.«01_k».proof.Proof.Held

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Stretch 10 of the kernel's body keeps what the body holds: it runs, faults nowhere, and leaves every input block
    as it was. -/
theorem held_part168 (𝒱 : Variants) (c : Dev nD) (bd : Option 𝒱.V) (E : Set ℕ) (i : grid0.Coords)
  (arg2 : Memref sig .tc .vmem S1x512x512 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x512x256 .bf16) (harg5 : arg5.IsWhole)
  (arg6 : Memref sig .tc .vmem S1x512x128 .f32) (harg6 : arg6.IsWhole)
  (arg7 : Memref sig .tc .vmem S1x512x512 .bf16) (harg7 : arg7.IsWhole)
  (arg8 : Memref sig .tc .vmem S8192x512 .i16) (harg8 : arg8.IsWhole)
  (arg9 : Memref sig .tc .vmem S8192x512 .i16) (harg9 : arg9.IsWhole)
  (arg10 : Memref sig .tc .vmem S8192x512 .i16) (harg10 : arg10.IsWhole)
  (arg11 : Memref sig .tc .vmem S128x8192 .bf16) (harg11 : arg11.IsWhole)
  (arg12 : Memref sig .tc .vmem S128x4096 .bf16) (harg12 : arg12.IsWhole)
  (arg13 : Memref sig .tc .vmem S128x2048 .bf16) (harg13 : arg13.IsWhole)
  (arg14 : Memref sig .tc .vmem S8x512 .f32) (harg14 : arg14.IsWhole)
  (arg15 : Memref sig .tc .vmem S8x1x512 .f32) (harg15 : arg15.IsWhole)
  (arg16 : Memref sig .tc .vmem S128x4096 .f32) (harg16 : arg16.IsWhole)
  (arg17 : Memref sig .tc .vmem S1x128 .f32) (harg17 : arg17.IsWhole)
  (v341 : Vec F S128x512 .f32)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    Held (F := F) c arg2 arg3 arg4 arg5 arg6 arg7 arg8 arg9 arg10 arg11 arg12 arg13 arg14 arg15 arg16 arg17 X_arg2 X_arg3 X_arg4 X_arg5 X_arg6
      ⊢ wp frame (wpE (defs₀ (F := F)) 𝒱 (c : Thread nD τ) bd) E (k0_part168 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v341)
          (fun _ => Held (F := F) c arg2 arg3 arg4 arg5 arg6 arg7 arg8 arg9 arg10 arg11 arg12 arg13 arg14 arg15 arg16 arg17 X_arg2 X_arg3 X_arg4 X_arg5 X_arg6) := by
  rw [k0_part168_eq_skeleton]; unfold k0_part168_skel Held
  iintro ⟨H_arg2, H_arg3, H_arg4, H_arg5, H_arg6, ⟨%f_arg7, H_arg7⟩, ⟨%f_arg8, H_arg8⟩, ⟨%f_arg9, H_arg9⟩, ⟨%f_arg10, H_arg10⟩, ⟨%f_arg11, H_arg11⟩, ⟨%f_arg12, H_arg12⟩, ⟨%f_arg13, H_arg13⟩, ⟨%f_arg14, H_arg14⟩, ⟨%f_arg15, H_arg15⟩, ⟨%f_arg16, H_arg16⟩, ⟨%f_arg17, H_arg17⟩⟩
  sl_exec
  sl_step
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexists _; iexact H_arg7
  isplitl [H_arg8]; · iexists _; iexact H_arg8
  isplitl [H_arg9]; · iexists _; iexact H_arg9
  isplitl [H_arg10]; · iexists _; iexact H_arg10
  isplitl [H_arg11]; · iexists _; iexact H_arg11
  isplitl [H_arg12]; · iexists _; iexact H_arg12
  isplitl [H_arg13]; · iexists _; iexact H_arg13
  isplitl [H_arg14]; · iexists _; iexact H_arg14
  isplitl [H_arg15]; · iexists _; iexact H_arg15
  isplitl [H_arg16]; · iexists _; iexact H_arg16
  iexists _; iexact H_arg17

end Cert.Proof.Kernel

end
-- ==== Proof.Body.lean ====
module

public import proofs.«01_k».proof.Proof.Part159
public import proofs.«01_k».proof.Proof.Part160
public import proofs.«01_k».proof.Proof.Part161
public import proofs.«01_k».proof.Proof.Part162
public import proofs.«01_k».proof.Proof.Part163
public import proofs.«01_k».proof.Proof.Part164
public import proofs.«01_k».proof.Proof.Part165
public import proofs.«01_k».proof.Proof.Part166
public import proofs.«01_k».proof.Proof.Part167
public import proofs.«01_k».proof.Proof.Part168

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- A bind is met by running the first program to `R` and the second from `R`, whatever the first returned. -/
theorem bind_step {α β : Type} (𝒱 : Variants) (c : Dev nD) (bd : Option 𝒱.V) (E : Set ℕ)
    (p : Prog (TpuEff nD τ sig (Elt F) Λ₀ .tc) α) (k : α → Prog (TpuEff nD τ sig (Elt F) Λ₀ .tc) β) {P R : sProp 𝕄} {Q : β → sProp 𝕄}
    (h : P ⊢ wp frame (wpE (defs₀ (F := F)) 𝒱 (c : Thread nD τ) bd) E p (fun _ => R))
    (hk : ∀ a, R ⊢ wp frame (wpE (defs₀ (F := F)) 𝒱 (c : Thread nD τ) bd) E (k a) Q) :
    P ⊢ wp frame (wpE (defs₀ (F := F)) 𝒱 (c : Thread nD τ) bd) E (p >>= k) Q := by
  rw [wp_bind]; exact h.trans ((wp frame (wpE (defs₀ (F := F)) 𝒱 (c : Thread nD τ) bd) E p).mono hk)

/-- The whole body of the attention kernel at any grid point: it runs, it leaves the five input blocks as they were, and
    it holds the output block and the scratch buffers at some contents afterwards. -/
theorem held_body (𝒱 : Variants) (c : Dev nD) (bd : Option 𝒱.V) (E : Set ℕ) (i : grid0.Coords)
  (arg2 : Memref sig .tc .vmem S1x512x512 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x512x256 .bf16) (harg5 : arg5.IsWhole)
  (arg6 : Memref sig .tc .vmem S1x512x128 .f32) (harg6 : arg6.IsWhole)
  (arg7 : Memref sig .tc .vmem S1x512x512 .bf16) (harg7 : arg7.IsWhole)
  (arg8 : Memref sig .tc .vmem S8192x512 .i16) (harg8 : arg8.IsWhole)
  (arg9 : Memref sig .tc .vmem S8192x512 .i16) (harg9 : arg9.IsWhole)
  (arg10 : Memref sig .tc .vmem S8192x512 .i16) (harg10 : arg10.IsWhole)
  (arg11 : Memref sig .tc .vmem S128x8192 .bf16) (harg11 : arg11.IsWhole)
  (arg12 : Memref sig .tc .vmem S128x4096 .bf16) (harg12 : arg12.IsWhole)
  (arg13 : Memref sig .tc .vmem S128x2048 .bf16) (harg13 : arg13.IsWhole)
  (arg14 : Memref sig .tc .vmem S8x512 .f32) (harg14 : arg14.IsWhole)
  (arg15 : Memref sig .tc .vmem S8x1x512 .f32) (harg15 : arg15.IsWhole)
  (arg16 : Memref sig .tc .vmem S128x4096 .f32) (harg16 : arg16.IsWhole)
  (arg17 : Memref sig .tc .vmem S1x128 .f32) (harg17 : arg17.IsWhole)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    Held (F := F) c arg2 arg3 arg4 arg5 arg6 arg7 arg8 arg9 arg10 arg11 arg12 arg13 arg14 arg15 arg16 arg17 X_arg2 X_arg3 X_arg4 X_arg5 X_arg6
      ⊢ wp frame (wpE (defs₀ (F := F)) 𝒱 (c : Thread nD τ) bd) E (cc0_dsa_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => Held (F := F) c arg2 arg3 arg4 arg5 arg6 arg7 arg8 arg9 arg10 arg11 arg12 arg13 arg14 arg15 arg16 arg17 X_arg2 X_arg3 X_arg4 X_arg5 X_arg6) := by
  rw [cc0_dsa_attention_eq_skeleton]; unfold cc0_dsa_attention_skel
  refine bind_step 𝒱 c bd E _ _ (held_part159 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  X_arg2 X_arg3 X_arg4 X_arg5 X_arg6) ?_
  intro r159
  refine bind_step 𝒱 c bd E _ _ (held_part160 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ X_arg2 X_arg3 X_arg4 X_arg5 X_arg6) ?_
  intro r160
  refine bind_step 𝒱 c bd E _ _ (held_part161 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ X_arg2 X_arg3 X_arg4 X_arg5 X_arg6) ?_
  intro r161
  refine bind_step 𝒱 c bd E _ _ (held_part162 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ X_arg2 X_arg3 X_arg4 X_arg5 X_arg6) ?_
  intro r162
  refine bind_step 𝒱 c bd E _ _ (held_part163 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ X_arg2 X_arg3 X_arg4 X_arg5 X_arg6) ?_
  intro r163
  refine bind_step 𝒱 c bd E _ _ (held_part164 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ X_arg2 X_arg3 X_arg4 X_arg5 X_arg6) ?_
  intro r164
  refine bind_step 𝒱 c bd E _ _ (held_part165 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ X_arg2 X_arg3 X_arg4 X_arg5 X_arg6) ?_
  intro r165
  refine bind_step 𝒱 c bd E _ _ (held_part166 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ X_arg2 X_arg3 X_arg4 X_arg5 X_arg6) ?_
  intro r166
  refine bind_step 𝒱 c bd E _ _ (held_part167 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ X_arg2 X_arg3 X_arg4 X_arg5 X_arg6) ?_
  intro r167
  refine bind_step 𝒱 c bd E _ _ (held_part168 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ X_arg2 X_arg3 X_arg4 X_arg5 X_arg6) ?_
  intro r168
  unfold Held
  iintro ⟨H_arg2, H_arg3, H_arg4, H_arg5, H_arg6, ⟨%f_arg7, H_arg7⟩, ⟨%f_arg8, H_arg8⟩, ⟨%f_arg9, H_arg9⟩, ⟨%f_arg10, H_arg10⟩, ⟨%f_arg11, H_arg11⟩, ⟨%f_arg12, H_arg12⟩, ⟨%f_arg13, H_arg13⟩, ⟨%f_arg14, H_arg14⟩, ⟨%f_arg15, H_arg15⟩, ⟨%f_arg16, H_arg16⟩, ⟨%f_arg17, H_arg17⟩⟩
  sl_exec
  sl_step
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexists _; iexact H_arg7
  isplitl [H_arg8]; · iexists _; iexact H_arg8
  isplitl [H_arg9]; · iexists _; iexact H_arg9
  isplitl [H_arg10]; · iexists _; iexact H_arg10
  isplitl [H_arg11]; · iexists _; iexact H_arg11
  isplitl [H_arg12]; · iexists _; iexact H_arg12
  isplitl [H_arg13]; · iexists _; iexact H_arg13
  isplitl [H_arg14]; · iexists _; iexact H_arg14
  isplitl [H_arg15]; · iexists _; iexact H_arg15
  isplitl [H_arg16]; · iexists _; iexact H_arg16
  iexists _; iexact H_arg17

end Cert.Proof.Kernel

end
-- ==== Proof.DsaFrame.lean ====
module

public import proofs.«01_k».proof.Proof.Body
public import proofs.«01_k».proof.Proof.Gen.Kernel.Launch
public import proofs.«01_k».proof.Proof.Gen.Kernel.Points
public import proofs.«01_k».proof.Proof.Gen.Kernel.Frame
public import Idealize.ShloMosaic.Adequacy
public import Idealize.ShloMosaic.Init

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [BitOps F]
variable (m : (ℓ : Loc nD τ sig) → Buf (Elt F) ℓ) (ρ : Dev nD → PrngReg)

local notation "𝕄" => MT nD τ sig Unit (Elt F) ℕ (UR sig nD τ) ℕ

/-- The window nothing is claimed of: the attention's output. -/
def forgotten : Fin 6 → Bool
  | 0 => false | 1 => false | 2 => false | 3 => false | 4 => false | 5 => true

/-- The pipeline's proof data: every array as the region finds it, every input block left in place, nothing said of
    the output's, and between two grid points the scratch buffers at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ _ := Pipeline.ΦA spec0 c
  q w := Pipeline.shareOf spec0 w
  owed _ := 0

/-- The proof data's arrays are the region-entry contents. -/
theorem A_eq (c : Dev nD) (w : Fin cfg0.W) : (dats m 0 c).A w = V m c (Pipeline.arrRef spec0 w) := by dsimp only [dats]

/-! What the body leaves in each input's block: the block. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The scratch buffers in the region's hands are the body's memrefs of them, and back. -/
theorem scratch_eq (c : Dev nD) :
    (Pipeline.scopedRest (Ix := Unit) (Name := ℕ) (U := UR sig nD τ) (Lvl := ℕ) (Val := Elt F) spec0 c : sProp 𝕄)
      = iprop(
    (∃ f, (Memref.whole cc0_scratch0).view.loc (c : Thread nD τ) ↦[(Memref.whole cc0_scratch0).view.set]{fullShare} f)
   ∗     (∃ f, (Memref.whole cc0_scratch1).view.loc (c : Thread nD τ) ↦[(Memref.whole cc0_scratch1).view.set]{fullShare} f)
   ∗     (∃ f, (Memref.whole cc0_scratch2).view.loc (c : Thread nD τ) ↦[(Memref.whole cc0_scratch2).view.set]{fullShare} f)
   ∗     (∃ f, (Memref.whole cc0_scratch3).view.loc (c : Thread nD τ) ↦[(Memref.whole cc0_scratch3).view.set]{fullShare} f)
   ∗     (∃ f, (Memref.whole cc0_scratch4).view.loc (c : Thread nD τ) ↦[(Memref.whole cc0_scratch4).view.set]{fullShare} f)
   ∗     (∃ f, (Memref.whole cc0_scratch5).view.loc (c : Thread nD τ) ↦[(Memref.whole cc0_scratch5).view.set]{fullShare} f)
   ∗     (∃ f, (Memref.whole cc0_scratch6).view.loc (c : Thread nD τ) ↦[(Memref.whole cc0_scratch6).view.set]{fullShare} f)
   ∗     (∃ f, (Memref.whole cc0_scratch7).view.loc (c : Thread nD τ) ↦[(Memref.whole cc0_scratch7).view.set]{fullShare} f)
   ∗     (∃ f, (Memref.whole cc0_scratch8).view.loc (c : Thread nD τ) ↦[(Memref.whole cc0_scratch8).view.set]{fullShare} f)
   ∗     (∃ f, (Memref.whole cc0_scratch9).view.loc (c : Thread nD τ) ↦[(Memref.whole cc0_scratch9).view.set]{fullShare} f)) := by
  rw [scopedRest0_eq]; simp only [Memref.view_whole, View.set_whole]

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after_0, after_1, after_2, after_3, after_4]
  unfold Pipeline.ΦA
  rw [scratch_eq]
  unfold owns
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, Hp⟩, Ho, ⟨%d0, %g0, %e0, H0⟩, ⟨%d1, %g1, %e1, H1⟩, ⟨%d2, %g2, %e2, H2⟩, ⟨%d3, %g3, %e3, H3⟩, ⟨%d4, %g4, %e4, H4⟩, ⟨%X5, %g5, %e5, H5⟩⟩
  ihave Hw := (held_body Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) g0 g1 g2 g3 g4) $$ [S0 S1 S2 S3 S4 S5 S6 S7 S8 S9 H0 H1 H2 H3 H4 H5]
  · unfold Held
    isplitl [H0]; · iexact H0
    isplitl [H1]; · iexact H1
    isplitl [H2]; · iexact H2
    isplitl [H3]; · iexact H3
    isplitl [H4]; · iexact H4
    isplitl [H5]; · iexists _; iexact H5
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    iexists _; iexact S9
  iapply wp_wand_r
  isplitl [Hw]; · iexact Hw
  iintro %a Hh
  unfold Held
  icases Hh with ⟨H0, H1, H2, H3, H4, ⟨%g5', H5⟩, ⟨%h0, S0⟩, ⟨%h1, S1⟩, ⟨%h2, S2⟩, ⟨%h3, S3⟩, ⟨%h4, S4⟩, ⟨%h5, S5⟩, ⟨%h6, S6⟩, ⟨%h7, S7⟩, ⟨%h8, S8⟩, ⟨%h9, S9⟩⟩
  isplitl [S0 S1 S2 S3 S4 S5 S6 S7 S8 S9 Hp]
  · isplitl [S0 S1 S2 S3 S4 S5 S6 S7 S8 S9]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      iexists _; iexact S9
    iexact Hp
  isplitl [Ho]; · iexact Ho
  isplitl [H0]
  · iexists g0
    isplitl []
    · ipureintro; exact e0
    iexact H0
  isplitl [H1]
  · iexists g1
    isplitl []
    · ipureintro; exact e1
    iexact H1
  isplitl [H2]
  · iexists g2
    isplitl []
    · ipureintro; exact e2
    iexact H2
  isplitl [H3]
  · iexists g3
    isplitl []
    · ipureintro; exact e3
    iexact H3
  isplitl [H4]
  · iexists g4
    isplitl []
    · ipureintro; exact e4
    iexact H4
  iexists _; iexists g5'
  isplitl []
  · ipureintro; rfl
  iexact H5

/-- The body table's row at point `t`'s slots is the body as `bodyAt0` spells it. -/
theorem body_row (t : Fin cfg0.N) :
    defs₀ (F := F) .tc cfg0.body (cfg0.bodyArgs t (cfg0.slots t)) = bodyAt0 t := by
  unfold defs₀; rw [Defs.onTc_tc]

/-- The pipeline's obligation of the body, at every point, the output's contents forgotten. -/
theorem body_obligation (c : Dev nD) :
    BodyObligation (dats (F := F) m 0 c) (defs₀ (F := F)) Variants.none () Set.univ forgotten := fun t => by
  rw [bigSep_W0, bigSep_W0, body_row]
  exact triple_restated (sound_body m c t) rfl .rfl fun _ => .rfl

set_option backward.isDefEq.respectTransparency.types false in
/-- The launch: every weakly fair execution ends, every input array as it was and every counter at zero. -/
theorem run_main : θ_run defs (onTc (τ := τ) (main (F := F))) (s₀ m ρ)
    (fun r => RDat.FramePost cfg0 (fun c => (dats m 0 c).toRForget forgotten) (V m) r ∧ r.2.sem = fun _ => 0) :=
  Pipeline.θ_run_frame_forget_shared (Q' := _) cfgs (dats m) (0 : Fin 1) launch₀0 defs₀ Variants.none forgotten m ρ main
    (hbody := fun c => (body_obligation m c).loose) (hq := fun _ _ _ => rfl)
    (howed := fun _ _ => rfl) (V := V m) (hmain := hmain m Variants.none) (hA := A_eq m) (hΦ := fun _ _ => rfl)

/-- The frame of the attention call: from any memory with zero counters every weakly fair execution ends, with both
    argument arrays as they were and every counter at zero. -/
theorem frame_dsa : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨h.1.arr_in c 3 rfl, h.1.arr_in c 4 rfl⟩, h.2⟩) (run_main m ρ)

end Cert.Proof.Kernel

end
-- ==== Proof.RowMath.lean ====
/-
  The mathematics of one row of the feed-forward layer and of the projections, over the extended reals: what the kernels
  and their references are both read as, entry by entry.
-/
module

public import Idealize.ShloMosaic.Lib.Pointwise

@[expose] public section

noncomputable section

namespace Cert.Proof.RowMath

open Idealize.ShloMosaic

/-- Entry `k` of a row `x` of 1024 entries divided by its root mean square: the entry times the reciprocal square root of
    the mean square plus the small constant. -/
def nrm1 (x : Fin 1024 → EReal) (k : Fin 1024) : EReal :=
  x k * Ideal.rsqrt (Ideal.div (∑ k' : Fin 1024, x k' * x k') (Ideal.ofBits .f32 0x44800000#32)
    + Ideal.ofBits .f32 0x358637BD#32)

/-- Entry `k` of a row `x` after RMS normalisation with gain `g`. -/
def nrm (x g : Fin 1024 → EReal) (k : Fin 1024) : EReal := nrm1 x k * g k

/-- The gated unit of one hidden entry: `g · (1 + exp(-g))⁻¹ · u`. -/
def act (g u : EReal) : EReal := Ideal.div g (1 + Ideal.exp (-g)) * u

/-- What 256 hidden entries, with gates `gt` and values `ut`, add to one output entry through their weights `wo`. -/
def chunk (gt ut wo : Fin 256 → EReal) : EReal := ∑ l : Fin 256, act (gt l) (ut l) * wo l

/-- One entry of a product: a row `a` of 1024 entries against a column `w`. -/
def dot (a w : Fin 1024 → EReal) : EReal := ∑ k : Fin 1024, a k * w k

/-- The gelu of one entry, by the hyperbolic tangent of its cubic. -/
def gelu (x : EReal) : EReal :=
  x * (Ideal.ofBits .f32 0x3F000000#32 * (1 + Ideal.tanh (Ideal.ofBits .f32 0x3F4C422A#32
    * (x + Ideal.ofBits .f32 0x3D372713#32 * (x * x * x)))))

/-- The exponential is not negative. -/
theorem exp_nonneg (x : EReal) : 0 ≤ Ideal.exp x := by
  induction x using EReal.rec with
  | bot => exact le_refl _
  | top => exact le_top
  | coe r => exact EReal.coe_nonneg.mpr (Real.exp_pos r).le

/-- One more than an exponential is not zero. -/
theorem one_add_exp_ne (x : EReal) : 1 + Ideal.exp x ≠ 0 := by
  have h : (0 : EReal) < 1 := by norm_num
  exact ne_of_gt (lt_of_lt_of_le h (le_add_of_nonneg_right (exp_nonneg x)))

/-- Multiplying by the reciprocal of one more than an exponential is dividing by it. -/
theorem mul_div_one (g x : EReal) : g * Ideal.div 1 (1 + Ideal.exp x) = Ideal.div g (1 + Ideal.exp x) := by
  unfold Ideal.div
  rw [if_neg (one_add_exp_ne x), if_neg (one_add_exp_ne x), one_mul]

/-- A sum over 2816 entries is the sum of eleven sums over 256 entries each, added from the left. -/
theorem sum_2816 (f : Fin 2816 → EReal) (s : Fin 11 → EReal)
    (hs : ∀ i : Fin 11, s i = ∑ l : Fin 256, f ⟨256 * i.val + l.val, by omega⟩) :
    s 0 + s 1 + s 2 + s 3 + s 4 + s 5 + s 6 + s 7 + s 8 + s 9 + s 10 = ∑ q : Fin 2816, f q := by
  have h : ∑ q : Fin 2816, f q = ∑ i : Fin 11, s i := by
    rw [← Equiv.sum_comp (finProdFinEquiv (m := 11) (n := 256)) f, Fintype.sum_prod_type]
    refine Finset.sum_congr rfl fun i _ => ?_
    rw [hs]
    refine Finset.sum_congr rfl fun l _ => congrArg f (Fin.ext ?_)
    show l.val + 256 * i.val = 256 * i.val + l.val
    omega
  rw [h]
  simp only [Fin.sum_univ_castSucc, Finset.univ_eq_empty, Finset.sum_empty, zero_add]
  rfl

end Cert.Proof.RowMath

end
-- ==== Proof.FfnPay.lean ====
module
public import proofs.«01_k».proof.Proof.Gen.FfnIdeal.Skeleton
public import proofs.«01_k».proof.Proof.RowMath

/-!
  The values the body of the feed-forward kernel computes, each read at one entry of its block.
-/

@[expose] public section
noncomputable section
namespace Cert.Proof.Ffn
open Idealize.ShloMosaic Cert.FfnIdeal Cert.FfnIdeal.Gen Cert.Proof.RowMath

/-- Row `r` of a block of 512 rows. -/
abbrev row (a : S512x1024.Idx → EReal) (r : Fin 512) : Fin 1024 → EReal := fun k => a (ix2 r k)

/-- Entry `k` of a gain held as one row. -/
abbrev gain (g : Vec Ideal S1x1024 .f32) : Fin 1024 → EReal := fun k => g (ix2 0 k)

/-- Entry `(r, l)` of the product of a block of rows with 256 columns. -/
abbrev prod (a : FVec Ideal S512x1024 .bf16) (w : Vec Ideal S1024x256 .bf16) (r : Fin 512) (l : Fin 256) : EReal :=
  dot (row a r) fun k => w (ix2 k l)

/-- What one chunk of 256 hidden entries adds to entry `(r, j)`, its gates already computed. -/
abbrev part (g u : FVec Ideal S512x256 .f32) (wo : Vec Ideal S256x1024 .bf16) (r : Fin 512) (j : Fin 1024) : EReal :=
  chunk (fun l => g (ix2 r l)) (fun l => u (ix2 r l)) fun l => wo (ix2 l j)

/-- The same with its gates and values as the products they are. -/
abbrev full (a : FVec Ideal S512x1024 .bf16) (wg wu : Vec Ideal S1024x256 .bf16) (wo : Vec Ideal S256x1024 .bf16)
    (r : Fin 512) (j : Fin 1024) : EReal :=
  chunk (fun l => prod a wg r l) (fun l => prod a wu r l) fun l => wo (ix2 l j)

theorem pay2_apply (x : Vec Ideal S512x1024 .f32) (g : Vec Ideal S1x1024 .f32) (r : Fin 512) (k : Fin 1024) :
    k0_pay2 (F := Ideal) x g (ix2 r k) = nrm (row x r) (gain g) k := by
  pointwise [k0_pay2, nrm, nrm1]

theorem pay3_apply (x : Vec Ideal S512x1024 .f32) (g : Vec Ideal S1x1024 .f32) (wg wu : Vec Ideal S1024x256 .bf16)
    (wo : Vec Ideal S256x1024 .bf16) (r : Fin 512) (j : Fin 1024) :
    k0_pay3 (F := Ideal) x g wg wu wo (ix2 r j) = full (k0_pay2 x g) wg wu wo r j := by
  pointwise [k0_pay3, act, chunk, dot, zero_sub]

theorem pay4_apply (x : Vec Ideal S512x1024 .f32) (g : Vec Ideal S1x1024 .f32) (w : Vec Ideal S1024x256 .bf16)
    (r : Fin 512) (l : Fin 256) : k0_pay4 (F := Ideal) x g w (ix2 r l) = prod (k0_pay2 x g) w r l := by
  pointwise [k0_pay4, dot]

theorem pay6_apply (a : FVec Ideal S512x1024 .bf16) (w : Vec Ideal S1024x256 .bf16) (r : Fin 512) (l : Fin 256) :
    k0_pay6 (F := Ideal) a w (ix2 r l) = prod a w r l := by
  pointwise [k0_pay6, dot]

theorem pay9_apply (a : FVec Ideal S512x1024 .bf16) (w : Vec Ideal S1024x256 .bf16) (r : Fin 512) (l : Fin 256) :
    k0_pay9 (F := Ideal) a w (ix2 r l) = prod a w r l := by
  pointwise [k0_pay9, dot]

theorem pay10_apply (a : FVec Ideal S512x1024 .bf16) (w : Vec Ideal S1024x256 .bf16) (r : Fin 512) (l : Fin 256) :
    k0_pay10 (F := Ideal) a w (ix2 r l) = prod a w r l := by
  pointwise [k0_pay10, dot]

theorem pay12_apply (a : FVec Ideal S512x1024 .bf16) (w : Vec Ideal S1024x256 .bf16) (r : Fin 512) (l : Fin 256) :
    k0_pay12 (F := Ideal) a w (ix2 r l) = prod a w r l := by
  pointwise [k0_pay12, dot]

theorem pay13_apply (a : FVec Ideal S512x1024 .bf16) (w : Vec Ideal S1024x256 .bf16) (r : Fin 512) (l : Fin 256) :
    k0_pay13 (F := Ideal) a w (ix2 r l) = prod a w r l := by
  pointwise [k0_pay13, dot]

theorem pay16_apply (a : FVec Ideal S512x1024 .bf16) (w : Vec Ideal S1024x256 .bf16) (r : Fin 512) (l : Fin 256) :
    k0_pay16 (F := Ideal) a w (ix2 r l) = prod a w r l := by
  pointwise [k0_pay16, dot]

theorem pay17_apply (a : FVec Ideal S512x1024 .bf16) (w : Vec Ideal S1024x256 .bf16) (r : Fin 512) (l : Fin 256) :
    k0_pay17 (F := Ideal) a w (ix2 r l) = prod a w r l := by
  pointwise [k0_pay17, dot]

theorem pay5_apply (a : FVec Ideal S512x1024 .bf16) (y : FVec Ideal S512x1024 .f32) (g : FVec Ideal S512x256 .f32) (wu : Vec Ideal S1024x256 .bf16) (wo : Vec Ideal S256x1024 .bf16) (wg' wu' : Vec Ideal S1024x256 .bf16) (wo' : Vec Ideal S256x1024 .bf16)
    (r : Fin 512) (j : Fin 1024) :
    k0_pay5 (F := Ideal) a y g wu wo wg' wu' wo' (ix2 r j)
      = y (ix2 r j) + chunk (fun l => g (ix2 r l)) (fun l => prod a wu r l) (fun l => wo (ix2 l j)) + full a wg' wu' wo' r j := by
  pointwise [k0_pay5, act, chunk, dot, zero_sub]

theorem pay8_apply (a : FVec Ideal S512x1024 .bf16) (y : FVec Ideal S512x1024 .f32) (g : FVec Ideal S512x256 .f32) (wu : Vec Ideal S1024x256 .bf16) (wo : Vec Ideal S256x1024 .bf16) (wg' wu' : Vec Ideal S1024x256 .bf16) (wo' : Vec Ideal S256x1024 .bf16)
    (r : Fin 512) (j : Fin 1024) :
    k0_pay8 (F := Ideal) a y g (k0_pay7 wu) wo wg' wu' wo' (ix2 r j)
      = y (ix2 r j) + chunk (fun l => g (ix2 r l)) (fun l => prod a wu r l) (fun l => wo (ix2 l j)) + full a wg' wu' wo' r j := by
  pointwise [k0_pay8, k0_pay7, act, chunk, dot, zero_sub]

theorem pay11_apply (a : FVec Ideal S512x1024 .bf16) (y : FVec Ideal S512x1024 .f32) (g u : FVec Ideal S512x256 .f32) (wo : Vec Ideal S256x1024 .bf16) (wg' wu' : Vec Ideal S1024x256 .bf16) (wo' : Vec Ideal S256x1024 .bf16)
    (r : Fin 512) (j : Fin 1024) :
    k0_pay11 (F := Ideal) a y g u wo wg' wu' wo' (ix2 r j) = y (ix2 r j) + part g u wo r j + full a wg' wu' wo' r j := by
  pointwise [k0_pay11, act, chunk, dot, zero_sub]

theorem pay15_apply (a : FVec Ideal S512x1024 .bf16) (y : FVec Ideal S512x1024 .f32) (g u : FVec Ideal S512x256 .f32) (wo : Vec Ideal S256x1024 .bf16) (wg' wu' : Vec Ideal S1024x256 .bf16) (wo' : Vec Ideal S256x1024 .bf16)
    (r : Fin 512) (j : Fin 1024) :
    k0_pay15 (F := Ideal) a y g u k0_pay14 wo wg' wu' wo' (ix2 r j) = y (ix2 r j) + part g u wo r j + full a wg' wu' wo' r j := by
  pointwise [k0_pay15, k0_pay14, act, chunk, dot, zero_sub]

theorem pay19_apply (a : FVec Ideal S512x1024 .bf16) (y : FVec Ideal S512x1024 .f32) (w : Vec Ideal S1024x256 .bf16) (u : FVec Ideal S512x256 .f32) (wo : Vec Ideal S256x1024 .bf16) (wg' wu' : Vec Ideal S1024x256 .bf16) (wo' : Vec Ideal S256x1024 .bf16)
    (r : Fin 512) (j : Fin 1024) :
    k0_pay19 (F := Ideal) a y (k0_pay16 a w) u (k0_pay18 a w) wo wg' wu' wo' (ix2 r j)
      = nrm1 (fun j => y (ix2 r j) + part (k0_pay16 a w) u wo r j + full a wg' wu' wo' r j) j := by
  pointwise [k0_pay19, k0_pay18, nrm1, act, chunk, dot, zero_sub]

theorem pay20_apply (g : Vec Ideal S1x1024 .f32) (r : Fin 512) (j : Fin 1024) :
    k0_pay20 (F := Ideal) g (ix2 r j) = g (ix2 0 j) := by
  pointwise [k0_pay20]

end Cert.Proof.Ffn
end
-- ==== Proof.FfnBlock.lean ====
module
public import proofs.«01_k».proof.Proof.Gen.FfnIdeal.Frame
public import proofs.«01_k».proof.Proof.FfnPay

/-!
  The block the feed-forward kernel writes at a grid point, entry by entry, from the input windows' blocks.
-/

@[expose] public section
noncomputable section
namespace Cert.Proof.Ffn
open Idealize.ShloMosaic Cert.FfnIdeal Cert.FfnIdeal.Gen Cert.Proof.RowMath

/-- Hidden entry `q` of a normalised row `a`: its gate is column `q` of the input weights, its value column `2816 + q`. -/
def hid (a : Fin 1024 → EReal) (w : S1024x5632.Idx → EReal) (q : Fin 2816) : EReal :=
  act (dot a fun k => w (ix2 k ⟨q.val, by omega⟩)) (dot a fun k => w (ix2 k ⟨2816 + q.val, by omega⟩))

/-- What hidden entries `256 i` to `256 i + 255` add to output entry `j`. -/
def seg (a : Fin 1024 → EReal) (w : S1024x5632.Idx → EReal) (v : S2816x1024.Idx → EReal) (j : Fin 1024) (i : Fin 11) : EReal :=
  ∑ l : Fin 256, hid a w ⟨256 * i.val + l.val, by omega⟩ * v (ix2 ⟨256 * i.val + l.val, by omega⟩ j)

/-- The feed-forward layer of one row `x`: normalise with gain `g`, the gated hidden entries, the output product, normalise
    with gain `h`, add `x`. -/
def ffn (x g : Fin 1024 → EReal) (w : S1024x5632.Idx → EReal) (v : S2816x1024.Idx → EReal) (h : Fin 1024 → EReal)
    (j : Fin 1024) : EReal :=
  x j + nrm (fun j => ∑ q : Fin 2816, hid (nrm x g) w q * v (ix2 q j)) h j

theorem seg0 (a : FVec Ideal S512x1024 .bf16) (w : Vec Ideal S1024x5632 .bf16) (v : Vec Ideal S2816x1024 .bf16)
    (r : Fin 512) (j : Fin 1024) :
    full a (View.ld w r0_2) (View.ld w r0_3) (View.ld v r0_4) r j = seg (row a r) w v j 0 := by
  unfold seg hid full prod dot chunk row
  refine Finset.sum_congr rfl fun l _ => ?_
  refine congrArg₂ (· * ·) (congrArg₂ act (Finset.sum_congr rfl fun k _ => congrArg _ ?_)
    (Finset.sum_congr rfl fun k _ => congrArg _ ?_)) ?_
  · refine congrArg w (funext fun z => Fin.ext ?_)
    match z with
    | ⟨0, _⟩ => show 0 + 1 * k.val = k.val; omega
    | ⟨1, _⟩ => show 0 + 1 * l.val = 256 * 0 + l.val; omega
  · refine congrArg w (funext fun z => Fin.ext ?_)
    match z with
    | ⟨0, _⟩ => show 0 + 1 * k.val = k.val; omega
    | ⟨1, _⟩ => show 2816 + 1 * l.val = 2816 + (256 * 0 + l.val); omega
  · refine congrArg v (funext fun z => Fin.ext ?_)
    match z with
    | ⟨0, _⟩ => show 0 + 1 * l.val = 256 * 0 + l.val; omega
    | ⟨1, _⟩ => show 0 + 1 * j.val = j.val; omega

theorem seg1 (a : FVec Ideal S512x1024 .bf16) (w : Vec Ideal S1024x5632 .bf16) (v : Vec Ideal S2816x1024 .bf16)
    (r : Fin 512) (j : Fin 1024) :
    full a (View.ld w r0_5) (View.ld w r0_6) (View.ld v r0_7) r j = seg (row a r) w v j 1 := by
  unfold seg hid full prod dot chunk row
  refine Finset.sum_congr rfl fun l _ => ?_
  refine congrArg₂ (· * ·) (congrArg₂ act (Finset.sum_congr rfl fun k _ => congrArg _ ?_)
    (Finset.sum_congr rfl fun k _ => congrArg _ ?_)) ?_
  · refine congrArg w (funext fun z => Fin.ext ?_)
    match z with
    | ⟨0, _⟩ => show 0 + 1 * k.val = k.val; omega
    | ⟨1, _⟩ => show 256 + 1 * l.val = 256 * 1 + l.val; omega
  · refine congrArg w (funext fun z => Fin.ext ?_)
    match z with
    | ⟨0, _⟩ => show 0 + 1 * k.val = k.val; omega
    | ⟨1, _⟩ => show 3072 + 1 * l.val = 2816 + (256 * 1 + l.val); omega
  · refine congrArg v (funext fun z => Fin.ext ?_)
    match z with
    | ⟨0, _⟩ => show 256 + 1 * l.val = 256 * 1 + l.val; omega
    | ⟨1, _⟩ => show 0 + 1 * j.val = j.val; omega

theorem seg2 (a : FVec Ideal S512x1024 .bf16) (w : Vec Ideal S1024x5632 .bf16) (v : Vec Ideal S2816x1024 .bf16)
    (r : Fin 512) (j : Fin 1024) :
    full a (View.ld w r0_8) (View.ld w r0_9) (View.ld v r0_10) r j = seg (row a r) w v j 2 := by
  unfold seg hid full prod dot chunk row
  refine Finset.sum_congr rfl fun l _ => ?_
  refine congrArg₂ (· * ·) (congrArg₂ act (Finset.sum_congr rfl fun k _ => congrArg _ ?_)
    (Finset.sum_congr rfl fun k _ => congrArg _ ?_)) ?_
  · refine congrArg w (funext fun z => Fin.ext ?_)
    match z with
    | ⟨0, _⟩ => show 0 + 1 * k.val = k.val; omega
    | ⟨1, _⟩ => show 512 + 1 * l.val = 256 * 2 + l.val; omega
  · refine congrArg w (funext fun z => Fin.ext ?_)
    match z with
    | ⟨0, _⟩ => show 0 + 1 * k.val = k.val; omega
    | ⟨1, _⟩ => show 3328 + 1 * l.val = 2816 + (256 * 2 + l.val); omega
  · refine congrArg v (funext fun z => Fin.ext ?_)
    match z with
    | ⟨0, _⟩ => show 512 + 1 * l.val = 256 * 2 + l.val; omega
    | ⟨1, _⟩ => show 0 + 1 * j.val = j.val; omega

theorem seg3 (a : FVec Ideal S512x1024 .bf16) (w : Vec Ideal S1024x5632 .bf16) (v : Vec Ideal S2816x1024 .bf16)
    (r : Fin 512) (j : Fin 1024) :
    full a (View.ld w r0_11) (View.ld w r0_12) (View.ld v r0_13) r j = seg (row a r) w v j 3 := by
  unfold seg hid full prod dot chunk row
  refine Finset.sum_congr rfl fun l _ => ?_
  refine congrArg₂ (· * ·) (congrArg₂ act (Finset.sum_congr rfl fun k _ => congrArg _ ?_)
    (Finset.sum_congr rfl fun k _ => congrArg _ ?_)) ?_
  · refine congrArg w (funext fun z => Fin.ext ?_)
    match z with
    | ⟨0, _⟩ => show 0 + 1 * k.val = k.val; omega
    | ⟨1, _⟩ => show 768 + 1 * l.val = 256 * 3 + l.val; omega
  · refine congrArg w (funext fun z => Fin.ext ?_)
    match z with
    | ⟨0, _⟩ => show 0 + 1 * k.val = k.val; omega
    | ⟨1, _⟩ => show 3584 + 1 * l.val = 2816 + (256 * 3 + l.val); omega
  · refine congrArg v (funext fun z => Fin.ext ?_)
    match z with
    | ⟨0, _⟩ => show 768 + 1 * l.val = 256 * 3 + l.val; omega
    | ⟨1, _⟩ => show 0 + 1 * j.val = j.val; omega

theorem seg4 (a : FVec Ideal S512x1024 .bf16) (w : Vec Ideal S1024x5632 .bf16) (v : Vec Ideal S2816x1024 .bf16)
    (r : Fin 512) (j : Fin 1024) :
    full a (View.ld w r0_14) (View.ld w r0_15) (View.ld v r0_16) r j = seg (row a r) w v j 4 := by
  unfold seg hid full prod dot chunk row
  refine Finset.sum_congr rfl fun l _ => ?_
  refine congrArg₂ (· * ·) (congrArg₂ act (Finset.sum_congr rfl fun k _ => congrArg _ ?_)
    (Finset.sum_congr rfl fun k _ => congrArg _ ?_)) ?_
  · refine congrArg w (funext fun z => Fin.ext ?_)
    match z with
    | ⟨0, _⟩ => show 0 + 1 * k.val = k.val; omega
    | ⟨1, _⟩ => show 1024 + 1 * l.val = 256 * 4 + l.val; omega
  · refine congrArg w (funext fun z => Fin.ext ?_)
    match z with
    | ⟨0, _⟩ => show 0 + 1 * k.val = k.val; omega
    | ⟨1, _⟩ => show 3840 + 1 * l.val = 2816 + (256 * 4 + l.val); omega
  · refine congrArg v (funext fun z => Fin.ext ?_)
    match z with
    | ⟨0, _⟩ => show 1024 + 1 * l.val = 256 * 4 + l.val; omega
    | ⟨1, _⟩ => show 0 + 1 * j.val = j.val; omega

theorem seg5 (a : FVec Ideal S512x1024 .bf16) (w : Vec Ideal S1024x5632 .bf16) (v : Vec Ideal S2816x1024 .bf16)
    (r : Fin 512) (j : Fin 1024) :
    full a (View.ld w r0_17) (View.ld w r0_18) (View.ld v r0_19) r j = seg (row a r) w v j 5 := by
  unfold seg hid full prod dot chunk row
  refine Finset.sum_congr rfl fun l _ => ?_
  refine congrArg₂ (· * ·) (congrArg₂ act (Finset.sum_congr rfl fun k _ => congrArg _ ?_)
    (Finset.sum_congr rfl fun k _ => congrArg _ ?_)) ?_
  · refine congrArg w (funext fun z => Fin.ext ?_)
    match z with
    | ⟨0, _⟩ => show 0 + 1 * k.val = k.val; omega
    | ⟨1, _⟩ => show 1280 + 1 * l.val = 256 * 5 + l.val; omega
  · refine congrArg w (funext fun z => Fin.ext ?_)
    match z with
    | ⟨0, _⟩ => show 0 + 1 * k.val = k.val; omega
    | ⟨1, _⟩ => show 4096 + 1 * l.val = 2816 + (256 * 5 + l.val); omega
  · refine congrArg v (funext fun z => Fin.ext ?_)
    match z with
    | ⟨0, _⟩ => show 1280 + 1 * l.val = 256 * 5 + l.val; omega
    | ⟨1, _⟩ => show 0 + 1 * j.val = j.val; omega

theorem seg6 (a : FVec Ideal S512x1024 .bf16) (w : Vec Ideal S1024x5632 .bf16) (v : Vec Ideal S2816x1024 .bf16)
    (r : Fin 512) (j : Fin 1024) :
    full a (View.ld w r0_20) (View.ld w r0_21) (View.ld v r0_22) r j = seg (row a r) w v j 6 := by
  unfold seg hid full prod dot chunk row
  refine Finset.sum_congr rfl fun l _ => ?_
  refine congrArg₂ (· * ·) (congrArg₂ act (Finset.sum_congr rfl fun k _ => congrArg _ ?_)
    (Finset.sum_congr rfl fun k _ => congrArg _ ?_)) ?_
  · refine congrArg w (funext fun z => Fin.ext ?_)
    match z with
    | ⟨0, _⟩ => show 0 + 1 * k.val = k.val; omega
    | ⟨1, _⟩ => show 1536 + 1 * l.val = 256 * 6 + l.val; omega
  · refine congrArg w (funext fun z => Fin.ext ?_)
    match z with
    | ⟨0, _⟩ => show 0 + 1 * k.val = k.val; omega
    | ⟨1, _⟩ => show 4352 + 1 * l.val = 2816 + (256 * 6 + l.val); omega
  · refine congrArg v (funext fun z => Fin.ext ?_)
    match z with
    | ⟨0, _⟩ => show 1536 + 1 * l.val = 256 * 6 + l.val; omega
    | ⟨1, _⟩ => show 0 + 1 * j.val = j.val; omega

theorem seg7 (a : FVec Ideal S512x1024 .bf16) (w : Vec Ideal S1024x5632 .bf16) (v : Vec Ideal S2816x1024 .bf16)
    (r : Fin 512) (j : Fin 1024) :
    full a (View.ld w r0_23) (View.ld w r0_24) (View.ld v r0_25) r j = seg (row a r) w v j 7 := by
  unfold seg hid full prod dot chunk row
  refine Finset.sum_congr rfl fun l _ => ?_
  refine congrArg₂ (· * ·) (congrArg₂ act (Finset.sum_congr rfl fun k _ => congrArg _ ?_)
    (Finset.sum_congr rfl fun k _ => congrArg _ ?_)) ?_
  · refine congrArg w (funext fun z => Fin.ext ?_)
    match z with
    | ⟨0, _⟩ => show 0 + 1 * k.val = k.val; omega
    | ⟨1, _⟩ => show 1792 + 1 * l.val = 256 * 7 + l.val; omega
  · refine congrArg w (funext fun z => Fin.ext ?_)
    match z with
    | ⟨0, _⟩ => show 0 + 1 * k.val = k.val; omega
    | ⟨1, _⟩ => show 4608 + 1 * l.val = 2816 + (256 * 7 + l.val); omega
  · refine congrArg v (funext fun z => Fin.ext ?_)
    match z with
    | ⟨0, _⟩ => show 1792 + 1 * l.val = 256 * 7 + l.val; omega
    | ⟨1, _⟩ => show 0 + 1 * j.val = j.val; omega

theorem seg8 (a : FVec Ideal S512x1024 .bf16) (w : Vec Ideal S1024x5632 .bf16) (v : Vec Ideal S2816x1024 .bf16)
    (r : Fin 512) (j : Fin 1024) :
    full a (View.ld w r0_26) (View.ld w r0_27) (View.ld v r0_28) r j = seg (row a r) w v j 8 := by
  unfold seg hid full prod dot chunk row
  refine Finset.sum_congr rfl fun l _ => ?_
  refine congrArg₂ (· * ·) (congrArg₂ act (Finset.sum_congr rfl fun k _ => congrArg _ ?_)
    (Finset.sum_congr rfl fun k _ => congrArg _ ?_)) ?_
  · refine congrArg w (funext fun z => Fin.ext ?_)
    match z with
    | ⟨0, _⟩ => show 0 + 1 * k.val = k.val; omega
    | ⟨1, _⟩ => show 2048 + 1 * l.val = 256 * 8 + l.val; omega
  · refine congrArg w (funext fun z => Fin.ext ?_)
    match z with
    | ⟨0, _⟩ => show 0 + 1 * k.val = k.val; omega
    | ⟨1, _⟩ => show 4864 + 1 * l.val = 2816 + (256 * 8 + l.val); omega
  · refine congrArg v (funext fun z => Fin.ext ?_)
    match z with
    | ⟨0, _⟩ => show 2048 + 1 * l.val = 256 * 8 + l.val; omega
    | ⟨1, _⟩ => show 0 + 1 * j.val = j.val; omega

theorem seg9 (a : FVec Ideal S512x1024 .bf16) (w : Vec Ideal S1024x5632 .bf16) (v : Vec Ideal S2816x1024 .bf16)
    (r : Fin 512) (j : Fin 1024) :
    full a (View.ld w r0_29) (View.ld w r0_30) (View.ld v r0_31) r j = seg (row a r) w v j 9 := by
  unfold seg hid full prod dot chunk row
  refine Finset.sum_congr rfl fun l _ => ?_
  refine congrArg₂ (· * ·) (congrArg₂ act (Finset.sum_congr rfl fun k _ => congrArg _ ?_)
    (Finset.sum_congr rfl fun k _ => congrArg _ ?_)) ?_
  · refine congrArg w (funext fun z => Fin.ext ?_)
    match z with
    | ⟨0, _⟩ => show 0 + 1 * k.val = k.val; omega
    | ⟨1, _⟩ => show 2304 + 1 * l.val = 256 * 9 + l.val; omega
  · refine congrArg w (funext fun z => Fin.ext ?_)
    match z with
    | ⟨0, _⟩ => show 0 + 1 * k.val = k.val; omega
    | ⟨1, _⟩ => show 5120 + 1 * l.val = 2816 + (256 * 9 + l.val); omega
  · refine congrArg v (funext fun z => Fin.ext ?_)
    match z with
    | ⟨0, _⟩ => show 2304 + 1 * l.val = 256 * 9 + l.val; omega
    | ⟨1, _⟩ => show 0 + 1 * j.val = j.val; omega

theorem seg10 (a : FVec Ideal S512x1024 .bf16) (w : Vec Ideal S1024x5632 .bf16) (v : Vec Ideal S2816x1024 .bf16)
    (r : Fin 512) (j : Fin 1024) :
    full a (View.ld w r0_32) (View.ld w r0_33) (View.ld v r0_34) r j = seg (row a r) w v j 10 := by
  unfold seg hid full prod dot chunk row
  refine Finset.sum_congr rfl fun l _ => ?_
  refine congrArg₂ (· * ·) (congrArg₂ act (Finset.sum_congr rfl fun k _ => congrArg _ ?_)
    (Finset.sum_congr rfl fun k _ => congrArg _ ?_)) ?_
  · refine congrArg w (funext fun z => Fin.ext ?_)
    match z with
    | ⟨0, _⟩ => show 0 + 1 * k.val = k.val; omega
    | ⟨1, _⟩ => show 2560 + 1 * l.val = 256 * 10 + l.val; omega
  · refine congrArg w (funext fun z => Fin.ext ?_)
    match z with
    | ⟨0, _⟩ => show 0 + 1 * k.val = k.val; omega
    | ⟨1, _⟩ => show 5376 + 1 * l.val = 2816 + (256 * 10 + l.val); omega
  · refine congrArg v (funext fun z => Fin.ext ?_)
    match z with
    | ⟨0, _⟩ => show 2560 + 1 * l.val = 256 * 10 + l.val; omega
    | ⟨1, _⟩ => show 0 + 1 * j.val = j.val; omega

theorem hz : (![0, 0] : Fin 2 → Nat) = fun _ => 0 := funext fun a => by fin_cases a <;> rfl

/-- Entry `(r, j)` of the block the body leaves is the layer of row `r` of the first input block. -/
theorem out_apply (x0 : Vec Ideal S512x1024 .f32) (x1 : Vec Ideal S1x1024 .f32) (x2 : Vec Ideal S1024x5632 .bf16)
    (x3 : Vec Ideal S2816x1024 .bf16) (x4 : Vec Ideal S1x1024 .f32) (r : Fin 512) (j : Fin 1024) :
    out0_5 (F := Ideal) x0 x1 x2 x3 x4 (ix2 r j) = ffn (row x0 r) (gain x1) x2 x3 (gain x4) j := by
  unfold_out out0_5
  rw [View.canon_unit_zero hz, View.ld_unit_zero hz, View.ld_unit_zero hz, View.ld_unit_zero hz]
  show (x0 (ix2 r j) : EReal) + k0_pay19 (F := Ideal) _ _ _ _ _ _ _ _ _ (ix2 r j) * k0_pay20 (F := Ideal) x4 (ix2 r j) = _
  rw [pay19_apply, pay20_apply]
  have hn : row (k0_pay2 (F := Ideal) x0 x1) r = nrm (row x0 r) (gain x1) := funext fun k => pay2_apply x0 x1 r k
  unfold ffn nrm
  refine congrArg (fun f : Fin 1024 → EReal => x0 (ix2 r j) + nrm1 f j * x4 (ix2 0 j)) (funext fun j => ?_)
  simp only [pay15_apply, pay11_apply, pay8_apply, pay5_apply, pay3_apply, pay4_apply, pay6_apply, pay9_apply, pay10_apply,
    pay12_apply, pay13_apply, pay16_apply, pay17_apply]
  have hs := sum_2816 (fun q => hid (nrm (row x0 r) (gain x1)) x2 q * x3 (ix2 q j)) (seg (nrm (row x0 r) (gain x1)) x2 x3 j) (fun _ => rfl)
  refine Eq.trans ?_ hs
  rw [← hn]
  rw [← seg0, ← seg1, ← seg2, ← seg3, ← seg4, ← seg5, ← seg6, ← seg7, ← seg8, ← seg9, ← seg10]
  simp only [part, full, pay9_apply, pay10_apply, pay12_apply, pay13_apply, pay16_apply, pay17_apply]

end Cert.Proof.Ffn
end
-- ==== Proof.FfnValue.lean ====
module
public import proofs.«01_k».proof.Proof.Gen.FfnIdeal.Value
public import proofs.«01_k».proof.Proof.FfnBlock
public import Idealize.ShloMosaic.Lib.StableHlo.ReadAt

/-!
  The feed-forward kernel's result array after its run, as one function of the argument arrays: every row is the layer of
  the same row of the input.
-/

@[expose] public section
noncomputable section
namespace Cert.Proof.Ffn
open Idealize.ShloMosaic Idealize.ShloMosaic.TcCoe Idealize.SL.Sem Cert.FfnIdeal Cert.FfnIdeal.Gen Cert.Proof.RowMath

/-- The feed-forward layer of all rows: entry `(r, j)` is the layer of row `r` at entry `j`. -/
def G (x : S32768x1024.Idx → EReal) (g : S1024.Idx → EReal) (w : S1024x5632.Idx → EReal) (v : S2816x1024.Idx → EReal)
    (h : S1024.Idx → EReal) : S32768x1024.Idx → EReal := fun i =>
  ffn (fun k => x (ix2 (i 0) k)) (fun k => g (ix1 k)) w v (fun k => h (ix1 k)) (i 1)

variable (m : (ℓ : Loc nD τ sig) → Buf (Elt Ideal) ℓ) (ρ : Dev nD → PrngReg)

/-- The host's row of the first gain, read at an entry. -/
theorem V_v0 (c : Dev nD) (k : Fin 1024) :
    V (F := Ideal) m c main_v0 (ix2 0 k) = m ((c : Thread nD τ).loc main_arg1) (ix1 k) := by
  unfold V
  after_reads_at

/-- The host's row of the second gain, read at an entry. -/
theorem V_v3 (c : Dev nD) (k : Fin 1024) :
    V (F := Ideal) m c main_v3 (ix2 0 k) = m ((c : Thread nD τ).loc main_arg4) (ix1 k) := by
  unfold V
  after_reads_at

/-- The host's conversion of the input weights, read at an entry: the weights. -/
theorem V_v1 (c : Dev nD) (k : Fin 1024) (q : Fin 5632) :
    V (F := Ideal) m c main_v1 (ix2 k q) = m ((c : Thread nD τ).loc main_arg2) (ix2 k q) := by
  unfold V
  after_reads_at

/-- The host's conversion of the output weights, read at an entry: the weights. -/
theorem V_v2 (c : Dev nD) (q : Fin 2816) (k : Fin 1024) :
    V (F := Ideal) m c main_v2 (ix2 q k) = m ((c : Thread nD τ).loc main_arg3) (ix2 q k) := by
  unfold V
  after_reads_at

/-- The block indices of the windows: the rows' windows move with the point, the others stay. -/
theorem idx (t : Fin cfg0.N) : (win0_0.index t 0 = t.val ∧ win0_0.index t 1 = 0) ∧ (win0_5.index t 0 = t.val ∧ win0_5.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) :=
  (by decide +kernel : ∀ t : Fin grid0.N, (win0_0.index t 0 = t.val ∧ win0_0.index t 1 = 0) ∧ (win0_5.index t 0 = t.val ∧ win0_5.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)) t

theorem lt64 (t : Fin cfg0.N) : t.val < 64 := t.isLt

/-- Row `r` of point `t`'s blocks as a row of the arrays. -/
def at512 (t : Fin cfg0.N) (r : Fin 512) : Fin 32768 := ⟨t.val * 512 + r.val, by have := lt64 t; omega⟩

theorem emb0 (t : Fin cfg0.N) (r : Fin 512) (k : Fin 1024) :
    ((cfg0.win 0).blk t).view.emb (ix2 r k) = (ix2 (at512 t r) k : S32768x1024.Idx) := by
  have e := (idx t).1
  funext a; apply Fin.ext
  match a with
  | ⟨0, _⟩ => show win0_0.index t 0 * 512 + 1 * r.val = t.val * 512 + r.val; rw [e.1]; omega
  | ⟨1, _⟩ => show win0_0.index t 1 * 1024 + 1 * k.val = k.val; rw [e.2]; omega

theorem emb5 (t : Fin cfg0.N) (r : Fin 512) (k : Fin 1024) :
    ((cfg0.win 5).blk t).view.emb (ix2 r k) = (ix2 (at512 t r) k : S32768x1024.Idx) := by
  have e := (idx t).2.1
  funext a; apply Fin.ext
  match a with
  | ⟨0, _⟩ => show win0_5.index t 0 * 512 + 1 * r.val = t.val * 512 + r.val; rw [e.1]; omega
  | ⟨1, _⟩ => show win0_5.index t 1 * 1024 + 1 * k.val = k.val; rw [e.2]; omega

theorem emb1 (t : Fin cfg0.N) (j : S1x1024.Idx) : ((cfg0.win 1).blk t).view.emb j = j := by
  have e := (idx t).2.2.1
  funext a; apply Fin.ext
  match a with
  | ⟨0, _⟩ => show win0_1.index t 0 * 1 + 1 * (j 0).val = (j 0).val; rw [e.1]; omega
  | ⟨1, _⟩ => show win0_1.index t 1 * 1024 + 1 * (j 1).val = (j 1).val; rw [e.2]; omega

theorem emb2 (t : Fin cfg0.N) (j : S1024x5632.Idx) : ((cfg0.win 2).blk t).view.emb j = j := by
  have e := (idx t).2.2.2.1
  funext a; apply Fin.ext
  match a with
  | ⟨0, _⟩ => show win0_2.index t 0 * 1024 + 1 * (j 0).val = (j 0).val; rw [e.1]; omega
  | ⟨1, _⟩ => show win0_2.index t 1 * 5632 + 1 * (j 1).val = (j 1).val; rw [e.2]; omega

theorem emb3 (t : Fin cfg0.N) (j : S2816x1024.Idx) : ((cfg0.win 3).blk t).view.emb j = j := by
  have e := (idx t).2.2.2.2.1
  funext a; apply Fin.ext
  match a with
  | ⟨0, _⟩ => show win0_3.index t 0 * 2816 + 1 * (j 0).val = (j 0).val; rw [e.1]; omega
  | ⟨1, _⟩ => show win0_3.index t 1 * 1024 + 1 * (j 1).val = (j 1).val; rw [e.2]; omega

theorem emb4 (t : Fin cfg0.N) (j : S1x1024.Idx) : ((cfg0.win 4).blk t).view.emb j = j := by
  have e := (idx t).2.2.2.2.2
  funext a; apply Fin.ext
  match a with
  | ⟨0, _⟩ => show win0_4.index t 0 * 1 + 1 * (j 0).val = (j 0).val; rw [e.1]; omega
  | ⟨1, _⟩ => show win0_4.index t 1 * 1024 + 1 * (j 1).val = (j 1).val; rw [e.2]; omega

/-- The result array as the layer of the argument arrays. -/
abbrev res (c : Dev nD) : Buf (Elt Ideal) ((c : Thread nD τ).loc main_v4) :=
  G (m ((c : Thread nD τ).loc main_arg0)) (m ((c : Thread nD τ).loc main_arg1)) (m ((c : Thread nD τ).loc main_arg2))
    (m ((c : Thread nD τ).loc main_arg3)) (m ((c : Thread nD τ).loc main_arg4))

theorem blk0 (c : Dev nD) (t : Fin cfg0.N) (r : Fin 512) :
    row (iblk m c 0 t) r = fun k => m ((c : Thread nD τ).loc main_arg0) (ix2 (at512 t r) k) := by
  funext k
  show V m c main_arg0 (((cfg0.win 0).blk t).view.emb (ix2 r k)) = _
  rw [emb0, V_main_arg0]

theorem blk1 (c : Dev nD) (t : Fin cfg0.N) : gain (iblk m c 1 t) = fun k => m ((c : Thread nD τ).loc main_arg1) (ix1 k) := by
  funext k
  show V m c main_v0 (((cfg0.win 1).blk t).view.emb (ix2 0 k)) = _
  rw [emb1, V_v0]

theorem blk2 (c : Dev nD) (t : Fin cfg0.N) :
    (iblk m c 2 t : S1024x5632.Idx → EReal) = m ((c : Thread nD τ).loc main_arg2) := by
  funext k
  show V m c main_v1 (((cfg0.win 2).blk t).view.emb k) = _
  rw [emb2]
  obtain ⟨a, b, rfl⟩ : ∃ (a : Fin 1024) (b : Fin 5632), k = ix2 a b := ⟨k 0, k 1, eq_ix2 k⟩
  exact V_v1 m c a b

theorem blk3 (c : Dev nD) (t : Fin cfg0.N) :
    (iblk m c 3 t : S2816x1024.Idx → EReal) = m ((c : Thread nD τ).loc main_arg3) := by
  funext k
  show V m c main_v2 (((cfg0.win 3).blk t).view.emb k) = _
  rw [emb3]
  obtain ⟨a, b, rfl⟩ : ∃ (a : Fin 2816) (b : Fin 1024), k = ix2 a b := ⟨k 0, k 1, eq_ix2 k⟩
  exact V_v2 m c a b

theorem blk4 (c : Dev nD) (t : Fin cfg0.N) : gain (iblk m c 4 t) = fun k => m ((c : Thread nD τ).loc main_arg4) (ix1 k) := by
  funext k
  show V m c main_v3 (((cfg0.win 4).blk t).view.emb (ix2 0 k)) = _
  rw [emb4, V_v3]

/-- What point `t` writes back is block `t` of the layer of the argument arrays. -/
theorem flushed_eq (c : Dev nD) (t : Fin cfg0.N) :
    (dats m 0 c).flushed 5 t = ((cfg0.win 5).blk t).view.read (Elt Ideal) (res m c) := by
  rw [Cert.FfnIdeal.Value.flushed5]
  funext y
  obtain ⟨r, j, rfl⟩ : ∃ (r : Fin 512) (j : Fin 1024), y = ix2 r j := ⟨y 0, y 1, eq_ix2 y⟩
  show out0_5 (F := Ideal) (iblk m c 0 t) (iblk m c 1 t) (iblk m c 2 t) (iblk m c 3 t) (iblk m c 4 t) (ix2 r j)
    = res m c (((cfg0.win 5).blk t).view.emb (ix2 r j))
  rw [emb5, out_apply, blk0, blk1, blk4, blk2, blk3]
  rfl

/-- Every entry of the result is in the block of the point its row falls to. -/
theorem covered (i : S32768x1024.Idx) : ∃ t : Fin cfg0.N, (cfg0.win 5).flush t = true ∧ i ∈ ((cfg0.win 5).blk t).view.set := by
  obtain ⟨q, j, rfl⟩ : ∃ (q : Fin 32768) (j : Fin 1024), i = ix2 q j := ⟨i 0, i 1, eq_ix2 i⟩
  have ht : q.val / 512 < cfg0.N := by show q.val / 512 < 64; omega
  refine ⟨⟨q.val / 512, ht⟩, flush0_5 _, ?_⟩
  have h := ((cfg0.win 5).blk ⟨q.val / 512, ht⟩).view.emb_mem_set (ix2 (⟨q.val % 512, by omega⟩ : Fin 512) j)
  have e : at512 ⟨q.val / 512, ht⟩ ⟨q.val % 512, by omega⟩ = q := Fin.ext (by
    show q.val / 512 * 512 + q.val % 512 = q.val; omega)
  rwa [emb5, e] at h

/-- The result array after the run is the layer of the argument arrays. -/
theorem final (c : Dev nD) : (dats m 0 c).arrAt 5 cfg0.N = res m c :=
  (dats m 0 c).arrAt_eq_of_cover 5 (res m c) (fun t _ => flushed_eq m c t) covered

/-- The run of the kernel, its result array the layer of the argument arrays and those unchanged. -/
theorem run : θ_run defs (onTc (τ := τ) (main (F := Ideal))) ⟨m, fun _ => 0, ρ⟩ fun r => ∀ c : Dev nD,
      r.2.mem ((c : Thread nD τ).loc main_v4) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Cert.FfnIdeal.Value.run_blocks m ρ)

end Cert.Proof.Ffn
end
-- ==== Proof.FfnRef.lean ====
module
public import proofs.«01_k».proof.Proof.Gen.FfnReferenceIdeal.Run
public import proofs.«01_k».proof.Proof.FfnValue
public import Idealize.ShloMosaic.Lib.Tactic.CleanTypes

/-!
  The feed-forward reference's result, as the same function of the argument arrays.
-/

@[expose] public section
noncomputable section
namespace Cert.Proof.FfnRef
open Idealize.ShloMosaic Idealize.ShloMosaic.TcCoe Cert.FfnReferenceIdeal Cert.FfnReferenceIdeal.Value Cert.Proof.RowMath

variable (m : (ℓ : Loc nD τ sig) → Buf (Elt Ideal) ℓ)

/-- The reference's result is the layer of all rows. -/
theorem res_eq (c : Dev nD) : res_out0 (F := Ideal) m c
    = Ffn.G (m ((c : Thread nD τ).loc main_arg0)) (m ((c : Thread nD τ).loc main_arg1)) (m ((c : Thread nD τ).loc main_arg2))
        (m ((c : Thread nD τ).loc main_arg3)) (m ((c : Thread nD τ).loc main_arg4)) := by
  funext i
  obtain ⟨r, j, rfl⟩ : ∃ (r : Fin 32768) (j : Fin 1024), i = ix2 r j := ⟨i 0, i 1, eq_ix2 i⟩
  unfold res_out0 res_main_v32
  clean_types
  pointwise [Ffn.G, Ffn.ffn, Ffn.hid, nrm, nrm1, act, dot]
  simp only [mul_div_one]

end Cert.Proof.FfnRef
end
-- ==== Proof.FfnAlg.lean ====
module
public import proofs.«01_k».proof.Defs
public import proofs.«01_k».proof.Proof.FfnRef

/-!
  The feed-forward kernel and its reference leave the same result array.
-/

@[expose] public section
noncomputable section
namespace Cert.Proof.FfnRef
open Idealize.ShloMosaic Idealize.ShloMosaic.TcCoe Idealize.SL.Sem

/-- From the same arguments, at the ideal instance, the kernel and the reference leave the same result. -/
theorem algebraic (hK : Cert.FfnIdeal.Facts) (hR : Cert.FfnReferenceIdeal.Facts) :
    Cert.algebraic_FfnIdeal_FfnReferenceIdeal (hFfnIdeal := hK) (hFfnReferenceIdeal := hR) := by
  intro m g m' g' _ hargs
  refine ⟨fun c => Cert.Proof.Ffn.res m c, Cert.Proof.Ffn.run m g, ?_⟩
  refine (θ_run Cert.FfnReferenceIdeal.defs _ _).mono (fun _ h c => ⟨(h c).1.trans ?_, (h c).2⟩)
    (Cert.FfnReferenceIdeal.Value.run (F := Ideal) m' g')
  obtain ⟨e0, e1, e2, e3, e4⟩ := hargs c
  refine (res_eq m' c).trans ?_
  show _ = Cert.Proof.Ffn.res m c
  unfold Cert.Proof.Ffn.res
  rw [← e0, ← e1, ← e2, ← e3, ← e4]

end Cert.Proof.FfnRef
end
-- ==== Proof.OddInBlock.lean ====
module
public import proofs.«01_k».proof.Proof.Gen.OddInIdeal.Frame
public import proofs.«01_k».proof.Proof.RowMath

/-!
  The block that an odd layer's input projection writes at a grid point, entry by entry, from the input windows' blocks.
-/

@[expose] public section
noncomputable section
namespace Cert.Proof.OddIn
open Idealize.ShloMosaic Cert.OddInIdeal Cert.OddInIdeal.Gen Cert.Proof.RowMath

/-- Entry `j` of the projection of one normalised row `x`. -/
def proj (x g : Fin 1024 → EReal) (w : S1024x4096.Idx → EReal) (j : Fin 4096) : EReal :=
  gelu (dot (nrm x g) fun k => w (ix2 k j))

variable (x0 : Vec Ideal S512x1024 .f32) (x1 : Vec Ideal S1x1024 .f32) (x2 : Vec Ideal S1024x4096 .bf16)

/-- The normalised rows of a block. -/
theorem pay2_apply (r : Fin 512) (k : Fin 1024) :
    k0_pay2 (F := Ideal) x0 x1 (ix2 r k) = nrm (fun k => x0 (ix2 r k)) (fun k => x1 (ix2 0 k)) k := by
  pointwise [k0_pay2, nrm, nrm1]

theorem hz : (![0, 0] : Fin 2 → Nat) = fun _ => 0 := funext fun a => by fin_cases a <;> rfl

theorem piece0 (r : Fin 512) (j : Fin 1024) :
    k0_pay3 (F := Ideal) x0 x1 (View.ld x2 r0_2) (ix2 r j)
      = proj (fun k => x0 (ix2 r k)) (fun k => x1 (ix2 0 k)) x2 ⟨0 + j.val, by omega⟩ := by
  pointwise [k0_pay3, pay2_apply, proj, gelu, dot]

theorem piece1024 (r : Fin 512) (j : Fin 1024) :
    k0_pay6 (F := Ideal) (k0_pay4 x0 x1 (View.ld x2 r0_4)) (k0_pay5 x0 x1 (View.ld x2 r0_4)) (ix2 r j)
      = proj (fun k => x0 (ix2 r k)) (fun k => x1 (ix2 0 k)) x2 ⟨1024 + j.val, by omega⟩ := by
  pointwise [k0_pay6, k0_pay4, k0_pay5, pay2_apply, proj, gelu, dot]

theorem piece2048 (r : Fin 512) (j : Fin 1024) :
    k0_pay7 (F := Ideal) (k0_pay2 x0 x1) (View.ld x2 r0_6) (ix2 r j)
      = proj (fun k => x0 (ix2 r k)) (fun k => x1 (ix2 0 k)) x2 ⟨2048 + j.val, by omega⟩ := by
  pointwise [k0_pay7, pay2_apply, proj, gelu, dot]

theorem piece3072 (r : Fin 512) (j : Fin 1024) :
    k0_pay1 (F := Ideal) (k0_pay8 (k0_pay2 x0 x1) (View.ld x2 r0_8)) (k0_pay9 (k0_pay2 x0 x1) (View.ld x2 r0_8)) (ix2 r j)
      = proj (fun k => x0 (ix2 r k)) (fun k => x1 (ix2 0 k)) x2 ⟨3072 + j.val, by omega⟩ := by
  pointwise [k0_pay1, k0_pay8, k0_pay9, pay2_apply, proj, gelu, dot]

/-- The projection of the rows of a block. -/
abbrev block : Vec Ideal S512x4096 .bf16 := fun y =>
  proj (fun k => x0 (ix2 (y 0) k)) (fun k => x1 (ix2 0 k)) x2 (y 1)

/-- Entry `(r, j)` of the block the body leaves is the projection of row `r` of the first input block. -/
theorem out_apply (y : S512x4096.Idx) :
    out0_3 (F := Ideal) x0 x1 x2 y = proj (fun k => x0 (ix2 (y 0) k)) (fun k => x1 (ix2 0 k)) x2 (y 1) := by
  unfold_out out0_3
  rw [View.ld_unit_zero hz, View.ld_unit_zero hz]
  refine View.canon_apply_of_pieces (block x0 x1 x2) _ ?_ y (cover0_3 _ _ _ _ y)
  intro pc hpc
  rcases List.mem_cons.mp hpc with rfl | hpc
  · intro x
    obtain ⟨r, j, rfl⟩ : ∃ (r : Fin 512) (j : Fin 1024), x = ix2 r j := ⟨x 0, x 1, eq_ix2 x⟩
    refine (piece3072 x0 x1 x2 r j).trans ?_
    exact congrArg₂ (fun r j => proj (fun k => x0 (ix2 r k)) (fun k => x1 (ix2 0 k)) x2 j)
      (Fin.ext (by show r.val = 0 + 1 * r.val; omega)) (Fin.ext (by show 3072 + j.val = 3072 + 1 * j.val; omega))
  rcases List.mem_cons.mp hpc with rfl | hpc
  · intro x
    obtain ⟨r, j, rfl⟩ : ∃ (r : Fin 512) (j : Fin 1024), x = ix2 r j := ⟨x 0, x 1, eq_ix2 x⟩
    refine (piece2048 x0 x1 x2 r j).trans ?_
    exact congrArg₂ (fun r j => proj (fun k => x0 (ix2 r k)) (fun k => x1 (ix2 0 k)) x2 j)
      (Fin.ext (by show r.val = 0 + 1 * r.val; omega)) (Fin.ext (by show 2048 + j.val = 2048 + 1 * j.val; omega))
  rcases List.mem_cons.mp hpc with rfl | hpc
  · intro x
    obtain ⟨r, j, rfl⟩ : ∃ (r : Fin 512) (j : Fin 1024), x = ix2 r j := ⟨x 0, x 1, eq_ix2 x⟩
    refine (piece1024 x0 x1 x2 r j).trans ?_
    exact congrArg₂ (fun r j => proj (fun k => x0 (ix2 r k)) (fun k => x1 (ix2 0 k)) x2 j)
      (Fin.ext (by show r.val = 0 + 1 * r.val; omega)) (Fin.ext (by show 1024 + j.val = 1024 + 1 * j.val; omega))
  rcases List.mem_cons.mp hpc with rfl | hpc
  · intro x
    obtain ⟨r, j, rfl⟩ : ∃ (r : Fin 512) (j : Fin 1024), x = ix2 r j := ⟨x 0, x 1, eq_ix2 x⟩
    refine (piece0 x0 x1 x2 r j).trans ?_
    exact congrArg₂ (fun r j => proj (fun k => x0 (ix2 r k)) (fun k => x1 (ix2 0 k)) x2 j)
      (Fin.ext (by show r.val = 0 + 1 * r.val; omega)) (Fin.ext (by show 0 + j.val = 0 + 1 * j.val; omega))
  nomatch hpc

end Cert.Proof.OddIn
end
-- ==== Proof.OddInValue.lean ====
module
public import proofs.«01_k».proof.Proof.Gen.OddInIdeal.Value
public import proofs.«01_k».proof.Proof.Gen.OddInReferenceIdeal.Run
public import proofs.«01_k».proof.Proof.OddInBlock
public import proofs.«01_k».proof.Defs
public import Idealize.ShloMosaic.Lib.StableHlo.ReadAt
public import Idealize.ShloMosaic.Lib.Tactic.CleanTypes

/-!
  An odd layer's input projection: the kernel's result array after its run, and the reference's, as one function of the
  argument arrays.
-/

@[expose] public section
noncomputable section
namespace Cert.Proof.OddIn
open Idealize.ShloMosaic Idealize.ShloMosaic.TcCoe Idealize.SL.Sem Cert.OddInIdeal Cert.OddInIdeal.Gen Cert.Proof.RowMath

/-- The projection of all rows: entry `(r, j)` is the projection of row `r` at entry `j`. -/
def G (x : S32768x1024.Idx → EReal) (g : S1024.Idx → EReal) (w : S1024x4096.Idx → EReal) : S32768x4096.Idx → EReal := fun i =>
  proj (fun k => x (ix2 (i 0) k)) (fun k => g (ix1 k)) w (i 1)

variable (m : (ℓ : Loc nD τ sig) → Buf (Elt Ideal) ℓ) (ρ : Dev nD → PrngReg)

/-- The host's row of the gain, read at an entry. -/
theorem V_v0 (c : Dev nD) (k : Fin 1024) :
    V (F := Ideal) m c main_v0 (ix2 0 k) = m ((c : Thread nD τ).loc main_arg1) (ix1 k) := by
  unfold V
  after_reads_at

/-- The host's conversion of the weights, read at an entry: the weights. -/
theorem V_v1 (c : Dev nD) (k : Fin 1024) (q : Fin 4096) :
    V (F := Ideal) m c main_v1 (ix2 k q) = m ((c : Thread nD τ).loc main_arg2) (ix2 k q) := by
  unfold V
  after_reads_at

/-- Row `r` of point `t`'s blocks as a row of the arrays. -/
def rowAt (t : Fin cfg0.N) (r : Fin 512) : Fin 32768 :=
  ⟨t.val * 512 + r.val, by have h : t.val < 64 := t.isLt; omega⟩

/-- The block index of window 0 at point `t`. -/
theorem idx0 (t : Fin cfg0.N) : win0_0.index t 0 = t.val ∧ win0_0.index t 1 = 0 :=
  (by decide +kernel : ∀ t : Fin grid0.N, win0_0.index t 0 = t.val ∧ win0_0.index t 1 = 0) t

theorem emb0 (t : Fin cfg0.N) (r : Fin 512) (k : Fin 1024) :
    ((cfg0.win 0).blk t).view.emb (ix2 r k) = (ix2 (rowAt t r) k : S32768x1024.Idx) := by
  have e := idx0 t
  funext a; apply Fin.ext
  match a with
  | ⟨0, _⟩ => show win0_0.index t 0 * 512 + 1 * r.val = t.val * 512 + r.val; rw [e.1]; omega
  | ⟨1, _⟩ => show win0_0.index t 1 * 1024 + 1 * k.val = k.val; rw [e.2]; omega

/-- The block index of window 1 at point `t`. -/
theorem idx1 (t : Fin cfg0.N) : win0_1.index t 0 = 0 ∧ win0_1.index t 1 = 0 :=
  (by decide +kernel : ∀ t : Fin grid0.N, win0_1.index t 0 = 0 ∧ win0_1.index t 1 = 0) t

theorem emb1 (t : Fin cfg0.N) (r : Fin 1) (k : Fin 1024) :
    ((cfg0.win 1).blk t).view.emb (ix2 r k) = (ix2 r k : S1x1024.Idx) := by
  have e := idx1 t
  funext a; apply Fin.ext
  match a with
  | ⟨0, _⟩ => show win0_1.index t 0 * 1 + 1 * r.val = r.val; rw [e.1]; omega
  | ⟨1, _⟩ => show win0_1.index t 1 * 1024 + 1 * k.val = k.val; rw [e.2]; omega

/-- The block index of window 2 at point `t`. -/
theorem idx2 (t : Fin cfg0.N) : win0_2.index t 0 = 0 ∧ win0_2.index t 1 = 0 :=
  (by decide +kernel : ∀ t : Fin grid0.N, win0_2.index t 0 = 0 ∧ win0_2.index t 1 = 0) t

theorem emb2 (t : Fin cfg0.N) (r : Fin 1024) (k : Fin 4096) :
    ((cfg0.win 2).blk t).view.emb (ix2 r k) = (ix2 r k : S1024x4096.Idx) := by
  have e := idx2 t
  funext a; apply Fin.ext
  match a with
  | ⟨0, _⟩ => show win0_2.index t 0 * 1024 + 1 * r.val = r.val; rw [e.1]; omega
  | ⟨1, _⟩ => show win0_2.index t 1 * 4096 + 1 * k.val = k.val; rw [e.2]; omega

/-- The block index of window 3 at point `t`. -/
theorem idx3 (t : Fin cfg0.N) : win0_3.index t 0 = t.val ∧ win0_3.index t 1 = 0 :=
  (by decide +kernel : ∀ t : Fin grid0.N, win0_3.index t 0 = t.val ∧ win0_3.index t 1 = 0) t

theorem emb3 (t : Fin cfg0.N) (r : Fin 512) (k : Fin 4096) :
    ((cfg0.win 3).blk t).view.emb (ix2 r k) = (ix2 (rowAt t r) k : S32768x4096.Idx) := by
  have e := idx3 t
  funext a; apply Fin.ext
  match a with
  | ⟨0, _⟩ => show win0_3.index t 0 * 512 + 1 * r.val = t.val * 512 + r.val; rw [e.1]; omega
  | ⟨1, _⟩ => show win0_3.index t 1 * 4096 + 1 * k.val = k.val; rw [e.2]; omega

/-- The result array as the projection of the argument arrays. -/
abbrev res (c : Dev nD) : Buf (Elt Ideal) ((c : Thread nD τ).loc main_v2) :=
  G (m ((c : Thread nD τ).loc main_arg0)) (m ((c : Thread nD τ).loc main_arg1)) (m ((c : Thread nD τ).loc main_arg2))

theorem blk0 (c : Dev nD) (t : Fin cfg0.N) (r : Fin 512) (k : Fin 1024) :
    (iblk m c 0 t : S512x1024.Idx → EReal) (ix2 r k) = m ((c : Thread nD τ).loc main_arg0) (ix2 (rowAt t r) k) := by
  show V m c main_arg0 (((cfg0.win 0).blk t).view.emb (ix2 r k)) = _
  rw [emb0, V_main_arg0]

theorem blk1 (c : Dev nD) (t : Fin cfg0.N) (k : Fin 1024) :
    (iblk m c 1 t : S1x1024.Idx → EReal) (ix2 0 k) = m ((c : Thread nD τ).loc main_arg1) (ix1 k) := by
  show V m c main_v0 (((cfg0.win 1).blk t).view.emb (ix2 0 k)) = _
  rw [emb1, V_v0]

theorem blk2 (c : Dev nD) (t : Fin cfg0.N) :
    (iblk m c 2 t : S1024x4096.Idx → EReal) = m ((c : Thread nD τ).loc main_arg2) := by
  funext k
  obtain ⟨a, b, rfl⟩ : ∃ (a : Fin 1024) (b : Fin 4096), k = ix2 a b := ⟨k 0, k 1, eq_ix2 k⟩
  show V m c main_v1 (((cfg0.win 2).blk t).view.emb (ix2 a b)) = _
  rw [emb2, V_v1]

/-- What point `t` writes back is block `t` of the projection of the argument arrays. -/
theorem flushed_eq (c : Dev nD) (t : Fin cfg0.N) :
    (dats m 0 c).flushed 3 t = ((cfg0.win 3).blk t).view.read (Elt Ideal) (res m c) := by
  rw [Cert.OddInIdeal.Value.flushed3]
  funext y
  obtain ⟨r, j, rfl⟩ : ∃ (r : Fin 512) (j : Fin 4096), y = ix2 r j := ⟨y 0, y 1, eq_ix2 y⟩
  show out0_3 (F := Ideal) (iblk m c 0 t) (iblk m c 1 t) (iblk m c 2 t) (ix2 r j)
    = res m c (((cfg0.win 3).blk t).view.emb (ix2 r j))
  rw [emb3, out_apply, blk2]
  show proj (fun k => (iblk m c 0 t : S512x1024.Idx → EReal) (ix2 r k)) (fun k => (iblk m c 1 t : S1x1024.Idx → EReal) (ix2 0 k)) _ j = _
  simp only [blk0, blk1]
  rfl

/-- Every entry of the result is in the block of the point its row falls to. -/
theorem covered (i : S32768x4096.Idx) :
    ∃ t : Fin cfg0.N, (cfg0.win 3).flush t = true ∧ i ∈ ((cfg0.win 3).blk t).view.set := by
  obtain ⟨q, j, rfl⟩ : ∃ (q : Fin 32768) (j : Fin 4096), i = ix2 q j := ⟨i 0, i 1, eq_ix2 i⟩
  have ht : q.val / 512 < cfg0.N := by show q.val / 512 < 64; omega
  refine ⟨⟨q.val / 512, ht⟩, flush0_3 _, ?_⟩
  have h := ((cfg0.win 3).blk ⟨q.val / 512, ht⟩).view.emb_mem_set (ix2 (⟨q.val % 512, by omega⟩ : Fin 512) j)
  have e : rowAt ⟨q.val / 512, ht⟩ ⟨q.val % 512, by omega⟩ = q := Fin.ext (by
    show q.val / 512 * 512 + q.val % 512 = q.val; omega)
  rwa [emb3, e] at h

/-- The result array after the run is the projection of the argument arrays. -/
theorem final (c : Dev nD) : (dats m 0 c).arrAt 3 cfg0.N = res m c :=
  (dats m 0 c).arrAt_eq_of_cover 3 (res m c) (fun t _ => flushed_eq m c t) covered

/-- The run of the kernel, its result arrays those functions of the arguments, which are unchanged. -/
theorem run : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.OddInIdeal.Value.run_blocks m ρ)

/-- The reference's result is the projection of all rows. -/
theorem ref_eq (m : (ℓ : Loc OddInReferenceIdeal.nD OddInReferenceIdeal.τ OddInReferenceIdeal.sig) → Buf (Elt Ideal) ℓ)
    (c : Dev OddInReferenceIdeal.nD) : OddInReferenceIdeal.Value.res_out0 (F := Ideal) m c
    = G (m ((c.tc : Thread OddInReferenceIdeal.nD OddInReferenceIdeal.τ).loc OddInReferenceIdeal.main_arg0))
        (m ((c.tc : Thread OddInReferenceIdeal.nD OddInReferenceIdeal.τ).loc OddInReferenceIdeal.main_arg1))
        (m ((c.tc : Thread OddInReferenceIdeal.nD OddInReferenceIdeal.τ).loc OddInReferenceIdeal.main_arg2)) := by
  funext i
  obtain ⟨r, j, rfl⟩ : ∃ (r : Fin 32768) (j : Fin 4096), i = ix2 r j := ⟨i 0, i 1, eq_ix2 i⟩
  unfold OddInReferenceIdeal.Value.res_out0 OddInReferenceIdeal.Value.res_main_v27
  clean_types
  pointwise [G, proj, gelu, nrm, nrm1, dot]

/-- From the same arguments, at the ideal instance, the kernel and the reference leave the same result. -/
theorem algebraic (hK : Cert.OddInIdeal.Facts) (hR : Cert.OddInReferenceIdeal.Facts) :
    Cert.algebraic_OddInIdeal_OddInReferenceIdeal (hOddInIdeal := hK) (hOddInReferenceIdeal := hR) := by
  intro m g m' g' _ hargs
  refine ⟨fun c => res m c, run m g, ?_⟩
  refine (θ_run Cert.OddInReferenceIdeal.defs _ _).mono (fun _ h c => ⟨(h c).1.trans ?_, (h c).2⟩)
    (Cert.OddInReferenceIdeal.Value.run (F := Ideal) m' g')
  obtain ⟨e0, e1, e2⟩ := hargs c
  refine (ref_eq m' c).trans ?_
  show _ = res m c
  unfold res
  rw [← e0, ← e1, ← e2]

end Cert.Proof.OddIn
end
-- ==== Proof.EvenInBlock.lean ====
module
public import proofs.«01_k».proof.Proof.Gen.EvenInIdeal.Frame
public import proofs.«01_k».proof.Proof.RowMath
public import Mathlib.Data.EReal.Operations

/-!
  The blocks that an even layer's input projection writes at a grid point, entry by entry, from the input windows'
  blocks; and that scaling the columns of the weights is scaling the columns of the product.
-/

@[expose] public section
noncomputable section
namespace Cert.Proof.EvenIn
open Idealize.ShloMosaic Cert.EvenInIdeal Cert.EvenInIdeal.Gen Cert.Proof.RowMath

/-- The columns the two attentions read, laid out from one row of all columns: the queries scaled, the indexer's queries
    scaled, the keys, values and indexer's keys, a gap of zeros, the other attention's queries scaled, keys and values. -/
def cols (f : Fin 2500 → EReal) (q : Fin 2560) : EReal :=
  if h : q.val < 512 then f ⟨q.val, by omega⟩ * Ideal.ofBits .f32 0x3E000000#32 else
  if h : q.val - 512 < 256 then f ⟨640 + (q.val - 512), by omega⟩ * Ideal.ofBits .f32 0x3E000000#32 else
  if h : q.val - 512 - 256 < 64 then f ⟨512 + (q.val - 512 - 256), by omega⟩ else
  if h : q.val - 512 - 256 - 64 < 64 then f ⟨576 + (q.val - 512 - 256 - 64), by omega⟩ else
  if h : q.val - 512 - 256 - 64 - 64 < 64 then f ⟨896 + (q.val - 512 - 256 - 64 - 64), by omega⟩ else
  if h : q.val - 512 - 256 - 64 - 64 - 64 < 64 then 0 else
  if h : q.val - 512 - 256 - 64 - 64 - 64 - 64 < 512 then f ⟨964 + (q.val - 512 - 256 - 64 - 64 - 64 - 64), by omega⟩ * Ideal.ofBits .f32 0x3E38AA3B#32 else
  if h : q.val - 512 - 256 - 64 - 64 - 64 - 64 - 512 < 512 then f ⟨1476 + (q.val - 512 - 256 - 64 - 64 - 64 - 64 - 512), by omega⟩ else
  f ⟨1988 + (q.val - 512 - 256 - 64 - 64 - 64 - 64 - 512 - 512), by omega⟩

/-- The indexer's four head weights, scaled, and zeros behind them. -/
def side (f : Fin 2500 → EReal) (q : Fin 128) : EReal :=
  if h : q.val < 4 then f ⟨960 + q.val, by omega⟩ * Ideal.ofBits .f32 0x3F000000#32 else 0

/-- A product with a weight column scaled by a nonnegative number is the product scaled. -/
theorem dot_mul (a w : Fin 1024 → EReal) (s : EReal) (hs : 0 ≤ s) (ht : s ≠ ⊤) :
    dot a (fun k => w k * s) = dot a w * s := by
  unfold dot
  have key : ∀ S : Finset (Fin 1024), ∑ k ∈ S, a k * (w k * s) = (∑ k ∈ S, a k * w k) * s := by
    intro S
    induction S using Finset.induction_on with
    | empty => simp
    | insert x S hx ih =>
      rw [Finset.sum_insert hx, Finset.sum_insert hx, ih, EReal.right_distrib_of_nonneg_of_ne_top hs ht, mul_assoc]
  exact key Finset.univ

theorem dot_zero (a : Fin 1024 → EReal) : dot a (fun _ => 0) = 0 := by
  simp [dot]

theorem scale_nonneg : 0 ≤ Ideal.ofBits .f32 0x3E000000#32 ∧ Ideal.ofBits .f32 0x3E000000#32 ≠ ⊤ := by
  constructor
  · simp [Ideal.ofBits, Ideal.ieee, -EReal.coe_mul]
  · simp [Ideal.ofBits, Ideal.ieee, -EReal.coe_mul]
theorem scaleB_nonneg : 0 ≤ Ideal.ofBits .f32 0x3E38AA3B#32 ∧ Ideal.ofBits .f32 0x3E38AA3B#32 ≠ ⊤ := by
  constructor
  · simp [Ideal.ofBits, Ideal.ieee, -EReal.coe_mul]
  · simp [Ideal.ofBits, Ideal.ieee, -EReal.coe_mul]
theorem half_nonneg : 0 ≤ Ideal.ofBits .f32 0x3F000000#32 ∧ Ideal.ofBits .f32 0x3F000000#32 ≠ ⊤ := by
  constructor
  · simp [Ideal.ofBits, Ideal.ieee, -EReal.coe_mul]
  · simp [Ideal.ofBits, Ideal.ieee, -EReal.coe_mul]

/-- The product with the laid out weight columns is the laid out product. -/
theorem dot_cols (a : Fin 1024 → EReal) (w : Fin 1024 → Fin 2500 → EReal) (q : Fin 2560) :
    dot a (fun k => cols (w k) q) = cols (fun j => dot a fun k => w k j) q := by
  unfold cols
  split_ifs <;> first
    | exact dot_mul _ _ _ scale_nonneg.1 scale_nonneg.2
    | exact dot_mul _ _ _ scaleB_nonneg.1 scaleB_nonneg.2
    | exact dot_zero _
    | rfl

theorem dot_side (a : Fin 1024 → EReal) (w : Fin 1024 → Fin 2500 → EReal) (q : Fin 128) :
    dot a (fun k => side (w k) q) = side (fun j => dot a fun k => w k j) q := by
  unfold side
  split_ifs <;> first
    | exact dot_mul _ _ _ half_nonneg.1 half_nonneg.2
    | exact dot_zero _

variable (x0 : Vec Ideal S512x1024 .f32) (x1 : Vec Ideal S1x1024 .f32) (x2 : Vec Ideal S1024x2560 .bf16)
  (x3 : Vec Ideal S1024x128 .bf16)

/-- The normalised rows of a block. -/
theorem pay4_apply (r : Fin 512) (k : Fin 1024) :
    k0_pay4 (F := Ideal) x0 x1 (ix2 r k) = nrm (fun k => x0 (ix2 r k)) (fun k => x1 (ix2 0 k)) k := by
  pointwise [k0_pay4, nrm, nrm1]

theorem hz : (![0, 0] : Fin 2 → Nat) = fun _ => 0 := funext fun a => by fin_cases a <;> rfl

/-- The projection of the rows of a block. -/
abbrev block : Vec Ideal S512x2560 .bf16 := fun y =>
  dot (nrm (fun k => x0 (ix2 (y 0) k)) (fun k => x1 (ix2 0 k))) fun k => x2 (ix2 k (y 1))

theorem piece0 (r : Fin 512) (j : Fin 512) :
    k0_pay5 (F := Ideal) x0 x1 (View.ld x2 r0_2) (ix2 r j)
      = dot (nrm (fun k => x0 (ix2 r k)) (fun k => x1 (ix2 0 k))) fun k => x2 (ix2 k ⟨0 + j.val, by omega⟩) := by
  pointwise [k0_pay5, pay4_apply, dot]

theorem piece512 (r : Fin 512) (j : Fin 512) :
    k0_pay6 (F := Ideal) x0 x1 (View.ld x2 r0_4) (ix2 r j)
      = dot (nrm (fun k => x0 (ix2 r k)) (fun k => x1 (ix2 0 k))) fun k => x2 (ix2 k ⟨512 + j.val, by omega⟩) := by
  pointwise [k0_pay6, pay4_apply, dot]

theorem piece1024 (r : Fin 512) (j : Fin 512) :
    k0_pay7 (F := Ideal) x0 x1 (View.ld x2 r0_6) (ix2 r j)
      = dot (nrm (fun k => x0 (ix2 r k)) (fun k => x1 (ix2 0 k))) fun k => x2 (ix2 k ⟨1024 + j.val, by omega⟩) := by
  pointwise [k0_pay7, pay4_apply, dot]

theorem piece1536 (r : Fin 512) (j : Fin 512) :
    k0_pay1 (F := Ideal) (k0_pay4 x0 x1) (View.ld x2 r0_8) (ix2 r j)
      = dot (nrm (fun k => x0 (ix2 r k)) (fun k => x1 (ix2 0 k))) fun k => x2 (ix2 k ⟨1536 + j.val, by omega⟩) := by
  pointwise [k0_pay1, pay4_apply, dot]

theorem piece2048 (r : Fin 512) (j : Fin 512) :
    k0_pay2 (F := Ideal) (k0_pay4 x0 x1) (View.ld x2 r0_10) (ix2 r j)
      = dot (nrm (fun k => x0 (ix2 r k)) (fun k => x1 (ix2 0 k))) fun k => x2 (ix2 k ⟨2048 + j.val, by omega⟩) := by
  pointwise [k0_pay2, pay4_apply, dot]

/-- Entry `y` of the block the body leaves in the first result. -/
theorem out_apply (y : S512x2560.Idx) : out0_4 (F := Ideal) x0 x1 x2 x3 y = block x0 x1 x2 y := by
  unfold_out out0_4
  rw [View.ld_unit_zero hz, View.ld_unit_zero hz]
  refine View.canon_apply_of_pieces (block x0 x1 x2) _ ?_ y (cover0_4 _ _ _ _ _ y)
  intro pc hpc
  rcases List.mem_cons.mp hpc with rfl | hpc
  · intro x
    obtain ⟨r, j, rfl⟩ : ∃ (r : Fin 512) (j : Fin 512), x = ix2 r j := ⟨x 0, x 1, eq_ix2 x⟩
    refine (piece2048 x0 x1 x2 r j).trans ?_
    exact congrArg₂ (fun (r : Fin 512) (j : Fin 2560) =>
        dot (nrm (fun k => x0 (ix2 r k)) (fun k => x1 (ix2 0 k))) fun k => x2 (ix2 k j))
      (Fin.ext (by show r.val = 0 + 1 * r.val; omega)) (Fin.ext (by show 2048 + j.val = 2048 + 1 * j.val; omega))
  rcases List.mem_cons.mp hpc with rfl | hpc
  · intro x
    obtain ⟨r, j, rfl⟩ : ∃ (r : Fin 512) (j : Fin 512), x = ix2 r j := ⟨x 0, x 1, eq_ix2 x⟩
    refine (piece1536 x0 x1 x2 r j).trans ?_
    exact congrArg₂ (fun (r : Fin 512) (j : Fin 2560) =>
        dot (nrm (fun k => x0 (ix2 r k)) (fun k => x1 (ix2 0 k))) fun k => x2 (ix2 k j))
      (Fin.ext (by show r.val = 0 + 1 * r.val; omega)) (Fin.ext (by show 1536 + j.val = 1536 + 1 * j.val; omega))
  rcases List.mem_cons.mp hpc with rfl | hpc
  · intro x
    obtain ⟨r, j, rfl⟩ : ∃ (r : Fin 512) (j : Fin 512), x = ix2 r j := ⟨x 0, x 1, eq_ix2 x⟩
    refine (piece1024 x0 x1 x2 r j).trans ?_
    exact congrArg₂ (fun (r : Fin 512) (j : Fin 2560) =>
        dot (nrm (fun k => x0 (ix2 r k)) (fun k => x1 (ix2 0 k))) fun k => x2 (ix2 k j))
      (Fin.ext (by show r.val = 0 + 1 * r.val; omega)) (Fin.ext (by show 1024 + j.val = 1024 + 1 * j.val; omega))
  rcases List.mem_cons.mp hpc with rfl | hpc
  · intro x
    obtain ⟨r, j, rfl⟩ : ∃ (r : Fin 512) (j : Fin 512), x = ix2 r j := ⟨x 0, x 1, eq_ix2 x⟩
    refine (piece512 x0 x1 x2 r j).trans ?_
    exact congrArg₂ (fun (r : Fin 512) (j : Fin 2560) =>
        dot (nrm (fun k => x0 (ix2 r k)) (fun k => x1 (ix2 0 k))) fun k => x2 (ix2 k j))
      (Fin.ext (by show r.val = 0 + 1 * r.val; omega)) (Fin.ext (by show 512 + j.val = 512 + 1 * j.val; omega))
  rcases List.mem_cons.mp hpc with rfl | hpc
  · intro x
    obtain ⟨r, j, rfl⟩ : ∃ (r : Fin 512) (j : Fin 512), x = ix2 r j := ⟨x 0, x 1, eq_ix2 x⟩
    refine (piece0 x0 x1 x2 r j).trans ?_
    exact congrArg₂ (fun (r : Fin 512) (j : Fin 2560) =>
        dot (nrm (fun k => x0 (ix2 r k)) (fun k => x1 (ix2 0 k))) fun k => x2 (ix2 k j))
      (Fin.ext (by show r.val = 0 + 1 * r.val; omega)) (Fin.ext (by show 0 + j.val = 0 + 1 * j.val; omega))
  nomatch hpc

/-- Entry `(r, q)` of the block the body leaves in the second result. -/
theorem side_apply (r : Fin 512) (q : Fin 128) : out0_5 (F := Ideal) x0 x1 x2 x3 (ix2 r q)
    = dot (nrm (fun k => x0 (ix2 r k)) (fun k => x1 (ix2 0 k))) fun k => x3 (ix2 k q) := by
  unfold_out out0_5
  rw [View.canon_unit_zero hz]
  repeat rw [View.ld_unit_zero hz]
  pointwise [k0_pay3, pay4_apply, dot]

end Cert.Proof.EvenIn
end
-- ==== Proof.EvenInValue.lean ====
module
public import proofs.«01_k».proof.Proof.Gen.EvenInIdeal.Value
public import proofs.«01_k».proof.Proof.Gen.EvenInReferenceIdeal.Run
public import proofs.«01_k».proof.Proof.EvenInBlock
public import proofs.«01_k».proof.Defs
public import Idealize.ShloMosaic.Lib.StableHlo.ReadAt
public import Idealize.ShloMosaic.Lib.Tactic.CleanTypes

/-!
  An even layer's input projection: the kernel's two result arrays after its run, and the reference's, as functions of
  the argument arrays.
-/

@[expose] public section
noncomputable section
namespace Cert.Proof.EvenIn
open Idealize.ShloMosaic Idealize.ShloMosaic.TcCoe Idealize.SL.Sem Cert.EvenInIdeal Cert.EvenInIdeal.Gen Cert.Proof.RowMath

/-- Entry `j` of the product of row `r`, normalised, with all the weight columns. -/
def all (x : S32768x1024.Idx → EReal) (g : S1024.Idx → EReal) (w : S1024x2500.Idx → EReal) (r : Fin 32768) (j : Fin 2500) : EReal :=
  dot (nrm (fun k => x (ix2 r k)) (fun k => g (ix1 k))) fun k => w (ix2 k j)

/-- The first result: the laid out columns of every row. -/
def G (x : S32768x1024.Idx → EReal) (g : S1024.Idx → EReal) (w : S1024x2500.Idx → EReal) : S32768x2560.Idx → EReal := fun i =>
  cols (all x g w (i 0)) (i 1)

/-- The second result: the indexer's head weights of every row. -/
def GS (x : S32768x1024.Idx → EReal) (g : S1024.Idx → EReal) (w : S1024x2500.Idx → EReal) : S32768x128.Idx → EReal := fun i =>
  side (all x g w (i 0)) (i 1)

variable (m : (ℓ : Loc nD τ sig) → Buf (Elt Ideal) ℓ) (ρ : Dev nD → PrngReg)

set_option maxHeartbeats 4000000 in
/-- The host's laid out weights, read at an entry. -/
theorem V_v17 (c : Dev nD) (k : Fin 1024) (q : Fin 2560) :
    V (F := Ideal) m c main_v17 (ix2 k q) = cols (fun j => m ((c : Thread nD τ).loc main_arg2) (ix2 k j)) q := by
  unfold V cols
  after_reads_at
  split_ifs <;> after_reads_at

/-- The host's head weight columns, read at an entry. -/
theorem V_v22 (c : Dev nD) (k : Fin 1024) (q : Fin 128) :
    V (F := Ideal) m c main_v22 (ix2 k q) = side (fun j => m ((c : Thread nD τ).loc main_arg2) (ix2 k j)) q := by
  unfold V side
  after_reads_at
  split_ifs <;> after_reads_at

/-- The host's row of the gain, read at an entry. -/
theorem V_v23 (c : Dev nD) (k : Fin 1024) :
    V (F := Ideal) m c main_v23 (ix2 0 k) = m ((c : Thread nD τ).loc main_arg1) (ix1 k) := by
  unfold V
  after_reads_at

/-- Row `r` of point `t`'s blocks as a row of the arrays. -/
def rowAt (t : Fin cfg0.N) (r : Fin 512) : Fin 32768 :=
  ⟨t.val * 512 + r.val, by have h : t.val < 64 := t.isLt; omega⟩

/-- The block index of window 0 at point `t`. -/
theorem idx0 (t : Fin cfg0.N) : win0_0.index t 0 = t.val ∧ win0_0.index t 1 = 0 :=
  (by decide +kernel : ∀ t : Fin grid0.N, win0_0.index t 0 = t.val ∧ win0_0.index t 1 = 0) t

theorem emb0 (t : Fin cfg0.N) (r : Fin 512) (k : Fin 1024) :
    ((cfg0.win 0).blk t).view.emb (ix2 r k) = (ix2 (rowAt t r) k : S32768x1024.Idx) := by
  have e := idx0 t
  funext a; apply Fin.ext
  match a with
  | ⟨0, _⟩ => show win0_0.index t 0 * 512 + 1 * r.val = t.val * 512 + r.val; rw [e.1]; omega
  | ⟨1, _⟩ => show win0_0.index t 1 * 1024 + 1 * k.val = k.val; rw [e.2]; omega

/-- The block index of window 1 at point `t`. -/
theorem idx1 (t : Fin cfg0.N) : win0_1.index t 0 = 0 ∧ win0_1.index t 1 = 0 :=
  (by decide +kernel : ∀ t : Fin grid0.N, win0_1.index t 0 = 0 ∧ win0_1.index t 1 = 0) t

theorem emb1 (t : Fin cfg0.N) (r : Fin 1) (k : Fin 1024) :
    ((cfg0.win 1).blk t).view.emb (ix2 r k) = (ix2 r k : S1x1024.Idx) := by
  have e := idx1 t
  funext a; apply Fin.ext
  match a with
  | ⟨0, _⟩ => show win0_1.index t 0 * 1 + 1 * r.val = r.val; rw [e.1]; omega
  | ⟨1, _⟩ => show win0_1.index t 1 * 1024 + 1 * k.val = k.val; rw [e.2]; omega

/-- The block index of window 2 at point `t`. -/
theorem idx2 (t : Fin cfg0.N) : win0_2.index t 0 = 0 ∧ win0_2.index t 1 = 0 :=
  (by decide +kernel : ∀ t : Fin grid0.N, win0_2.index t 0 = 0 ∧ win0_2.index t 1 = 0) t

theorem emb2 (t : Fin cfg0.N) (r : Fin 1024) (k : Fin 2560) :
    ((cfg0.win 2).blk t).view.emb (ix2 r k) = (ix2 r k : S1024x2560.Idx) := by
  have e := idx2 t
  funext a; apply Fin.ext
  match a with
  | ⟨0, _⟩ => show win0_2.index t 0 * 1024 + 1 * r.val = r.val; rw [e.1]; omega
  | ⟨1, _⟩ => show win0_2.index t 1 * 2560 + 1 * k.val = k.val; rw [e.2]; omega

/-- The block index of window 3 at point `t`. -/
theorem idx3 (t : Fin cfg0.N) : win0_3.index t 0 = 0 ∧ win0_3.index t 1 = 0 :=
  (by decide +kernel : ∀ t : Fin grid0.N, win0_3.index t 0 = 0 ∧ win0_3.index t 1 = 0) t

theorem emb3 (t : Fin cfg0.N) (r : Fin 1024) (k : Fin 128) :
    ((cfg0.win 3).blk t).view.emb (ix2 r k) = (ix2 r k : S1024x128.Idx) := by
  have e := idx3 t
  funext a; apply Fin.ext
  match a with
  | ⟨0, _⟩ => show win0_3.index t 0 * 1024 + 1 * r.val = r.val; rw [e.1]; omega
  | ⟨1, _⟩ => show win0_3.index t 1 * 128 + 1 * k.val = k.val; rw [e.2]; omega

/-- The block index of window 4 at point `t`. -/
theorem idx4 (t : Fin cfg0.N) : win0_4.index t 0 = t.val ∧ win0_4.index t 1 = 0 :=
  (by decide +kernel : ∀ t : Fin grid0.N, win0_4.index t 0 = t.val ∧ win0_4.index t 1 = 0) t

theorem emb4 (t : Fin cfg0.N) (r : Fin 512) (k : Fin 2560) :
    ((cfg0.win 4).blk t).view.emb (ix2 r k) = (ix2 (rowAt t r) k : S32768x2560.Idx) := by
  have e := idx4 t
  funext a; apply Fin.ext
  match a with
  | ⟨0, _⟩ => show win0_4.index t 0 * 512 + 1 * r.val = t.val * 512 + r.val; rw [e.1]; omega
  | ⟨1, _⟩ => show win0_4.index t 1 * 2560 + 1 * k.val = k.val; rw [e.2]; omega

/-- The block index of window 5 at point `t`. -/
theorem idx5 (t : Fin cfg0.N) : win0_5.index t 0 = t.val ∧ win0_5.index t 1 = 0 :=
  (by decide +kernel : ∀ t : Fin grid0.N, win0_5.index t 0 = t.val ∧ win0_5.index t 1 = 0) t

theorem emb5 (t : Fin cfg0.N) (r : Fin 512) (k : Fin 128) :
    ((cfg0.win 5).blk t).view.emb (ix2 r k) = (ix2 (rowAt t r) k : S32768x128.Idx) := by
  have e := idx5 t
  funext a; apply Fin.ext
  match a with
  | ⟨0, _⟩ => show win0_5.index t 0 * 512 + 1 * r.val = t.val * 512 + r.val; rw [e.1]; omega
  | ⟨1, _⟩ => show win0_5.index t 1 * 128 + 1 * k.val = k.val; rw [e.2]; omega

/-- The result arrays as those functions of the argument arrays. -/
abbrev res (c : Dev nD) : Buf (Elt Ideal) ((c : Thread nD τ).loc main_v24_0) :=
  G (m ((c : Thread nD τ).loc main_arg0)) (m ((c : Thread nD τ).loc main_arg1)) (m ((c : Thread nD τ).loc main_arg2))
abbrev resS (c : Dev nD) : Buf (Elt Ideal) ((c : Thread nD τ).loc main_v24_1) :=
  GS (m ((c : Thread nD τ).loc main_arg0)) (m ((c : Thread nD τ).loc main_arg1)) (m ((c : Thread nD τ).loc main_arg2))

theorem blk0 (c : Dev nD) (t : Fin cfg0.N) (r : Fin 512) (k : Fin 1024) :
    (iblk m c 0 t : S512x1024.Idx → EReal) (ix2 r k) = m ((c : Thread nD τ).loc main_arg0) (ix2 (rowAt t r) k) := by
  show V m c main_arg0 (((cfg0.win 0).blk t).view.emb (ix2 r k)) = _
  rw [emb0, V_main_arg0]

theorem blk1 (c : Dev nD) (t : Fin cfg0.N) (k : Fin 1024) :
    (iblk m c 1 t : S1x1024.Idx → EReal) (ix2 0 k) = m ((c : Thread nD τ).loc main_arg1) (ix1 k) := by
  show V m c main_v23 (((cfg0.win 1).blk t).view.emb (ix2 0 k)) = _
  rw [emb1, V_v23]

theorem blk2 (c : Dev nD) (t : Fin cfg0.N) (k : Fin 1024) (q : Fin 2560) :
    (iblk m c 2 t : S1024x2560.Idx → EReal) (ix2 k q) = cols (fun j => m ((c : Thread nD τ).loc main_arg2) (ix2 k j)) q := by
  show V m c main_v17 (((cfg0.win 2).blk t).view.emb (ix2 k q)) = _
  rw [emb2, V_v17]

theorem blk3 (c : Dev nD) (t : Fin cfg0.N) (k : Fin 1024) (q : Fin 128) :
    (iblk m c 3 t : S1024x128.Idx → EReal) (ix2 k q) = side (fun j => m ((c : Thread nD τ).loc main_arg2) (ix2 k j)) q := by
  show V m c main_v22 (((cfg0.win 3).blk t).view.emb (ix2 k q)) = _
  rw [emb3, V_v22]

/-- What point `t` writes back to the first result is block `t` of that function of the argument arrays. -/
theorem flushed4_eq (c : Dev nD) (t : Fin cfg0.N) :
    (dats m 0 c).flushed 4 t = ((cfg0.win 4).blk t).view.read (Elt Ideal) (res m c) := by
  rw [Cert.EvenInIdeal.Value.flushed4]
  funext y
  obtain ⟨r, j, rfl⟩ : ∃ (r : Fin 512) (j : Fin 2560), y = ix2 r j := ⟨y 0, y 1, eq_ix2 y⟩
  show out0_4 (F := Ideal) (iblk m c 0 t) (iblk m c 1 t) (iblk m c 2 t) (iblk m c 3 t) (ix2 r j)
    = res m c (((cfg0.win 4).blk t).view.emb (ix2 r j))
  rw [emb4, out_apply]
  show dot (nrm (fun k => (iblk m c 0 t : S512x1024.Idx → EReal) (ix2 r k)) (fun k => (iblk m c 1 t : S1x1024.Idx → EReal) (ix2 0 k)))
    (fun k => (iblk m c 2 t : S1024x2560.Idx → EReal) (ix2 k j)) = _
  simp only [blk0, blk1, blk2]
  exact dot_cols _ _ _

/-- The same of the second result. -/
theorem flushed5_eq (c : Dev nD) (t : Fin cfg0.N) :
    (dats m 0 c).flushed 5 t = ((cfg0.win 5).blk t).view.read (Elt Ideal) (resS m c) := by
  rw [Cert.EvenInIdeal.Value.flushed5]
  funext y
  obtain ⟨r, j, rfl⟩ : ∃ (r : Fin 512) (j : Fin 128), y = ix2 r j := ⟨y 0, y 1, eq_ix2 y⟩
  show out0_5 (F := Ideal) (iblk m c 0 t) (iblk m c 1 t) (iblk m c 2 t) (iblk m c 3 t) (ix2 r j)
    = resS m c (((cfg0.win 5).blk t).view.emb (ix2 r j))
  rw [emb5, side_apply]
  simp only [blk0, blk1, blk3]
  exact dot_side _ _ _

/-- Every entry of the result is in the block of the point its row falls to. -/
theorem covered4 (i : S32768x2560.Idx) :
    ∃ t : Fin cfg0.N, (cfg0.win 4).flush t = true ∧ i ∈ ((cfg0.win 4).blk t).view.set := by
  obtain ⟨q, j, rfl⟩ : ∃ (q : Fin 32768) (j : Fin 2560), i = ix2 q j := ⟨i 0, i 1, eq_ix2 i⟩
  have ht : q.val / 512 < cfg0.N := by show q.val / 512 < 64; omega
  refine ⟨⟨q.val / 512, ht⟩, flush0_4 _, ?_⟩
  have h := ((cfg0.win 4).blk ⟨q.val / 512, ht⟩).view.emb_mem_set (ix2 (⟨q.val % 512, by omega⟩ : Fin 512) j)
  have e : rowAt ⟨q.val / 512, ht⟩ ⟨q.val % 512, by omega⟩ = q := Fin.ext (by
    show q.val / 512 * 512 + q.val % 512 = q.val; omega)
  rwa [emb4, e] at h

/-- Every entry of the result is in the block of the point its row falls to. -/
theorem covered5 (i : S32768x128.Idx) :
    ∃ t : Fin cfg0.N, (cfg0.win 5).flush t = true ∧ i ∈ ((cfg0.win 5).blk t).view.set := by
  obtain ⟨q, j, rfl⟩ : ∃ (q : Fin 32768) (j : Fin 128), i = ix2 q j := ⟨i 0, i 1, eq_ix2 i⟩
  have ht : q.val / 512 < cfg0.N := by show q.val / 512 < 64; omega
  refine ⟨⟨q.val / 512, ht⟩, flush0_5 _, ?_⟩
  have h := ((cfg0.win 5).blk ⟨q.val / 512, ht⟩).view.emb_mem_set (ix2 (⟨q.val % 512, by omega⟩ : Fin 512) j)
  have e : rowAt ⟨q.val / 512, ht⟩ ⟨q.val % 512, by omega⟩ = q := Fin.ext (by
    show q.val / 512 * 512 + q.val % 512 = q.val; omega)
  rwa [emb5, e] at h

/-- The result arrays after the run. -/
theorem final4 (c : Dev nD) : (dats m 0 c).arrAt 4 cfg0.N = res m c :=
  (dats m 0 c).arrAt_eq_of_cover 4 (res m c) (fun t _ => flushed4_eq m c t) covered4
theorem final5 (c : Dev nD) : (dats m 0 c).arrAt 5 cfg0.N = resS m c :=
  (dats m 0 c).arrAt_eq_of_cover 5 (resS m c) (fun t _ => flushed5_eq m c t) covered5

/-- The run of the kernel, its result arrays those functions of the arguments, which are unchanged. -/
theorem run : θ_run defs (onTc (τ := τ) (main (F := Ideal))) ⟨m, fun _ => 0, ρ⟩ fun r => ∀ c : Dev nD,
      r.2.mem ((c : Thread nD τ).loc main_v24_0) = res m c
      ∧ r.2.mem ((c : Thread nD τ).loc main_v24_1) = resS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final4 m c), (h c).2.1.trans (final5 m c), (h c).2.2⟩)
    (Cert.EvenInIdeal.Value.run_blocks m ρ)

/-- From the same arguments, at the ideal instance, the kernel and the reference leave the same results. -/
theorem algebraic (hK : Cert.EvenInIdeal.Facts) (hR : Cert.EvenInReferenceIdeal.Facts) :
    Cert.algebraic_EvenInIdeal_EvenInReferenceIdeal (hEvenInIdeal := hK) (hEvenInReferenceIdeal := hR) := by
  intro m g m' g' _ hargs
  refine ⟨fun c => res m c, fun c => resS m c, run m g, ?_⟩
  refine (θ_run Cert.EvenInReferenceIdeal.defs _ _).mono
    (fun _ h c => ⟨(h c).1.trans ?_, (h c).2.1.trans ?_, (h c).2.2⟩)
    (Cert.EvenInReferenceIdeal.Value.run (F := Ideal) m' g')
  · obtain ⟨e0, e1, e2⟩ := hargs c
    show _ = res m c
    unfold res
    rw [← e0, ← e1, ← e2]
    funext i
    obtain ⟨r, j, rfl⟩ : ∃ (r : Fin 32768) (j : Fin 2560), i = ix2 r j := ⟨i 0, i 1, eq_ix2 i⟩
    unfold EvenInReferenceIdeal.Value.res_main_v35
    clean_types
    pointwise [G, cols, all, dot, nrm, nrm1]
  · obtain ⟨e0, e1, e2⟩ := hargs c
    show _ = resS m c
    unfold resS
    rw [← e0, ← e1, ← e2]
    funext i
    obtain ⟨r, j, rfl⟩ : ∃ (r : Fin 32768) (j : Fin 128), i = ix2 r j := ⟨i 0, i 1, eq_ix2 i⟩
    clean_types
    pointwise [GS, side, all, dot, nrm, nrm1]

end Cert.Proof.EvenIn
end
-- ==== Proof.EvenOutValue.lean ====
module
public import proofs.«01_k».proof.Proof.Gen.EvenOutIdeal.Value
public import proofs.«01_k».proof.Proof.Gen.EvenOutReferenceIdeal.Run
public import proofs.«01_k».proof.Proof.RowMath
public import proofs.«01_k».proof.Defs
public import Idealize.ShloMosaic.Lib.StableHlo.ReadAt
public import Idealize.ShloMosaic.Lib.Tactic.CleanTypes

/-!
  An even layer's output projection: the kernel's result array after its run, and the reference's, as one function of
  the argument arrays.
-/

@[expose] public section
noncomputable section
namespace Cert.Proof.EvenOut
open Idealize.ShloMosaic Idealize.ShloMosaic.TcCoe Idealize.SL.Sem Cert.EvenOutIdeal Cert.EvenOutIdeal.Gen Cert.Proof.RowMath

/-- Entry `k` of the two mixers' rows `a`, `b` sent through the upper and the lower half of the output weights. -/
def mixed (a b : Fin 512 → EReal) (wa wb : Fin 512 → Fin 1024 → EReal) (k : Fin 1024) : EReal :=
  (∑ j : Fin 512, a j * wa j k) + ∑ j : Fin 512, b j * wb j k

/-- The output of all rows: the row of the layer's input plus the normalised row of the mixers' output. -/
def G (ya yb : S32768x512.Idx → EReal) (w : S1024x1024.Idx → EReal) (g : S1024.Idx → EReal) (h : S32768x1024.Idx → EReal) :
    S32768x1024.Idx → EReal := fun i =>
  h i + nrm (mixed (fun j => ya (ix2 (i 0) j)) (fun j => yb (ix2 (i 0) j)) (fun j k => w (ix2 ⟨j.val, by omega⟩ k))
    (fun j k => w (ix2 ⟨512 + j.val, by omega⟩ k))) (fun k => g (ix1 k)) (i 1)

theorem hz : (![0, 0] : Fin 2 → Nat) = fun _ => 0 := funext fun a => by fin_cases a <;> rfl

/-- Entry `(r, k)` of the block the body leaves. -/
theorem out_apply (x0 x1 : Vec Ideal S512x512 .bf16) (x2 x3 : Vec Ideal S512x1024 .bf16) (x4 : Vec Ideal S1x1024 .f32)
    (x5 : Vec Ideal S512x1024 .f32) (r : Fin 512) (k : Fin 1024) :
    out0_6 (F := Ideal) x0 x1 x2 x3 x4 x5 (ix2 r k)
      = x5 (ix2 r k) + nrm (mixed (fun j => x0 (ix2 r j)) (fun j => x1 (ix2 r j)) (fun j k => x2 (ix2 j k))
          (fun j k => x3 (ix2 j k))) (fun k => x4 (ix2 0 k)) k := by
  unfold out0_6
  rw [View.canon_unit_zero hz]
  repeat rw [View.ld_unit_zero hz]
  pointwise [k0_pay1, nrm, nrm1, mixed]

variable (m : (ℓ : Loc nD τ sig) → Buf (Elt Ideal) ℓ) (ρ : Dev nD → PrngReg)

/-- The host's upper half of the weights, read at an entry. -/
theorem V_v1 (c : Dev nD) (j : Fin 512) (k : Fin 1024) :
    V (F := Ideal) m c main_v1 (ix2 j k) = m ((c : Thread nD τ).loc main_arg2) (ix2 ⟨j.val, by omega⟩ k) := by
  unfold V
  after_reads_at

/-- The host's lower half of the weights, read at an entry. -/
theorem V_v2 (c : Dev nD) (j : Fin 512) (k : Fin 1024) :
    V (F := Ideal) m c main_v2 (ix2 j k) = m ((c : Thread nD τ).loc main_arg2) (ix2 ⟨512 + j.val, by omega⟩ k) := by
  unfold V
  after_reads_at

/-- The host's row of the gain, read at an entry. -/
theorem V_v3 (c : Dev nD) (k : Fin 1024) :
    V (F := Ideal) m c main_v3 (ix2 0 k) = m ((c : Thread nD τ).loc main_arg3) (ix1 k) := by
  unfold V
  after_reads_at

/-- Row `r` of point `t`'s blocks as a row of the arrays. -/
def rowAt (t : Fin cfg0.N) (r : Fin 512) : Fin 32768 :=
  ⟨t.val * 512 + r.val, by have h : t.val < 64 := t.isLt; omega⟩

/-- The block index of window 0 at point `t`. -/
theorem idx0 (t : Fin cfg0.N) : win0_0.index t 0 = t.val ∧ win0_0.index t 1 = 0 :=
  (by decide +kernel : ∀ t : Fin grid0.N, win0_0.index t 0 = t.val ∧ win0_0.index t 1 = 0) t

theorem emb0 (t : Fin cfg0.N) (r : Fin 512) (k : Fin 512) :
    ((cfg0.win 0).blk t).view.emb (ix2 r k) = (ix2 (rowAt t r) k : S32768x512.Idx) := by
  have e := idx0 t
  funext a; apply Fin.ext
  match a with
  | ⟨0, _⟩ => show win0_0.index t 0 * 512 + 1 * r.val = t.val * 512 + r.val; rw [e.1]; omega
  | ⟨1, _⟩ => show win0_0.index t 1 * 512 + 1 * k.val = k.val; rw [e.2]; omega

/-- The block index of window 1 at point `t`. -/
theorem idx1 (t : Fin cfg0.N) : win0_1.index t 0 = t.val ∧ win0_1.index t 1 = 0 :=
  (by decide +kernel : ∀ t : Fin grid0.N, win0_1.index t 0 = t.val ∧ win0_1.index t 1 = 0) t

theorem emb1 (t : Fin cfg0.N) (r : Fin 512) (k : Fin 512) :
    ((cfg0.win 1).blk t).view.emb (ix2 r k) = (ix2 (rowAt t r) k : S32768x512.Idx) := by
  have e := idx1 t
  funext a; apply Fin.ext
  match a with
  | ⟨0, _⟩ => show win0_1.index t 0 * 512 + 1 * r.val = t.val * 512 + r.val; rw [e.1]; omega
  | ⟨1, _⟩ => show win0_1.index t 1 * 512 + 1 * k.val = k.val; rw [e.2]; omega

/-- The block index of window 2 at point `t`. -/
theorem idx2 (t : Fin cfg0.N) : win0_2.index t 0 = 0 ∧ win0_2.index t 1 = 0 :=
  (by decide +kernel : ∀ t : Fin grid0.N, win0_2.index t 0 = 0 ∧ win0_2.index t 1 = 0) t

theorem emb2 (t : Fin cfg0.N) (r : Fin 512) (k : Fin 1024) :
    ((cfg0.win 2).blk t).view.emb (ix2 r k) = (ix2 r k : S512x1024.Idx) := by
  have e := idx2 t
  funext a; apply Fin.ext
  match a with
  | ⟨0, _⟩ => show win0_2.index t 0 * 512 + 1 * r.val = r.val; rw [e.1]; omega
  | ⟨1, _⟩ => show win0_2.index t 1 * 1024 + 1 * k.val = k.val; rw [e.2]; omega

/-- The block index of window 3 at point `t`. -/
theorem idx3 (t : Fin cfg0.N) : win0_3.index t 0 = 0 ∧ win0_3.index t 1 = 0 :=
  (by decide +kernel : ∀ t : Fin grid0.N, win0_3.index t 0 = 0 ∧ win0_3.index t 1 = 0) t

theorem emb3 (t : Fin cfg0.N) (r : Fin 512) (k : Fin 1024) :
    ((cfg0.win 3).blk t).view.emb (ix2 r k) = (ix2 r k : S512x1024.Idx) := by
  have e := idx3 t
  funext a; apply Fin.ext
  match a with
  | ⟨0, _⟩ => show win0_3.index t 0 * 512 + 1 * r.val = r.val; rw [e.1]; omega
  | ⟨1, _⟩ => show win0_3.index t 1 * 1024 + 1 * k.val = k.val; rw [e.2]; omega

/-- The block index of window 4 at point `t`. -/
theorem idx4 (t : Fin cfg0.N) : win0_4.index t 0 = 0 ∧ win0_4.index t 1 = 0 :=
  (by decide +kernel : ∀ t : Fin grid0.N, win0_4.index t 0 = 0 ∧ win0_4.index t 1 = 0) t

theorem emb4 (t : Fin cfg0.N) (r : Fin 1) (k : Fin 1024) :
    ((cfg0.win 4).blk t).view.emb (ix2 r k) = (ix2 r k : S1x1024.Idx) := by
  have e := idx4 t
  funext a; apply Fin.ext
  match a with
  | ⟨0, _⟩ => show win0_4.index t 0 * 1 + 1 * r.val = r.val; rw [e.1]; omega
  | ⟨1, _⟩ => show win0_4.index t 1 * 1024 + 1 * k.val = k.val; rw [e.2]; omega

/-- The block index of window 5 at point `t`. -/
theorem idx5 (t : Fin cfg0.N) : win0_5.index t 0 = t.val ∧ win0_5.index t 1 = 0 :=
  (by decide +kernel : ∀ t : Fin grid0.N, win0_5.index t 0 = t.val ∧ win0_5.index t 1 = 0) t

theorem emb5 (t : Fin cfg0.N) (r : Fin 512) (k : Fin 1024) :
    ((cfg0.win 5).blk t).view.emb (ix2 r k) = (ix2 (rowAt t r) k : S32768x1024.Idx) := by
  have e := idx5 t
  funext a; apply Fin.ext
  match a with
  | ⟨0, _⟩ => show win0_5.index t 0 * 512 + 1 * r.val = t.val * 512 + r.val; rw [e.1]; omega
  | ⟨1, _⟩ => show win0_5.index t 1 * 1024 + 1 * k.val = k.val; rw [e.2]; omega

/-- The block index of window 6 at point `t`. -/
theorem idx6 (t : Fin cfg0.N) : win0_6.index t 0 = t.val ∧ win0_6.index t 1 = 0 :=
  (by decide +kernel : ∀ t : Fin grid0.N, win0_6.index t 0 = t.val ∧ win0_6.index t 1 = 0) t

theorem emb6 (t : Fin cfg0.N) (r : Fin 512) (k : Fin 1024) :
    ((cfg0.win 6).blk t).view.emb (ix2 r k) = (ix2 (rowAt t r) k : S32768x1024.Idx) := by
  have e := idx6 t
  funext a; apply Fin.ext
  match a with
  | ⟨0, _⟩ => show win0_6.index t 0 * 512 + 1 * r.val = t.val * 512 + r.val; rw [e.1]; omega
  | ⟨1, _⟩ => show win0_6.index t 1 * 1024 + 1 * k.val = k.val; rw [e.2]; omega

/-- The result array as that function of the argument arrays. -/
abbrev res (c : Dev nD) : Buf (Elt Ideal) ((c : Thread nD τ).loc main_v4) :=
  G (m ((c : Thread nD τ).loc main_arg0)) (m ((c : Thread nD τ).loc main_arg1)) (m ((c : Thread nD τ).loc main_arg2))
    (m ((c : Thread nD τ).loc main_arg3)) (m ((c : Thread nD τ).loc main_arg4))

theorem blk0 (c : Dev nD) (t : Fin cfg0.N) (r : Fin 512) (k : Fin 512) :
    (iblk m c 0 t : S512x512.Idx → EReal) (ix2 r k) = m ((c : Thread nD τ).loc main_arg0) (ix2 (rowAt t r) k) := by
  show V m c main_arg0 (((cfg0.win 0).blk t).view.emb (ix2 r k)) = _
  rw [emb0, V_main_arg0]

theorem blk1 (c : Dev nD) (t : Fin cfg0.N) (r : Fin 512) (k : Fin 512) :
    (iblk m c 1 t : S512x512.Idx → EReal) (ix2 r k) = m ((c : Thread nD τ).loc main_arg1) (ix2 (rowAt t r) k) := by
  show V m c main_arg1 (((cfg0.win 1).blk t).view.emb (ix2 r k)) = _
  rw [emb1, V_main_arg1]

theorem blk2 (c : Dev nD) (t : Fin cfg0.N) (j : Fin 512) (k : Fin 1024) :
    (iblk m c 2 t : S512x1024.Idx → EReal) (ix2 j k) = m ((c : Thread nD τ).loc main_arg2) (ix2 ⟨j.val, by omega⟩ k) := by
  show V m c main_v1 (((cfg0.win 2).blk t).view.emb (ix2 j k)) = _
  rw [emb2, V_v1]

theorem blk3 (c : Dev nD) (t : Fin cfg0.N) (j : Fin 512) (k : Fin 1024) :
    (iblk m c 3 t : S512x1024.Idx → EReal) (ix2 j k) = m ((c : Thread nD τ).loc main_arg2) (ix2 ⟨512 + j.val, by omega⟩ k) := by
  show V m c main_v2 (((cfg0.win 3).blk t).view.emb (ix2 j k)) = _
  rw [emb3, V_v2]

theorem blk4 (c : Dev nD) (t : Fin cfg0.N) (k : Fin 1024) :
    (iblk m c 4 t : S1x1024.Idx → EReal) (ix2 0 k) = m ((c : Thread nD τ).loc main_arg3) (ix1 k) := by
  show V m c main_v3 (((cfg0.win 4).blk t).view.emb (ix2 0 k)) = _
  rw [emb4, V_v3]

theorem blk5 (c : Dev nD) (t : Fin cfg0.N) (r : Fin 512) (k : Fin 1024) :
    (iblk m c 5 t : S512x1024.Idx → EReal) (ix2 r k) = m ((c : Thread nD τ).loc main_arg4) (ix2 (rowAt t r) k) := by
  show V m c main_arg4 (((cfg0.win 5).blk t).view.emb (ix2 r k)) = _
  rw [emb5, V_main_arg4]

/-- What point `t` writes back is block `t` of that function of the argument arrays. -/
theorem flushed_eq (c : Dev nD) (t : Fin cfg0.N) :
    (dats m 0 c).flushed 6 t = ((cfg0.win 6).blk t).view.read (Elt Ideal) (res m c) := by
  rw [Cert.EvenOutIdeal.Value.flushed6]
  funext y
  obtain ⟨r, j, rfl⟩ : ∃ (r : Fin 512) (j : Fin 1024), y = ix2 r j := ⟨y 0, y 1, eq_ix2 y⟩
  show out0_6 (F := Ideal) (iblk m c 0 t) (iblk m c 1 t) (iblk m c 2 t) (iblk m c 3 t) (iblk m c 4 t) (iblk m c 5 t) (ix2 r j)
    = res m c (((cfg0.win 6).blk t).view.emb (ix2 r j))
  rw [emb6, out_apply]
  simp only [blk0, blk1, blk2, blk3, blk4, blk5]
  rfl

/-- Every entry of the result is in the block of the point its row falls to. -/
theorem covered (i : S32768x1024.Idx) :
    ∃ t : Fin cfg0.N, (cfg0.win 6).flush t = true ∧ i ∈ ((cfg0.win 6).blk t).view.set := by
  obtain ⟨q, j, rfl⟩ : ∃ (q : Fin 32768) (j : Fin 1024), i = ix2 q j := ⟨i 0, i 1, eq_ix2 i⟩
  have ht : q.val / 512 < cfg0.N := by show q.val / 512 < 64; omega
  refine ⟨⟨q.val / 512, ht⟩, flush0_6 _, ?_⟩
  have h := ((cfg0.win 6).blk ⟨q.val / 512, ht⟩).view.emb_mem_set (ix2 (⟨q.val % 512, by omega⟩ : Fin 512) j)
  have e : rowAt ⟨q.val / 512, ht⟩ ⟨q.val % 512, by omega⟩ = q := Fin.ext (by
    show q.val / 512 * 512 + q.val % 512 = q.val; omega)
  rwa [emb6, e] at h

/-- The result array after the run. -/
theorem final (c : Dev nD) : (dats m 0 c).arrAt 6 cfg0.N = res m c :=
  (dats m 0 c).arrAt_eq_of_cover 6 (res m c) (fun t _ => flushed_eq m c t) covered

/-- The run of the kernel, its result arrays those functions of the arguments, which are unchanged. -/
theorem run : θ_run defs (onTc (τ := τ) (main (F := Ideal))) ⟨m, fun _ => 0, ρ⟩ fun r => ∀ c : Dev nD,
      r.2.mem ((c : Thread nD τ).loc main_v4) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Cert.EvenOutIdeal.Value.run_blocks m ρ)

/-- From the same arguments, at the ideal instance, the kernel and the reference leave the same result. -/
theorem algebraic (hK : Cert.EvenOutIdeal.Facts) (hR : Cert.EvenOutReferenceIdeal.Facts) :
    Cert.algebraic_EvenOutIdeal_EvenOutReferenceIdeal (hEvenOutIdeal := hK) (hEvenOutReferenceIdeal := hR) := by
  intro m g m' g' _ hargs
  refine ⟨fun c => res m c, run m g, ?_⟩
  refine (θ_run Cert.EvenOutReferenceIdeal.defs _ _).mono (fun _ h c => ⟨(h c).1.trans ?_, (h c).2⟩)
    (Cert.EvenOutReferenceIdeal.Value.run (F := Ideal) m' g')
  obtain ⟨e0, e1, e2, e3, e4⟩ := hargs c
  show _ = res m c
  unfold res
  rw [← e0, ← e1, ← e2, ← e3, ← e4]
  funext i
  obtain ⟨r, j, rfl⟩ : ∃ (r : Fin 32768) (j : Fin 1024), i = ix2 r j := ⟨i 0, i 1, eq_ix2 i⟩
  clean_types
  pointwise [G, nrm, nrm1, mixed]

end Cert.Proof.EvenOut
end
-- ==== Proof.SbVec.lean ====
module

public import proofs.«01_k».proof.Proof.Gen.SbIdeal.Launch
public import proofs.«01_k».proof.Proof.Gen.SbIdeal.Points
public import proofs.«01_k».proof.Proof.Gen.SbIdeal.Skeleton
public import Idealize.ShloMosaic.Lib.Tactic
public import Idealize.ShloMosaic.Adequacy
public import Idealize.ShloMosaic.Init
public import Idealize.ShloMosaic.Lib.Pointwise.Index

/-!
  The stick-breaking attention kernel's arithmetic as functions of whole tiles: what one key tile does to the running sums of
  log-failures and to the accumulators, the first (diagonal) tile masked, the later ones not, and the sweep over tiles.
-/

@[expose] public section

set_option maxRecDepth 16384

noncomputable section

namespace Cert.Proof.SbIdeal

open Cert.SbIdeal Cert.SbIdeal.Gen
open Idealize.ShloMosaic

variable {F : FTy → Type} [FloatOps F] [Named F]

/-- Pair `p`'s columns of key (or value) tile `n`. -/
def kt (K : Vec F S1x8192x512 .bf16) (n : ℕ) (p : Fin 4) : Vec F S1x256x128 .bf16 :=
  fun x => K (ix3 0 ⟨(256 * n + (x 1).val) % 8192, Nat.mod_lt _ (by norm_num)⟩ ⟨128 * p.val + (x 2).val, by
    have h : (x 2).val < 128 := (x 2).isLt
    omega⟩)

/-- Pair `p`'s columns of the query block. -/
def qt (q : Vec F S1x256x512 .bf16) (p : Fin 4) : Vec F S1x256x128 .bf16 :=
  fun x => q (ix3 0 ⟨(x 1).val, (x 1).isLt⟩ ⟨128 * p.val + (x 2).val, by
    have h : (x 2).val < 128 := (x 2).isLt
    omega⟩)

/-- Row `h` of the running sums. -/
def cs (C : Vec F S8x256x1 .f32) (h : Fin 8) : Vec F S1x256x1 .f32 := fun x => C (ix3 h ⟨(x 1).val, (x 1).isLt⟩ ⟨(x 2).val, (x 2).isLt⟩)

/-- Pair `p` of the accumulators. -/
def aas (A : Vec F S4x256x128 .f32) (p : Fin 4) : Vec F S1x256x128 .f32 := fun x => A (ix3 p ⟨(x 1).val, (x 1).isLt⟩ ⟨(x 2).val, (x 2).isLt⟩)

/-- A head's queries: pair `h / 2`'s columns, the other head's half of them zero. -/
def qh (q : Vec F S1x256x512 .bf16) (h : Fin 8) : FVec F S256x128 .bf16 :=
  if h.val % 2 = 0 then k0_pay7 (qt q ⟨h.val / 2, by omega⟩) else k0_pay8 (qt q ⟨h.val / 2, by omega⟩)

/-- The scores of a tile. -/
def zv (q : FVec F S256x128 .bf16) (k : Vec F S1x256x128 .bf16) : FVec F S256x256 .f32 := k0_pay120 q k

/-- The running sum after a tile. -/
def cv (z : FVec F S256x256 .f32) (w : Vec F S1x256x1 .f32) : FVec F S1x256x1 .f32 := k0_pay183 (k0_pay131 z) w

/-- The weights of a tile. -/
def pv (u : FVec F S256x256 .bf16) (z : FVec F S256x256 .f32) (w : Vec F S1x256x1 .f32) : FVec F S256x256 .bf16 :=
  k0_pay168 (k0_pay128 z) (k0_pay162 u (k0_pay130 z)) w

/-- A pair's accumulator after a tile. -/
def av (sel : IVec S256x128 1) (u : FVec F S256x256 .bf16) (vb : Vec F S1x256x128 .bf16) (z0 z1 : FVec F S256x256 .f32)
    (w0 w1 : Vec F S1x256x1 .f32) (a : Vec F S1x256x128 .f32) : FVec F S1x256x128 .f32 :=
  k0_pay179 sel (k0_pay116 vb) (pv u z0 w0) (pv u z1 w1) a

/-- The running sum after the masked tile. -/
def cm (msk : IVec S256x256 1) (q : FVec F S256x128 .bf16) (k : Vec F S1x256x128 .bf16) (w : Vec F S1x256x1 .f32) : FVec F S1x256x1 .f32 :=
  k0_pay98 (k0_pay42 (k0_pay41 q msk (k0_pay22 k))) w

/-- The weights of the masked tile. -/
def pm (msk : IVec S256x256 1) (u : FVec F S256x256 .bf16) (q : FVec F S256x128 .bf16) (k : Vec F S1x256x128 .bf16)
    (w : Vec F S1x256x1 .f32) : FVec F S256x256 .bf16 :=
  k0_pay82 msk (k0_pay38 q (k0_pay22 k)) (k0_pay74 u (k0_pay40 q msk (k0_pay22 k))) w

/-- A pair's accumulator after the masked tile. -/
def am (sel : IVec S256x128 1) (msk : IVec S256x256 1) (u : FVec F S256x256 .bf16) (vb k : Vec F S1x256x128 .bf16)
    (q0 q1 : FVec F S256x128 .bf16) (w0 w1 : Vec F S1x256x1 .f32) (a : Vec F S1x256x128 .f32) : FVec F S1x256x128 .f32 :=
  k0_pay94 sel (k0_pay89 (k0_pay26 vb) (pm msk u q0 k w0)) (k0_pay89 (k0_pay26 vb) (pm msk u q1 k w1)) a

/-- Even and odd head of pair `p`. -/
def ev (p : Fin 4) : Fin 8 := ⟨2 * p.val, by omega⟩
def od (p : Fin 4) : Fin 8 := ⟨2 * p.val + 1, by omega⟩
/-- The pair of head `h`. -/
def pr (h : Fin 8) : Fin 4 := ⟨h.val / 2, by omega⟩

/-- All running sums after an unmasked tile. -/
def stepC (q : Fin 8 → FVec F S256x128 .bf16) (kb : Fin 4 → Vec F S1x256x128 .bf16) (C : Vec F S8x256x1 .f32) : Vec F S8x256x1 .f32 :=
  fun y => cv (zv (q (y 0)) (kb (pr (y 0)))) (cs C (y 0)) (ix3 0 ⟨(y 1).val, (y 1).isLt⟩ ⟨(y 2).val, (y 2).isLt⟩)

/-- All accumulators after an unmasked tile. -/
def stepA (sel : IVec S256x128 1) (u : FVec F S256x256 .bf16) (q : Fin 8 → FVec F S256x128 .bf16) (kb vb : Fin 4 → Vec F S1x256x128 .bf16)
    (C : Vec F S8x256x1 .f32) (A : Vec F S4x256x128 .f32) : Vec F S4x256x128 .f32 :=
  fun y => av sel u (vb (y 0)) (zv (q (ev (y 0))) (kb (y 0))) (zv (q (od (y 0))) (kb (y 0))) (cs C (ev (y 0))) (cs C (od (y 0))) (aas A (y 0))
    (ix3 0 ⟨(y 1).val, (y 1).isLt⟩ ⟨(y 2).val, (y 2).isLt⟩)

/-- All running sums after the masked tile. -/
def firstC (msk : IVec S256x256 1) (q : Fin 8 → FVec F S256x128 .bf16) (kb : Fin 4 → Vec F S1x256x128 .bf16) : Vec F S8x256x1 .f32 :=
  fun y => cm msk (q (y 0)) (kb (pr (y 0))) (cs k0_pay19 (y 0)) (ix3 0 ⟨(y 1).val, (y 1).isLt⟩ ⟨(y 2).val, (y 2).isLt⟩)

/-- All accumulators after the masked tile. -/
def firstA (sel : IVec S256x128 1) (msk : IVec S256x256 1) (u : FVec F S256x256 .bf16) (q : Fin 8 → FVec F S256x128 .bf16)
    (kb vb : Fin 4 → Vec F S1x256x128 .bf16) : Vec F S4x256x128 .f32 :=
  fun y => am sel msk u (vb (y 0)) (kb (y 0)) (q (ev (y 0))) (q (od (y 0))) (cs k0_pay19 (ev (y 0))) (cs k0_pay19 (od (y 0))) (aas k0_pay20 (y 0))
    (ix3 0 ⟨(y 1).val, (y 1).isLt⟩ ⟨(y 2).val, (y 2).isLt⟩)

/-- Whether some running sum is still above the cut-off. -/
def alive (C : Vec F S8x256x1 .f32) : BitVec 1 := Scalar.cmpf .ogt (k0_pay3 C) (Named.named κ "dead" 0xC3200000#32)

/-- The accumulators after the tiles left of tile `r`, taken from the right while the flag is up. -/
def sweep (sel : IVec S256x128 1) (u : FVec F S256x256 .bf16) (q : Fin 8 → FVec F S256x128 .bf16) (K V : Vec F S1x8192x512 .bf16) :
    ℕ → BitVec 1 → Vec F S8x256x1 .f32 → Vec F S4x256x128 .f32 → Vec F S4x256x128 .f32
  | 0, _, _, A => A
  | r + 1, b, C, A =>
    if b = 1#1 then
      sweep sel u q K V r (alive (stepC q (kt K r) C)) (stepC q (kt K r) C) (stepA sel u q (kt K r) (kt V r) C A)
    else A

/-- The accumulators at the end of grid column `n`. -/
def accs (n : ℕ) (q : Vec F S1x256x512 .bf16) (K V : Vec F S1x8192x512 .bf16) (u : FVec F S256x256 .bf16) : Vec F S4x256x128 .f32 :=
  let msk := k0_pay21 (BitVec.ofNat 32 (256 * n)) (BitVec.ofNat 32 (n + 1))
  let C := firstC msk (qh q) (kt K n)
  sweep k0_pay4 u (qh q) K V n (alive C) C (firstA k0_pay4 msk u (qh q) (kt K n) (kt V n))

/-- The output block at the end of grid column `n`. -/
def outBlk (n : ℕ) (q : Vec F S1x256x512 .bf16) (K V : Vec F S1x8192x512 .bf16) (u : FVec F S256x256 .bf16) : Vec F S1x256x512 .bf16 :=
  fun y => k0_pay108 (aas (accs n q K V u) ⟨(y 2).val / 128, by
      have h : (y 2).val < 512 := (y 2).isLt
      omega⟩) (ix3 0 ⟨(y 1).val, (y 1).isLt⟩ ⟨(y 2).val % 128, Nat.mod_lt _ (by norm_num)⟩)

/-! The offsets the kernel computes, as numbers. -/

set_option maxHeartbeats 4000000 in
theorem offs_first : ∀ a : Fin 32, ∀ i : grid0.Coords, (i 1).val = a.val →
    k0_off1 i = ![0, 256 * a.val, 0] ∧ k0_off2 i = ![0, 256 * a.val, 128] ∧ k0_off3 i = ![0, 256 * a.val, 256] ∧ k0_off4 i = ![0, 256 * a.val, 384] := by
  intro a i h
  unfold k0_off1 k0_off2 k0_off3 k0_off4
  rw [h]; clear h i; revert a; decide +kernel

set_option maxHeartbeats 4000000 in
theorem offs_next : ∀ a j : Fin 32, j.val < a.val → ∀ i : grid0.Coords, (i 1).val = a.val →
    k0_off5 i (BitVec.ofNat 32 j.val) = ![0, 256 * (a.val - 1 - j.val), 0] ∧ k0_off6 i (BitVec.ofNat 32 j.val) = ![0, 256 * (a.val - 1 - j.val), 128]
      ∧ k0_off7 i (BitVec.ofNat 32 j.val) = ![0, 256 * (a.val - 1 - j.val), 256] ∧ k0_off8 i (BitVec.ofNat 32 j.val) = ![0, 256 * (a.val - 1 - j.val), 384]
      ∧ 256 ∣ (k0_mult2 i (BitVec.ofNat 32 j.val)).toNat := by
  intro a j hj i h
  unfold k0_off5 k0_off6 k0_off7 k0_off8 k0_mult2
  rw [h]; clear h i; revert hj; revert a j; decide +kernel

end Cert.Proof.SbIdeal

end
-- ==== Proof.SbLoop.lean ====
module

public import proofs.«01_k».proof.Proof.SbVec
public import Idealize.ShloMosaic.Lib.Pipeline.FrameBody
public import Idealize.ShloMosaic.Lib.Pipeline.Value

/-!
  The loop over the earlier key tiles: a run of it leaves in the accumulators the sweep over the tiles left.
-/

@[expose] public section

set_option maxRecDepth 16384
set_option maxHeartbeats 4000000

noncomputable section

namespace Cert.Proof.SbIdeal

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The loop's side conditions hold at every trip it makes. -/
theorem chk_of {i : grid0.Coords} {a j : Fin 32} (hi : (i 1).val = a.val) (hj : j.val < a.val) : k0_chk1 i (BitVec.ofNat 32 j.val) := by
  obtain ⟨h5, h6, h7, h8, hm⟩ := offs_next a j hj i hi
  unfold k0_chk1
  rw [h5, h6, h7, h8]
  refine ⟨hm, ?_, ?_, ?_, ?_⟩ <;> intro z <;> fin_cases z <;> simp [S1x256x128, S1x8192x512] <;> omega

/-- A tile's columns, as the rectangle load reads them. -/
theorem ld_kt (K : Vec F S1x8192x512 .bf16) (off : Fin 3 → ℕ) (inb : ∀ a, off a + S1x256x128.size a ≤ S1x8192x512.size a) (n : ℕ) (p : Fin 4)
    (h : off = ![0, 256 * n, 128 * p.val]) (hn : n < 32) :
    View.ld (Val := Elt F) (e' := .bf16) K (Rect.unit (s := S1x8192x512) off S1x256x128.size inb) = kt K n p := by
  subst h
  funext x
  unfold View.ld kt
  refine congrArg K (funext fun z => Fin.ext ?_)
  have h1 : (x 1).val < 256 := (x 1).isLt
  have h0 : (x 0).val < 1 := (x 0).isLt
  match z with
  | ⟨0, _⟩ => show 0 + 1 * (x 0).val = 0; omega
  | ⟨1, _⟩ => show 256 * n + 1 * (x 1).val = (256 * n + (x 1).val) % 8192; omega
  | ⟨2, _⟩ => show 128 * p.val + 1 * (x 2).val = 128 * p.val + (x 2).val; omega

/-- The same through a memref. -/
theorem rd_kt (m : Memref sig .tc .vmem S1x8192x512 .bf16) (X : BufTy.Contents (Elt F) m.view.ty) (off : Fin 3 → ℕ)
    (inb : ∀ a, off a + S1x256x128.size a ≤ S1x8192x512.size a) (n : ℕ) (p : Fin 4) (h : off = ![0, 256 * n, 128 * p.val]) (hn : n < 32) :
    View.readAt (Elt F) m.view (Rect.unit (s := S1x8192x512) off S1x256x128.size inb).toLoadRect X = kt (View.read (Elt F) m.view X) n p := by
  rw [View.readAt_eq_ld]; exact ld_kt _ off inb n p h hn

/-- A row of the running sums, through a memref. -/
theorem rd_cs (m : Memref sig .tc .vmem S8x256x1 .f32) (X : BufTy.Contents (Elt F) m.view.ty) (h : Fin 8)
    (inb : ∀ a, (![h.val, 0, 0] : Fin 3 → ℕ) a + S1x256x1.size a ≤ S8x256x1.size a) :
    View.readAt (Elt F) m.view (Rect.unit (s := S8x256x1) ![h.val, 0, 0] S1x256x1.size inb).toLoadRect X = cs (View.read (Elt F) m.view X) h := by
  rw [View.readAt_eq_ld]
  funext x
  unfold View.ld cs
  refine congrArg (View.read (Elt F) m.view X) (funext fun z => Fin.ext ?_)
  have h0 : (x 0).val < 1 := (x 0).isLt
  match z with
  | ⟨0, _⟩ => show h.val + 1 * (x 0).val = h.val; omega
  | ⟨1, _⟩ => show 0 + 1 * (x 1).val = (x 1).val; omega
  | ⟨2, _⟩ => show 0 + 1 * (x 2).val = (x 2).val; omega

/-- A pair of the accumulators, through a memref. -/
theorem rd_as (m : Memref sig .tc .vmem S4x256x128 .f32) (X : BufTy.Contents (Elt F) m.view.ty) (h : Fin 4)
    (inb : ∀ a, (![h.val, 0, 0] : Fin 3 → ℕ) a + S1x256x128.size a ≤ S4x256x128.size a) :
    View.readAt (Elt F) m.view (Rect.unit (s := S4x256x128) ![h.val, 0, 0] S1x256x128.size inb).toLoadRect X = aas (View.read (Elt F) m.view X) h := by
  rw [View.readAt_eq_ld]
  funext x
  unfold View.ld aas
  refine congrArg (View.read (Elt F) m.view X) (funext fun z => Fin.ext ?_)
  have h0 : (x 0).val < 1 := (x 0).isLt
  match z with
  | ⟨0, _⟩ => show h.val + 1 * (x 0).val = h.val; omega
  | ⟨1, _⟩ => show 0 + 1 * (x 1).val = (x 1).val; omega
  | ⟨2, _⟩ => show 0 + 1 * (x 2).val = (x 2).val; omega

/-- Where a row rectangle puts its indices. -/
theorem emb_cs (h : Fin 8) (inb : ∀ a, (![h.val, 0, 0] : Fin 3 → ℕ) a + S1x256x1.size a ≤ S8x256x1.size a) (x : S1x256x1.Idx) :
    (Rect.unit (s := S8x256x1) ![h.val, 0, 0] S1x256x1.size inb).emb x = ix3 h ⟨(x 1).val, (x 1).isLt⟩ ⟨(x 2).val, (x 2).isLt⟩ := by
  funext z; apply Fin.ext
  have h0 : (x 0).val < 1 := (x 0).isLt
  match z with
  | ⟨0, _⟩ => show h.val + 1 * (x 0).val = h.val; omega
  | ⟨1, _⟩ => show 0 + 1 * (x 1).val = (x 1).val; omega
  | ⟨2, _⟩ => show 0 + 1 * (x 2).val = (x 2).val; omega

theorem emb_as (h : Fin 4) (inb : ∀ a, (![h.val, 0, 0] : Fin 3 → ℕ) a + S1x256x128.size a ≤ S4x256x128.size a) (x : S1x256x128.Idx) :
    (Rect.unit (s := S4x256x128) ![h.val, 0, 0] S1x256x128.size inb).emb x = ix3 h ⟨(x 1).val, (x 1).isLt⟩ ⟨(x 2).val, (x 2).isLt⟩ := by
  funext z; apply Fin.ext
  have h0 : (x 0).val < 1 := (x 0).isLt
  match z with
  | ⟨0, _⟩ => show h.val + 1 * (x 0).val = h.val; omega
  | ⟨1, _⟩ => show 0 + 1 * (x 1).val = (x 1).val; omega
  | ⟨2, _⟩ => show 0 + 1 * (x 2).val = (x 2).val; omega

theorem flat_cs (x : S1x256x1.Idx) : (ix3 0 ⟨(x 1).val, (x 1).isLt⟩ ⟨(x 2).val, (x 2).isLt⟩ : S1x256x1.Idx) = x := by
  funext z; apply Fin.ext
  have h0 : (x 0).val < 1 := (x 0).isLt
  match z with
  | ⟨0, _⟩ => show 0 = (x 0).val; omega
  | ⟨1, _⟩ => rfl
  | ⟨2, _⟩ => rfl

theorem flat_as (x : S1x256x128.Idx) : (ix3 0 ⟨(x 1).val, (x 1).isLt⟩ ⟨(x 2).val, (x 2).isLt⟩ : S1x256x128.Idx) = x := by
  funext z; apply Fin.ext
  have h0 : (x 0).val < 1 := (x 0).isLt
  match z with
  | ⟨0, _⟩ => show 0 = (x 0).val; omega
  | ⟨1, _⟩ => rfl
  | ⟨2, _⟩ => rfl

/-- Rows cover the running sums. -/
theorem row_mem8 (y : S8x256x1.Idx) (h : Fin 8) (inb : ∀ a, (![h.val, 0, 0] : Fin 3 → ℕ) a + S1x256x1.size a ≤ S8x256x1.size a)
    (hy : y 0 = h) : y ∈ (Rect.unit (s := S8x256x1) ![h.val, 0, 0] S1x256x1.size inb).set := by
  have e : (Rect.unit (s := S8x256x1) ![h.val, 0, 0] S1x256x1.size inb).emb (ix3 0 ⟨(y 1).val, (y 1).isLt⟩ ⟨(y 2).val, (y 2).isLt⟩ : S1x256x1.Idx) = y := by
    rw [emb_cs]; funext z; apply Fin.ext
    match z with
    | ⟨0, _⟩ => show h.val = (y 0).val; rw [hy]
    | ⟨1, _⟩ => rfl
    | ⟨2, _⟩ => rfl
  rw [← e]; exact (Rect.unit (s := S8x256x1) ![h.val, 0, 0] S1x256x1.size inb).idx_mem _

theorem row_mem4 (y : S4x256x128.Idx) (h : Fin 4) (inb : ∀ a, (![h.val, 0, 0] : Fin 3 → ℕ) a + S1x256x128.size a ≤ S4x256x128.size a)
    (hy : y 0 = h) : y ∈ (Rect.unit (s := S4x256x128) ![h.val, 0, 0] S1x256x128.size inb).set := by
  have e : (Rect.unit (s := S4x256x128) ![h.val, 0, 0] S1x256x128.size inb).emb (ix3 0 ⟨(y 1).val, (y 1).isLt⟩ ⟨(y 2).val, (y 2).isLt⟩ : S1x256x128.Idx) = y := by
    rw [emb_as]; funext z; apply Fin.ext
    match z with
    | ⟨0, _⟩ => show h.val = (y 0).val; rw [hy]
    | ⟨1, _⟩ => rfl
    | ⟨2, _⟩ => rfl
  rw [← e]; exact (Rect.unit (s := S4x256x128) ![h.val, 0, 0] S1x256x128.size inb).idx_mem _

/-- A piece of the running sums' step. -/
theorem piece_c (q : Fin 8 → FVec F S256x128 .bf16) (kb : Fin 4 → Vec F S1x256x128 .bf16) (C : Vec F S8x256x1 .f32) (h : Fin 8)
    (k : Vec F S1x256x128 .bf16) (w : Vec F S1x256x1 .f32) (hk : k = kb (pr h)) (hw : w = cs C h)
    (inb : ∀ a, (![h.val, 0, 0] : Fin 3 → ℕ) a + S1x256x1.size a ≤ S8x256x1.size a) (x : S1x256x1.Idx) :
    cv (zv (q h) k) w x = stepC q kb C ((Rect.unit (s := S8x256x1) ![h.val, 0, 0] S1x256x1.size inb).emb x) := by
  subst hk hw
  rw [emb_cs]
  show _ = cv (zv (q h) (kb (pr h))) (cs C h) (ix3 0 ⟨(x 1).val, (x 1).isLt⟩ ⟨(x 2).val, (x 2).isLt⟩)
  rw [flat_cs]

/-- A piece of the accumulators' step. -/
theorem piece_a (sel : IVec S256x128 1) (u : FVec F S256x256 .bf16) (q : Fin 8 → FVec F S256x128 .bf16) (kb vb : Fin 4 → Vec F S1x256x128 .bf16)
    (C : Vec F S8x256x1 .f32) (A : Vec F S4x256x128 .f32) (p : Fin 4)
    (k v : Vec F S1x256x128 .bf16) (w0 w1 : Vec F S1x256x1 .f32) (a : Vec F S1x256x128 .f32)
    (hk : k = kb p) (hv : v = vb p) (hw0 : w0 = cs C (ev p)) (hw1 : w1 = cs C (od p)) (ha : a = aas A p)
    (inb : ∀ a, (![p.val, 0, 0] : Fin 3 → ℕ) a + S1x256x128.size a ≤ S4x256x128.size a) (x : S1x256x128.Idx) :
    av sel u v (zv (q (ev p)) k) (zv (q (od p)) k) w0 w1 a x
      = stepA sel u q kb vb C A ((Rect.unit (s := S4x256x128) ![p.val, 0, 0] S1x256x128.size inb).emb x) := by
  subst hk hv hw0 hw1 ha
  rw [emb_as]
  show _ = av sel u (vb p) (zv (q (ev p)) (kb p)) (zv (q (od p)) (kb p)) (cs C (ev p)) (cs C (od p)) (aas A p)
    (ix3 0 ⟨(x 1).val, (x 1).isLt⟩ ⟨(x 2).val, (x 2).isLt⟩)
  rw [flat_as]

/-- A whole read of the running sums is the buffer's contents. -/
theorem rd_whole7 (m : Memref sig .tc .vmem S8x256x1 .f32) (X : BufTy.Contents (Elt F) m.view.ty)
    (inb : ∀ a, (![0, 0, 0] : Fin 3 → ℕ) a + S8x256x1.size a ≤ S8x256x1.size a) :
    View.readAt (Elt F) m.view (Rect.unit (s := S8x256x1) ![0, 0, 0] S8x256x1.size inb).toLoadRect X = View.read (Elt F) m.view X := by
  rw [View.readAt_eq_ld]
  have hz : (![0, 0, 0] : Fin S8x256x1.rank → ℕ) = fun _ => 0 := by funext a; fin_cases a <;> rfl
  exact View.ld_unit_zero (S := S8x256x1) hz inb _

theorem alive_congr {w C : Vec F S8x256x1 .f32} (h : w = C) :
    Scalar.cmpf .ogt (k0_pay3 w) (Named.named κ "dead" 0xC3200000#32) = alive C := by subst h; rfl

/-- Four facts, the third given the first. -/
theorem four {p q r s : Prop} (hp : p) (hq : q) (hr : p → r) (hs : s) : p ∧ q ∧ r ∧ s := ⟨hp, hq, hr hp, hs⟩

/-- The buffers of the loop, at given contents. -/
def St (c : Dev nD) (arg3 arg4 : Memref sig .tc .vmem S1x8192x512 .bf16) (arg7 : Memref sig .tc .vmem S8x256x1 .f32)
    (arg8 : Memref sig .tc .vmem S4x256x128 .f32)
    (X3 : BufTy.Contents (Elt F) arg3.view.ty) (X4 : BufTy.Contents (Elt F) arg4.view.ty)
    (X7 : BufTy.Contents (Elt F) arg7.view.ty) (X8 : BufTy.Contents (Elt F) arg8.view.ty) : sProp 𝕄 :=
  iprop((arg3.view.loc (c : Thread nD τ) ↦[arg3.view.set]{fullShare} X3) ∗ (arg4.view.loc (c : Thread nD τ) ↦[arg4.view.set]{fullShare} X4)
      ∗ (arg7.view.loc (c : Thread nD τ) ↦[arg7.view.set]{fullShare} X7) ∗ (arg8.view.loc (c : Thread nD τ) ↦[arg8.view.set]{fullShare} X8))

/-- The buffers after the loop: keys and values as they were, running sums of any contents, accumulators reading `A`. -/
def Fin' (c : Dev nD) (arg3 arg4 : Memref sig .tc .vmem S1x8192x512 .bf16) (arg7 : Memref sig .tc .vmem S8x256x1 .f32)
    (arg8 : Memref sig .tc .vmem S4x256x128 .f32)
    (X3 : BufTy.Contents (Elt F) arg3.view.ty) (X4 : BufTy.Contents (Elt F) arg4.view.ty) (A : Vec F S4x256x128 .f32) : sProp 𝕄 :=
  iprop((arg3.view.loc (c : Thread nD τ) ↦[arg3.view.set]{fullShare} X3) ∗ (arg4.view.loc (c : Thread nD τ) ↦[arg4.view.set]{fullShare} X4)
      ∗ (∃ f, (arg7.view.loc (c : Thread nD τ) ↦[arg7.view.set]{fullShare} f))
      ∗ ∃ f, ⌜View.read (Elt F) arg8.view f = A⌝ ∗ (arg8.view.loc (c : Thread nD τ) ↦[arg8.view.set]{fullShare} f))

/-- A trip's call of the loop, at contents that read as given. -/
theorem call_ok (r j : ℕ) (c : Dev nD) (E : Set ℕ) (i : grid0.Coords) (v44 v43 : IVec S256x256 32)
    (arg3 : Memref sig .tc .vmem S1x8192x512 .bf16) (harg3 : arg3.IsWhole) (arg4 : Memref sig .tc .vmem S1x8192x512 .bf16) (harg4 : arg4.IsWhole)
    (v27 v28 v31 v32 v35 v36 v39 v40 : FVec F S256x128 .bf16) (v46 : FVec F S256x256 .bf16)
    (arg7 : Memref sig .tc .vmem S8x256x1 .f32) (harg7 : arg7.IsWhole) (arg8 : Memref sig .tc .vmem S4x256x128 .f32) (harg8 : arg8.IsWhole)
    (v23 : IVec S256x128 1)
    (X3 : BufTy.Contents (Elt F) arg3.view.ty) (X4 : BufTy.Contents (Elt F) arg4.view.ty)
    (ih : ∀ (b : BitVec 1) (X7 : BufTy.Contents (Elt F) arg7.view.ty) (X8 : BufTy.Contents (Elt F) arg8.view.ty),
      St c arg3 arg4 arg7 arg8 X3 X4 X7 X8 ⊢ wp frame (wpE (defs₀ (F := F)) Variants.nat (c : Thread nD τ) (some r)) E
          (cc0_while1 (F := F) i v44 v43 arg3 harg3 arg4 harg4 v27 v28 v31 v32 v35 v36 v39 v40 v46 arg7 harg7 arg8 harg8 v23 (BitVec.ofNat 32 (j + 1)) b)
          (fun _ => Fin' c arg3 arg4 arg7 arg8 X3 X4 (sweep v23 v46 ![v27, v28, v31, v32, v35, v36, v39, v40] (View.read (Elt F) arg3.view X3)
            (View.read (Elt F) arg4.view X4) r b (View.read (Elt F) arg7.view X7) (View.read (Elt F) arg8.view X8))))
    (C : Vec F S8x256x1 .f32) (A : Vec F S4x256x128 .f32) (bd : Option ℕ) (hbd : ∀ u ∈ bd, r < u) (b : BitVec 1)
    (X7 : BufTy.Contents (Elt F) arg7.view.ty) (X8 : BufTy.Contents (Elt F) arg8.view.ty) (arg9 : BitVec 32) :
    iprop(St c arg3 arg4 arg7 arg8 X3 X4 X7 X8
      ∗ ⌜View.read (Elt F) arg7.view X7 = C ∧ View.read (Elt F) arg8.view X8 = A ∧ b = alive C ∧ arg9 = BitVec.ofNat 32 (j + 1)⌝)
      ⊢ wp frame (wpE (defs₀ (F := F)) Variants.nat (c : Thread nD τ) bd) E
        (.op (.call (1 : (Λ₀ F).Label) (⟨i, v44, v43, arg3, harg3, arg4, harg4, v27, v28, v31, v32, v35, v36, v39, v40, v46, arg7, harg7, arg8, harg8, v23, arg9, b⟩ : Cc0While1 F)) Prog.ret)
          (fun _ => Fin' c arg3 arg4 arg7 arg8 X3 X4 (sweep v23 v46 ![v27, v28, v31, v32, v35, v36, v39, v40] (View.read (Elt F) arg3.view X3)
            (View.read (Elt F) arg4.view X4) r (alive C) C A)) := by
  iintro ⟨H, %h⟩
  obtain ⟨rfl, rfl, hb, rfl⟩ := h
  rw [← hb]
  iapply (wp_call Variants.nat (c : Thread nD τ) bd E r hbd)
  iapply wp_wand_r
  isplitl [H]
  · have h1 := ih b X7 X8
    iapply h1
    iexact H
  iintro %x Hx
  rw [wp_ret]; imodintro
  iexact Hx

theorem while_run (c : Dev nD) (E : Set ℕ) (i : grid0.Coords) (v44 v43 : IVec S256x256 32)
    (arg3 : Memref sig .tc .vmem S1x8192x512 .bf16) (harg3 : arg3.IsWhole) (arg4 : Memref sig .tc .vmem S1x8192x512 .bf16) (harg4 : arg4.IsWhole)
    (v27 v28 v31 v32 v35 v36 v39 v40 : FVec F S256x128 .bf16) (v46 : FVec F S256x256 .bf16)
    (arg7 : Memref sig .tc .vmem S8x256x1 .f32) (harg7 : arg7.IsWhole) (arg8 : Memref sig .tc .vmem S4x256x128 .f32) (harg8 : arg8.IsWhole)
    (v23 : IVec S256x128 1)
    (X3 : BufTy.Contents (Elt F) arg3.view.ty) (X4 : BufTy.Contents (Elt F) arg4.view.ty) (a : Fin 32) (hi : (i 1).val = a.val) : ∀ (r j : ℕ), j + r = a.val → ∀ (b : BitVec 1)
    (X7 : BufTy.Contents (Elt F) arg7.view.ty) (X8 : BufTy.Contents (Elt F) arg8.view.ty),
      St c arg3 arg4 arg7 arg8 X3 X4 X7 X8 ⊢ wp frame (wpE (defs₀ (F := F)) Variants.nat (c : Thread nD τ) (some r)) E
          (cc0_while1 (F := F) i v44 v43 arg3 harg3 arg4 harg4 v27 v28 v31 v32 v35 v36 v39 v40 v46 arg7 harg7 arg8 harg8 v23 (BitVec.ofNat 32 j) b)
          (fun _ => Fin' c arg3 arg4 arg7 arg8 X3 X4 (sweep v23 v46 ![v27, v28, v31, v32, v35, v36, v39, v40] (View.read (Elt F) arg3.view X3)
            (View.read (Elt F) arg4.view X4) r b (View.read (Elt F) arg7.view X7) (View.read (Elt F) arg8.view X8))) := by
  intro r
  induction r with
  | zero =>
    intro j hj b X7 X8
    rw [cc0_while1_eq_skeleton]; unfold cc0_while1_skel St Fin'
    iintro ⟨H3, H4, H7, H8⟩
    dsimp only
    split_ifs with hc
    · exfalso
      rw [hi] at hc
      obtain rfl : j = a.val := by omega
      clear * - hc
      revert hc; revert a b; decide +kernel
    · sl_exec
      rw [wp_ret]; imodintro
      isplitl [H3]; · iexact H3
      isplitl [H4]; · iexact H4
      isplitl [H7]; · iexists _; iexact H7
      iexists _
      isplitl []
      · ipureintro; rfl
      iexact H8
  | succ r ih =>
    intro j hj b X7 X8
    have hja : j < a.val := by omega
    have hk : k0_chk1 i (BitVec.ofNat 32 j) := chk_of (j := ⟨j, by omega⟩) hi hja
    have hw := call_ok (F := F) r j c E i v44 v43 arg3 harg3 arg4 harg4 v27 v28 v31 v32 v35 v36 v39 v40 v46 arg7 harg7 arg8 harg8 v23 X3 X4
      (ih (j + 1) (by omega))
    rw [cc0_while1_eq_skeleton]; unfold cc0_while1_skel
    unfold St
    iintro ⟨H3, H4, H7, H8⟩
    dsimp only
    split_ifs with hc
    · have hb : b = 1#1 := by
        rw [hi] at hc
        obtain ⟨j', rfl⟩ : ∃ j' : Fin 32, j'.val = j := ⟨⟨j, by omega⟩, rfl⟩
        clear * - hc hja
        revert hc hja; revert a j' b; decide +kernel
      subst hb
      rw [k0_part13_eq_skeleton, k0_part14_eq_skeleton, k0_part15_eq_skeleton, k0_part16_eq_skeleton, k0_part17_eq_skeleton, k0_part18_eq_skeleton, k0_part19_eq_skeleton, k0_part20_eq_skeleton]
      unfold k0_part13_skel k0_part14_skel k0_part15_skel k0_part16_skel k0_part17_skel k0_part18_skel k0_part19_skel k0_part20_skel
      clear hc
      sl_exec
      dsimp only [sweep]
      rw [if_pos rfl]
      iapply (hw _ _ (some (r + 1)) (by intro u hu; cases hu; exact Nat.lt_succ_self r))
      isplitl [H3 H4 H7 H8]
      · unfold St
        isplitl [H3]; · iexact H3
        isplitl [H4]; · iexact H4
        isplitl [H7]; · iexact H7
        iexact H8
      ipureintro
      have hr : r < 32 := by omega
      obtain ⟨h5, h6, h7, h8, -⟩ := offs_next a ⟨j, by omega⟩ hja i hi
      have hrj : a.val - 1 - j = r := by omega
      dsimp only at h5 h6 h7 h8
      rw [hrj] at h5 h6 h7 h8
      clear hw ih
      refine four ?_ ?_ ?_ ?_
      · funext y
        refine View.read_writes_apply_of_pieces _ _ _ _ ?_ y ?_
        · intro p hp
          rcases List.mem_cons.mp hp with rfl | hp
          · exact piece_c ![v27, v28, v31, v32, v35, v36, v39, v40] (kt (View.read (Elt F) arg3.view X3) r) (View.read (Elt F) arg7.view X7) 7 _ _
              (rd_kt arg3 X3 _ (k0_off8_inb i (BitVec.ofNat 32 j) hk) r 3 (h8) hr) (rd_cs arg7 X7 7 inb_S8x256x1_S1x256x1_7_0_0) inb_S8x256x1_S1x256x1_7_0_0
          rcases List.mem_cons.mp hp with rfl | hp
          · exact piece_c ![v27, v28, v31, v32, v35, v36, v39, v40] (kt (View.read (Elt F) arg3.view X3) r) (View.read (Elt F) arg7.view X7) 6 _ _
              (rd_kt arg3 X3 _ (k0_off8_inb i (BitVec.ofNat 32 j) hk) r 3 (h8) hr) (rd_cs arg7 X7 6 inb_S8x256x1_S1x256x1_6_0_0) inb_S8x256x1_S1x256x1_6_0_0
          rcases List.mem_cons.mp hp with rfl | hp
          · exact piece_c ![v27, v28, v31, v32, v35, v36, v39, v40] (kt (View.read (Elt F) arg3.view X3) r) (View.read (Elt F) arg7.view X7) 5 _ _
              (rd_kt arg3 X3 _ (k0_off7_inb i (BitVec.ofNat 32 j) hk) r 2 (h7) hr) (rd_cs arg7 X7 5 inb_S8x256x1_S1x256x1_5_0_0) inb_S8x256x1_S1x256x1_5_0_0
          rcases List.mem_cons.mp hp with rfl | hp
          · exact piece_c ![v27, v28, v31, v32, v35, v36, v39, v40] (kt (View.read (Elt F) arg3.view X3) r) (View.read (Elt F) arg7.view X7) 4 _ _
              (rd_kt arg3 X3 _ (k0_off7_inb i (BitVec.ofNat 32 j) hk) r 2 (h7) hr) (rd_cs arg7 X7 4 inb_S8x256x1_S1x256x1_4_0_0) inb_S8x256x1_S1x256x1_4_0_0
          rcases List.mem_cons.mp hp with rfl | hp
          · exact piece_c ![v27, v28, v31, v32, v35, v36, v39, v40] (kt (View.read (Elt F) arg3.view X3) r) (View.read (Elt F) arg7.view X7) 3 _ _
              (rd_kt arg3 X3 _ (k0_off6_inb i (BitVec.ofNat 32 j) hk) r 1 (h6) hr) (rd_cs arg7 X7 3 inb_S8x256x1_S1x256x1_3_0_0) inb_S8x256x1_S1x256x1_3_0_0
          rcases List.mem_cons.mp hp with rfl | hp
          · exact piece_c ![v27, v28, v31, v32, v35, v36, v39, v40] (kt (View.read (Elt F) arg3.view X3) r) (View.read (Elt F) arg7.view X7) 2 _ _
              (rd_kt arg3 X3 _ (k0_off6_inb i (BitVec.ofNat 32 j) hk) r 1 (h6) hr) (rd_cs arg7 X7 2 inb_S8x256x1_S1x256x1_2_0_0) inb_S8x256x1_S1x256x1_2_0_0
          rcases List.mem_cons.mp hp with rfl | hp
          · exact piece_c ![v27, v28, v31, v32, v35, v36, v39, v40] (kt (View.read (Elt F) arg3.view X3) r) (View.read (Elt F) arg7.view X7) 1 _ _
              (rd_kt arg3 X3 _ (k0_off5_inb i (BitVec.ofNat 32 j) hk) r 0 (h5) hr) (rd_cs arg7 X7 1 inb_S8x256x1_S1x256x1_1_0_0) inb_S8x256x1_S1x256x1_1_0_0
          rcases List.mem_cons.mp hp with rfl | hp
          · exact piece_c ![v27, v28, v31, v32, v35, v36, v39, v40] (kt (View.read (Elt F) arg3.view X3) r) (View.read (Elt F) arg7.view X7) 0 _ _
              (rd_kt arg3 X3 _ (k0_off5_inb i (BitVec.ofNat 32 j) hk) r 0 (h5) hr) (rd_cs arg7 X7 0 inb_S8x256x1_S1x256x1_0_0_0) inb_S8x256x1_S1x256x1_0_0_0
          exact absurd hp List.not_mem_nil
        · refine (?_ : ∀ h : Fin 8, y 0 = h → _) (y 0) rfl
          intro h e
          match h, e with
          | 0, e => exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), row_mem8 y 0 inb_S8x256x1_S1x256x1_0_0_0 e⟩
          | 1, e => exact ⟨_, (List.mem_cons_of_mem _ (List.mem_cons_of_mem _ (List.mem_cons_of_mem _ (List.mem_cons_of_mem _ (List.mem_cons_of_mem _ (List.mem_cons_of_mem _ List.mem_cons_self)))))), row_mem8 y 1 inb_S8x256x1_S1x256x1_1_0_0 e⟩
          | 2, e => exact ⟨_, (List.mem_cons_of_mem _ (List.mem_cons_of_mem _ (List.mem_cons_of_mem _ (List.mem_cons_of_mem _ (List.mem_cons_of_mem _ List.mem_cons_self))))), row_mem8 y 2 inb_S8x256x1_S1x256x1_2_0_0 e⟩
          | 3, e => exact ⟨_, (List.mem_cons_of_mem _ (List.mem_cons_of_mem _ (List.mem_cons_of_mem _ (List.mem_cons_of_mem _ List.mem_cons_self)))), row_mem8 y 3 inb_S8x256x1_S1x256x1_3_0_0 e⟩
          | 4, e => exact ⟨_, (List.mem_cons_of_mem _ (List.mem_cons_of_mem _ (List.mem_cons_of_mem _ List.mem_cons_self))), row_mem8 y 4 inb_S8x256x1_S1x256x1_4_0_0 e⟩
          | 5, e => exact ⟨_, (List.mem_cons_of_mem _ (List.mem_cons_of_mem _ List.mem_cons_self)), row_mem8 y 5 inb_S8x256x1_S1x256x1_5_0_0 e⟩
          | 6, e => exact ⟨_, (List.mem_cons_of_mem _ List.mem_cons_self), row_mem8 y 6 inb_S8x256x1_S1x256x1_6_0_0 e⟩
          | 7, e => exact ⟨_, List.mem_cons_self, row_mem8 y 7 inb_S8x256x1_S1x256x1_7_0_0 e⟩
      · funext y
        refine View.read_writes_apply_of_pieces _ _ _ _ ?_ y ?_
        · intro p hp
          rcases List.mem_cons.mp hp with rfl | hp
          · exact piece_a v23 v46 ![v27, v28, v31, v32, v35, v36, v39, v40] (kt (View.read (Elt F) arg3.view X3) r) (kt (View.read (Elt F) arg4.view X4) r)
              (View.read (Elt F) arg7.view X7) (View.read (Elt F) arg8.view X8) 3 _ _ _ _ _
              (rd_kt arg3 X3 _ (k0_off8_inb i (BitVec.ofNat 32 j) hk) r 3 h8 hr)
              (rd_kt arg4 X4 _ (k0_off8_inb i (BitVec.ofNat 32 j) hk) r 3 h8 hr)
              (rd_cs arg7 X7 6 inb_S8x256x1_S1x256x1_6_0_0) (rd_cs arg7 X7 7 inb_S8x256x1_S1x256x1_7_0_0)
              (rd_as arg8 X8 3 inb_S4x256x128_S1x256x128_3_0_0) inb_S4x256x128_S1x256x128_3_0_0
          rcases List.mem_cons.mp hp with rfl | hp
          · exact piece_a v23 v46 ![v27, v28, v31, v32, v35, v36, v39, v40] (kt (View.read (Elt F) arg3.view X3) r) (kt (View.read (Elt F) arg4.view X4) r)
              (View.read (Elt F) arg7.view X7) (View.read (Elt F) arg8.view X8) 2 _ _ _ _ _
              (rd_kt arg3 X3 _ (k0_off7_inb i (BitVec.ofNat 32 j) hk) r 2 h7 hr)
              (rd_kt arg4 X4 _ (k0_off7_inb i (BitVec.ofNat 32 j) hk) r 2 h7 hr)
              (rd_cs arg7 X7 4 inb_S8x256x1_S1x256x1_4_0_0) (rd_cs arg7 X7 5 inb_S8x256x1_S1x256x1_5_0_0)
              (rd_as arg8 X8 2 inb_S4x256x128_S1x256x128_2_0_0) inb_S4x256x128_S1x256x128_2_0_0
          rcases List.mem_cons.mp hp with rfl | hp
          · exact piece_a v23 v46 ![v27, v28, v31, v32, v35, v36, v39, v40] (kt (View.read (Elt F) arg3.view X3) r) (kt (View.read (Elt F) arg4.view X4) r)
              (View.read (Elt F) arg7.view X7) (View.read (Elt F) arg8.view X8) 1 _ _ _ _ _
              (rd_kt arg3 X3 _ (k0_off6_inb i (BitVec.ofNat 32 j) hk) r 1 h6 hr)
              (rd_kt arg4 X4 _ (k0_off6_inb i (BitVec.ofNat 32 j) hk) r 1 h6 hr)
              (rd_cs arg7 X7 2 inb_S8x256x1_S1x256x1_2_0_0) (rd_cs arg7 X7 3 inb_S8x256x1_S1x256x1_3_0_0)
              (rd_as arg8 X8 1 inb_S4x256x128_S1x256x128_1_0_0) inb_S4x256x128_S1x256x128_1_0_0
          rcases List.mem_cons.mp hp with rfl | hp
          · exact piece_a v23 v46 ![v27, v28, v31, v32, v35, v36, v39, v40] (kt (View.read (Elt F) arg3.view X3) r) (kt (View.read (Elt F) arg4.view X4) r)
              (View.read (Elt F) arg7.view X7) (View.read (Elt F) arg8.view X8) 0 _ _ _ _ _
              (rd_kt arg3 X3 _ (k0_off5_inb i (BitVec.ofNat 32 j) hk) r 0 h5 hr)
              (rd_kt arg4 X4 _ (k0_off5_inb i (BitVec.ofNat 32 j) hk) r 0 h5 hr)
              (rd_cs arg7 X7 0 inb_S8x256x1_S1x256x1_0_0_0) (rd_cs arg7 X7 1 inb_S8x256x1_S1x256x1_1_0_0)
              (rd_as arg8 X8 0 inb_S4x256x128_S1x256x128_0_0_0) inb_S4x256x128_S1x256x128_0_0_0
          exact absurd hp List.not_mem_nil
        · refine (?_ : ∀ h : Fin 4, y 0 = h → _) (y 0) rfl
          intro h e
          match h, e with
          | 0, e => exact ⟨_, (List.mem_cons_of_mem _ (List.mem_cons_of_mem _ (List.mem_cons_of_mem _ List.mem_cons_self))), row_mem4 y 0 inb_S4x256x128_S1x256x128_0_0_0 e⟩
          | 1, e => exact ⟨_, (List.mem_cons_of_mem _ (List.mem_cons_of_mem _ List.mem_cons_self)), row_mem4 y 1 inb_S4x256x128_S1x256x128_1_0_0 e⟩
          | 2, e => exact ⟨_, (List.mem_cons_of_mem _ List.mem_cons_self), row_mem4 y 2 inb_S4x256x128_S1x256x128_2_0_0 e⟩
          | 3, e => exact ⟨_, List.mem_cons_self, row_mem4 y 3 inb_S4x256x128_S1x256x128_3_0_0 e⟩
      · intro e7
        clear e7
        apply alive_congr
        unfold while_run.sl.v747
        refine (rd_whole7 arg7 _ _).trans ?_
        funext y
        refine View.read_writes_apply_of_pieces _ _ _ _ ?_ y ?_
        · intro p hp
          rcases List.mem_cons.mp hp with rfl | hp
          · exact piece_c ![v27, v28, v31, v32, v35, v36, v39, v40] (kt (View.read (Elt F) arg3.view X3) r) (View.read (Elt F) arg7.view X7) 7 _ _
              (rd_kt arg3 X3 _ (k0_off8_inb i (BitVec.ofNat 32 j) hk) r 3 (h8) hr) (rd_cs arg7 X7 7 inb_S8x256x1_S1x256x1_7_0_0) inb_S8x256x1_S1x256x1_7_0_0
          rcases List.mem_cons.mp hp with rfl | hp
          · exact piece_c ![v27, v28, v31, v32, v35, v36, v39, v40] (kt (View.read (Elt F) arg3.view X3) r) (View.read (Elt F) arg7.view X7) 6 _ _
              (rd_kt arg3 X3 _ (k0_off8_inb i (BitVec.ofNat 32 j) hk) r 3 (h8) hr) (rd_cs arg7 X7 6 inb_S8x256x1_S1x256x1_6_0_0) inb_S8x256x1_S1x256x1_6_0_0
          rcases List.mem_cons.mp hp with rfl | hp
          · exact piece_c ![v27, v28, v31, v32, v35, v36, v39, v40] (kt (View.read (Elt F) arg3.view X3) r) (View.read (Elt F) arg7.view X7) 5 _ _
              (rd_kt arg3 X3 _ (k0_off7_inb i (BitVec.ofNat 32 j) hk) r 2 (h7) hr) (rd_cs arg7 X7 5 inb_S8x256x1_S1x256x1_5_0_0) inb_S8x256x1_S1x256x1_5_0_0
          rcases List.mem_cons.mp hp with rfl | hp
          · exact piece_c ![v27, v28, v31, v32, v35, v36, v39, v40] (kt (View.read (Elt F) arg3.view X3) r) (View.read (Elt F) arg7.view X7) 4 _ _
              (rd_kt arg3 X3 _ (k0_off7_inb i (BitVec.ofNat 32 j) hk) r 2 (h7) hr) (rd_cs arg7 X7 4 inb_S8x256x1_S1x256x1_4_0_0) inb_S8x256x1_S1x256x1_4_0_0
          rcases List.mem_cons.mp hp with rfl | hp
          · exact piece_c ![v27, v28, v31, v32, v35, v36, v39, v40] (kt (View.read (Elt F) arg3.view X3) r) (View.read (Elt F) arg7.view X7) 3 _ _
              (rd_kt arg3 X3 _ (k0_off6_inb i (BitVec.ofNat 32 j) hk) r 1 (h6) hr) (rd_cs arg7 X7 3 inb_S8x256x1_S1x256x1_3_0_0) inb_S8x256x1_S1x256x1_3_0_0
          rcases List.mem_cons.mp hp with rfl | hp
          · exact piece_c ![v27, v28, v31, v32, v35, v36, v39, v40] (kt (View.read (Elt F) arg3.view X3) r) (View.read (Elt F) arg7.view X7) 2 _ _
              (rd_kt arg3 X3 _ (k0_off6_inb i (BitVec.ofNat 32 j) hk) r 1 (h6) hr) (rd_cs arg7 X7 2 inb_S8x256x1_S1x256x1_2_0_0) inb_S8x256x1_S1x256x1_2_0_0
          rcases List.mem_cons.mp hp with rfl | hp
          · exact piece_c ![v27, v28, v31, v32, v35, v36, v39, v40] (kt (View.read (Elt F) arg3.view X3) r) (View.read (Elt F) arg7.view X7) 1 _ _
              (rd_kt arg3 X3 _ (k0_off5_inb i (BitVec.ofNat 32 j) hk) r 0 (h5) hr) (rd_cs arg7 X7 1 inb_S8x256x1_S1x256x1_1_0_0) inb_S8x256x1_S1x256x1_1_0_0
          rcases List.mem_cons.mp hp with rfl | hp
          · exact piece_c ![v27, v28, v31, v32, v35, v36, v39, v40] (kt (View.read (Elt F) arg3.view X3) r) (View.read (Elt F) arg7.view X7) 0 _ _
              (rd_kt arg3 X3 _ (k0_off5_inb i (BitVec.ofNat 32 j) hk) r 0 (h5) hr) (rd_cs arg7 X7 0 inb_S8x256x1_S1x256x1_0_0_0) inb_S8x256x1_S1x256x1_0_0_0
          exact absurd hp List.not_mem_nil
        · refine (?_ : ∀ h : Fin 8, y 0 = h → _) (y 0) rfl
          intro h e
          match h, e with
          | 0, e => exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), row_mem8 y 0 inb_S8x256x1_S1x256x1_0_0_0 e⟩
          | 1, e => exact ⟨_, (List.mem_cons_of_mem _ (List.mem_cons_of_mem _ (List.mem_cons_of_mem _ (List.mem_cons_of_mem _ (List.mem_cons_of_mem _ (List.mem_cons_of_mem _ List.mem_cons_self)))))), row_mem8 y 1 inb_S8x256x1_S1x256x1_1_0_0 e⟩
          | 2, e => exact ⟨_, (List.mem_cons_of_mem _ (List.mem_cons_of_mem _ (List.mem_cons_of_mem _ (List.mem_cons_of_mem _ (List.mem_cons_of_mem _ List.mem_cons_self))))), row_mem8 y 2 inb_S8x256x1_S1x256x1_2_0_0 e⟩
          | 3, e => exact ⟨_, (List.mem_cons_of_mem _ (List.mem_cons_of_mem _ (List.mem_cons_of_mem _ (List.mem_cons_of_mem _ List.mem_cons_self)))), row_mem8 y 3 inb_S8x256x1_S1x256x1_3_0_0 e⟩
          | 4, e => exact ⟨_, (List.mem_cons_of_mem _ (List.mem_cons_of_mem _ (List.mem_cons_of_mem _ List.mem_cons_self))), row_mem8 y 4 inb_S8x256x1_S1x256x1_4_0_0 e⟩
          | 5, e => exact ⟨_, (List.mem_cons_of_mem _ (List.mem_cons_of_mem _ List.mem_cons_self)), row_mem8 y 5 inb_S8x256x1_S1x256x1_5_0_0 e⟩
          | 6, e => exact ⟨_, (List.mem_cons_of_mem _ List.mem_cons_self), row_mem8 y 6 inb_S8x256x1_S1x256x1_6_0_0 e⟩
          | 7, e => exact ⟨_, List.mem_cons_self, row_mem8 y 7 inb_S8x256x1_S1x256x1_7_0_0 e⟩
      · show BitVec.ofNat 32 j + 1#32 = BitVec.ofNat 32 (j + 1)
        rw [BitVec.ofNat_add]
    · have hb : ¬ b = 1#1 := by
        rintro rfl
        apply hc
        rw [hi]
        obtain ⟨j', rfl⟩ : ∃ j' : Fin 32, j'.val = j := ⟨⟨j, by omega⟩, rfl⟩
        clear * - hja
        revert hja; revert a j'; decide +kernel
      sl_exec
      rw [wp_ret]; imodintro
      unfold Fin'
      isplitl [H3]; · iexact H3
      isplitl [H4]; · iexact H4
      isplitl [H7]; · iexists _; iexact H7
      iexists _
      isplitl []
      · ipureintro; dsimp only [sweep]; rw [if_neg hb]
      iexact H8

end Cert.Proof.SbIdeal

end
-- ==== Proof.SbOut.lean ====
module

public import proofs.«01_k».proof.Proof.SbLoop

/-!
  The four stores of the stick-breaking attention kernel that leave its output block.
-/

@[expose] public section

set_option maxRecDepth 16384
set_option maxHeartbeats 1000000

noncomputable section

namespace Cert.Proof.SbIdeal

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Where a block of 128 columns lies in the output block. -/
theorem emb_out (p : Fin 4) (inb : ∀ a, (![0, 0, 128 * p.val] : Fin 3 → ℕ) a + S1x256x128.size a ≤ S1x256x512.size a) (x : S1x256x128.Idx) :
    (Rect.unit (s := S1x256x512) ![0, 0, 128 * p.val] S1x256x128.size inb).emb x
      = ix3 0 ⟨(x 1).val, (x 1).isLt⟩ ⟨128 * p.val + (x 2).val, by have h : (x 2).val < 128 := (x 2).isLt; show _ < 512; omega⟩ := by
  funext z; apply Fin.ext
  have h0 : (x 0).val < 1 := (x 0).isLt
  match z with
  | ⟨0, _⟩ => show 0 + 1 * (x 0).val = 0; omega
  | ⟨1, _⟩ => show 0 + 1 * (x 1).val = (x 1).val; omega
  | ⟨2, _⟩ => show 128 * p.val + 1 * (x 2).val = 128 * p.val + (x 2).val; omega

/-- The columns of the output block, pair after pair. -/
theorem out_mem (y : S1x256x512.Idx) (p : Fin 4) (inb : ∀ a, (![0, 0, 128 * p.val] : Fin 3 → ℕ) a + S1x256x128.size a ≤ S1x256x512.size a)
    (hy : (y 2).val / 128 = p.val) : y ∈ (Rect.unit (s := S1x256x512) ![0, 0, 128 * p.val] S1x256x128.size inb).set := by
  have e : (Rect.unit (s := S1x256x512) ![0, 0, 128 * p.val] S1x256x128.size inb).emb
      (ix3 0 ⟨(y 1).val, (y 1).isLt⟩ ⟨(y 2).val % 128, Nat.mod_lt _ (by norm_num)⟩ : S1x256x128.Idx) = y := by
    rw [emb_out]; funext z; apply Fin.ext
    have h0 : (y 0).val < 1 := (y 0).isLt
    match z with
    | ⟨0, _⟩ => show 0 = (y 0).val; omega
    | ⟨1, _⟩ => rfl
    | ⟨2, _⟩ => show 128 * p.val + (y 2).val % 128 = (y 2).val; omega
  rw [← e]; exact (Rect.unit (s := S1x256x512) ![0, 0, 128 * p.val] S1x256x128.size inb).idx_mem _

/-- A block of columns of the output block, as the block wants it. -/
theorem piece_out (G : Vec F S4x256x128 .f32) (O : Vec F S1x256x512 .bf16)
    (hO : ∀ y, O y = k0_pay108 (aas G ⟨(y 2).val / 128, by have h : (y 2).val < 512 := (y 2).isLt; omega⟩)
      (ix3 0 ⟨(y 1).val, (y 1).isLt⟩ ⟨(y 2).val % 128, Nat.mod_lt _ (by norm_num)⟩))
    (p : Fin 4) (inb : ∀ a, (![0, 0, 128 * p.val] : Fin 3 → ℕ) a + S1x256x128.size a ≤ S1x256x512.size a)
    (w : FVec F S1x256x128 .bf16) (hw : w = k0_pay108 (aas G p)) (x : S1x256x128.Idx) :
    w x = O ((Rect.unit (s := S1x256x512) ![0, 0, 128 * p.val] S1x256x128.size inb).emb x) := by
  have h0 : (x 0).val < 1 := (x 0).isLt
  have h2 : (x 2).val < 128 := (x 2).isLt
  have hd : (128 * p.val + (x 2).val) / 128 = p.val := by omega
  have hm : (128 * p.val + (x 2).val) % 128 = (x 2).val := by omega
  subst hw
  have e1 : (⟨(128 * p.val + (x 2).val) / 128, by omega⟩ : Fin 4) = p := Fin.ext hd
  have e2 : (ix3 0 ⟨(x 1).val, (x 1).isLt⟩ ⟨(128 * p.val + (x 2).val) % 128, Nat.mod_lt _ (by norm_num)⟩ : S1x256x128.Idx) = x := by
    refine Eq.trans ?_ (flat_as x)
    exact congrArg (fun z : Fin 128 => (ix3 0 ⟨(x 1).val, (x 1).isLt⟩ z : S1x256x128.Idx)) (Fin.ext hm)
  refine Eq.trans ?_ (congrArg O (emb_out p inb x)).symm
  refine Eq.trans ?_ (hO _).symm
  exact (congr (congrArg (fun p => k0_pay108 (aas G p)) e1) e2).symm

/-- The four stores of the block cover it. -/
theorem out_read (m6 : Memref sig .tc .vmem S1x256x512 .bf16) (m8 : Memref sig .tc .vmem S4x256x128 .f32)
    (X6 : BufTy.Contents (Elt F) m6.view.ty) (f8 : BufTy.Contents (Elt F) m8.view.ty) (G : Vec F S4x256x128 .f32) (e8 : View.read (Elt F) m8.view f8 = G)
    (O : Vec F S1x256x512 .bf16)
    (hO : ∀ y, O y = k0_pay108 (aas G ⟨(y 2).val / 128, by have h : (y 2).val < 512 := (y 2).isLt; omega⟩)
      (ix3 0 ⟨(y 1).val, (y 1).isLt⟩ ⟨(y 2).val % 128, Nat.mod_lt _ (by norm_num)⟩)) (w0 w1 w2 w3 : FVec F S1x256x128 .bf16)
    (h0 : w0 = k0_pay108 (View.readAt (Elt F) m8.view (Rect.unit (s := S4x256x128) ![0, 0, 0] S1x256x128.size inb_S4x256x128_S1x256x128_0_0_0).toLoadRect f8))
    (h1 : w1 = k0_pay108 (View.readAt (Elt F) m8.view (Rect.unit (s := S4x256x128) ![1, 0, 0] S1x256x128.size inb_S4x256x128_S1x256x128_1_0_0).toLoadRect f8))
    (h2 : w2 = k0_pay108 (View.readAt (Elt F) m8.view (Rect.unit (s := S4x256x128) ![2, 0, 0] S1x256x128.size inb_S4x256x128_S1x256x128_2_0_0).toLoadRect f8))
    (h3 : w3 = k0_pay108 (View.readAt (Elt F) m8.view (Rect.unit (s := S4x256x128) ![3, 0, 0] S1x256x128.size inb_S4x256x128_S1x256x128_3_0_0).toLoadRect f8)) :
    View.read (Elt F) m6.view (m6.view.writes (Elt F) X6
      [⟨Rect.unit (s := S1x256x512) ![0, 0, 384] S1x256x128.size inb_S1x256x512_S1x256x128_0_0_384, w3⟩,
       ⟨Rect.unit (s := S1x256x512) ![0, 0, 256] S1x256x128.size inb_S1x256x512_S1x256x128_0_0_256, w2⟩,
       ⟨Rect.unit (s := S1x256x512) ![0, 0, 128] S1x256x128.size inb_S1x256x512_S1x256x128_0_0_128, w1⟩,
       ⟨Rect.unit (s := S1x256x512) ![0, 0, 0] S1x256x128.size inb_S1x256x512_S1x256x128_0_0_0, w0⟩]) = O := by
  subst e8
  replace h0 := h0.trans (congrArg k0_pay108 (rd_as m8 f8 0 inb_S4x256x128_S1x256x128_0_0_0))
  replace h1 := h1.trans (congrArg k0_pay108 (rd_as m8 f8 1 inb_S4x256x128_S1x256x128_1_0_0))
  replace h2 := h2.trans (congrArg k0_pay108 (rd_as m8 f8 2 inb_S4x256x128_S1x256x128_2_0_0))
  replace h3 := h3.trans (congrArg k0_pay108 (rd_as m8 f8 3 inb_S4x256x128_S1x256x128_3_0_0))
  funext y
  refine View.read_writes_apply_of_pieces m6.view X6 O _ ?_ y ?_
  · intro p hp
    simp only [List.mem_cons, List.not_mem_nil, or_false] at hp
    rcases hp with rfl | rfl | rfl | rfl
    · exact piece_out _ O hO 3 inb_S1x256x512_S1x256x128_0_0_384 _ h3
    · exact piece_out _ O hO 2 inb_S1x256x512_S1x256x128_0_0_256 _ h2
    · exact piece_out _ O hO 1 inb_S1x256x512_S1x256x128_0_0_128 _ h1
    · exact piece_out _ O hO 0 inb_S1x256x512_S1x256x128_0_0_0 _ h0
  · refine (?_ : ∀ h : Fin 4, (y 2).val / 128 = h.val → _) ⟨(y 2).val / 128, by have h : (y 2).val < 512 := (y 2).isLt; omega⟩ rfl
    intro h e
    match h, e with
    | 0, e => exact ⟨_, List.mem_cons_of_mem _ (List.mem_cons_of_mem _ (List.mem_cons_of_mem _ List.mem_cons_self)), out_mem y 0 inb_S1x256x512_S1x256x128_0_0_0 e⟩
    | 1, e => exact ⟨_, List.mem_cons_of_mem _ (List.mem_cons_of_mem _ List.mem_cons_self), out_mem y 1 inb_S1x256x512_S1x256x128_0_0_128 e⟩
    | 2, e => exact ⟨_, List.mem_cons_of_mem _ List.mem_cons_self, out_mem y 2 inb_S1x256x512_S1x256x128_0_0_256 e⟩
    | 3, e => exact ⟨_, List.mem_cons_self, out_mem y 3 inb_S1x256x512_S1x256x128_0_0_384 e⟩

end Cert.Proof.SbIdeal

end
-- ==== Proof.SbBody.lean ====
module

public import proofs.«01_k».proof.Proof.SbOut

/-!
  The whole body of the stick-breaking attention kernel at a grid point: the output block it leaves.
-/

@[expose] public section

set_option maxRecDepth 16384
set_option maxHeartbeats 1000000

noncomputable section

namespace Cert.Proof.SbIdeal

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The call of the loop from the body, at contents that read as given. -/
theorem main_call {α : Type} (c : Dev nD) (E : Set ℕ) (i : grid0.Coords) (v44 v43 : IVec S256x256 32)
    (arg3 : Memref sig .tc .vmem S1x8192x512 .bf16) (harg3 : arg3.IsWhole) (arg4 : Memref sig .tc .vmem S1x8192x512 .bf16) (harg4 : arg4.IsWhole)
    (v27 v28 v31 v32 v35 v36 v39 v40 : FVec F S256x128 .bf16) (v46 : FVec F S256x256 .bf16)
    (arg7 : Memref sig .tc .vmem S8x256x1 .f32) (harg7 : arg7.IsWhole) (arg8 : Memref sig .tc .vmem S4x256x128 .f32) (harg8 : arg8.IsWhole)
    (v23 : IVec S256x128 1) (b : BitVec 1)
    (X3 : BufTy.Contents (Elt F) arg3.view.ty) (X4 : BufTy.Contents (Elt F) arg4.view.ty) (a : Fin 32) (hi : (i 1).val = a.val)
    (X7 : BufTy.Contents (Elt F) arg7.view.ty) (X8 : BufTy.Contents (Elt F) arg8.view.ty)
    (k : BitVec 32 × BitVec 1 → Prog (TpuEff nD τ sig (Elt F) (Λ₀ F) .tc) α) (Q : α → sProp 𝕄)
    (q : Fin 8 → FVec F S256x128 .bf16) (C : Vec F S8x256x1 .f32) (A : Vec F S4x256x128 .f32) :
    iprop(St c arg3 arg4 arg7 arg8 X3 X4 X7 X8
      ∗ ⌜View.read (Elt F) arg7.view X7 = C ∧ View.read (Elt F) arg8.view X8 = A ∧ b = alive C ∧ ![v27, v28, v31, v32, v35, v36, v39, v40] = q⌝
      ∗ (∀ x, Fin' c arg3 arg4 arg7 arg8 X3 X4 (sweep v23 v46 q (View.read (Elt F) arg3.view X3) (View.read (Elt F) arg4.view X4) a.val (alive C) C A)
        -∗ wp frame (wpE (defs₀ (F := F)) Variants.nat (c : Thread nD τ) none) E (k x) Q))
      ⊢ wp frame (wpE (defs₀ (F := F)) Variants.nat (c : Thread nD τ) none) E
        (.op (.call (1 : (Λ₀ F).Label) (⟨i, v44, v43, arg3, harg3, arg4, harg4, v27, v28, v31, v32, v35, v36, v39, v40, v46, arg7, harg7, arg8, harg8, v23, 0#32, b⟩ : Cc0While1 F)) k) Q := by
  iintro ⟨H, %h, Hk⟩
  obtain ⟨rfl, rfl, hb, rfl⟩ := h
  rw [← hb]
  iapply (wp_call Variants.nat (c : Thread nD τ) none E a.val (by intro u hu; cases hu))
  iapply wp_wand_r
  isplitl [H]
  · have h1 := while_run (F := F) c E i v44 v43 arg3 harg3 arg4 harg4 v27 v28 v31 v32 v35 v36 v39 v40 v46 arg7 harg7 arg8 harg8 v23 X3 X4 a hi a.val 0
      (by omega) b X7 X8
    iapply h1
    iexact H
  iintro %x Hx
  iapply Hk
  iexact Hx

/-- A read after a whole fill and eight pieces that cover. -/
theorem eight {s : Shape} {e : EltTy} (v : View sig .tc .vmem s e) (f : v.ty.Contents (Elt F)) (G : s.Idx → Elt F e) (p7 p6 p5 p4 p3 p2 p1 p0 z : View.Piece (Elt F) s e)
    (h7 : ∀ x, p7.2 x = G (p7.1.emb x)) (h6 : ∀ x, p6.2 x = G (p6.1.emb x)) (h5 : ∀ x, p5.2 x = G (p5.1.emb x)) (h4 : ∀ x, p4.2 x = G (p4.1.emb x))
    (h3 : ∀ x, p3.2 x = G (p3.1.emb x)) (h2 : ∀ x, p2.2 x = G (p2.1.emb x)) (h1 : ∀ x, p1.2 x = G (p1.1.emb x)) (h0 : ∀ x, p0.2 x = G (p0.1.emb x))
    (hc : ∀ y, ∃ p ∈ [p7, p6, p5, p4, p3, p2, p1, p0], y ∈ p.1.set) :
    v.read (Elt F) (v.writes (Elt F) f [p7, p6, p5, p4, p3, p2, p1, p0, z]) = G := by
  funext y
  refine View.read_writes_apply_of_pieces v (v.writes (Elt F) f [z]) G [p7, p6, p5, p4, p3, p2, p1, p0] ?_ y (hc y)
  intro p hp
  simp only [List.mem_cons, List.not_mem_nil, or_false] at hp
  rcases hp with rfl | rfl | rfl | rfl | rfl | rfl | rfl | rfl <;> assumption

/-- A read after a whole fill and four pieces that cover. -/
theorem quad {s : Shape} {e : EltTy} (v : View sig .tc .vmem s e) (f : v.ty.Contents (Elt F)) (G : s.Idx → Elt F e) (p3 p2 p1 p0 z : View.Piece (Elt F) s e)
    (h3 : ∀ x, p3.2 x = G (p3.1.emb x)) (h2 : ∀ x, p2.2 x = G (p2.1.emb x)) (h1 : ∀ x, p1.2 x = G (p1.1.emb x)) (h0 : ∀ x, p0.2 x = G (p0.1.emb x))
    (hc : ∀ y, ∃ p ∈ [p3, p2, p1, p0], y ∈ p.1.set) :
    v.read (Elt F) (v.writes (Elt F) f [p3, p2, p1, p0, z]) = G := by
  funext y
  refine View.read_writes_apply_of_pieces v (v.writes (Elt F) f [z]) G [p3, p2, p1, p0] ?_ y (hc y)
  intro p hp
  simp only [List.mem_cons, List.not_mem_nil, or_false] at hp
  rcases hp with rfl | rfl | rfl | rfl <;> assumption

/-- A head's queries, as the kernel masks the query block it loads. -/
theorem rd_ev (m : Memref sig .tc .vmem S1x256x512 .bf16) (X : BufTy.Contents (Elt F) m.view.ty) (p : Fin 4)
    (inb : ∀ a, (![0, 0, 128 * p.val] : Fin 3 → ℕ) a + S1x256x128.size a ≤ S1x256x512.size a) :
    View.readAt (Elt F) m.view (Rect.unit (s := S1x256x512) ![0, 0, 128 * p.val] S1x256x128.size inb).toLoadRect X = qt (View.read (Elt F) m.view X) p := by
  rw [View.readAt_eq_ld]
  funext x
  unfold View.ld qt
  refine congrArg (View.read (Elt F) m.view X) (funext fun z => Fin.ext ?_)
  have h0 : (x 0).val < 1 := (x 0).isLt
  match z with
  | ⟨0, _⟩ => show 0 + 1 * (x 0).val = 0; omega
  | ⟨1, _⟩ => show 0 + 1 * (x 1).val = (x 1).val; omega
  | ⟨2, _⟩ => show 128 * p.val + 1 * (x 2).val = 128 * p.val + (x 2).val; omega

theorem qh_ev (q : Vec F S1x256x512 .bf16) (p : Fin 4) (w : Vec F S1x256x128 .bf16) (hw : w = qt q p) : k0_pay7 w = qh q (ev p) := by
  subst hw
  unfold qh ev
  rw [if_pos (by show 2 * p.val % 2 = 0; omega)]
  congr 2
  apply Fin.ext; show p.val = 2 * p.val / 2; omega

theorem qh_od (q : Vec F S1x256x512 .bf16) (p : Fin 4) (w : Vec F S1x256x128 .bf16) (hw : w = qt q p) : k0_pay8 w = qh q (od p) := by
  subst hw
  unfold qh od
  rw [if_neg (by show ¬ (2 * p.val + 1) % 2 = 0; omega)]
  congr 2
  apply Fin.ext; show p.val = (2 * p.val + 1) / 2; omega

/-- A piece of the running sums' first tile. -/
theorem piece_cm (msk : IVec S256x256 1) (q : Fin 8 → FVec F S256x128 .bf16) (kb : Fin 4 → Vec F S1x256x128 .bf16) (h : Fin 8)
    (m : IVec S256x256 1) (hm : m = msk) (qq : FVec F S256x128 .bf16) (hq : qq = q h)
    (k : Vec F S1x256x128 .bf16) (hk : k = kb (pr h)) (w : Vec F S1x256x1 .f32) (hw : w = cs k0_pay19 h)
    (inb : ∀ a, (![h.val, 0, 0] : Fin 3 → ℕ) a + S1x256x1.size a ≤ S8x256x1.size a) (x : S1x256x1.Idx) :
    cm m qq k w x = firstC msk q kb ((Rect.unit (s := S8x256x1) ![h.val, 0, 0] S1x256x1.size inb).emb x) := by
  subst hm hq hk hw
  rw [emb_cs]
  show _ = cm m (q h) (kb (pr h)) (cs k0_pay19 h) (ix3 0 ⟨(x 1).val, (x 1).isLt⟩ ⟨(x 2).val, (x 2).isLt⟩)
  rw [flat_cs]

/-- A piece of the accumulators' first tile. -/
theorem piece_am (sel : IVec S256x128 1) (msk : IVec S256x256 1) (u : FVec F S256x256 .bf16) (q : Fin 8 → FVec F S256x128 .bf16)
    (kb vb : Fin 4 → Vec F S1x256x128 .bf16) (p : Fin 4)
    (m : IVec S256x256 1) (hm : m = msk) (uu : FVec F S256x256 .bf16) (hu : uu = u)
    (q0 : FVec F S256x128 .bf16) (hq0 : q0 = q (ev p)) (q1 : FVec F S256x128 .bf16) (hq1 : q1 = q (od p))
    (k : Vec F S1x256x128 .bf16) (hk : k = kb p) (v : Vec F S1x256x128 .bf16) (hv : v = vb p)
    (w0 : Vec F S1x256x1 .f32) (hw0 : w0 = cs k0_pay19 (ev p)) (w1 : Vec F S1x256x1 .f32) (hw1 : w1 = cs k0_pay19 (od p))
    (a : Vec F S1x256x128 .f32) (ha : a = aas k0_pay20 p)
    (inb : ∀ a, (![p.val, 0, 0] : Fin 3 → ℕ) a + S1x256x128.size a ≤ S4x256x128.size a) (x : S1x256x128.Idx) :
    am sel m uu v k q0 q1 w0 w1 a x
      = firstA sel msk u q kb vb ((Rect.unit (s := S4x256x128) ![p.val, 0, 0] S1x256x128.size inb).emb x) := by
  subst hm hu hq0 hq1 hk hv hw0 hw1 ha
  rw [emb_as]
  show _ = am sel m uu (vb p) (kb p) (q (ev p)) (q (od p)) (cs k0_pay19 (ev p)) (cs k0_pay19 (od p)) (aas k0_pay20 p)
    (ix3 0 ⟨(x 1).val, (x 1).isLt⟩ ⟨(x 2).val, (x 2).isLt⟩)
  rw [flat_as]

/-- Another row's write leaves a row of the running sums. -/
theorem miss_c (v : View sig .tc .vmem S8x256x1 .f32) (f : v.ty.Contents (Elt F)) (h h' : Fin 8) (hne : h' ≠ h)
    (inb : ∀ a, (![h'.val, 0, 0] : Fin 3 → ℕ) a + S1x256x1.size a ≤ S8x256x1.size a) (w : S1x256x1.Idx → Elt F .f32) (L : List (View.Piece (Elt F) S8x256x1 .f32))
    (W : Vec F S1x256x1 .f32) (hL : cs (View.read (Elt F) v (v.writes (Elt F) f L)) h = W) :
    cs (View.read (Elt F) v (v.writes (Elt F) f (⟨Rect.unit (s := S8x256x1) ![h'.val, 0, 0] S1x256x1.size inb, w⟩ :: L))) h = W := by
  rw [← hL]
  funext x
  unfold cs
  refine View.read_writes_cons_miss_of_axis v f _ L _ 0 h'.val 1 rfl rfl rfl ?_
  show h.val < h'.val ∨ h'.val + 1 ≤ h.val
  have : h'.val ≠ h.val := fun e => hne (Fin.ext e)
  omega

theorem miss_a (v : View sig .tc .vmem S4x256x128 .f32) (f : v.ty.Contents (Elt F)) (h h' : Fin 4) (hne : h' ≠ h)
    (inb : ∀ a, (![h'.val, 0, 0] : Fin 3 → ℕ) a + S1x256x128.size a ≤ S4x256x128.size a) (w : S1x256x128.Idx → Elt F .f32) (L : List (View.Piece (Elt F) S4x256x128 .f32))
    (W : Vec F S1x256x128 .f32) (hL : aas (View.read (Elt F) v (v.writes (Elt F) f L)) h = W) :
    aas (View.read (Elt F) v (v.writes (Elt F) f (⟨Rect.unit (s := S4x256x128) ![h'.val, 0, 0] S1x256x128.size inb, w⟩ :: L))) h = W := by
  rw [← hL]
  funext x
  unfold aas
  refine View.read_writes_cons_miss_of_axis v f _ L _ 0 h'.val 1 rfl rfl rfl ?_
  show h.val < h'.val ∨ h'.val + 1 ≤ h.val
  have : h'.val ≠ h.val := fun e => hne (Fin.ext e)
  omega

/-- A whole fill is what it filled with. -/
theorem fill {s : Shape} {e : EltTy} (v : View sig .tc .vmem s e) (f : v.ty.Contents (Elt F)) (off : Fin s.rank → ℕ) (hz : off = fun _ => 0)
    (inb : ∀ a, off a + s.size a ≤ s.size a) (w : s.Idx → Elt F e) :
    View.read (Elt F) v (v.writes (Elt F) f [⟨Rect.unit off s.size inb, w⟩]) = w := by
  subst hz
  funext y
  refine View.read_writes_cons_hit v f (Rect.unit (fun _ => 0) s.size inb) w [] y y ?_
  funext z; apply Fin.ext
  show 0 + 1 * (y z).val = (y z).val
  omega

theorem z3 : (![0, 0, 0] : Fin 3 → ℕ) = fun _ => 0 := by funext a; fin_cases a <;> rfl

theorem fill7 (v : View sig .tc .vmem S8x256x1 .f32) (f : v.ty.Contents (Elt F)) (h : Fin 8) :
    cs (View.read (Elt F) v (v.writes (Elt F) f [⟨Rect.unit (s := S8x256x1) ![0, 0, 0] S8x256x1.size inb_S8x256x1_S8x256x1_0_0_0, k0_pay19⟩])) h
      = cs k0_pay19 h := by rw [fill _ _ _ z3]

theorem fill8 (v : View sig .tc .vmem S4x256x128 .f32) (f : v.ty.Contents (Elt F)) (h : Fin 4) :
    aas (View.read (Elt F) v (v.writes (Elt F) f [⟨Rect.unit (s := S4x256x128) ![0, 0, 0] S4x256x128.size inb_S4x256x128_S4x256x128_0_0_0, k0_pay20⟩])) h
      = aas k0_pay20 h := by rw [fill _ _ _ z3]

/-- The number of the first key tile not taken, as the kernel computes it. -/
def top (n : ℕ) : BitVec 32 :=
  let arg1 : BitVec 32 := BitVec.ofNat 32 n
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c256_i32_1 : BitVec 32 := 256#32
  let c0_i32_3 : BitVec 32 := 0#32
  let v9 : BitVec 1 := Scalar.cmpi .sgt c256_i32_1 c0_i32_3
  let v10 : BitVec 32 := Scalar.extui v9
  let c0_i32_4 : BitVec 32 := 0#32
  let v11 : BitVec 1 := Scalar.cmpi .slt c256_i32_1 c0_i32_4
  let v12 : BitVec 32 := Scalar.extui v11
  let v13 : BitVec 32 := Scalar.subi v10 v12
  let v14 : BitVec 1 := Scalar.cmpi .ne v8 v13
  let v15 : BitVec 32 := Scalar.remsi v2 c256_i32_1
  let c0_i32_5 : BitVec 32 := 0#32
  let v16 : BitVec 1 := Scalar.cmpi .ne v15 c0_i32_5
  let v17 : BitVec 1 := Scalar.andi v14 v16
  let v3 : BitVec 32 := Scalar.divsi v2 c256_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  v20

theorem body_run (c : Dev nD) (E : Set ℕ) (i : grid0.Coords)
    (arg2 : Memref sig .tc .vmem S1x256x512 .bf16) (harg2 : arg2.IsWhole)
    (arg3 : Memref sig .tc .vmem S1x8192x512 .bf16) (harg3 : arg3.IsWhole) (arg4 : Memref sig .tc .vmem S1x8192x512 .bf16) (harg4 : arg4.IsWhole)
    (arg5 : Memref sig .tc .vmem S256x256 .bf16) (harg5 : arg5.IsWhole) (arg6 : Memref sig .tc .vmem S1x256x512 .bf16) (harg6 : arg6.IsWhole)
    (arg7 : Memref sig .tc .vmem S8x256x1 .f32) (harg7 : arg7.IsWhole) (arg8 : Memref sig .tc .vmem S4x256x128 .f32) (harg8 : arg8.IsWhole)
    (X2 : BufTy.Contents (Elt F) arg2.view.ty)
    (X3 : BufTy.Contents (Elt F) arg3.view.ty) (X4 : BufTy.Contents (Elt F) arg4.view.ty) (X5 : BufTy.Contents (Elt F) arg5.view.ty)
    (X6 : BufTy.Contents (Elt F) arg6.view.ty)
    (X7 : BufTy.Contents (Elt F) arg7.view.ty) (X8 : BufTy.Contents (Elt F) arg8.view.ty) (a : Fin 32) (hi : (i 1).val = a.val) :
    iprop((arg2.view.loc (c : Thread nD τ) ↦[arg2.view.set]{fullShare} X2)
      ∗ (arg5.view.loc (c : Thread nD τ) ↦[arg5.view.set]{fullShare} X5) ∗ (arg6.view.loc (c : Thread nD τ) ↦[arg6.view.set]{fullShare} X6)
      ∗ St c arg3 arg4 arg7 arg8 X3 X4 X7 X8)
      ⊢ wp frame (wpE (defs₀ (F := F)) Variants.nat (c : Thread nD τ) none) E
          (cc0_stick_breaking_attention (F := F) i arg2 harg2 arg3 harg3 arg4 harg4 arg5 harg5 arg6 harg6 arg7 harg7 arg8 harg8)
          (fun _ => iprop((arg2.view.loc (c : Thread nD τ) ↦[arg2.view.set]{fullShare} X2)
            ∗ (arg5.view.loc (c : Thread nD τ) ↦[arg5.view.set]{fullShare} X5)
            ∗ (∃ f, ⌜View.read (Elt F) arg6.view f = outBlk a.val (View.read (Elt F) arg2.view X2) (View.read (Elt F) arg3.view X3)
                (View.read (Elt F) arg4.view X4) (View.read (Elt F) arg5.view X5)⌝ ∗ (arg6.view.loc (c : Thread nD τ) ↦[arg6.view.set]{fullShare} f))
            ∗ (arg3.view.loc (c : Thread nD τ) ↦[arg3.view.set]{fullShare} X3) ∗ (arg4.view.loc (c : Thread nD τ) ↦[arg4.view.set]{fullShare} X4)
            ∗ (∃ f, (arg7.view.loc (c : Thread nD τ) ↦[arg7.view.set]{fullShare} f))
            ∗ (∃ f, (arg8.view.loc (c : Thread nD τ) ↦[arg8.view.set]{fullShare} f)))) := by
  rw [cc0_stick_breaking_attention_eq_skeleton]; unfold cc0_stick_breaking_attention_skel St
  iintro ⟨H2, H5, H6, H3, H4, H7, H8⟩
  rw [k0_part12_eq_skeleton]
  unfold k0_part12_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  obtain ⟨h1, h2, h3, h4⟩ := offs_first a i hi
  sl_exec
  have hv0 : body_run.sl.v0 i = BitVec.ofNat 32 (256 * a.val) := by
    unfold body_run.sl.v0; rw [hi]; clear * -; revert a; decide +kernel
  have hv20 : body_run.sl.v20 i = BitVec.ofNat 32 (a.val + 1) := by
    rw [show body_run.sl.v20 i = top (i 1).val from rfl, hi]; clear * -; revert a; unfold top; decide +kernel
  let msk := k0_pay21 (BitVec.ofNat 32 (256 * a.val)) (BitVec.ofNat 32 (a.val + 1))
  have hmsk : k0_pay21 (body_run.sl.v0 i) (body_run.sl.v20 i) = msk := by rw [hv0, hv20]
  let q := qh (View.read (Elt F) arg2.view X2)
  let K := kt (View.read (Elt F) arg3.view X3) a.val
  let V := kt (View.read (Elt F) arg4.view X4) a.val
  have hu : (View.readAt (Elt F) arg5.view (Rect.unit (s := S256x256) ![0, 0] S256x256.size inb_S256x256_S256x256_0_0).toLoadRect X5)
      = (View.read (Elt F) arg5.view X5) := by
    have hz : (![0, 0] : Fin S256x256.rank → ℕ) = fun _ => 0 := by funext a; fin_cases a <;> rfl
    rw [View.readAt_eq_ld]
    exact (View.ld_unit_zero (S := S256x256) hz inb_S256x256_S256x256_0_0 _)
  rw [show (View.readAt (Elt F) arg5.view (Rect.unit (s := S256x256) ![0, 0] S256x256.size inb_S256x256_S256x256_0_0).toLoadRect X5)
      = (View.read (Elt F) arg5.view X5) from hu]
  iapply (main_call (C := firstC msk q K) (A := firstA k0_pay4 msk (View.read (Elt F) arg5.view X5) q K V) (q := q) (a := a) (hi := hi))
  isplitl [H3 H4 H7 H8]
  · unfold St
    isplitl [H3]; · iexact H3
    isplitl [H4]; · iexact H4
    isplitl [H7]; · iexact H7
    iexact H8
  isplitl []
  · ipureintro
    refine four ?_ ?_ ?_ ?_
    · refine eight _ _ _ _ _ _ _ _ _ _ _ _ ?_ ?_ ?_ ?_ ?_ ?_ ?_ ?_ ?_
      · refine piece_cm msk q K 7 _ hmsk _ (qh_od (View.read (Elt F) arg2.view X2) 3 _ (rd_ev arg2 X2 3 inb_S1x256x512_S1x256x128_0_0_384)) _ (rd_kt arg3 X3 _ (k0_off4_inb i) a.val 3 h4 a.isLt) _ ?_ inb_S8x256x1_S1x256x1_7_0_0
        try unfold body_run.sl.v394
        refine (rd_cs arg7 _ 7 inb_S8x256x1_S1x256x1_7_0_0).trans ?_
        try unfold body_run.sl.H7_8
        refine miss_c _ _ 7 6 (by decide) inb_S8x256x1_S1x256x1_6_0_0 _ _ _ ?_
        try unfold body_run.sl.H7_7
        refine miss_c _ _ 7 5 (by decide) inb_S8x256x1_S1x256x1_5_0_0 _ _ _ ?_
        try unfold body_run.sl.H7_6
        refine miss_c _ _ 7 4 (by decide) inb_S8x256x1_S1x256x1_4_0_0 _ _ _ ?_
        try unfold body_run.sl.H7_5
        refine miss_c _ _ 7 3 (by decide) inb_S8x256x1_S1x256x1_3_0_0 _ _ _ ?_
        try unfold body_run.sl.H7_4
        refine miss_c _ _ 7 2 (by decide) inb_S8x256x1_S1x256x1_2_0_0 _ _ _ ?_
        try unfold body_run.sl.H7_3
        refine miss_c _ _ 7 1 (by decide) inb_S8x256x1_S1x256x1_1_0_0 _ _ _ ?_
        try unfold body_run.sl.H7_2
        refine miss_c _ _ 7 0 (by decide) inb_S8x256x1_S1x256x1_0_0_0 _ _ _ ?_
        try unfold body_run.sl.H7_1
        exact fill7 _ _ 7
      · refine piece_cm msk q K 6 _ hmsk _ (qh_ev (View.read (Elt F) arg2.view X2) 3 _ (rd_ev arg2 X2 3 inb_S1x256x512_S1x256x128_0_0_384)) _ (rd_kt arg3 X3 _ (k0_off4_inb i) a.val 3 h4 a.isLt) _ ?_ inb_S8x256x1_S1x256x1_6_0_0
        try unfold body_run.sl.v388
        refine (rd_cs arg7 _ 6 inb_S8x256x1_S1x256x1_6_0_0).trans ?_
        try unfold body_run.sl.H7_7
        refine miss_c _ _ 6 5 (by decide) inb_S8x256x1_S1x256x1_5_0_0 _ _ _ ?_
        try unfold body_run.sl.H7_6
        refine miss_c _ _ 6 4 (by decide) inb_S8x256x1_S1x256x1_4_0_0 _ _ _ ?_
        try unfold body_run.sl.H7_5
        refine miss_c _ _ 6 3 (by decide) inb_S8x256x1_S1x256x1_3_0_0 _ _ _ ?_
        try unfold body_run.sl.H7_4
        refine miss_c _ _ 6 2 (by decide) inb_S8x256x1_S1x256x1_2_0_0 _ _ _ ?_
        try unfold body_run.sl.H7_3
        refine miss_c _ _ 6 1 (by decide) inb_S8x256x1_S1x256x1_1_0_0 _ _ _ ?_
        try unfold body_run.sl.H7_2
        refine miss_c _ _ 6 0 (by decide) inb_S8x256x1_S1x256x1_0_0_0 _ _ _ ?_
        try unfold body_run.sl.H7_1
        exact fill7 _ _ 6
      · refine piece_cm msk q K 5 _ hmsk _ (qh_od (View.read (Elt F) arg2.view X2) 2 _ (rd_ev arg2 X2 2 inb_S1x256x512_S1x256x128_0_0_256)) _ (rd_kt arg3 X3 _ (k0_off3_inb i) a.val 2 h3 a.isLt) _ ?_ inb_S8x256x1_S1x256x1_5_0_0
        try unfold body_run.sl.v382
        refine (rd_cs arg7 _ 5 inb_S8x256x1_S1x256x1_5_0_0).trans ?_
        try unfold body_run.sl.H7_6
        refine miss_c _ _ 5 4 (by decide) inb_S8x256x1_S1x256x1_4_0_0 _ _ _ ?_
        try unfold body_run.sl.H7_5
        refine miss_c _ _ 5 3 (by decide) inb_S8x256x1_S1x256x1_3_0_0 _ _ _ ?_
        try unfold body_run.sl.H7_4
        refine miss_c _ _ 5 2 (by decide) inb_S8x256x1_S1x256x1_2_0_0 _ _ _ ?_
        try unfold body_run.sl.H7_3
        refine miss_c _ _ 5 1 (by decide) inb_S8x256x1_S1x256x1_1_0_0 _ _ _ ?_
        try unfold body_run.sl.H7_2
        refine miss_c _ _ 5 0 (by decide) inb_S8x256x1_S1x256x1_0_0_0 _ _ _ ?_
        try unfold body_run.sl.H7_1
        exact fill7 _ _ 5
      · refine piece_cm msk q K 4 _ hmsk _ (qh_ev (View.read (Elt F) arg2.view X2) 2 _ (rd_ev arg2 X2 2 inb_S1x256x512_S1x256x128_0_0_256)) _ (rd_kt arg3 X3 _ (k0_off3_inb i) a.val 2 h3 a.isLt) _ ?_ inb_S8x256x1_S1x256x1_4_0_0
        try unfold body_run.sl.v376
        refine (rd_cs arg7 _ 4 inb_S8x256x1_S1x256x1_4_0_0).trans ?_
        try unfold body_run.sl.H7_5
        refine miss_c _ _ 4 3 (by decide) inb_S8x256x1_S1x256x1_3_0_0 _ _ _ ?_
        try unfold body_run.sl.H7_4
        refine miss_c _ _ 4 2 (by decide) inb_S8x256x1_S1x256x1_2_0_0 _ _ _ ?_
        try unfold body_run.sl.H7_3
        refine miss_c _ _ 4 1 (by decide) inb_S8x256x1_S1x256x1_1_0_0 _ _ _ ?_
        try unfold body_run.sl.H7_2
        refine miss_c _ _ 4 0 (by decide) inb_S8x256x1_S1x256x1_0_0_0 _ _ _ ?_
        try unfold body_run.sl.H7_1
        exact fill7 _ _ 4
      · refine piece_cm msk q K 3 _ hmsk _ (qh_od (View.read (Elt F) arg2.view X2) 1 _ (rd_ev arg2 X2 1 inb_S1x256x512_S1x256x128_0_0_128)) _ (rd_kt arg3 X3 _ (k0_off2_inb i) a.val 1 h2 a.isLt) _ ?_ inb_S8x256x1_S1x256x1_3_0_0
        try unfold body_run.sl.v370
        refine (rd_cs arg7 _ 3 inb_S8x256x1_S1x256x1_3_0_0).trans ?_
        try unfold body_run.sl.H7_4
        refine miss_c _ _ 3 2 (by decide) inb_S8x256x1_S1x256x1_2_0_0 _ _ _ ?_
        try unfold body_run.sl.H7_3
        refine miss_c _ _ 3 1 (by decide) inb_S8x256x1_S1x256x1_1_0_0 _ _ _ ?_
        try unfold body_run.sl.H7_2
        refine miss_c _ _ 3 0 (by decide) inb_S8x256x1_S1x256x1_0_0_0 _ _ _ ?_
        try unfold body_run.sl.H7_1
        exact fill7 _ _ 3
      · refine piece_cm msk q K 2 _ hmsk _ (qh_ev (View.read (Elt F) arg2.view X2) 1 _ (rd_ev arg2 X2 1 inb_S1x256x512_S1x256x128_0_0_128)) _ (rd_kt arg3 X3 _ (k0_off2_inb i) a.val 1 h2 a.isLt) _ ?_ inb_S8x256x1_S1x256x1_2_0_0
        try unfold body_run.sl.v364
        refine (rd_cs arg7 _ 2 inb_S8x256x1_S1x256x1_2_0_0).trans ?_
        try unfold body_run.sl.H7_3
        refine miss_c _ _ 2 1 (by decide) inb_S8x256x1_S1x256x1_1_0_0 _ _ _ ?_
        try unfold body_run.sl.H7_2
        refine miss_c _ _ 2 0 (by decide) inb_S8x256x1_S1x256x1_0_0_0 _ _ _ ?_
        try unfold body_run.sl.H7_1
        exact fill7 _ _ 2
      · refine piece_cm msk q K 1 _ hmsk _ (qh_od (View.read (Elt F) arg2.view X2) 0 _ (rd_ev arg2 X2 0 inb_S1x256x512_S1x256x128_0_0_0)) _ (rd_kt arg3 X3 _ (k0_off1_inb i) a.val 0 h1 a.isLt) _ ?_ inb_S8x256x1_S1x256x1_1_0_0
        try unfold body_run.sl.v358
        refine (rd_cs arg7 _ 1 inb_S8x256x1_S1x256x1_1_0_0).trans ?_
        try unfold body_run.sl.H7_2
        refine miss_c _ _ 1 0 (by decide) inb_S8x256x1_S1x256x1_0_0_0 _ _ _ ?_
        try unfold body_run.sl.H7_1
        exact fill7 _ _ 1
      · refine piece_cm msk q K 0 _ hmsk _ (qh_ev (View.read (Elt F) arg2.view X2) 0 _ (rd_ev arg2 X2 0 inb_S1x256x512_S1x256x128_0_0_0)) _ (rd_kt arg3 X3 _ (k0_off1_inb i) a.val 0 h1 a.isLt) _ ?_ inb_S8x256x1_S1x256x1_0_0_0
        try unfold body_run.sl.v352
        refine (rd_cs arg7 _ 0 inb_S8x256x1_S1x256x1_0_0_0).trans ?_
        try unfold body_run.sl.H7_1
        exact fill7 _ _ 0
      · refine fun y => (?_ : ∀ h : Fin 8, y 0 = h → _) (y 0) rfl
        intro h e
        match h, e with
        | 0, e => exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), row_mem8 y 0 inb_S8x256x1_S1x256x1_0_0_0 e⟩
        | 1, e => exact ⟨_, (List.mem_cons_of_mem _ (List.mem_cons_of_mem _ (List.mem_cons_of_mem _ (List.mem_cons_of_mem _ (List.mem_cons_of_mem _ (List.mem_cons_of_mem _ List.mem_cons_self)))))), row_mem8 y 1 inb_S8x256x1_S1x256x1_1_0_0 e⟩
        | 2, e => exact ⟨_, (List.mem_cons_of_mem _ (List.mem_cons_of_mem _ (List.mem_cons_of_mem _ (List.mem_cons_of_mem _ (List.mem_cons_of_mem _ List.mem_cons_self))))), row_mem8 y 2 inb_S8x256x1_S1x256x1_2_0_0 e⟩
        | 3, e => exact ⟨_, (List.mem_cons_of_mem _ (List.mem_cons_of_mem _ (List.mem_cons_of_mem _ (List.mem_cons_of_mem _ List.mem_cons_self)))), row_mem8 y 3 inb_S8x256x1_S1x256x1_3_0_0 e⟩
        | 4, e => exact ⟨_, (List.mem_cons_of_mem _ (List.mem_cons_of_mem _ (List.mem_cons_of_mem _ List.mem_cons_self))), row_mem8 y 4 inb_S8x256x1_S1x256x1_4_0_0 e⟩
        | 5, e => exact ⟨_, (List.mem_cons_of_mem _ (List.mem_cons_of_mem _ List.mem_cons_self)), row_mem8 y 5 inb_S8x256x1_S1x256x1_5_0_0 e⟩
        | 6, e => exact ⟨_, (List.mem_cons_of_mem _ List.mem_cons_self), row_mem8 y 6 inb_S8x256x1_S1x256x1_6_0_0 e⟩
        | 7, e => exact ⟨_, List.mem_cons_self, row_mem8 y 7 inb_S8x256x1_S1x256x1_7_0_0 e⟩
    · refine quad _ _ _ _ _ _ _ _ ?_ ?_ ?_ ?_ ?_
      · refine piece_am k0_pay4 msk (View.read (Elt F) arg5.view X5) q K V 3 _ hmsk _ rfl _ (qh_ev (View.read (Elt F) arg2.view X2) 3 _ (rd_ev arg2 X2 3 inb_S1x256x512_S1x256x128_0_0_384)) _ (qh_od (View.read (Elt F) arg2.view X2) 3 _ (rd_ev arg2 X2 3 inb_S1x256x512_S1x256x128_0_0_384)) _ (rd_kt arg3 X3 _ (k0_off4_inb i) a.val 3 h4 a.isLt) _ (rd_kt arg4 X4 _ (k0_off4_inb i) a.val 3 h4 a.isLt)
          _ ?_ _ ?_ _ ?_ inb_S4x256x128_S1x256x128_3_0_0
        · try unfold body_run.sl.v298
          refine (rd_cs arg7 _ 6 inb_S8x256x1_S1x256x1_6_0_0).trans (Eq.trans ?_ (show cs k0_pay19 6 = cs k0_pay19 (ev 3) from rfl))
          exact fill7 _ _ 6
        · try unfold body_run.sl.v307
          refine (rd_cs arg7 _ 7 inb_S8x256x1_S1x256x1_7_0_0).trans (Eq.trans ?_ (show cs k0_pay19 7 = cs k0_pay19 (od 3) from rfl))
          exact fill7 _ _ 7
        · try unfold body_run.sl.v345
          refine (rd_as arg8 _ 3 inb_S4x256x128_S1x256x128_3_0_0).trans ?_
          try unfold body_run.sl.H8_4
          refine miss_a _ _ 3 2 (by decide) inb_S4x256x128_S1x256x128_2_0_0 _ _ _ ?_
          try unfold body_run.sl.H8_3
          refine miss_a _ _ 3 1 (by decide) inb_S4x256x128_S1x256x128_1_0_0 _ _ _ ?_
          try unfold body_run.sl.H8_2
          refine miss_a _ _ 3 0 (by decide) inb_S4x256x128_S1x256x128_0_0_0 _ _ _ ?_
          try unfold body_run.sl.H8_1
          exact fill8 _ _ 3
      · refine piece_am k0_pay4 msk (View.read (Elt F) arg5.view X5) q K V 2 _ hmsk _ hu _ (qh_ev (View.read (Elt F) arg2.view X2) 2 _ (rd_ev arg2 X2 2 inb_S1x256x512_S1x256x128_0_0_256)) _ (qh_od (View.read (Elt F) arg2.view X2) 2 _ (rd_ev arg2 X2 2 inb_S1x256x512_S1x256x128_0_0_256)) _ (rd_kt arg3 X3 _ (k0_off3_inb i) a.val 2 h3 a.isLt) _ (rd_kt arg4 X4 _ (k0_off3_inb i) a.val 2 h3 a.isLt)
          _ ?_ _ ?_ _ ?_ inb_S4x256x128_S1x256x128_2_0_0
        · try unfold body_run.sl.v280
          refine (rd_cs arg7 _ 4 inb_S8x256x1_S1x256x1_4_0_0).trans (Eq.trans ?_ (show cs k0_pay19 4 = cs k0_pay19 (ev 2) from rfl))
          exact fill7 _ _ 4
        · try unfold body_run.sl.v289
          refine (rd_cs arg7 _ 5 inb_S8x256x1_S1x256x1_5_0_0).trans (Eq.trans ?_ (show cs k0_pay19 5 = cs k0_pay19 (od 2) from rfl))
          exact fill7 _ _ 5
        · try unfold body_run.sl.v338
          refine (rd_as arg8 _ 2 inb_S4x256x128_S1x256x128_2_0_0).trans ?_
          try unfold body_run.sl.H8_3
          refine miss_a _ _ 2 1 (by decide) inb_S4x256x128_S1x256x128_1_0_0 _ _ _ ?_
          try unfold body_run.sl.H8_2
          refine miss_a _ _ 2 0 (by decide) inb_S4x256x128_S1x256x128_0_0_0 _ _ _ ?_
          try unfold body_run.sl.H8_1
          exact fill8 _ _ 2
      · refine piece_am k0_pay4 msk (View.read (Elt F) arg5.view X5) q K V 1 _ hmsk _ hu _ (qh_ev (View.read (Elt F) arg2.view X2) 1 _ (rd_ev arg2 X2 1 inb_S1x256x512_S1x256x128_0_0_128)) _ (qh_od (View.read (Elt F) arg2.view X2) 1 _ (rd_ev arg2 X2 1 inb_S1x256x512_S1x256x128_0_0_128)) _ (rd_kt arg3 X3 _ (k0_off2_inb i) a.val 1 h2 a.isLt) _ (rd_kt arg4 X4 _ (k0_off2_inb i) a.val 1 h2 a.isLt)
          _ ?_ _ ?_ _ ?_ inb_S4x256x128_S1x256x128_1_0_0
        · try unfold body_run.sl.v262
          refine (rd_cs arg7 _ 2 inb_S8x256x1_S1x256x1_2_0_0).trans (Eq.trans ?_ (show cs k0_pay19 2 = cs k0_pay19 (ev 1) from rfl))
          exact fill7 _ _ 2
        · try unfold body_run.sl.v271
          refine (rd_cs arg7 _ 3 inb_S8x256x1_S1x256x1_3_0_0).trans (Eq.trans ?_ (show cs k0_pay19 3 = cs k0_pay19 (od 1) from rfl))
          exact fill7 _ _ 3
        · try unfold body_run.sl.v331
          refine (rd_as arg8 _ 1 inb_S4x256x128_S1x256x128_1_0_0).trans ?_
          try unfold body_run.sl.H8_2
          refine miss_a _ _ 1 0 (by decide) inb_S4x256x128_S1x256x128_0_0_0 _ _ _ ?_
          try unfold body_run.sl.H8_1
          exact fill8 _ _ 1
      · refine piece_am k0_pay4 msk (View.read (Elt F) arg5.view X5) q K V 0 _ hmsk _ hu _ (qh_ev (View.read (Elt F) arg2.view X2) 0 _ (rd_ev arg2 X2 0 inb_S1x256x512_S1x256x128_0_0_0)) _ (qh_od (View.read (Elt F) arg2.view X2) 0 _ (rd_ev arg2 X2 0 inb_S1x256x512_S1x256x128_0_0_0)) _ (rd_kt arg3 X3 _ (k0_off1_inb i) a.val 0 h1 a.isLt) _ (rd_kt arg4 X4 _ (k0_off1_inb i) a.val 0 h1 a.isLt)
          _ ?_ _ ?_ _ ?_ inb_S4x256x128_S1x256x128_0_0_0
        · try unfold body_run.sl.v244
          refine (rd_cs arg7 _ 0 inb_S8x256x1_S1x256x1_0_0_0).trans (Eq.trans ?_ (show cs k0_pay19 0 = cs k0_pay19 (ev 0) from rfl))
          exact fill7 _ _ 0
        · try unfold body_run.sl.v253
          refine (rd_cs arg7 _ 1 inb_S8x256x1_S1x256x1_1_0_0).trans (Eq.trans ?_ (show cs k0_pay19 1 = cs k0_pay19 (od 0) from rfl))
          exact fill7 _ _ 1
        · try unfold body_run.sl.v324
          refine (rd_as arg8 _ 0 inb_S4x256x128_S1x256x128_0_0_0).trans ?_
          try unfold body_run.sl.H8_1
          exact fill8 _ _ 0
      · refine fun y => (?_ : ∀ h : Fin 4, y 0 = h → _) (y 0) rfl
        intro h e
        match h, e with
        | 0, e => exact ⟨_, (List.mem_cons_of_mem _ (List.mem_cons_of_mem _ (List.mem_cons_of_mem _ List.mem_cons_self))), row_mem4 y 0 inb_S4x256x128_S1x256x128_0_0_0 e⟩
        | 1, e => exact ⟨_, (List.mem_cons_of_mem _ (List.mem_cons_of_mem _ List.mem_cons_self)), row_mem4 y 1 inb_S4x256x128_S1x256x128_1_0_0 e⟩
        | 2, e => exact ⟨_, (List.mem_cons_of_mem _ List.mem_cons_self), row_mem4 y 2 inb_S4x256x128_S1x256x128_2_0_0 e⟩
        | 3, e => exact ⟨_, List.mem_cons_self, row_mem4 y 3 inb_S4x256x128_S1x256x128_3_0_0 e⟩
    · intro e7
      clear e7
      apply alive_congr
      unfold body_run.sl.v400
      refine (rd_whole7 arg7 _ _).trans ?_
      refine eight _ _ _ _ _ _ _ _ _ _ _ _ ?_ ?_ ?_ ?_ ?_ ?_ ?_ ?_ ?_
      · refine piece_cm msk q K 7 _ hmsk _ (qh_od (View.read (Elt F) arg2.view X2) 3 _ (rd_ev arg2 X2 3 inb_S1x256x512_S1x256x128_0_0_384)) _ (rd_kt arg3 X3 _ (k0_off4_inb i) a.val 3 h4 a.isLt) _ ?_ inb_S8x256x1_S1x256x1_7_0_0
        try unfold body_run.sl.v394
        refine (rd_cs arg7 _ 7 inb_S8x256x1_S1x256x1_7_0_0).trans ?_
        try unfold body_run.sl.H7_8
        refine miss_c _ _ 7 6 (by decide) inb_S8x256x1_S1x256x1_6_0_0 _ _ _ ?_
        try unfold body_run.sl.H7_7
        refine miss_c _ _ 7 5 (by decide) inb_S8x256x1_S1x256x1_5_0_0 _ _ _ ?_
        try unfold body_run.sl.H7_6
        refine miss_c _ _ 7 4 (by decide) inb_S8x256x1_S1x256x1_4_0_0 _ _ _ ?_
        try unfold body_run.sl.H7_5
        refine miss_c _ _ 7 3 (by decide) inb_S8x256x1_S1x256x1_3_0_0 _ _ _ ?_
        try unfold body_run.sl.H7_4
        refine miss_c _ _ 7 2 (by decide) inb_S8x256x1_S1x256x1_2_0_0 _ _ _ ?_
        try unfold body_run.sl.H7_3
        refine miss_c _ _ 7 1 (by decide) inb_S8x256x1_S1x256x1_1_0_0 _ _ _ ?_
        try unfold body_run.sl.H7_2
        refine miss_c _ _ 7 0 (by decide) inb_S8x256x1_S1x256x1_0_0_0 _ _ _ ?_
        try unfold body_run.sl.H7_1
        exact fill7 _ _ 7
      · refine piece_cm msk q K 6 _ hmsk _ (qh_ev (View.read (Elt F) arg2.view X2) 3 _ (rd_ev arg2 X2 3 inb_S1x256x512_S1x256x128_0_0_384)) _ (rd_kt arg3 X3 _ (k0_off4_inb i) a.val 3 h4 a.isLt) _ ?_ inb_S8x256x1_S1x256x1_6_0_0
        try unfold body_run.sl.v388
        refine (rd_cs arg7 _ 6 inb_S8x256x1_S1x256x1_6_0_0).trans ?_
        try unfold body_run.sl.H7_7
        refine miss_c _ _ 6 5 (by decide) inb_S8x256x1_S1x256x1_5_0_0 _ _ _ ?_
        try unfold body_run.sl.H7_6
        refine miss_c _ _ 6 4 (by decide) inb_S8x256x1_S1x256x1_4_0_0 _ _ _ ?_
        try unfold body_run.sl.H7_5
        refine miss_c _ _ 6 3 (by decide) inb_S8x256x1_S1x256x1_3_0_0 _ _ _ ?_
        try unfold body_run.sl.H7_4
        refine miss_c _ _ 6 2 (by decide) inb_S8x256x1_S1x256x1_2_0_0 _ _ _ ?_
        try unfold body_run.sl.H7_3
        refine miss_c _ _ 6 1 (by decide) inb_S8x256x1_S1x256x1_1_0_0 _ _ _ ?_
        try unfold body_run.sl.H7_2
        refine miss_c _ _ 6 0 (by decide) inb_S8x256x1_S1x256x1_0_0_0 _ _ _ ?_
        try unfold body_run.sl.H7_1
        exact fill7 _ _ 6
      · refine piece_cm msk q K 5 _ hmsk _ (qh_od (View.read (Elt F) arg2.view X2) 2 _ (rd_ev arg2 X2 2 inb_S1x256x512_S1x256x128_0_0_256)) _ (rd_kt arg3 X3 _ (k0_off3_inb i) a.val 2 h3 a.isLt) _ ?_ inb_S8x256x1_S1x256x1_5_0_0
        try unfold body_run.sl.v382
        refine (rd_cs arg7 _ 5 inb_S8x256x1_S1x256x1_5_0_0).trans ?_
        try unfold body_run.sl.H7_6
        refine miss_c _ _ 5 4 (by decide) inb_S8x256x1_S1x256x1_4_0_0 _ _ _ ?_
        try unfold body_run.sl.H7_5
        refine miss_c _ _ 5 3 (by decide) inb_S8x256x1_S1x256x1_3_0_0 _ _ _ ?_
        try unfold body_run.sl.H7_4
        refine miss_c _ _ 5 2 (by decide) inb_S8x256x1_S1x256x1_2_0_0 _ _ _ ?_
        try unfold body_run.sl.H7_3
        refine miss_c _ _ 5 1 (by decide) inb_S8x256x1_S1x256x1_1_0_0 _ _ _ ?_
        try unfold body_run.sl.H7_2
        refine miss_c _ _ 5 0 (by decide) inb_S8x256x1_S1x256x1_0_0_0 _ _ _ ?_
        try unfold body_run.sl.H7_1
        exact fill7 _ _ 5
      · refine piece_cm msk q K 4 _ hmsk _ (qh_ev (View.read (Elt F) arg2.view X2) 2 _ (rd_ev arg2 X2 2 inb_S1x256x512_S1x256x128_0_0_256)) _ (rd_kt arg3 X3 _ (k0_off3_inb i) a.val 2 h3 a.isLt) _ ?_ inb_S8x256x1_S1x256x1_4_0_0
        try unfold body_run.sl.v376
        refine (rd_cs arg7 _ 4 inb_S8x256x1_S1x256x1_4_0_0).trans ?_
        try unfold body_run.sl.H7_5
        refine miss_c _ _ 4 3 (by decide) inb_S8x256x1_S1x256x1_3_0_0 _ _ _ ?_
        try unfold body_run.sl.H7_4
        refine miss_c _ _ 4 2 (by decide) inb_S8x256x1_S1x256x1_2_0_0 _ _ _ ?_
        try unfold body_run.sl.H7_3
        refine miss_c _ _ 4 1 (by decide) inb_S8x256x1_S1x256x1_1_0_0 _ _ _ ?_
        try unfold body_run.sl.H7_2
        refine miss_c _ _ 4 0 (by decide) inb_S8x256x1_S1x256x1_0_0_0 _ _ _ ?_
        try unfold body_run.sl.H7_1
        exact fill7 _ _ 4
      · refine piece_cm msk q K 3 _ hmsk _ (qh_od (View.read (Elt F) arg2.view X2) 1 _ (rd_ev arg2 X2 1 inb_S1x256x512_S1x256x128_0_0_128)) _ (rd_kt arg3 X3 _ (k0_off2_inb i) a.val 1 h2 a.isLt) _ ?_ inb_S8x256x1_S1x256x1_3_0_0
        try unfold body_run.sl.v370
        refine (rd_cs arg7 _ 3 inb_S8x256x1_S1x256x1_3_0_0).trans ?_
        try unfold body_run.sl.H7_4
        refine miss_c _ _ 3 2 (by decide) inb_S8x256x1_S1x256x1_2_0_0 _ _ _ ?_
        try unfold body_run.sl.H7_3
        refine miss_c _ _ 3 1 (by decide) inb_S8x256x1_S1x256x1_1_0_0 _ _ _ ?_
        try unfold body_run.sl.H7_2
        refine miss_c _ _ 3 0 (by decide) inb_S8x256x1_S1x256x1_0_0_0 _ _ _ ?_
        try unfold body_run.sl.H7_1
        exact fill7 _ _ 3
      · refine piece_cm msk q K 2 _ hmsk _ (qh_ev (View.read (Elt F) arg2.view X2) 1 _ (rd_ev arg2 X2 1 inb_S1x256x512_S1x256x128_0_0_128)) _ (rd_kt arg3 X3 _ (k0_off2_inb i) a.val 1 h2 a.isLt) _ ?_ inb_S8x256x1_S1x256x1_2_0_0
        try unfold body_run.sl.v364
        refine (rd_cs arg7 _ 2 inb_S8x256x1_S1x256x1_2_0_0).trans ?_
        try unfold body_run.sl.H7_3
        refine miss_c _ _ 2 1 (by decide) inb_S8x256x1_S1x256x1_1_0_0 _ _ _ ?_
        try unfold body_run.sl.H7_2
        refine miss_c _ _ 2 0 (by decide) inb_S8x256x1_S1x256x1_0_0_0 _ _ _ ?_
        try unfold body_run.sl.H7_1
        exact fill7 _ _ 2
      · refine piece_cm msk q K 1 _ hmsk _ (qh_od (View.read (Elt F) arg2.view X2) 0 _ (rd_ev arg2 X2 0 inb_S1x256x512_S1x256x128_0_0_0)) _ (rd_kt arg3 X3 _ (k0_off1_inb i) a.val 0 h1 a.isLt) _ ?_ inb_S8x256x1_S1x256x1_1_0_0
        try unfold body_run.sl.v358
        refine (rd_cs arg7 _ 1 inb_S8x256x1_S1x256x1_1_0_0).trans ?_
        try unfold body_run.sl.H7_2
        refine miss_c _ _ 1 0 (by decide) inb_S8x256x1_S1x256x1_0_0_0 _ _ _ ?_
        try unfold body_run.sl.H7_1
        exact fill7 _ _ 1
      · refine piece_cm msk q K 0 _ hmsk _ (qh_ev (View.read (Elt F) arg2.view X2) 0 _ (rd_ev arg2 X2 0 inb_S1x256x512_S1x256x128_0_0_0)) _ (rd_kt arg3 X3 _ (k0_off1_inb i) a.val 0 h1 a.isLt) _ ?_ inb_S8x256x1_S1x256x1_0_0_0
        try unfold body_run.sl.v352
        refine (rd_cs arg7 _ 0 inb_S8x256x1_S1x256x1_0_0_0).trans ?_
        try unfold body_run.sl.H7_1
        exact fill7 _ _ 0
      · refine fun y => (?_ : ∀ h : Fin 8, y 0 = h → _) (y 0) rfl
        intro h e
        match h, e with
        | 0, e => exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), row_mem8 y 0 inb_S8x256x1_S1x256x1_0_0_0 e⟩
        | 1, e => exact ⟨_, (List.mem_cons_of_mem _ (List.mem_cons_of_mem _ (List.mem_cons_of_mem _ (List.mem_cons_of_mem _ (List.mem_cons_of_mem _ (List.mem_cons_of_mem _ List.mem_cons_self)))))), row_mem8 y 1 inb_S8x256x1_S1x256x1_1_0_0 e⟩
        | 2, e => exact ⟨_, (List.mem_cons_of_mem _ (List.mem_cons_of_mem _ (List.mem_cons_of_mem _ (List.mem_cons_of_mem _ (List.mem_cons_of_mem _ List.mem_cons_self))))), row_mem8 y 2 inb_S8x256x1_S1x256x1_2_0_0 e⟩
        | 3, e => exact ⟨_, (List.mem_cons_of_mem _ (List.mem_cons_of_mem _ (List.mem_cons_of_mem _ (List.mem_cons_of_mem _ List.mem_cons_self)))), row_mem8 y 3 inb_S8x256x1_S1x256x1_3_0_0 e⟩
        | 4, e => exact ⟨_, (List.mem_cons_of_mem _ (List.mem_cons_of_mem _ (List.mem_cons_of_mem _ List.mem_cons_self))), row_mem8 y 4 inb_S8x256x1_S1x256x1_4_0_0 e⟩
        | 5, e => exact ⟨_, (List.mem_cons_of_mem _ (List.mem_cons_of_mem _ List.mem_cons_self)), row_mem8 y 5 inb_S8x256x1_S1x256x1_5_0_0 e⟩
        | 6, e => exact ⟨_, (List.mem_cons_of_mem _ List.mem_cons_self), row_mem8 y 6 inb_S8x256x1_S1x256x1_6_0_0 e⟩
        | 7, e => exact ⟨_, List.mem_cons_self, row_mem8 y 7 inb_S8x256x1_S1x256x1_7_0_0 e⟩
    · funext h
      match h with
      | 0 => exact (qh_ev (View.read (Elt F) arg2.view X2) 0 _ (rd_ev arg2 X2 0 inb_S1x256x512_S1x256x128_0_0_0))
      | 1 => exact (qh_od (View.read (Elt F) arg2.view X2) 0 _ (rd_ev arg2 X2 0 inb_S1x256x512_S1x256x128_0_0_0))
      | 2 => exact (qh_ev (View.read (Elt F) arg2.view X2) 1 _ (rd_ev arg2 X2 1 inb_S1x256x512_S1x256x128_0_0_128))
      | 3 => exact (qh_od (View.read (Elt F) arg2.view X2) 1 _ (rd_ev arg2 X2 1 inb_S1x256x512_S1x256x128_0_0_128))
      | 4 => exact (qh_ev (View.read (Elt F) arg2.view X2) 2 _ (rd_ev arg2 X2 2 inb_S1x256x512_S1x256x128_0_0_256))
      | 5 => exact (qh_od (View.read (Elt F) arg2.view X2) 2 _ (rd_ev arg2 X2 2 inb_S1x256x512_S1x256x128_0_0_256))
      | 6 => exact (qh_ev (View.read (Elt F) arg2.view X2) 3 _ (rd_ev arg2 X2 3 inb_S1x256x512_S1x256x128_0_0_384))
      | 7 => exact (qh_od (View.read (Elt F) arg2.view X2) 3 _ (rd_ev arg2 X2 3 inb_S1x256x512_S1x256x128_0_0_384))
  iintro %x Hx
  unfold Fin'
  icases Hx with ⟨H3, H4, ⟨%f7, H7⟩, ⟨%f8, %e8, H8⟩⟩
  sl_exec
  rw [wp_ret]
  imodintro
  isplitl [H2]; · iexact H2
  isplitl [H5]; · iexact H5
  isplitl [H6]
  · iexists (arg6.view.writes (Elt F) X6 [⟨Rect.unit (s := S1x256x512) ![0, 0, 384] S1x256x128.size inb_S1x256x512_S1x256x128_0_0_384, (k0_pay111 (View.readAt (Elt F) arg8.view (Rect.unit (s := S4x256x128) ![3, 0, 0] S1x256x128.size inb_S4x256x128_S1x256x128_3_0_0).toLoadRect f8))⟩, ⟨Rect.unit (s := S1x256x512) ![0, 0, 256] S1x256x128.size inb_S1x256x512_S1x256x128_0_0_256, k0_pay110 (View.readAt (Elt F) arg8.view (Rect.unit (s := S4x256x128) ![2, 0, 0] S1x256x128.size inb_S4x256x128_S1x256x128_2_0_0).toLoadRect f8)⟩, ⟨Rect.unit (s := S1x256x512) ![0, 0, 128] S1x256x128.size inb_S1x256x512_S1x256x128_0_0_128, k0_pay109 (View.readAt (Elt F) arg8.view (Rect.unit (s := S4x256x128) ![1, 0, 0] S1x256x128.size inb_S4x256x128_S1x256x128_1_0_0).toLoadRect f8)⟩, ⟨Rect.unit (s := S1x256x512) ![0, 0, 0] S1x256x128.size inb_S1x256x512_S1x256x128_0_0_0, k0_pay108 (View.readAt (Elt F) arg8.view (Rect.unit (s := S4x256x128) ![0, 0, 0] S1x256x128.size inb_S4x256x128_S1x256x128_0_0_0).toLoadRect f8)⟩])
    isplitl []
    · ipureintro
      exact out_read arg6 arg8 X6 f8 _ e8 _ (fun y => rfl) (k0_pay108 (View.readAt (Elt F) arg8.view (Rect.unit (s := S4x256x128) ![0, 0, 0] S1x256x128.size inb_S4x256x128_S1x256x128_0_0_0).toLoadRect f8)) (k0_pay109 (View.readAt (Elt F) arg8.view (Rect.unit (s := S4x256x128) ![1, 0, 0] S1x256x128.size inb_S4x256x128_S1x256x128_1_0_0).toLoadRect f8)) (k0_pay110 (View.readAt (Elt F) arg8.view (Rect.unit (s := S4x256x128) ![2, 0, 0] S1x256x128.size inb_S4x256x128_S1x256x128_2_0_0).toLoadRect f8)) ((k0_pay111 (View.readAt (Elt F) arg8.view (Rect.unit (s := S4x256x128) ![3, 0, 0] S1x256x128.size inb_S4x256x128_S1x256x128_3_0_0).toLoadRect f8))) rfl rfl rfl rfl
    · iexact H6
  isplitl [H3]; · iexact H3
  isplitl [H4]; · iexact H4
  isplitl [H7]; · iexists f7; iexact H7
  iexists f8; iexact H8

end Cert.Proof.SbIdeal

end
-- ==== Proof.SbRun.lean ====
module

public import proofs.«01_k».proof.Proof.SbBody
public import proofs.«01_k».proof.Proof.Gen.SbIdeal.Launch
public import proofs.«01_k».proof.Proof.Gen.SbIdeal.Points
public import Idealize.ShloMosaic.Lib.Pipeline.FrameBody
public import Idealize.ShloMosaic.Adequacy
public import Idealize.ShloMosaic.Init

/-!
  The launch of the stick-breaking attention kernel: every grid point leaves `outBlk` of its blocks, the inputs are kept.
-/

@[expose] public section

set_option maxRecDepth 16384
set_option maxHeartbeats 4000000

noncomputable section

namespace Cert.Proof.SbIdeal

open Cert.SbIdeal Cert.SbIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-- What the arrays hold when the region is entered: the constant is in place, the argument is as launched. -/
abbrev atEntry (c : Dev nD) (b : Ref sig .tc) : Buf (Elt F) ((c : Thread nD τ).loc b) := StableHlo.after hostOps0 (fun b => m (c, b)) b

theorem prep_fresh : (hostOps0 : List (HloOp τ sig (Elt F))).Forall fun op => op.fresh = ∅ := by
  simp only [List.Forall]; rfl

/-- The program is its host operations and then the region. -/
theorem prep_main (𝒱₀ : Variants) :
    Pipeline.HMain (Ix := Unit) (Name := ℕ) (U := UR sig nD τ) (Lvl := ℕ) (cfgs (F := F)) 0 defs₀ 𝒱₀ m (main (F := F)) (atEntry m) :=
  Pipeline.hmain_prefix (cfgs (F := F)) 0 defs₀ 𝒱₀ m main hostOps0 hostOps0_sub prep_fresh main_chain

/-- The argument at the region's entry is as launched. -/
theorem entry_arg (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, Finset.mem_singleton]
    exact StableHlo.devRef_ne_of_ne (by decide)))

/-- A window's block at a grid point. -/
def blockAt (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (atEntry m c (Pipeline.arrRef spec0 w))

/-- The column of query tiles' number of a grid point. -/
def tile (t : Fin (cfg0 (F := F)).N) : Fin 32 := ⟨(grid0.coords t 1).val, (grid0.coords t 1).isLt⟩

/-- The pipeline's proof data: inputs left in place, the output's block the body's. -/
def dats (_ : Fin 1) (c : Dev nD) : Dat τ (Elt F) Unit ℕ (UR sig nD τ) ℕ (cfg0 (F := F)) c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => outBlk (tile (F := F) t).val (blockAt m c 0 t) (blockAt m c 1 t) (blockAt m c 2 t) (blockAt m c 3 t)
  Φ _ := Pipeline.ΦA spec0 c
  q w := Pipeline.shareOf spec0 w
  owed _ := 0

theorem A_eq (c : Dev nD) (w : Fin (cfg0 (F := F)).W) : (dats m 0 c).A w = atEntry m c (Pipeline.arrRef spec0 w) := by dsimp only [dats]

theorem after_0 (c : Dev nD) (t : Fin (cfg0 (F := F)).N) : (dats m 0 c).after 0 t = blockAt m c 0 t := rfl
theorem after_1 (c : Dev nD) (t : Fin (cfg0 (F := F)).N) : (dats m 0 c).after 1 t = blockAt m c 1 t := rfl
theorem after_2 (c : Dev nD) (t : Fin (cfg0 (F := F)).N) : (dats m 0 c).after 2 t = blockAt m c 2 t := rfl
theorem after_3 (c : Dev nD) (t : Fin (cfg0 (F := F)).N) : (dats m 0 c).after 3 t = blockAt m c 3 t := rfl
theorem after_4 (c : Dev nD) (t : Fin (cfg0 (F := F)).N) : (dats m 0 c).after 4 t
    = outBlk (tile (F := F) t).val (blockAt m c 0 t) (blockAt m c 1 t) (blockAt m c 2 t) (blockAt m c 3 t) := rfl

theorem before_0 (c : Dev nD) (t : Fin (cfg0 (F := F)).N) (d) : (dats m 0 c).before 0 t d = blockAt m c 0 t :=
  ((dats m 0 c).before_in_eq_fetched 0 rfl (fun _ => rfl) (fun _ _ _ => rfl) (fun t => by rw [after_0]; unfold Dat.blockOf blockAt; rw [A_eq]; rfl) t d).trans
    (by unfold Dat.fetched Dat.blockOf blockAt; rw [A_eq]; rfl)
theorem before_1 (c : Dev nD) (t : Fin (cfg0 (F := F)).N) (d) : (dats m 0 c).before 1 t d = blockAt m c 1 t :=
  ((dats m 0 c).before_in_eq_fetched 1 rfl (fun _ => rfl) (fun _ _ _ => rfl) (fun t => by rw [after_1]; unfold Dat.blockOf blockAt; rw [A_eq]; rfl) t d).trans
    (by unfold Dat.fetched Dat.blockOf blockAt; rw [A_eq]; rfl)
theorem before_2 (c : Dev nD) (t : Fin (cfg0 (F := F)).N) (d) : (dats m 0 c).before 2 t d = blockAt m c 2 t :=
  ((dats m 0 c).before_in_eq_fetched 2 rfl (fun _ => rfl) (fun _ _ _ => rfl) (fun t => by rw [after_2]; unfold Dat.blockOf blockAt; rw [A_eq]; rfl) t d).trans
    (by unfold Dat.fetched Dat.blockOf blockAt; rw [A_eq]; rfl)
theorem before_3 (c : Dev nD) (t : Fin (cfg0 (F := F)).N) (d) : (dats m 0 c).before 3 t d = blockAt m c 3 t :=
  ((dats m 0 c).before_in_eq_fetched 3 rfl (fun _ => rfl) (fun _ _ _ => rfl) (fun t => by rw [after_3]; unfold Dat.blockOf blockAt; rw [A_eq]; rfl) t d).trans
    (by unfold Dat.fetched Dat.blockOf blockAt; rw [A_eq]; rfl)

/-- What the body is called with at a grid point. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns at a grid point. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem scratch_eq (c : Dev nD) :
    (Pipeline.scopedRest (Ix := Unit) (Name := ℕ) (U := UR sig nD τ) (Lvl := ℕ) (Val := Elt F) spec0 c : sProp 𝕄)
      = iprop(
    (∃ f, (Memref.whole cc0_scratch0).view.loc (c : Thread nD τ) ↦[(Memref.whole cc0_scratch0).view.set]{fullShare} f)
   ∗ (∃ f, (Memref.whole cc0_scratch1).view.loc (c : Thread nD τ) ↦[(Memref.whole cc0_scratch1).view.set]{fullShare} f)) := by
  rw [scopedRest0_eq]; simp only [Memref.view_whole, View.set_whole]

/-- The body at any grid point leaves `outBlk` of the blocks in the output's. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before_0, before_1, before_2, before_3]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after_0, after_1, after_2, after_3, after_4]
  unfold Pipeline.ΦA
  rw [scratch_eq]
  unfold owns
  iintro ⟨⟨⟨⟨%f0, S0⟩, ⟨%f1, S1⟩⟩, Hp⟩, Ho, ⟨%d0, %g0, %e0, H0⟩, ⟨%d1, %g1, %e1, H1⟩, ⟨%d2, %g2, %e2, H2⟩, ⟨%d3, %g3, %e3, H3⟩, ⟨%d4, %g4, %e4, H4⟩⟩
  rw [← e0, ← e1, ← e2, ← e3]
  ihave Hw := (body_run c Set.univ (grid0.coords t) (st0_0 t) (hstage0_0 (((cfg0 (F := F)).slots t 0).cast nbuf0_0)) (st0_1 t) (hstage0_1 (((cfg0 (F := F)).slots t 1).cast nbuf0_1))
      (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4))
      (Memref.whole cc0_scratch0) (Memref.isWhole_whole _) (Memref.whole cc0_scratch1) (Memref.isWhole_whole _) g0 g1 g2 g3 g4 f0 f1 (tile (F := F) t) rfl) $$ [H0 H1 H2 H3 H4 S0 S1]
  · unfold St
    isplitl [H0]; · iexact H0
    isplitl [H3]; · iexact H3
    isplitl [H4]; · iexact H4
    isplitl [H1]; · iexact H1
    isplitl [H2]; · iexact H2
    isplitl [S0]; · iexact S0
    iexact S1
  iapply wp_wand_r
  isplitl [Hw]; · iexact Hw
  iintro %a Hh
  icases Hh with ⟨H0, H3, ⟨%f, %ef, H4⟩, H1, H2, ⟨%h0, S0⟩, ⟨%h1, S1⟩⟩
  isplitl [S0 S1 Hp]
  · isplitl [S0 S1]
    · isplitl [S0]; · iexists h0; iexact S0
      iexists h1; iexact S1
    iexact Hp
  isplitl [Ho]; · iexact Ho
  isplitl [H0]
  · iexists g0
    isplitl []
    · ipureintro; rfl
    iexact H0
  isplitl [H1]
  · iexists g1
    isplitl []
    · ipureintro; rfl
    iexact H1
  isplitl [H2]
  · iexists g2
    isplitl []
    · ipureintro; rfl
    iexact H2
  isplitl [H3]
  · iexists g3
    isplitl []
    · ipureintro; rfl
    iexact H3
  iexists f
  isplitl []
  · ipureintro; exact ef
  iexact H4

theorem body_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The pipeline's obligation of the body, at every point. -/
theorem body_obligation (c : Dev nD) :
    BodyObligation (dats (F := F) m 0 c) (defs₀ (F := F)) Variants.nat () Set.univ := fun t => by
  rw [bigSep_W0, bigSep_W0, body_row]
  exact triple_restated (sound_body m c t) rfl .rfl fun _ => .rfl

set_option backward.isDefEq.respectTransparency.types false in
/-- The launch: every weakly fair execution ends, every array what the points wrote, every counter at zero. -/
theorem run_main : θ_run defs (onTc (τ := τ) (main (F := F))) (s₀ m ρ)
    (fun r => Pipeline.FramePost (cfgs (F := F)) (dats m) 0 (atEntry m) r ∧ r.2.sem = fun _ => 0) :=
  Pipeline.θ_run_frame_shared (Q' := _) (cfgs (F := F)) (dats m) (0 : Fin 1) launch₀0 defs₀ Variants.nat m ρ main
    (hbody := fun c => (body_obligation m c).loose) (hq := fun _ _ _ => rfl)
    (howed := fun _ _ => rfl) (V := atEntry m) (hmain := prep_main m Variants.nat) (hA := A_eq m) (hΦ := fun _ _ => rfl)

/-- The frame: from any memory with zero counters every weakly fair execution ends, the argument as it was, every
    counter at zero. -/
theorem frame_sb : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => ((h.1 c).1 0).trans (((dats m 0 c).arrAt_in 0 rfl _).trans ((A_eq m c 0).trans (entry_arg m c))), h.2⟩)
    (run_main m ρ)

/-- The run with the output array named: what the grid points wrote. -/
theorem run_sb : θ_run defs (onTc (τ := τ) (main (F := F))) ⟨m, fun _ => 0, ρ⟩ (fun r => ∀ c : Dev nD,
      r.2.mem ((c.tc : Thread nD τ).loc main_v0) = (dats m 0 c).arrAt 4 (cfg0 (F := F)).N
      ∧ r.2.mem ((c.tc : Thread nD τ).loc main_arg0) = m ((c.tc : Thread nD τ).loc main_arg0)) :=
  (θ_run defs _ _).mono (fun _ h c => ⟨(h.1 c).1 4, ((h.1 c).1 0).trans (((dats m 0 c).arrAt_in 0 rfl _).trans ((A_eq m c 0).trans (entry_arg m c)))⟩)
    (run_main m ρ)

end Cert.Proof.SbIdeal

end
-- ==== Proof.SbPay.lean ====
module

public import proofs.«01_k».proof.Proof.SbVec
public import proofs.«01_k».proof.Proof.RowMath

/-!
  The values of the stick-breaking attention kernel, each read at one entry: of real entries they are real,
  and this is the number.
-/

@[expose] public section

set_option maxHeartbeats 1000000

noncomputable section

namespace Cert.Proof.SbIdeal

open Cert.SbIdeal Cert.SbIdeal.Gen
open Idealize.ShloMosaic Cert.Proof.RowMath

/-- The base-2 logarithm of the logistic function of a score held in base 2. -/
def lhR (x : ℝ) : ℝ := min x 0 - Real.log (1 + (2 : ℝ) ^ (-|x|)) * (Real.log 2)⁻¹

/-- The base-2 logarithm of one minus it. -/
def lfR (x : ℝ) : ℝ := lhR x - x

theorem coe_ite (p : Prop) [Decidable p] (a b : ℝ) : (if p then (a : EReal) else (b : EReal)) = ((if p then a else b : ℝ) : EReal) := by
  split_ifs <;> rfl

theorem coe_sum {ι : Type} (s : Finset ι) (f : ι → ℝ) : ∑ i ∈ s, (f i : EReal) = ((∑ i ∈ s, f i : ℝ) : EReal) := by
  induction s using Finset.cons_induction with
  | empty => simp
  | cons a s ha ih => rw [Finset.sum_cons, Finset.sum_cons, ih, EReal.coe_add]

theorem coe_abs (x : ℝ) : max (x : EReal) (-(x : EReal)) = ((|x| : ℝ) : EReal) := by
  rw [← EReal.coe_neg]
  exact (EReal.coe_strictMono.monotone.map_max (a := x) (b := -x)).symm

/-- The logarithm of the logistic function, as the kernel computes it. -/
theorem lh_coe (x : ℝ) : min (x : EReal) 0 -
    Ideal.log (1 + FloatOps.exp2 (F := Ideal) (φ := .f32) ((0 : EReal) - FloatOps.absf (F := Ideal) (φ := .f32) (x : EReal))) * Named.named (F := Ideal) (φ := .f32) κ "log2e" 1069066811#32
      = ((lhR x : ℝ) : EReal) := by
  have e1 : FloatOps.absf (F := Ideal) (φ := .f32) (x : EReal) = ((|x| : ℝ) : EReal) := coe_abs x
  have e2 : FloatOps.exp2 (F := Ideal) (φ := .f32) ((0 : EReal) - ((|x| : ℝ) : EReal)) = (((2 : ℝ) ^ (-|x|) : ℝ) : EReal) := by
    rw [zero_sub, ← EReal.coe_neg]
    rfl
  have e3 : Named.named (F := Ideal) (φ := .f32) κ "log2e" 1069066811#32 = (((Real.log 2)⁻¹ : ℝ) : EReal) :=
    IdealRules.named_const.ideal_named_scalar κ "log2e" _ _ rfl
  have hp : (0 : ℝ) < 1 + (2 : ℝ) ^ (-|x|) := by positivity
  rw [e1, e2, e3, ← EReal.coe_one, ← EReal.coe_add]
  have e4 : Ideal.log ((1 + (2 : ℝ) ^ (-|x|) : ℝ) : EReal) = ((Real.log (1 + (2 : ℝ) ^ (-|x|)) : ℝ) : EReal) := by
    show (if _ then _ else _) = _
    rw [if_neg (not_le.2 hp)]
  have e5 : min (x : EReal) ((0 : ℝ) : EReal) = ((min x 0 : ℝ) : EReal) := (EReal.coe_strictMono.monotone.map_min (a := x) (b := 0)).symm
  rw [e4, ← EReal.coe_zero, e5, ← EReal.coe_mul, ← EReal.coe_sub]
  rfl

theorem exp2_coe (x : ℝ) : FloatOps.exp2 (F := Ideal) (φ := .f32) (x : EReal) = (((2 : ℝ) ^ x : ℝ) : EReal) := rfl

theorem zv_apply (q : FVec Ideal S256x128 .bf16) (k : Vec Ideal S1x256x128 .bf16) (i j : Fin 256) :
    zv q k (ix2 i j) = ∑ d : Fin 128, q (ix2 i d) * k (ix3 0 j d) := by
  unfold zv
  pointwise [k0_pay120, k0_pay112]

theorem pay128_apply (z : FVec Ideal S256x256 .f32) (i j : Fin 256) (x : ℝ) (h : z (ix2 i j) = (x : EReal)) :
    k0_pay128 (F := Ideal) z (ix2 i j) = ((lhR x : ℝ) : EReal) := by
  refine Eq.trans ?_ (lh_coe x)
  rw [← h]
  pointwise [k0_pay128]

theorem pay129_apply (z : FVec Ideal S256x256 .f32) (i j : Fin 256) :
    k0_pay129 (F := Ideal) z (ix2 i j) = k0_pay128 (F := Ideal) z (ix2 i j) - z (ix2 i j) := by
  pointwise [k0_pay129]

/-- The running sum after a tile of real scores. -/
theorem cv_real (z : FVec Ideal S256x256 .f32) (w : Vec Ideal S1x256x1 .f32) (i : Fin 256) (x : Fin 256 → ℝ) (c : ℝ)
    (hz : ∀ j, z (ix2 i j) = (x j : EReal)) (hw : w (ix3 0 i 0) = (c : EReal)) :
    cv z w (ix3 0 i 0) = ((c + ∑ j, lfR (x j) : ℝ) : EReal) := by
  have e : cv z w (ix3 0 i 0) = w (ix3 0 i 0) + ∑ j : Fin 256, (k0_pay128 (F := Ideal) z (ix2 i j) - z (ix2 i j)) := by
    unfold cv
    pointwise [k0_pay183, k0_pay131, pay129_apply]
  rw [e, hw, EReal.coe_add, ← coe_sum]
  congr 1
  exact Finset.sum_congr rfl fun j _ => by rw [pay128_apply z i j _ (hz j), hz, ← EReal.coe_sub]; rfl

/-- A tile's weights of real scores. -/
theorem pv_real (u : FVec Ideal S256x256 .bf16) (z : FVec Ideal S256x256 .f32) (w : Vec Ideal S1x256x1 .f32) (i j : Fin 256)
    (x : Fin 256 → ℝ) (c : ℝ) (hu : ∀ a b : Fin 256, u (ix2 a b) = if b.val < a.val then (1 : EReal) else 0)
    (hz : ∀ j, z (ix2 i j) = (x j : EReal)) (hw : w (ix3 0 i 0) = (c : EReal)) :
    pv u z w (ix2 i j) = (((2 : ℝ) ^ (lhR (x j) + ((∑ a : Fin 256, if j.val < a.val then lfR (x a) else 0) + c)) : ℝ) : EReal) := by
  have e : pv u z w (ix2 i j) = FloatOps.exp2 (F := Ideal) (φ := .f32) (k0_pay128 (F := Ideal) z (ix2 i j)
      + ((∑ a : Fin 256, (k0_pay128 (F := Ideal) z (ix2 i a) - z (ix2 i a)) * u (ix2 a j)) + w (ix3 0 i 0))) := by
    unfold pv
    pointwise [k0_pay168, k0_pay162, k0_pay130, pay129_apply]
  rw [e, ← exp2_coe, EReal.coe_add, EReal.coe_add, ← coe_sum, hw, pay128_apply z i j _ (hz j)]
  congr 3
  refine Finset.sum_congr rfl fun a _ => ?_
  rw [pay128_apply z i a _ (hz a), hz, ← EReal.coe_sub, hu]
  by_cases hh : j.val < a.val
  · rw [if_pos hh, if_pos hh, mul_one]; rfl
  · rw [if_neg hh, if_neg hh, mul_zero, EReal.coe_zero]

/-- Scores of real queries and keys. -/
theorem zv_real (q : FVec Ideal S256x128 .bf16) (k : Vec Ideal S1x256x128 .bf16) (i j : Fin 256) (a b : Fin 128 → ℝ)
    (hq : ∀ d, q (ix2 i d) = (a d : EReal)) (hk : ∀ d, k (ix3 0 j d) = (b d : EReal)) :
    zv q k (ix2 i j) = ((∑ d, a d * b d : ℝ) : EReal) := by
  rw [zv_apply, ← coe_sum]
  exact Finset.sum_congr rfl fun d _ => by rw [hq, hk, EReal.coe_mul]

theorem bv_lt (a b : ℕ) (ha : a < 2 ^ 31) (hb : b < 2 ^ 31) :
    IntOp.cmpi CmpIPredicate.slt (BitVec.ofNat 32 a) (BitVec.ofNat 32 b) = if a < b then 1#1 else 0#1 := by
  have e : ∀ n : ℕ, n < 2 ^ 31 → (BitVec.ofNat 32 n).toInt = n := fun n hn => by
    rw [BitVec.toInt_eq_toNat_of_lt (by rw [BitVec.toNat_ofNat]; omega), BitVec.toNat_ofNat]
    omega
  show BitVec.ofBool (BitVec.slt _ _) = _
  rw [BitVec.slt, e a ha, e b hb]
  by_cases h : a < b <;> simp [h]

theorem pay23_apply (a : Fin 32) (i j : Fin 256) :
    k0_pay21 (BitVec.ofNat 32 (256 * a.val)) (BitVec.ofNat 32 (a.val + 1)) (ix2 i j) = if j.val < i.val then 1#1 else 0#1 := by
  pointwise [k0_pay21, k0_pay18]
  have e1 : IntOp.addi (BitVec.ofNat 32 j.val) (Scalar.muli (Scalar.subi (BitVec.ofNat 32 (a.val + 1)) 1#32) 256#32) = BitVec.ofNat 32 (j.val + 256 * a.val) := by
    show BitVec.ofNat 32 j.val + (BitVec.ofNat 32 (a.val + 1) - 1#32) * 256#32 = _
    have := a.isLt
    have := j.isLt
    apply BitVec.eq_of_toNat_eq
    simp [BitVec.toNat_add, BitVec.toNat_mul, BitVec.toNat_sub]
    omega
  have e2 : IntOp.addi (BitVec.ofNat 32 i.val) (BitVec.ofNat 32 (256 * a.val)) = BitVec.ofNat 32 (i.val + 256 * a.val) := by
    show BitVec.ofNat 32 i.val + BitVec.ofNat 32 (256 * a.val) = _
    rw [← BitVec.ofNat_add]
  have := a.isLt
  have := j.isLt
  have := i.isLt
  rw [e1, e2, bv_lt _ _ (by omega) (by omega)]
  simp

theorem pay8_apply (q : Vec Ideal S1x256x128 .bf16) (i : Fin 256) (d : Fin 128) :
    k0_pay7 q (ix2 i d) = if d.val < 64 then q (ix3 0 i d) else 0 := by
  pointwise [k0_pay7, k0_pay6, k0_pay5, k0_pay4]
  have := d.isLt
  rw [bv_lt _ _ (by omega) (by norm_num)]
  split_ifs <;> rfl

theorem pay9_apply (q : Vec Ideal S1x256x128 .bf16) (i : Fin 256) (d : Fin 128) :
    k0_pay8 q (ix2 i d) = if d.val < 64 then 0 else q (ix3 0 i d) := by
  pointwise [k0_pay8, k0_pay6, k0_pay5, k0_pay4]
  have := d.isLt
  rw [bv_lt _ _ (by omega) (by norm_num)]
  split_ifs <;> rfl

theorem pay5_apply (i : Fin 256) (d : Fin 128) : k0_pay4 (ix2 i d) = if d.val < 64 then 1#1 else 0#1 := by
  pointwise [k0_pay4]
  have := d.isLt
  exact bv_lt _ _ (by omega) (by norm_num)

/-- A pair's accumulator after a tile of real weights and values. -/
theorem av_real (u : FVec Ideal S256x256 .bf16) (vb : Vec Ideal S1x256x128 .bf16) (z0 z1 : FVec Ideal S256x256 .f32)
    (w0 w1 : Vec Ideal S1x256x1 .f32) (a : Vec Ideal S1x256x128 .f32) (i : Fin 256) (l : Fin 128) (y : EReal) (P : Fin 256 → ℝ) (v : Fin 256 → EReal)
    (hP : ∀ j, pv u (if l.val < 64 then z0 else z1) (if l.val < 64 then w0 else w1) (ix2 i j) = (P j : EReal))
    (hv : ∀ j, vb (ix3 0 j l) = v j) (ha : a (ix3 0 i l) = y) :
    av k0_pay4 u vb z0 z1 w0 w1 a (ix3 0 i l) = y + ∑ j, (P j : EReal) * v j := by
  have e : av k0_pay4 u vb z0 z1 w0 w1 a (ix3 0 i l) = a (ix3 0 i l) + Scalar.select (k0_pay4 (ix2 i l))
      (∑ j : Fin 256, pv u z0 w0 (ix2 i j) * vb (ix3 0 j l)) (∑ j : Fin 256, pv u z1 w1 (ix2 i j) * vb (ix3 0 j l)) := by
    unfold av
    pointwise [k0_pay179, k0_pay116]
  rw [e, pay5_apply, ha]
  congr 1
  by_cases h : l.val < 64
  · rw [if_pos h]
    simp only [if_pos h] at hP
    show (∑ j : Fin 256, pv u z0 w0 (ix2 i j) * vb (ix3 0 j l)) = _
    exact Finset.sum_congr rfl fun j _ => by rw [hP, hv]
  · rw [if_neg h]
    simp only [if_neg h] at hP
    show (∑ j : Fin 256, pv u z1 w1 (ix2 i j) * vb (ix3 0 j l)) = _
    exact Finset.sum_congr rfl fun j _ => by rw [hP, hv]

/-- The first tile's mask, of grid column `a`. -/
def mk (a : Fin 32) : IVec S256x256 1 := k0_pay21 (BitVec.ofNat 32 (256 * a.val)) (BitVec.ofNat 32 (a.val + 1))

theorem mk_apply (a : Fin 32) (i j : Fin 256) : mk a (ix2 i j) = if j.val < i.val then 1#1 else 0#1 := pay23_apply a i j

theorem pay32_eq (q : FVec Ideal S256x128 .bf16) (k : Vec Ideal S1x256x128 .bf16) (i j : Fin 256) :
    k0_pay30 q (k0_pay22 k) (ix2 i j) = zv q k (ix2 i j) := by
  rw [zv_apply]
  pointwise [k0_pay30, k0_pay22]

theorem pay40_eq (q : FVec Ideal S256x128 .bf16) (k : Vec Ideal S1x256x128 .bf16) (i j : Fin 256) (x : ℝ) (h : zv q k (ix2 i j) = (x : EReal)) :
    k0_pay38 q (k0_pay22 k) (ix2 i j) = ((lhR x : ℝ) : EReal) := by
  refine Eq.trans ?_ (lh_coe x)
  rw [← h, zv_apply]
  pointwise [k0_pay38, k0_pay30, k0_pay22]

theorem pay41_eq (msk : IVec S256x256 1) (q : FVec Ideal S256x128 .bf16) (k : Vec Ideal S1x256x128 .bf16) (i j : Fin 256) (x : ℝ)
    (hm : msk (ix2 i j) = if j.val < i.val then 1#1 else 0#1) (h : zv q k (ix2 i j) = (x : EReal)) :
    k0_pay39 q msk (k0_pay22 k) (ix2 i j) = (((if j.val < i.val then lfR x else 0) : ℝ) : EReal) := by
  have e : k0_pay39 q msk (k0_pay22 k) (ix2 i j)
      = Scalar.select (msk (ix2 i j)) (k0_pay38 q (k0_pay22 k) (ix2 i j) - k0_pay30 q (k0_pay22 k) (ix2 i j)) 0 := by
    pointwise [k0_pay39]
  rw [e, hm, pay40_eq q k i j x h, pay32_eq, h, ← EReal.coe_sub]
  by_cases hh : j.val < i.val
  · rw [if_pos hh, if_pos hh]; rfl
  · rw [if_neg hh, if_neg hh]; rfl

/-- The masked tile's running sum. -/
theorem cm_real (msk : IVec S256x256 1) (q : FVec Ideal S256x128 .bf16) (k : Vec Ideal S1x256x128 .bf16) (w : Vec Ideal S1x256x1 .f32) (i : Fin 256)
    (x : Fin 256 → ℝ) (c : ℝ) (hm : ∀ j, msk (ix2 i j) = if j.val < i.val then 1#1 else 0#1)
    (hz : ∀ j, zv q k (ix2 i j) = (x j : EReal)) (hw : w (ix3 0 i 0) = (c : EReal)) :
    cm msk q k w (ix3 0 i 0) = ((c + ∑ j : Fin 256, (if j.val < i.val then lfR (x j) else 0) : ℝ) : EReal) := by
  have e : cm msk q k w (ix3 0 i 0) = w (ix3 0 i 0) + ∑ j : Fin 256, k0_pay39 q msk (k0_pay22 k) (ix2 i j) := by
    unfold cm
    pointwise [k0_pay98, k0_pay42, k0_pay41]
  rw [e, hw, EReal.coe_add, ← coe_sum]
  congr 1
  exact Finset.sum_congr rfl fun j _ => pay41_eq msk q k i j _ (hm j) (hz j)

/-- The masked tile's weights. -/
theorem pm_real (msk : IVec S256x256 1) (u : FVec Ideal S256x256 .bf16) (q : FVec Ideal S256x128 .bf16) (k : Vec Ideal S1x256x128 .bf16)
    (w : Vec Ideal S1x256x1 .f32) (i j : Fin 256)
    (x : Fin 256 → ℝ) (c : ℝ) (hu : ∀ a b : Fin 256, u (ix2 a b) = if b.val < a.val then (1 : EReal) else 0)
    (hm : ∀ j, msk (ix2 i j) = if j.val < i.val then 1#1 else 0#1)
    (hz : ∀ j, zv q k (ix2 i j) = (x j : EReal)) (hw : w (ix3 0 i 0) = (c : EReal)) :
    pm msk u q k w (ix2 i j) = (((if j.val < i.val then
      (2 : ℝ) ^ (lhR (x j) + ((∑ a : Fin 256, if j.val < a.val then (if a.val < i.val then lfR (x a) else 0) else 0) + c)) else 0) : ℝ) : EReal) := by
  have e : pm msk u q k w (ix2 i j) = Scalar.select (msk (ix2 i j)) (FloatOps.exp2 (F := Ideal) (φ := .f32) (k0_pay38 q (k0_pay22 k) (ix2 i j)
      + ((∑ a : Fin 256, k0_pay39 q msk (k0_pay22 k) (ix2 i a) * u (ix2 a j)) + w (ix3 0 i 0)))) 0 := by
    unfold pm
    pointwise [k0_pay82, k0_pay74, k0_pay40]
  have e2 : (∑ a : Fin 256, k0_pay39 q msk (k0_pay22 k) (ix2 i a) * u (ix2 a j))
      = ((∑ a : Fin 256, (if j.val < a.val then (if a.val < i.val then lfR (x a) else 0) else 0) : ℝ) : EReal) := by
    rw [← coe_sum]
    refine Finset.sum_congr rfl fun a _ => ?_
    rw [pay41_eq msk q k i a _ (hm a) (hz a), hu]
    by_cases hh : j.val < a.val
    · rw [if_pos hh, if_pos hh, mul_one]
    · rw [if_neg hh, if_neg hh, mul_zero, EReal.coe_zero]
  rw [e, e2, hw, hm, pay40_eq q k i j _ (hz j), ← EReal.coe_add, ← EReal.coe_add, exp2_coe]
  by_cases hh : j.val < i.val
  · rw [if_pos hh, if_pos hh]; rfl
  · rw [if_neg hh, if_neg hh]; rfl

/-- A pair's accumulator after the masked tile. -/
theorem am_real (msk : IVec S256x256 1) (u : FVec Ideal S256x256 .bf16) (vb k : Vec Ideal S1x256x128 .bf16) (q0 q1 : FVec Ideal S256x128 .bf16)
    (w0 w1 : Vec Ideal S1x256x1 .f32) (a : Vec Ideal S1x256x128 .f32) (i : Fin 256) (l : Fin 128) (y : EReal) (P : Fin 256 → ℝ) (v : Fin 256 → EReal)
    (hP : ∀ j, pm msk u (if l.val < 64 then q0 else q1) k (if l.val < 64 then w0 else w1) (ix2 i j) = (P j : EReal))
    (hv : ∀ j, vb (ix3 0 j l) = v j) (ha : a (ix3 0 i l) = y) :
    am k0_pay4 msk u vb k q0 q1 w0 w1 a (ix3 0 i l) = y + ∑ j, (P j : EReal) * v j := by
  have e : am k0_pay4 msk u vb k q0 q1 w0 w1 a (ix3 0 i l) = a (ix3 0 i l) + Scalar.select (k0_pay4 (ix2 i l))
      (∑ j : Fin 256, pm msk u q0 k w0 (ix2 i j) * vb (ix3 0 j l)) (∑ j : Fin 256, pm msk u q1 k w1 (ix2 i j) * vb (ix3 0 j l)) := by
    unfold am
    pointwise [k0_pay94, k0_pay89, k0_pay26]
  rw [e, pay5_apply, ha]
  congr 1
  by_cases h : l.val < 64
  · rw [if_pos h]
    simp only [if_pos h] at hP
    show (∑ j : Fin 256, pm msk u q0 k w0 (ix2 i j) * vb (ix3 0 j l)) = _
    exact Finset.sum_congr rfl fun j _ => by rw [hP, hv]
  · rw [if_neg h]
    simp only [if_neg h] at hP
    show (∑ j : Fin 256, pm msk u q1 k w1 (ix2 i j) * vb (ix3 0 j l)) = _
    exact Finset.sum_congr rfl fun j _ => by rw [hP, hv]

/-- Real running sums keep the sweep going. -/
theorem alive_real (C : Vec Ideal S8x256x1 .f32) (c : ℝ) (h : C (ix3 0 0 0) = (c : EReal)) : alive C = 1#1 := by
  have e : ((c : ℝ) : EReal) ≤ k0_pay3 C := by
    rw [← h]
    have e2 : k0_pay3 C = Finset.fold max (Ideal.ofBits FTy.f32 4286578688#32) (fun x : S1x8x256x1.Idx => C (ix3 (x 1) (x 2) 0))
        {i | reduces_S1x8x256x1_S1.drop i = ix1 0} := by
      pointwise [k0_pay3]
    rw [e2, Finset.le_fold_max]
    right
    refine ⟨ix4 0 0 0 0, ?_, le_refl _⟩
    rw [Finset.mem_filter]
    refine ⟨Finset.mem_univ _, ?_⟩
    funext j
    fin_cases j
    rfl
  have e3 : Named.named (F := Ideal) (φ := .f32) κ "dead" 0xC3200000#32 = (⊥ : EReal) :=
    IdealRules.named_const.ideal_named_scalar κ "dead" _ _ rfl
  have h3 : (⊥ : EReal) < k0_pay3 C := lt_of_lt_of_le (EReal.bot_lt_coe c) e
  unfold alive
  rw [e3]
  generalize k0_pay3 C = y at h3
  rw [Ideal.scalar_cmpf_def]
  simp [Ideal.cmp, h3]

end Cert.Proof.SbIdeal

end
-- ==== Proof.SbSweep.lean ====
module

public import proofs.«01_k».proof.Proof.SbPay

/-!
  The sweep over the key tiles, as sums over the keys: of real queries, keys and values the running sums and
  the accumulators are the sums over the keys taken so far, and the sweep takes all of them.
-/

@[expose] public section

set_option maxHeartbeats 1000000

noncomputable section

namespace Cert.Proof.SbIdeal

open Cert.SbIdeal Cert.SbIdeal.Gen
open Idealize.ShloMosaic Cert.Proof.RowMath

/-- What key `s` adds to the running sum of row `R`. -/
def gR (z : ℕ → ℝ) (R s : ℕ) : ℝ := if s < R then lfR (z s) else 0

/-- The weight row `R` gives key `s`, of keys below `N`. -/
def wR (z : ℕ → ℝ) (R N s : ℕ) : ℝ := if s < R then (2 : ℝ) ^ (lhR (z s) + ∑ j ∈ Finset.Ico (s + 1) N, gR z R j) else 0

/-- The running sum once the keys from tile `r` on are taken. -/
def cR (z : ℕ → ℝ) (R N r : ℕ) : ℝ := ∑ s ∈ Finset.Ico (256 * r) N, gR z R s

/-- The accumulator then. -/
def aR (z : ℕ → ℝ) (v : ℕ → EReal) (R N r : ℕ) : EReal := ∑ s ∈ Finset.Ico (256 * r) N, (wR z R N s : EReal) * v s

/-- A sum gains one tile. -/
theorem sum_tile {M : Type} [AddCommMonoid M] (f : ℕ → M) (r N : ℕ) (h : 256 * (r + 1) ≤ N) :
    ∑ s ∈ Finset.Ico (256 * r) N, f s = ∑ s ∈ Finset.Ico (256 * (r + 1)) N, f s + ∑ j : Fin 256, f (256 * r + j.val) := by
  rw [← Finset.sum_Ico_consecutive f (show 256 * r ≤ 256 * (r + 1) by omega) h, add_comm,
    Finset.sum_Ico_eq_sum_range f (256 * r), show 256 * (r + 1) - 256 * r = 256 by omega, Finset.sum_range]

/-- The keys right of one key: those of its tile and those of the tiles after. -/
theorem sum_after (f : ℕ → ℝ) (r N : ℕ) (j : Fin 256) (h : 256 * (r + 1) ≤ N) :
    ∑ s ∈ Finset.Ico (256 * r + j.val + 1) N, f s
      = (∑ a : Fin 256, if j.val < a.val then f (256 * r + a.val) else 0) + ∑ s ∈ Finset.Ico (256 * (r + 1)) N, f s := by
  have e : ∑ s ∈ Finset.Ico (256 * r + j.val + 1) N, f s = ∑ s ∈ Finset.Ico (256 * r) N, if 256 * r + j.val < s then f s else 0 := by
    rw [← Finset.sum_filter]
    refine Finset.sum_congr ?_ fun _ _ => rfl
    ext s
    simp only [Finset.mem_Ico, Finset.mem_filter]
    omega
  rw [e, sum_tile _ r N h, add_comm]
  congr 1
  · refine Finset.sum_congr rfl fun a _ => ?_
    simp only [Nat.add_lt_add_iff_left]
  · refine Finset.sum_congr rfl fun s hs => ?_
    rw [Finset.mem_Ico] at hs
    have := j.isLt
    rw [if_pos (by omega)]

/-- The head an accumulator lane of pair `p` belongs to. -/
def hd (p : Fin 4) (l : Fin 128) : Fin 8 := if l.val < 64 then ev p else od p

theorem pr_hd (p : Fin 4) (l : Fin 128) : pr (hd p l) = p := by
  unfold hd
  split_ifs <;> (apply Fin.ext; simp only [pr, ev, od]; omega)

/-- Running sums and accumulators hold the sums over the keys from tile `r` on. -/
def Inv (n : ℕ) (z : Fin 8 → Fin 256 → ℕ → ℝ) (v : Fin 4 → Fin 128 → ℕ → EReal) (r : ℕ) (C : Vec Ideal S8x256x1 .f32) (A : Vec Ideal S4x256x128 .f32) : Prop :=
  (∀ (h : Fin 8) (i : Fin 256), C (ix3 h i 0) = ((cR (z h i) (256 * n + i.val) (256 * (n + 1)) r : ℝ) : EReal))
    ∧ ∀ (p : Fin 4) (i : Fin 256) (l : Fin 128),
      A (ix3 p i l) = aR (z (hd p l) i) (v p l) (256 * n + i.val) (256 * (n + 1)) r

section

variable (n : ℕ) (z : Fin 8 → Fin 256 → ℕ → ℝ) (v : Fin 4 → Fin 128 → ℕ → EReal)
  (u : FVec Ideal S256x256 .bf16) (q : Fin 8 → FVec Ideal S256x128 .bf16) (K V : Vec Ideal S1x8192x512 .bf16)
  (hu : ∀ a b : Fin 256, u (ix2 a b) = if b.val < a.val then (1 : EReal) else 0)
  (hz : ∀ (t : ℕ) (h : Fin 8) (i j : Fin 256), t ≤ n → zv (q h) (kt K t (pr h)) (ix2 i j) = ((z h i (256 * t + j.val) : ℝ) : EReal))
  (hv : ∀ (t : ℕ) (p : Fin 4) (j : Fin 256) (l : Fin 128), t ≤ n → kt V t p (ix3 0 j l) = v p l (256 * t + j.val))

include hu hz hv

/-- One more tile. -/
theorem inv_step (r : ℕ) (hr : r < n) (C : Vec Ideal S8x256x1 .f32) (A : Vec Ideal S4x256x128 .f32) (hi : Inv n z v (r + 1) C A) :
    Inv n z v r (stepC q (kt K r) C) (stepA k0_pay4 u q (kt K r) (kt V r) C A) := by
  have hg : ∀ (h : Fin 8) (i a : Fin 256), gR (z h i) (256 * n + i.val) (256 * r + a.val) = lfR (z h i (256 * r + a.val)) := fun h i a => by
    have := a.isLt
    unfold gR
    rw [if_pos (by omega)]
  refine ⟨fun h i => ?_, fun p i l => ?_⟩
  · refine Eq.trans (cv_real (zv (q h) (kt K r (pr h))) (cs C h) i (fun j => z h i (256 * r + j.val)) _ (fun j => hz r h i j hr.le) (hi.1 h i)) ?_
    refine congrArg _ ?_
    unfold cR
    rw [sum_tile _ r _ (by omega)]
    congr 1
    exact Finset.sum_congr rfl fun j _ => (hg h i j).symm
  · refine Eq.trans (av_real u (kt V r p) (zv (q (ev p)) (kt K r p)) (zv (q (od p)) (kt K r p)) (cs C (ev p)) (cs C (od p)) (aas A p) i l
      (aR (z (hd p l) i) (v p l) (256 * n + i.val) (256 * (n + 1)) (r + 1))
      (fun j => wR (z (hd p l) i) (256 * n + i.val) (256 * (n + 1)) (256 * r + j.val)) (fun j => v p l (256 * r + j.val)) ?_ (fun j => hv r p j l hr.le) (hi.2 p i l)) ?_
    · intro j
      have e1 : (if l.val < 64 then zv (q (ev p)) (kt K r p) else zv (q (od p)) (kt K r p)) = zv (q (hd p l)) (kt K r (pr (hd p l))) := by
        rw [pr_hd]
        unfold hd
        split_ifs <;> rfl
      have e2 : (if l.val < 64 then cs C (ev p) else cs C (od p)) = cs C (hd p l) := by
        unfold hd
        split_ifs <;> rfl
      rw [e1, e2, pv_real u _ _ i j (fun j => z (hd p l) i (256 * r + j.val)) _ hu (fun j => hz r (hd p l) i j hr.le) (hi.1 (hd p l) i)]
      refine congrArg _ ?_
      have := j.isLt
      unfold wR cR
      rw [if_pos (by omega), sum_after _ r _ j (by omega)]
      congr 3
      refine Finset.sum_congr rfl fun a _ => ?_
      rw [hg]
    · unfold aR
      rw [sum_tile _ r _ (by omega)]

/-- The first, masked tile. -/
theorem inv_first (msk : IVec S256x256 1) (hm : ∀ i j : Fin 256, msk (ix2 i j) = if j.val < i.val then 1#1 else 0#1) :
    Inv n z v n (firstC msk q (kt K n)) (firstA k0_pay4 msk u q (kt K n) (kt V n)) := by
  have hg : ∀ (h : Fin 8) (i a : Fin 256), gR (z h i) (256 * n + i.val) (256 * n + a.val) = if a.val < i.val then lfR (z h i (256 * n + a.val)) else 0 := fun h i a => by
    unfold gR
    simp only [Nat.add_lt_add_iff_left]
  have hc : ∀ (h : Fin 8) (i : Fin 256), cs (F := Ideal) (k0_pay19 (F := Ideal)) h (ix3 0 i 0) = ((0 : ℝ) : EReal) := fun h i => by
    unfold cs
    pointwise [k0_pay19]
    exact EReal.coe_zero.symm
  have ha : ∀ (p : Fin 4) (i : Fin 256) (l : Fin 128), aas (F := Ideal) (k0_pay20 (F := Ideal)) p (ix3 0 i l) = 0 := fun p i l => by
    unfold aas
    pointwise [k0_pay20]
  refine ⟨fun h i => ?_, fun p i l => ?_⟩
  · refine Eq.trans (cm_real msk (q h) (kt K n (pr h)) (cs (F := Ideal) (k0_pay19 (F := Ideal)) h) i (fun j => z h i (256 * n + j.val)) _ (hm i) (fun j => hz n h i j le_rfl) (hc h i)) ?_
    refine congrArg _ ?_
    unfold cR
    rw [sum_tile _ n _ (by omega), Finset.Ico_self, Finset.sum_empty]
    congr 1
    exact Finset.sum_congr rfl fun j _ => (hg h i j).symm
  · refine Eq.trans (am_real msk u (kt V n p) (kt K n p) (q (ev p)) (q (od p)) (cs (F := Ideal) (k0_pay19 (F := Ideal)) (ev p)) (cs (F := Ideal) (k0_pay19 (F := Ideal)) (od p)) (aas (F := Ideal) (k0_pay20 (F := Ideal)) p) i l
      0 (fun j => wR (z (hd p l) i) (256 * n + i.val) (256 * (n + 1)) (256 * n + j.val)) (fun j => v p l (256 * n + j.val)) ?_ (fun j => hv n p j l le_rfl) (ha p i l)) ?_
    · intro j
      have e1 : (if l.val < 64 then q (ev p) else q (od p)) = q (hd p l) := by
        unfold hd
        split_ifs <;> rfl
      have e2 : (if l.val < 64 then cs (F := Ideal) (k0_pay19 (F := Ideal)) (ev p) else cs (F := Ideal) (k0_pay19 (F := Ideal)) (od p)) = cs (F := Ideal) (k0_pay19 (F := Ideal)) (hd p l) := by
        unfold hd
        split_ifs <;> rfl
      have e3 : ∀ j, zv (q (hd p l)) (kt K n p) (ix2 i j) = ((z (hd p l) i (256 * n + j.val) : ℝ) : EReal) := fun j => by
        rw [← hz n (hd p l) i j le_rfl, pr_hd]
      rw [e1, e2, pm_real msk u _ _ _ i j (fun j => z (hd p l) i (256 * n + j.val)) _ hu (hm i) e3 (hc (hd p l) i)]
      refine congrArg _ ?_
      unfold wR
      rw [sum_after _ n _ j (by omega), Finset.Ico_self, Finset.sum_empty]
      simp only [Nat.add_lt_add_iff_left, hg]
    · unfold aR
      rw [sum_tile _ n _ (by omega), Finset.Ico_self, Finset.sum_empty]

/-- The sweep takes every tile. -/
theorem sweep_real : ∀ (r : ℕ), r ≤ n → ∀ (C : Vec Ideal S8x256x1 .f32) (A : Vec Ideal S4x256x128 .f32), Inv n z v r C A →
    ∀ (p : Fin 4) (i : Fin 256) (l : Fin 128), sweep k0_pay4 u q K V r (alive C) C A (ix3 p i l)
      = aR (z (hd p l) i) (v p l) (256 * n + i.val) (256 * (n + 1)) 0
  | 0, _, C, A, hi, p, i, l => hi.2 p i l
  | r + 1, hr, C, A, hi, p, i, l => by
    rw [sweep, if_pos (alive_real C _ (hi.1 0 0))]
    exact sweep_real r (by omega) _ _ (inv_step n z v u q K V hu hz hv r (by omega) C A hi) p i l

end

end Cert.Proof.SbIdeal

end
-- ==== Proof.SbValue.lean ====
module

public import proofs.«01_k».proof.Proof.SbRun
public import proofs.«01_k».proof.Proof.SbSweep
public import Idealize.ShloMosaic.Lib.StableHlo.ReadAt
public import Idealize.ShloMosaic.Lib.Tactic.CleanTypes

/-!
  The stick-breaking attention kernel's output array after its run, of finite arguments: per row and head, the
  sum over the keys before it of their values times their weights.
-/

@[expose] public section

set_option maxHeartbeats 1000000

noncomputable section

namespace Cert.Proof.SbIdeal

open Cert.SbIdeal Cert.SbIdeal.Gen
open Idealize.ShloMosaic Idealize.ShloMosaic.TcCoe Idealize.SL.Sem Cert.Proof.RowMath

/-- Row `R`'s score of key `s`, head `h`, of batch entry `b`. -/
def zA (a : S4x8192x2560.Idx → ℝ) (b : Fin 4) (R : Fin 8192) (h : Fin 8) (s : ℕ) : ℝ :=
  ∑ d : Fin 64, a (ix3 b R ⟨1024 + 64 * h.val + d.val, by omega⟩)
    * a (ix3 b ⟨s % 8192, Nat.mod_lt _ (by norm_num)⟩ ⟨1536 + 64 * h.val + d.val, by omega⟩)

/-- Key `s`'s value in column `x`. -/
def vA (A : S4x8192x2560.Idx → EReal) (b : Fin 4) (x : Fin 512) (s : ℕ) : EReal :=
  A (ix3 b ⟨s % 8192, Nat.mod_lt _ (by norm_num)⟩ ⟨2048 + x.val, by omega⟩)

/-- The attention of row `R`: the values of the keys before it, each by its weight. -/
def ans (z : ℕ → ℝ) (v : ℕ → EReal) (R : ℕ) : EReal :=
  ∑ s ∈ Finset.range R, (((2 : ℝ) ^ (lhR (z s) + ∑ j ∈ Finset.Ico (s + 1) R, lfR (z j)) : ℝ) : EReal) * v s

/-- The output array as a function of the argument, whose queries and keys are the reals `a`. -/
def G (a : S4x8192x2560.Idx → ℝ) (A : S4x8192x2560.Idx → EReal) : S4x8192x512.Idx → EReal := fun i =>
  ans (zA a (i 0) (i 1) ⟨(i 2).val / 64, by have h : (i 2).val < 512 := (i 2).isLt; omega⟩) (vA A (i 0) (i 2)) (i 1).val

theorem aR_eq (z : ℕ → ℝ) (v : ℕ → EReal) (R N : ℕ) (h : R ≤ N) : aR z v R N 0 = ans z v R := by
  unfold aR ans
  rw [Nat.mul_zero, ← Finset.sum_Ico_consecutive (fun s => (wR z R N s : EReal) * v s) (Nat.zero_le R) h]
  have e1 : ∑ s ∈ Finset.Ico R N, (wR z R N s : EReal) * v s = 0 := Finset.sum_eq_zero fun s hs => by
    rw [Finset.mem_Ico] at hs
    unfold wR
    rw [if_neg (by omega), EReal.coe_zero, zero_mul]
  rw [e1, add_zero, ← Finset.range_eq_Ico]
  refine Finset.sum_congr rfl fun s hs => ?_
  rw [Finset.mem_range] at hs
  unfold wR
  rw [if_pos hs, ← Finset.sum_Ico_consecutive (gR z R) (show s + 1 ≤ R by omega) h]
  have e2 : ∑ j ∈ Finset.Ico R N, gR z R j = 0 := Finset.sum_eq_zero fun j hj => by
    rw [Finset.mem_Ico] at hj
    unfold gR
    rw [if_neg (by omega)]
  have e3 : ∑ j ∈ Finset.Ico (s + 1) R, gR z R j = ∑ j ∈ Finset.Ico (s + 1) R, lfR (z j) := Finset.sum_congr rfl fun j hj => ?_
  · rw [e2, add_zero, e3]
  rw [Finset.mem_Ico] at hj
  unfold gR
  rw [if_pos (by omega)]

/-- A sum over a pair's lanes of which only one head's count. -/
theorem sum_even (f : Fin 128 → ℝ) : ∑ d : Fin 128, (if d.val < 64 then f d else 0) = ∑ d : Fin 64, f ⟨d.val, by omega⟩ := by
  rw [Fin.sum_univ_add (a := 64) (b := 64) (fun d : Fin 128 => if d.val < 64 then f d else 0)]
  have e : ∑ i : Fin 64, (if (Fin.natAdd 64 i).val < 64 then f (Fin.natAdd 64 i) else 0) = 0 := Finset.sum_eq_zero fun i _ => by
    rw [if_neg (by rw [Fin.val_natAdd]; omega)]
  refine (congrArg _ e).trans ?_
  rw [add_zero]
  exact Finset.sum_congr rfl fun i _ => if_pos i.isLt

theorem sum_odd (f : Fin 128 → ℝ) : ∑ d : Fin 128, (if d.val < 64 then 0 else f d) = ∑ d : Fin 64, f ⟨64 + d.val, by omega⟩ := by
  rw [Fin.sum_univ_add (a := 64) (b := 64) (fun d : Fin 128 => if d.val < 64 then 0 else f d)]
  have e : ∑ i : Fin 64, (if (Fin.castAdd 64 i).val < 64 then 0 else f (Fin.castAdd 64 i)) = 0 := Finset.sum_eq_zero fun i _ => by
    rw [if_pos (show (Fin.castAdd 64 i).val < 64 from i.isLt)]
  refine (congrArg (· + _) e).trans ?_
  rw [zero_add]
  exact Finset.sum_congr rfl fun i _ => if_neg (by rw [Fin.val_natAdd]; omega)

/-- Row `i` of query tile `n`. -/
def rowOf (n : Fin 32) (i : Fin 256) : Fin 8192 := ⟨256 * n.val + i.val, by omega⟩

/-- The columns of the queries, the keys and the values. -/
def qC (x : Fin 512) : Fin 2560 := ⟨1024 + x.val, by omega⟩
def kC (x : Fin 512) : Fin 2560 := ⟨1536 + x.val, by omega⟩
def vC (x : Fin 512) : Fin 2560 := ⟨2048 + x.val, by omega⟩

section

variable (a : S4x8192x2560.Idx → ℝ) (A : S4x8192x2560.Idx → EReal) (b : Fin 4) (n : Fin 32) (q : Vec Ideal S1x256x512 .bf16) (K V : Vec Ideal S1x8192x512 .bf16)
  (u : FVec Ideal S256x256 .bf16)
  (hu : ∀ a b : Fin 256, u (ix2 a b) = if b.val < a.val then (1 : EReal) else 0)
  (hq : ∀ (i : Fin 256) (x : Fin 512), q (ix3 0 i x) = ((a (ix3 b (rowOf n i) (qC x)) : ℝ) : EReal))
  (hK : ∀ (s : Fin 8192) (x : Fin 512), K (ix3 0 s x) = ((a (ix3 b s (kC x)) : ℝ) : EReal))
  (hV : ∀ (s : Fin 8192) (x : Fin 512), V (ix3 0 s x) = A (ix3 b s (vC x)))

include hq hK in
/-- A tile's scores. -/
theorem zv_eq (t : ℕ) (h : Fin 8) (i j : Fin 256) :
    zv (qh q h) (kt K t (pr h)) (ix2 i j) = ((zA a b (rowOf n i) h (256 * t + j.val) : ℝ) : EReal) := by
  have hk : ∀ d : Fin 128, kt K t (pr h) (ix3 0 j d)
      = ((a (ix3 b ⟨(256 * t + j.val) % 8192, Nat.mod_lt _ (by norm_num)⟩ ⟨1536 + (128 * (h.val / 2) + d.val), by omega⟩) : ℝ) : EReal) :=
    fun d => hK _ _
  have hqt : ∀ d : Fin 128, qt q (pr h) (ix3 0 i d)
      = ((a (ix3 b ⟨256 * n.val + i.val, by omega⟩ ⟨1024 + (128 * (h.val / 2) + d.val), by omega⟩) : ℝ) : EReal) := fun d => hq _ _
  by_cases hh : h.val % 2 = 0
  · rw [zv_real (qh q h) (kt K t (pr h)) i j
      (fun d => if d.val < 64 then a (ix3 b ⟨256 * n.val + i.val, by omega⟩ ⟨1024 + (128 * (h.val / 2) + d.val), by omega⟩) else 0) _ ?_ hk]
    · refine congrArg _ ?_
      simp only [ite_mul, zero_mul]
      rw [sum_even]
      unfold zA
      refine Finset.sum_congr rfl fun d _ => ?_
      congr 3 <;> (apply Fin.ext; simp only []; omega)
    · intro d
      unfold qh
      rw [if_pos hh, pay8_apply]
      split_ifs
      · exact hqt d
      · rfl
  · rw [zv_real (qh q h) (kt K t (pr h)) i j
      (fun d => if d.val < 64 then 0 else a (ix3 b ⟨256 * n.val + i.val, by omega⟩ ⟨1024 + (128 * (h.val / 2) + d.val), by omega⟩)) _ ?_ hk]
    · refine congrArg _ ?_
      simp only [ite_mul, zero_mul]
      rw [sum_odd]
      unfold zA
      refine Finset.sum_congr rfl fun d _ => ?_
      congr 3 <;> (apply Fin.ext; simp only []; omega)
    · intro d
      unfold qh
      rw [if_neg hh, pay9_apply]
      split_ifs
      · rfl
      · exact hqt d

include hV in
theorem kt_eq (t : ℕ) (p : Fin 4) (j : Fin 256) (l : Fin 128) :
    kt V t p (ix3 0 j l) = vA A b ⟨128 * p.val + l.val, by omega⟩ (256 * t + j.val) := hV _ _

include hu hq hK hV in
/-- The output block, read at an entry. -/
theorem outBlk_eq (i : Fin 256) (x : Fin 512) :
    outBlk n.val q K V u (ix3 0 i x) = G a A (ix3 b (rowOf n i) x) := by
  have hu' : ∀ a b : Fin 256, u (ix2 a b) = if b.val < a.val then (1 : EReal) else 0 := hu
  have hm : ∀ i j : Fin 256, k0_pay21 (BitVec.ofNat 32 (256 * n.val)) (BitVec.ofNat 32 (n.val + 1)) (ix2 i j) = if j.val < i.val then 1#1 else 0#1 :=
    pay23_apply n
  have hz := zv_eq a b n q K hq hK
  have hv := kt_eq A b V hV
  have e0 : outBlk n.val q K V u (ix3 0 i x) = accs n.val q K V u (ix3 ⟨x.val / 128, by omega⟩ i ⟨x.val % 128, by omega⟩) := by
    show k0_pay108 (aas (accs n.val q K V u) ⟨x.val / 128, by omega⟩) (ix3 0 i ⟨x.val % 128, by omega⟩) = _
    pointwise [k0_pay108]
    rfl
  rw [e0]
  unfold accs
  refine (sweep_real n.val (fun h i s => zA a b (rowOf n i) h s) (fun p l s => vA A b ⟨128 * p.val + l.val, by omega⟩ s)
    u (qh q) K V hu' (fun t h i j _ => hz t h i j) (fun t p j l _ => hv t p j l) n.val le_rfl _ _
    (inv_first n.val _ _ u (qh q) K V hu' (fun t h i j _ => hz t h i j) (fun t p j l _ => hv t p j l) _ hm) _ _ _).trans ?_
  rw [aR_eq _ _ _ _ (by omega)]
  have e1 : hd ⟨x.val / 128, by omega⟩ ⟨x.val % 128, by omega⟩ = (⟨x.val / 64, by omega⟩ : Fin 8) := by
    unfold hd ev od
    split_ifs with h <;> (apply Fin.ext; simp only [] at h ⊢; omega)
  have e2 : (⟨128 * (x.val / 128) + x.val % 128, by omega⟩ : Fin 512) = x := Fin.ext (by simp only []; omega)
  rw [e1]
  simp only [e2]
  rfl

end

end Cert.Proof.SbIdeal

end
-- ==== Proof.SbLitA.lean ====
module

public import proofs.«01_k».proof.SbIdeal

@[expose] public section
noncomputable section
namespace Cert.Proof.SbIdeal
open Cert.SbIdeal Idealize.ShloMosaic

/-- Eight rows of the constant handed to the call: the bits of one left of the diagonal, of zero elsewhere. -/
def LitRows (k : Nat) : Prop := ∀ (a : Fin 8) (b : Fin 256), lit0t (256 * (8 * k + a.val) + b.val) = if b.val < 8 * k + a.val then 0x3F80#16 else 0#16

instance (k : Nat) : Decidable (LitRows k) := inferInstanceAs (Decidable (∀ (a : Fin 8) (b : Fin 256), _))

end Cert.Proof.SbIdeal
end
-- ==== Proof.SbLit0.lean ====
module

public import proofs.«01_k».proof.Proof.SbLitA

@[expose] public section
noncomputable section
namespace Cert.Proof.SbIdeal
open Cert.SbIdeal Idealize.ShloMosaic

theorem lit_rows0 : LitRows 0 := by decide +kernel
theorem lit_rows1 : LitRows 1 := by decide +kernel
theorem lit_rows2 : LitRows 2 := by decide +kernel
theorem lit_rows3 : LitRows 3 := by decide +kernel
theorem lit_rows4 : LitRows 4 := by decide +kernel
theorem lit_rows5 : LitRows 5 := by decide +kernel
theorem lit_rows6 : LitRows 6 := by decide +kernel
theorem lit_rows7 : LitRows 7 := by decide +kernel

end Cert.Proof.SbIdeal
end
-- ==== Proof.SbLit1.lean ====
module

public import proofs.«01_k».proof.Proof.SbLitA

@[expose] public section
noncomputable section
namespace Cert.Proof.SbIdeal
open Cert.SbIdeal Idealize.ShloMosaic

theorem lit_rows8 : LitRows 8 := by decide +kernel
theorem lit_rows9 : LitRows 9 := by decide +kernel
theorem lit_rows10 : LitRows 10 := by decide +kernel
theorem lit_rows11 : LitRows 11 := by decide +kernel
theorem lit_rows12 : LitRows 12 := by decide +kernel
theorem lit_rows13 : LitRows 13 := by decide +kernel
theorem lit_rows14 : LitRows 14 := by decide +kernel
theorem lit_rows15 : LitRows 15 := by decide +kernel

end Cert.Proof.SbIdeal
end
-- ==== Proof.SbLit2.lean ====
module

public import proofs.«01_k».proof.Proof.SbLitA

@[expose] public section
noncomputable section
namespace Cert.Proof.SbIdeal
open Cert.SbIdeal Idealize.ShloMosaic

theorem lit_rows16 : LitRows 16 := by decide +kernel
theorem lit_rows17 : LitRows 17 := by decide +kernel
theorem lit_rows18 : LitRows 18 := by decide +kernel
theorem lit_rows19 : LitRows 19 := by decide +kernel
theorem lit_rows20 : LitRows 20 := by decide +kernel
theorem lit_rows21 : LitRows 21 := by decide +kernel
theorem lit_rows22 : LitRows 22 := by decide +kernel
theorem lit_rows23 : LitRows 23 := by decide +kernel

end Cert.Proof.SbIdeal
end
-- ==== Proof.SbLit3.lean ====
module

public import proofs.«01_k».proof.Proof.SbLitA

@[expose] public section
noncomputable section
namespace Cert.Proof.SbIdeal
open Cert.SbIdeal Idealize.ShloMosaic

theorem lit_rows24 : LitRows 24 := by decide +kernel
theorem lit_rows25 : LitRows 25 := by decide +kernel
theorem lit_rows26 : LitRows 26 := by decide +kernel
theorem lit_rows27 : LitRows 27 := by decide +kernel
theorem lit_rows28 : LitRows 28 := by decide +kernel
theorem lit_rows29 : LitRows 29 := by decide +kernel
theorem lit_rows30 : LitRows 30 := by decide +kernel
theorem lit_rows31 : LitRows 31 := by decide +kernel

end Cert.Proof.SbIdeal
end
-- ==== Proof.SbLit.lean ====
module

public import proofs.«01_k».proof.Proof.SbLit0
public import proofs.«01_k».proof.Proof.SbLit1
public import proofs.«01_k».proof.Proof.SbLit2
public import proofs.«01_k».proof.Proof.SbLit3

@[expose] public section
noncomputable section
namespace Cert.Proof.SbIdeal
open Cert.SbIdeal Idealize.ShloMosaic

theorem lit_rows : ∀ k : Fin 32, LitRows k.val := fun k => match k with
  | ⟨0, _⟩ => lit_rows0
  | ⟨1, _⟩ => lit_rows1
  | ⟨2, _⟩ => lit_rows2
  | ⟨3, _⟩ => lit_rows3
  | ⟨4, _⟩ => lit_rows4
  | ⟨5, _⟩ => lit_rows5
  | ⟨6, _⟩ => lit_rows6
  | ⟨7, _⟩ => lit_rows7
  | ⟨8, _⟩ => lit_rows8
  | ⟨9, _⟩ => lit_rows9
  | ⟨10, _⟩ => lit_rows10
  | ⟨11, _⟩ => lit_rows11
  | ⟨12, _⟩ => lit_rows12
  | ⟨13, _⟩ => lit_rows13
  | ⟨14, _⟩ => lit_rows14
  | ⟨15, _⟩ => lit_rows15
  | ⟨16, _⟩ => lit_rows16
  | ⟨17, _⟩ => lit_rows17
  | ⟨18, _⟩ => lit_rows18
  | ⟨19, _⟩ => lit_rows19
  | ⟨20, _⟩ => lit_rows20
  | ⟨21, _⟩ => lit_rows21
  | ⟨22, _⟩ => lit_rows22
  | ⟨23, _⟩ => lit_rows23
  | ⟨24, _⟩ => lit_rows24
  | ⟨25, _⟩ => lit_rows25
  | ⟨26, _⟩ => lit_rows26
  | ⟨27, _⟩ => lit_rows27
  | ⟨28, _⟩ => lit_rows28
  | ⟨29, _⟩ => lit_rows29
  | ⟨30, _⟩ => lit_rows30
  | ⟨31, _⟩ => lit_rows31
  | ⟨n + 32, h⟩ => absurd h (by omega)

/-- The constant handed to the call, entry by entry. -/
theorem lit_at (a b : Fin 256) : lit0t (256 * a.val + b.val) = if b.val < a.val then 0x3F80#16 else 0#16 := by
  have h := lit_rows ⟨a.val / 8, by omega⟩ ⟨a.val % 8, by omega⟩ b
  have e : 8 * (a.val / 8) + a.val % 8 = a.val := by omega
  simp only [e] at h
  exact h

end Cert.Proof.SbIdeal
end
-- ==== Proof.SbGlue.lean ====
module

public import proofs.«01_k».proof.Proof.SbValue
public import proofs.«01_k».proof.Proof.SbLit

/-!
  The windows' blocks of the stick-breaking attention kernel as parts of the arrays, and the output array after
  its run.
-/

@[expose] public section

set_option maxHeartbeats 1000000

noncomputable section

namespace Cert.Proof.SbIdeal

open Cert.SbIdeal Cert.SbIdeal.Gen
open Idealize.ShloMosaic Idealize.ShloMosaic.TcCoe Idealize.SL.Sem Cert.Proof.RowMath

variable (m : (ℓ : Loc nD τ sig) → Buf (Elt Ideal) ℓ) (ρ : Dev nD → PrngReg)

/-- A grid point's batch entry. -/
def bat (t : Fin (cfg0 (F := Ideal)).N) : Fin 4 := ⟨(grid0.coords t 0).val, (grid0.coords t 0).isLt⟩

theorem idx0 (t : Fin (cfg0 (F := Ideal)).N) : win0_0.index t 0 = (bat t).val ∧ win0_0.index t 1 = (tile (F := Ideal) t).val ∧ win0_0.index t 2 = 2 :=
  (by decide +kernel : ∀ t : Fin grid0.N, cc0_transform_0 (grid0.coords t) 0 = (grid0.coords t 0).val ∧ cc0_transform_0 (grid0.coords t) 1 = (grid0.coords t 1).val ∧ cc0_transform_0 (grid0.coords t) 2 = 2) t

theorem idx1 (t : Fin (cfg0 (F := Ideal)).N) : win0_1.index t 0 = (bat t).val ∧ win0_1.index t 1 = 0 ∧ win0_1.index t 2 = 3 :=
  (by decide +kernel : ∀ t : Fin grid0.N, cc0_transform_1 (grid0.coords t) 0 = (grid0.coords t 0).val ∧ cc0_transform_1 (grid0.coords t) 1 = 0 ∧ cc0_transform_1 (grid0.coords t) 2 = 3) t

theorem idx2 (t : Fin (cfg0 (F := Ideal)).N) : win0_2.index t 0 = (bat t).val ∧ win0_2.index t 1 = 0 ∧ win0_2.index t 2 = 4 :=
  (by decide +kernel : ∀ t : Fin grid0.N, cc0_transform_2 (grid0.coords t) 0 = (grid0.coords t 0).val ∧ cc0_transform_2 (grid0.coords t) 1 = 0 ∧ cc0_transform_2 (grid0.coords t) 2 = 4) t

theorem idx3 (t : Fin (cfg0 (F := Ideal)).N) : win0_3.index t 0 = 0 ∧ win0_3.index t 1 = 0 :=
  (by decide +kernel : ∀ t : Fin grid0.N, cc0_transform_3 (grid0.coords t) 0 = 0 ∧ cc0_transform_3 (grid0.coords t) 1 = 0) t

theorem idx4 (t : Fin (cfg0 (F := Ideal)).N) : win0_4.index t 0 = (bat t).val ∧ win0_4.index t 1 = (tile (F := Ideal) t).val ∧ win0_4.index t 2 = 0 :=
  (by decide +kernel : ∀ t : Fin grid0.N, cc0_transform_4 (grid0.coords t) 0 = (grid0.coords t 0).val ∧ cc0_transform_4 (grid0.coords t) 1 = (grid0.coords t 1).val ∧ cc0_transform_4 (grid0.coords t) 2 = 0) t

theorem emb0 (t : Fin (cfg0 (F := Ideal)).N) (i : Fin 256) (x : Fin 512) :
    (((cfg0 (F := Ideal)).win 0).blk t).view.emb (ix3 0 i x)
      = (ix3 (bat t) (rowOf (tile (F := Ideal) t) i) (qC x) : S4x8192x2560.Idx) := by
  have e := idx0 t
  funext a; apply Fin.ext
  match a with
  | ⟨0, _⟩ => show win0_0.index t 0 * 1 + 1 * 0 = (bat t).val; rw [e.1]; omega
  | ⟨1, _⟩ => show win0_0.index t 1 * 256 + 1 * i.val = 256 * (tile (F := Ideal) t).val + i.val; rw [e.2.1]; omega
  | ⟨2, _⟩ => show win0_0.index t 2 * 512 + 1 * x.val = 1024 + x.val; rw [e.2.2]; omega

theorem emb1 (t : Fin (cfg0 (F := Ideal)).N) (i : Fin 8192) (x : Fin 512) :
    (((cfg0 (F := Ideal)).win 1).blk t).view.emb (ix3 0 i x) = (ix3 (bat t) i (kC x) : S4x8192x2560.Idx) := by
  have e := idx1 t
  funext a; apply Fin.ext
  match a with
  | ⟨0, _⟩ => show win0_1.index t 0 * 1 + 1 * 0 = (bat t).val; rw [e.1]; omega
  | ⟨1, _⟩ => show win0_1.index t 1 * 8192 + 1 * i.val = i.val; rw [e.2.1]; omega
  | ⟨2, _⟩ => show win0_1.index t 2 * 512 + 1 * x.val = 1536 + x.val; rw [e.2.2]; omega

theorem emb2 (t : Fin (cfg0 (F := Ideal)).N) (i : Fin 8192) (x : Fin 512) :
    (((cfg0 (F := Ideal)).win 2).blk t).view.emb (ix3 0 i x) = (ix3 (bat t) i (vC x) : S4x8192x2560.Idx) := by
  have e := idx2 t
  funext a; apply Fin.ext
  match a with
  | ⟨0, _⟩ => show win0_2.index t 0 * 1 + 1 * 0 = (bat t).val; rw [e.1]; omega
  | ⟨1, _⟩ => show win0_2.index t 1 * 8192 + 1 * i.val = i.val; rw [e.2.1]; omega
  | ⟨2, _⟩ => show win0_2.index t 2 * 512 + 1 * x.val = 2048 + x.val; rw [e.2.2]; omega

theorem emb3 (t : Fin (cfg0 (F := Ideal)).N) (r k : Fin 256) :
    (((cfg0 (F := Ideal)).win 3).blk t).view.emb (ix2 r k) = (ix2 r k : S256x256.Idx) := by
  have e := idx3 t
  funext a; apply Fin.ext
  match a with
  | ⟨0, _⟩ => show win0_3.index t 0 * 256 + 1 * r.val = r.val; rw [e.1]; omega
  | ⟨1, _⟩ => show win0_3.index t 1 * 256 + 1 * k.val = k.val; rw [e.2]; omega

theorem emb4 (t : Fin (cfg0 (F := Ideal)).N) (i : Fin 256) (x : Fin 512) :
    (((cfg0 (F := Ideal)).win 4).blk t).view.emb (ix3 0 i x)
      = (ix3 (bat t) (rowOf (tile (F := Ideal) t) i) x : S4x8192x512.Idx) := by
  have e := idx4 t
  funext a; apply Fin.ext
  match a with
  | ⟨0, _⟩ => show win0_4.index t 0 * 1 + 1 * 0 = (bat t).val; rw [e.1]; omega
  | ⟨1, _⟩ => show win0_4.index t 1 * 256 + 1 * i.val = 256 * (tile (F := Ideal) t).val + i.val; rw [e.2.1]; omega
  | ⟨2, _⟩ => show win0_4.index t 2 * 512 + 1 * x.val = x.val; rw [e.2.2]; omega

/-- The triangle handed to the call. -/
theorem entry_cst (c : Dev nD) (a b : Fin 256) :
    atEntry (F := Ideal) m c main_cst (ix2 a b) = if b.val < a.val then (1 : EReal) else 0 := by
  have e : atEntry (F := Ideal) m c main_cst (ix2 a b) = Ideal.ofBits .bf16 (lit0 (S256x256.rowMajor (ix2 a b))) := by
    unfold atEntry
    after_reads_at
  have r : (S256x256.rowMajor (ix2 a b)).val = 256 * a.val + b.val := by
    refine (Shape.rowMajor_val_two (ix2 a b)).trans ?_
    show a.val * 256 + b.val = 256 * a.val + b.val
    omega
  have l : lit0 (S256x256.rowMajor (ix2 a b)) = lit0t (256 * a.val + b.val) := by
    rw [← r]
  rw [e, l, lit_at]
  split_ifs
  · simp [Ideal.ofBits, Ideal.ieee, -EReal.coe_mul]
    rw [show (128 * (2 ^ 7)⁻¹ : ℝ) = 1 by norm_num, EReal.coe_one]
  · simp [Ideal.ofBits, Ideal.ieee, -EReal.coe_mul]

/-- The argument's entries as reals. -/
def arg (c : Dev nD) (x : S4x8192x2560.Idx) : ℝ := (show EReal from m ((c : Thread nD τ).loc main_arg0) x).toReal

/-- The argument as launched. -/
abbrev raw (c : Dev nD) : S4x8192x2560.Idx → EReal := fun x => m ((c : Thread nD τ).loc main_arg0) x

/-- The output array as that function of the argument. -/
abbrev res (c : Dev nD) : Buf (Elt Ideal) ((c : Thread nD τ).loc main_v0) := G (arg m c) (raw m c)

/-- Every query and key of the argument is a real. -/
def Reals (c : Dev nD) : Prop := ∀ x : S4x8192x2560.Idx, 1024 ≤ (x 2).val → (x 2).val < 2048 → m ((c : Thread nD τ).loc main_arg0) x = ((arg m c x : ℝ) : EReal)

theorem flushed_eq (c : Dev nD) (h : Reals m c) (t : Fin (cfg0 (F := Ideal)).N) :
    (dats (F := Ideal) m 0 c).flushed 4 t = (((cfg0 (F := Ideal)).win 4).blk t).view.read (Elt Ideal) (res m c) := by
  have e : (dats (F := Ideal) m 0 c).flushed 4 t = outBlk (tile (F := Ideal) t).val (blockAt m c 0 t) (blockAt m c 1 t) (blockAt m c 2 t) (blockAt m c 3 t) := rfl
  rw [e]
  funext y
  obtain ⟨i, x, rfl⟩ : ∃ (i : Fin 256) (x : Fin 512), y = ix3 0 i x := ⟨y 1, y 2, (eq_ix3 y).trans (by congr 1; exact Subsingleton.elim (α := Fin 1) _ _)⟩
  show _ = res m c ((((cfg0 (F := Ideal)).win 4).blk t).view.emb (ix3 0 i x))
  rw [emb4]
  refine outBlk_eq (arg m c) (raw m c) (bat t) (tile (F := Ideal) t) _ _ _ _ ?_ ?_ ?_ ?_ i x
  · intro a b
    show atEntry (F := Ideal) m c main_cst ((((cfg0 (F := Ideal)).win 3).blk t).view.emb (ix2 a b)) = _
    rw [emb3, entry_cst]
  · intro i x
    show atEntry (F := Ideal) m c main_arg0 ((((cfg0 (F := Ideal)).win 0).blk t).view.emb (ix3 0 i x)) = _
    rw [emb0, entry_arg]
    exact h _ (show 1024 ≤ 1024 + x.val by omega) (show 1024 + x.val < 2048 by omega)
  · intro i x
    show atEntry (F := Ideal) m c main_arg0 ((((cfg0 (F := Ideal)).win 1).blk t).view.emb (ix3 0 i x)) = _
    rw [emb1, entry_arg]
    exact h _ (show 1024 ≤ 1536 + x.val by omega) (show 1536 + x.val < 2048 by omega)
  · intro i x
    show atEntry (F := Ideal) m c main_arg0 ((((cfg0 (F := Ideal)).win 2).blk t).view.emb (ix3 0 i x)) = _
    rw [emb2, entry_arg]

/-- Every entry of the output is in the block of the point of its batch entry and row. -/
theorem covered (i : S4x8192x512.Idx) :
    ∃ t : Fin (cfg0 (F := Ideal)).N, ((cfg0 (F := Ideal)).win 4).flush t = true ∧ i ∈ (((cfg0 (F := Ideal)).win 4).blk t).view.set := by
  obtain ⟨b, q, j, rfl⟩ : ∃ (b : Fin 4) (q : Fin 8192) (j : Fin 512), i = ix3 b q j := ⟨i 0, i 1, i 2, eq_ix3 i⟩
  have ht : b.val * 32 + q.val / 256 < (cfg0 (F := Ideal)).N := by show b.val * 32 + q.val / 256 < 128; omega
  refine ⟨⟨b.val * 32 + q.val / 256, ht⟩, flush0_4 _, ?_⟩
  have h := (((cfg0 (F := Ideal)).win 4).blk ⟨b.val * 32 + q.val / 256, ht⟩).view.emb_mem_set (ix3 0 (⟨q.val % 256, by omega⟩ : Fin 256) j)
  have hc : ∀ t : Fin grid0.N, (grid0.coords t 0).val = t.val / 32 ∧ (grid0.coords t 1).val = t.val % 32 := by decide +kernel
  have e1 : bat ⟨b.val * 32 + q.val / 256, ht⟩ = b := Fin.ext ((hc _).1.trans (by show (b.val * 32 + q.val / 256) / 32 = b.val; omega))
  have e2 : (tile (F := Ideal) ⟨b.val * 32 + q.val / 256, ht⟩).val = q.val / 256 := (hc _).2.trans (by show (b.val * 32 + q.val / 256) % 32 = q.val / 256; omega)
  rw [emb4, e1] at h
  have e3 : rowOf (tile (F := Ideal) ⟨b.val * 32 + q.val / 256, ht⟩) ⟨q.val % 256, by omega⟩ = q := Fin.ext (by
    show 256 * (tile (F := Ideal) _).val + q.val % 256 = q.val
    rw [e2]; omega)
  rwa [e3] at h

/-- The output array after the run. -/
theorem final (c : Dev nD) (h : Reals m c) : (dats (F := Ideal) m 0 c).arrAt 4 (cfg0 (F := Ideal)).N = res m c :=
  (dats (F := Ideal) m 0 c).arrAt_eq_of_cover 4 (res m c) (fun t _ => flushed_eq m c h t) covered

/-- The run of the kernel on finite queries and keys. -/
theorem run (h : ∀ c, Reals m c) : θ_run defs (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0) :=
  (θ_run defs _ _).mono (fun _ hr c => ⟨(hr c).1.trans (final m c (h c)), (hr c).2⟩) (run_sb m ρ)

end Cert.Proof.SbIdeal

end
-- ==== Proof.SbRef.lean ====
module

public import proofs.«01_k».proof.Proof.SbGlue
public import proofs.«01_k».proof.Proof.Gen.SbReferenceIdeal.Run
public import proofs.«01_k».proof.Proof.Gen.Pre_finite_queries_keys
public import proofs.«01_k».proof.Defs

/-!
  The plain stick-breaking attention, of finite queries and keys, is the same function of them.
-/

@[expose] public section

set_option maxHeartbeats 1000000

noncomputable section

namespace Cert.Proof.SbIdeal

open Idealize.ShloMosaic Idealize.ShloMosaic.TcCoe Idealize.SL.Sem Cert.Proof.RowMath
open Cert.SbReferenceIdeal

/-- The logarithm of the logistic function as the reference writes it. -/
def lsE (y : EReal) : EReal :=
  -(if -y ≠ -y then -y else max (-y) 0 + Ideal.log1p (Ideal.exp (-FloatOps.absf (F := Ideal) (φ := .f32) (-y))))

/-- The natural logarithm of two, as the reference writes it. -/
def lnE : EReal := id (Host.log (constant (F := Ideal) S_ .f32 0x40000000#32)) ix0

/-- The zero of a masked entry, as the reference writes it. -/
def zr : EReal := id (constant (F := Ideal) S_ .f32 0x00000000#32) ix0

/-- Row `r`'s score of key `s` in the head of column `x`, in natural units. -/
def zE (A : S4x8192x2560.Idx → EReal) (b : Fin 4) (r : Fin 8192) (x : Fin 512) (s : Fin 8192) : EReal :=
  (∑ d : Fin 64, A (ix3 b r ⟨1024 + (x.val / 64 * 64 + d.val), by omega⟩) * A (ix3 b s ⟨1536 + (x.val / 64 * 64 + d.val), by omega⟩)) * lnE

/-- One entry of the plain attention. -/
theorem ref_apply (m : (ℓ : Loc nD τ sig) → Buf (Elt Ideal) ℓ) (c : Dev nD) (b : Fin 4) (r : Fin 8192) (x : Fin 512) :
    Cert.SbReferenceIdeal.Value.res_main_v38 (F := Ideal) m c (ix3 b r x)
      = ∑ s : Fin 8192, (show EReal from m ((c.tc : Thread nD τ).loc main_arg0) (ix3 b s ⟨2048 + x.val, by omega⟩))
        * Scalar.select (IntOp.cmpi CmpIPredicate.slt (BitVec.ofNat 32 s.val) (BitVec.ofNat 32 r.val))
          (Ideal.exp (lsE (zE (m ((c.tc : Thread nD τ).loc main_arg0)) b r x s)
            + ∑ j : Fin 8192, Scalar.select (IntOp.cmpi CmpIPredicate.sgt (BitVec.ofNat 32 j.val) (BitVec.ofNat 32 s.val))
              (Scalar.select (IntOp.cmpi CmpIPredicate.slt (BitVec.ofNat 32 j.val) (BitVec.ofNat 32 r.val))
                (lsE (-zE (m ((c.tc : Thread nD τ).loc main_arg0)) b r x j)) zr) 0)) zr := by
  unfold Cert.SbReferenceIdeal.Value.res_main_v38
  clean_types
  pointwise [lsE, zE, lnE, zr]

theorem zr_eq : zr = ((0 : ℝ) : EReal) := by
  show Ideal.ofBits .f32 0x00000000#32 = _
  simp [Ideal.ofBits, Ideal.ieee, -EReal.coe_mul]

theorem lnE_eq : lnE = ((Real.log 2 : ℝ) : EReal) := by
  show Ideal.log (Ideal.ofBits .f32 0x40000000#32) = _
  have e : Ideal.ofBits .f32 0x40000000#32 = ((2 : ℝ) : EReal) := by
    simp [Ideal.ofBits, Ideal.ieee, -EReal.coe_mul]
    norm_num
  rw [e]
  show (if _ then _ else _) = _
  rw [if_neg (by norm_num)]

/-- The logarithm of the logistic function. -/
def lsR (y : ℝ) : ℝ := -(max (-y) 0 + Real.log (1 + Real.exp (-|y|)))

theorem lsE_coe (y : ℝ) : lsE (y : EReal) = ((lsR y : ℝ) : EReal) := by
  unfold lsE lsR
  rw [if_neg (by simp)]
  have e1 : FloatOps.absf (F := Ideal) (φ := .f32) (-(y : EReal)) = ((|y| : ℝ) : EReal) := by
    rw [← EReal.coe_neg]
    exact (coe_abs (-y)).trans (by rw [abs_neg])
  have e2 : Ideal.exp (-((|y| : ℝ) : EReal)) = ((Real.exp (-|y|) : ℝ) : EReal) := by
    rw [← EReal.coe_neg]
    rfl
  have hp : (0 : ℝ) < 1 + Real.exp (-|y|) := by positivity
  have e3 : Ideal.log1p ((Real.exp (-|y|) : ℝ) : EReal) = ((Real.log (1 + Real.exp (-|y|)) : ℝ) : EReal) := by
    unfold Ideal.log1p
    rw [← EReal.coe_one, ← EReal.coe_add]
    show (if _ then _ else _) = _
    rw [if_neg (not_le.2 hp)]
  have e4 : max (-(y : EReal)) 0 = ((max (-y) 0 : ℝ) : EReal) := by
    rw [← EReal.coe_neg, ← EReal.coe_zero]
    exact (EReal.coe_strictMono.monotone.map_max (a := -y) (b := 0)).symm
  rw [e1, e2, e3, e4, ← EReal.coe_add, ← EReal.coe_neg]

/-- The change of base. -/
theorem lsR_pos (x : ℝ) : lsR (x * Real.log 2) = lhR x * Real.log 2 := by
  have hl : 0 < Real.log 2 := Real.log_pos (by norm_num)
  have e1 : Real.exp (-|x * Real.log 2|) = (2 : ℝ) ^ (-|x|) := by
    rw [Real.rpow_def_of_pos (by norm_num), abs_mul, abs_of_pos hl]
    congr 1
    ring
  have e2 : max (-(x * Real.log 2)) 0 = -(min x 0 * Real.log 2) := by
    rcases le_total x 0 with h | h
    · rw [min_eq_left h, max_eq_left (by nlinarith)]
    · rw [min_eq_right h, max_eq_right (by nlinarith)]
      ring
  unfold lsR lhR
  rw [e1, e2, sub_mul, mul_assoc, inv_mul_cancel₀ hl.ne']
  ring

theorem lsR_neg (x : ℝ) : lsR (-(x * Real.log 2)) = lfR x * Real.log 2 := by
  have e : lsR (-(x * Real.log 2)) = lsR (x * Real.log 2) - x * Real.log 2 := by
    unfold lsR
    rw [abs_neg, neg_neg]
    rcases le_total (x * Real.log 2) 0 with h | h
    · rw [max_eq_right h, max_eq_left (by linarith)]
      ring
    · rw [max_eq_left h, max_eq_right (by linarith)]
      ring
  rw [e, lsR_pos]
  unfold lfR
  ring

theorem exp_coe (x : ℝ) : Ideal.exp ((x * Real.log 2 : ℝ) : EReal) = (((2 : ℝ) ^ x : ℝ) : EReal) := by
  show ((Real.exp (x * Real.log 2) : ℝ) : EReal) = _
  rw [Real.rpow_def_of_pos (by norm_num), mul_comm]

/-- The reference's sum over all keys is the sum over the keys before the row. -/
theorem sum_before {M : Type} [AddCommMonoid M] (f : ℕ → M) (R : ℕ) (hR : R ≤ 8192) : ∑ s : Fin 8192, (if s.val < R then f s.val else 0) = ∑ s ∈ Finset.range R, f s := by
  rw [← Finset.sum_range (fun s => if s < R then f s else 0), ← Finset.sum_filter]
  refine Finset.sum_congr ?_ fun _ _ => rfl
  ext s
  simp only [Finset.mem_range, Finset.mem_filter]
  omega

theorem sum_between (f : ℕ → ℝ) (s R : ℕ) (hR : R ≤ 8192) :
    ∑ j : Fin 8192, (if s < j.val then (if j.val < R then f j.val else 0) else 0) = ∑ j ∈ Finset.Ico (s + 1) R, f j := by
  rw [← Finset.sum_range (fun j => if s < j then (if j < R then f j else 0) else 0)]
  simp only [← ite_and]
  rw [← Finset.sum_filter]
  refine Finset.sum_congr ?_ fun _ _ => rfl
  ext j
  simp only [Finset.mem_range, Finset.mem_filter, Finset.mem_Ico]
  omega

/-- The reference's array, of finite queries and keys. -/
theorem ref_eq (m : (ℓ : Loc nD τ sig) → Buf (Elt Ideal) ℓ) (c : Dev nD) (a : S4x8192x2560.Idx → ℝ)
    (h : ∀ x : S4x8192x2560.Idx, 1024 ≤ (x 2).val → (x 2).val < 2048 → m ((c.tc : Thread nD τ).loc main_arg0) x = ((a x : ℝ) : EReal)) :
    Cert.SbReferenceIdeal.Value.res_main_v38 (F := Ideal) m c = G a (fun x => m ((c.tc : Thread nD τ).loc main_arg0) x) := by
  funext y
  obtain ⟨b, r, x, rfl⟩ : ∃ (b : Fin 4) (r : Fin 8192) (x : Fin 512), y = ix3 b r x := ⟨y 0, y 1, y 2, eq_ix3 y⟩
  rw [ref_apply]
  have hz : ∀ s : Fin 8192, zE (m ((c.tc : Thread nD τ).loc main_arg0)) b r x s
      = ((zA a b r ⟨x.val / 64, by omega⟩ s.val * Real.log 2 : ℝ) : EReal) := fun s => by
    unfold zE zA
    rw [lnE_eq, EReal.coe_mul, ← coe_sum]
    congr 1
    refine Finset.sum_congr rfl fun d _ => ?_
    have hx := x.isLt
    have hd := d.isLt
    rw [h _ (show 1024 ≤ 1024 + (x.val / 64 * 64 + d.val) by omega) (show 1024 + (x.val / 64 * 64 + d.val) < 2048 by omega),
      h _ (show 1024 ≤ 1536 + (x.val / 64 * 64 + d.val) by omega) (show 1536 + (x.val / 64 * 64 + d.val) < 2048 by omega), EReal.coe_mul]
    congr 3
    · congr 1; apply Fin.ext; simp only []; omega
    · congr 1
      · apply Fin.ext; exact (Nat.mod_eq_of_lt s.isLt).symm
      · apply Fin.ext; simp only []; omega
  have hs : ∀ p q : Fin 8192, IntOp.cmpi CmpIPredicate.slt (BitVec.ofNat 32 p.val) (BitVec.ofNat 32 q.val) = if p.val < q.val then 1#1 else 0#1 :=
    fun p q => bv_lt _ _ (by omega) (by omega)
  have hg : ∀ p q : Fin 8192, IntOp.cmpi CmpIPredicate.sgt (BitVec.ofNat 32 p.val) (BitVec.ofNat 32 q.val) = if q.val < p.val then 1#1 else 0#1 :=
    fun p q => bv_lt _ _ (by omega) (by omega)
  have hin : ∀ s : Fin 8192, (∑ j : Fin 8192, Scalar.select (IntOp.cmpi CmpIPredicate.sgt (BitVec.ofNat 32 j.val) (BitVec.ofNat 32 s.val))
              (Scalar.select (IntOp.cmpi CmpIPredicate.slt (BitVec.ofNat 32 j.val) (BitVec.ofNat 32 r.val))
                (lsE (-zE (m ((c.tc : Thread nD τ).loc main_arg0)) b r x j)) zr) 0)
      = (((∑ j ∈ Finset.Ico (s.val + 1) r.val, lfR (zA a b r ⟨x.val / 64, by omega⟩ j)) * Real.log 2 : ℝ) : EReal) := fun s => by
    rw [Finset.sum_mul, ← sum_between (fun j => lfR (zA a b r ⟨x.val / 64, by omega⟩ j) * Real.log 2) s.val r.val (by omega), ← coe_sum]
    refine Finset.sum_congr rfl fun j _ => ?_
    rw [hs, hg, hz, ← EReal.coe_neg, lsE_coe, lsR_neg, zr_eq]
    by_cases h1 : s.val < j.val
    · by_cases h2 : j.val < r.val
      · rw [if_pos h1, if_pos h2, if_pos h1, if_pos h2]; rfl
      · rw [if_pos h1, if_neg h2, if_pos h1, if_neg h2]; rfl
    · rw [if_neg h1, if_neg h1]; rfl
  show _ = ans (zA a b r ⟨x.val / 64, by omega⟩) (vA (fun x => m ((c.tc : Thread nD τ).loc main_arg0) x) b x) r.val
  unfold ans
  rw [← sum_before _ r.val (by omega)]
  refine Finset.sum_congr rfl fun s _ => ?_
  rw [hin, hs, hz, lsE_coe, lsR_pos, ← EReal.coe_add, ← add_mul, exp_coe, zr_eq]
  have hv : (show EReal from m ((c.tc : Thread nD τ).loc main_arg0) (ix3 b s ⟨2048 + x.val, by omega⟩)) = vA (fun x => m ((c.tc : Thread nD τ).loc main_arg0) x) b x s.val := by
    unfold vA
    show m ((c.tc : Thread nD τ).loc main_arg0) _ = m ((c.tc : Thread nD τ).loc main_arg0) _
    congr 2
    apply Fin.ext; exact (Nat.mod_eq_of_lt s.isLt).symm
  rw [hv]
  by_cases h1 : s.val < r.val
  · rw [if_pos h1, if_pos h1, mul_comm]; rfl
  · rw [if_neg h1, if_neg h1]
    show _ * ((0 : ℝ) : EReal) = _
    rw [EReal.coe_zero, mul_zero]

end Cert.Proof.SbIdeal

end
-- ==== Proof.SbAlg.lean ====
module

public import proofs.«01_k».proof.Proof.SbRef

/-!
  The claims of the stick-breaking attention: the named constants' values, and that from the same finite queries and keys
  the kernel and the plain formula leave the same array.
-/

@[expose] public section

set_option maxHeartbeats 1000000

noncomputable section

namespace Cert.Proof.SbIdeal

open Idealize.ShloMosaic Idealize.ShloMosaic.TcCoe Idealize.SL.Sem Cert.Proof.RowMath

/-- The columns of the queries and the keys. -/
def qkC (d : Fin 1024) : Fin 2560 := ⟨1024 + d.val, by omega⟩

/-- The precondition says every query and key is a real. -/
theorem reals_of_pre [hP : Cert.Pre_finite_queries_keys.Facts] (m : (ℓ : Loc Cert.SbIdeal.nD Cert.SbIdeal.τ Cert.SbIdeal.sig) → Buf (Elt Ideal) ℓ)
    (h : Cert.Pre_SbIdeal_finite_queries_keys m) (c : Dev Cert.SbIdeal.nD) : Reals m c := fun x hx1 hx2 => by
  obtain ⟨p, q, k, rfl⟩ : ∃ (p : Fin 4) (q : Fin 8192) (k : Fin 2560), x = ix3 p q k := ⟨x 0, x 1, x 2, eq_ix3 x⟩
  obtain ⟨d, rfl⟩ : ∃ d : Fin 1024, k = qkC d := by
    have h1 : 1024 ≤ k.val := hx1
    have h2 : k.val < 2048 := hx2
    exact ⟨⟨k.val - 1024, by omega⟩, Fin.ext (by simp only [qkC]; omega)⟩
  have h1 := congrFun (h c) (ix3 p q d)
  have e : Cert.Pre_finite_queries_keys.fn (F := Ideal) (m ((c.tc : Thread Cert.SbIdeal.nD Cert.SbIdeal.τ).loc Cert.SbIdeal.main_arg0)) (ix3 p q d)
      = Ideal.cmp .olt (FloatOps.absf (F := Ideal) (φ := .f32) (show EReal from m ((c.tc : Thread Cert.SbIdeal.nD Cert.SbIdeal.τ).loc Cert.SbIdeal.main_arg0) (ix3 p q (qkC d)))) (Ideal.ofBits .f32 0x7F800000#32) := by
    unfold Cert.Pre_finite_queries_keys.fn
    pointwise
    rfl
  rw [e] at h1
  have et : Ideal.ofBits .f32 0x7F800000#32 = ⊤ := by
    simp [Ideal.ofBits, Ideal.ieee]
  rw [et] at h1
  unfold arg
  generalize m ((c.tc : Thread Cert.SbIdeal.nD Cert.SbIdeal.τ).loc Cert.SbIdeal.main_arg0) (ix3 p q (qkC d)) = y at h1 ⊢
  change EReal at y
  have h2 : max y (-y) < ⊤ := by
    by_contra hn
    have : Ideal.cmp .olt (FloatOps.absf (F := Ideal) (φ := .f32) y) ⊤ = 0#1 := by
      show BitVec.ofBool (decide (max y (-y) < ⊤)) = _
      rw [decide_eq_false hn]
      rfl
    rw [this] at h1
    exact absurd h1 (by decide)
  refine (EReal.coe_toReal ?_ ?_).symm
  · rintro rfl
    simp at h2
  · rintro rfl
    simp at h2

/-- The named constants' values. -/
theorem preserves : Cert.preserves_Sb_SbIdeal :=
  ⟨⟨rfl, fun s => IdealRules.named_const.ideal_named _ _ _ _ rfl, IdealRules.named_const.ideal_named_scalar _ _ _ _ rfl⟩,
   ⟨rfl, fun s => IdealRules.named_const.ideal_named _ _ _ _ rfl, IdealRules.named_const.ideal_named_scalar _ _ _ _ rfl⟩⟩

/-- From the same finite queries and keys, at the ideal instance, the kernel and the reference leave the same result. -/
theorem algebraic (hK : Cert.SbIdeal.Facts) (hR : Cert.SbReferenceIdeal.Facts) (hP : Cert.Pre_finite_queries_keys.Facts) :
    Cert.algebraic_SbIdeal_SbReferenceIdeal_pre_finite_queries_keys (hSbIdeal := hK) (hSbReferenceIdeal := hR) (hPre_finite_queries_keys := hP) := by
  intro m g m' g' hpre hargs
  have hr := reals_of_pre m hpre
  refine ⟨fun c => res m c, run m g hr, ?_⟩
  refine (θ_run Cert.SbReferenceIdeal.defs _ _).mono (fun _ h c => ⟨(h c).1.trans ?_, (h c).2⟩)
    (Cert.SbReferenceIdeal.Value.run (F := Ideal) m' g')
  refine (ref_eq m' c (arg m c) fun x h1 h2 => ?_).trans (congrArg (G (arg m c)) (hargs c))
  rw [hargs c]
  exact hr c x h1 h2

end Cert.Proof.SbIdeal

end
-- ==== Proof.lean ====
/- The proofs of the claims: the attention's frame, and of each further call its frames and its value. -/
module

public import proofs.«01_k».proof.Defs
public import proofs.«01_k».proof.Proof.DsaFrame
public import proofs.«01_k».proof.Proof.FfnAlg
public import proofs.«01_k».proof.Proof.Gen.Ffn.Frame
public import proofs.«01_k».proof.Proof.Gen.FfnIdeal.Frame
public import proofs.«01_k».proof.Proof.Gen.FfnIdeal.Value
public import proofs.«01_k».proof.Proof.Gen.FfnReferenceIdeal.Run
public import proofs.«01_k».proof.Proof.OddInValue
public import proofs.«01_k».proof.Proof.Gen.OddIn.Frame
public import proofs.«01_k».proof.Proof.Gen.OddInIdeal.Frame
public import proofs.«01_k».proof.Proof.Gen.OddInIdeal.Value
public import proofs.«01_k».proof.Proof.Gen.OddInReferenceIdeal.Run
public import proofs.«01_k».proof.Proof.EvenInValue
public import proofs.«01_k».proof.Proof.Gen.EvenIn.Frame
public import proofs.«01_k».proof.Proof.Gen.EvenInIdeal.Frame
public import proofs.«01_k».proof.Proof.Gen.EvenInIdeal.Value
public import proofs.«01_k».proof.Proof.Gen.EvenInReferenceIdeal.Run
public import proofs.«01_k».proof.Proof.EvenOutValue
public import proofs.«01_k».proof.Proof.Gen.EvenOut.Frame
public import proofs.«01_k».proof.Proof.Gen.EvenOutIdeal.Frame
public import proofs.«01_k».proof.Proof.Gen.EvenOutIdeal.Value
public import proofs.«01_k».proof.Proof.Gen.EvenOutReferenceIdeal.Run
public import proofs.«01_k».proof.Proof.SbAlg
public import proofs.«01_k».proof.Proof.SbbRun
public import proofs.«01_k».proof.Proof.Gen.SbReferenceIdeal.Run
public import proofs.«01_k».proof.Proof.Gen.Pre_finite_queries_keys
public import Idealize.ShloMosaic.Adequacy
public import Idealize.ShloMosaic.Init
public import Idealize.ShloMosaic.Lib.Quiescent

@[expose] public section

noncomputable section

open Idealize.ShloMosaic Idealize.ShloMosaic.TcCoe Idealize.SL.Sem

namespace Cert.Proof

/-- All the claims together. -/
theorem claim : Cert.Claim :=
  ⟨Cert.Kernel.Gen.facts,
    Cert.Ffn.Gen.facts, Cert.FfnIdeal.Gen.facts, Cert.FfnReferenceIdeal.Gen.facts,
    Cert.OddIn.Gen.facts, Cert.OddInIdeal.Gen.facts, Cert.OddInReferenceIdeal.Gen.facts,
    Cert.EvenIn.Gen.facts, Cert.EvenInIdeal.Gen.facts, Cert.EvenInReferenceIdeal.Gen.facts,
    Cert.EvenOut.Gen.facts, Cert.EvenOutIdeal.Gen.facts, Cert.EvenOutReferenceIdeal.Gen.facts,
    Cert.Sb.Gen.facts, Cert.SbIdeal.Gen.facts, Cert.SbReferenceIdeal.Gen.facts,
    Cert.Pre_finite_queries_keys.Gen.facts,
    fun m g _ => Cert.Proof.Kernel.frame_dsa m g,
    fun m g _ => Cert.Ffn.Gen.frame m g,
    fun m g _ => Cert.FfnIdeal.Gen.frame m g,
    fun m g _ => (θ_run Cert.FfnReferenceIdeal.defs _ _).mono (fun r h => ⟨fun c => (h c).2, sem_eq_zero_of_no_sems (by decide) r.2⟩)
      (Cert.FfnReferenceIdeal.Value.run (F := Ideal) m g),
    fun m g _ => Cert.OddIn.Gen.frame m g,
    fun m g _ => Cert.OddInIdeal.Gen.frame m g,
    fun m g _ => (θ_run Cert.OddInReferenceIdeal.defs _ _).mono (fun r h => ⟨fun c => (h c).2, sem_eq_zero_of_no_sems (by decide) r.2⟩)
      (Cert.OddInReferenceIdeal.Value.run (F := Ideal) m g),
    fun m g _ => Cert.EvenIn.Gen.frame m g,
    fun m g _ => Cert.EvenInIdeal.Gen.frame m g,
    fun m g _ => (θ_run Cert.EvenInReferenceIdeal.defs _ _).mono (fun r h => ⟨fun c => (h c).2.2, sem_eq_zero_of_no_sems (by decide) r.2⟩)
      (Cert.EvenInReferenceIdeal.Value.run (F := Ideal) m g),
    fun m g _ => Cert.EvenOut.Gen.frame m g,
    fun m g _ => Cert.EvenOutIdeal.Gen.frame m g,
    fun m g _ => (θ_run Cert.EvenOutReferenceIdeal.defs _ _).mono (fun r h => ⟨fun c => (h c).2, sem_eq_zero_of_no_sems (by decide) r.2⟩)
      (Cert.EvenOutReferenceIdeal.Value.run (F := Ideal) m g),
    fun m g _ => Cert.Proof.Sb.frame_sb m g,
    fun m g _ => Cert.Proof.SbIdeal.frame_sb m g,
    fun m g _ => Cert.Proof.SbIdeal.frame_sb m g,
    fun m g _ => (θ_run Cert.SbReferenceIdeal.defs _ _).mono (fun r h => ⟨fun c => (h c).2, sem_eq_zero_of_no_sems (by decide) r.2⟩)
      (Cert.SbReferenceIdeal.Value.run (F := Ideal) m g),
    fun m g _ => (θ_run Cert.SbReferenceIdeal.defs _ _).mono (fun r h => ⟨fun c => (h c).2, sem_eq_zero_of_no_sems (by decide) r.2⟩)
      (Cert.SbReferenceIdeal.Value.run (F := Ideal) m g),
    trivial, Cert.Proof.FfnRef.algebraic _ _,
    trivial, Cert.Proof.OddIn.algebraic _ _,
    trivial, Cert.Proof.EvenIn.algebraic _ _,
    trivial, Cert.Proof.EvenOut.algebraic _ _,
    Cert.Proof.SbIdeal.preserves, Cert.Proof.SbIdeal.algebraic _ _ _⟩

end Cert.Proof

end
